-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 [hPre_on_chip15 : Cert.Pre_on_chip15.Facts] (m : (ℓ : Loc Cert.Kernel15.nD Cert.Kernel15.τ Cert.Kernel15.sig) → Buf (Elt Bits) ℓ) : Prop :=
  ∀ c : Dev Cert.Kernel15.nD,
    (Cert.Pre_on_chip15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3)) (m ((c.tc : Thread Cert.Kernel15.nD Cert.Kernel15.τ).loc Cert.Kernel15.main_arg4)) (m ((c.tc : Thread Cert.Kernel15.nD Cert.Kernel15.τ).loc Cert.Kernel15.main_arg5))) = (fun _ => 1#1)

def Pre_Kernel15Ideal [hPre_on_chip15 : Cert.Pre_on_chip15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_on_chip15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_on_chip15 [hPre_on_chip15 : Cert.Pre_on_chip15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_on_chip15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))) = (fun _ => 1#1)

def Pre_Kernel16 [hPre_on_chip16 : Cert.Pre_on_chip16.Facts] (m : (ℓ : Loc Cert.Kernel16.nD Cert.Kernel16.τ Cert.Kernel16.sig) → Buf (Elt Bits) ℓ) : Prop :=
  ∀ c : Dev Cert.Kernel16.nD,
    (Cert.Pre_on_chip16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3)) (m ((c.tc : Thread Cert.Kernel16.nD Cert.Kernel16.τ).loc Cert.Kernel16.main_arg4)) (m ((c.tc : Thread Cert.Kernel16.nD Cert.Kernel16.τ).loc Cert.Kernel16.main_arg5))) = (fun _ => 1#1)

def Pre_Kernel16Ideal [hPre_on_chip16 : Cert.Pre_on_chip16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_on_chip16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_on_chip16 [hPre_on_chip16 : Cert.Pre_on_chip16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_on_chip16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5))) = (fun _ => 1#1)

def Pre_Kernel17 [hPre_on_chip17 : Cert.Pre_on_chip17.Facts] (m : (ℓ : Loc Cert.Kernel17.nD Cert.Kernel17.τ Cert.Kernel17.sig) → Buf (Elt Bits) ℓ) : Prop :=
  ∀ c : Dev Cert.Kernel17.nD,
    (Cert.Pre_on_chip17.fn (F := Bits) (m ((c.tc : Thread Cert.Kernel17.nD Cert.Kernel17.τ).loc Cert.Kernel17.main_arg0)) (m ((c.tc : Thread Cert.Kernel17.nD Cert.Kernel17.τ).loc Cert.Kernel17.main_arg1)) (m ((c.tc : Thread Cert.Kernel17.nD Cert.Kernel17.τ).loc Cert.Kernel17.main_arg2)) (m ((c.tc : Thread Cert.Kernel17.nD Cert.Kernel17.τ).loc Cert.Kernel17.main_arg3)) (m ((c.tc : Thread Cert.Kernel17.nD Cert.Kernel17.τ).loc Cert.Kernel17.main_arg4)) (m ((c.tc : Thread Cert.Kernel17.nD Cert.Kernel17.τ).loc Cert.Kernel17.main_arg5))) = (fun _ => 1#1)

def Pre_Kernel17Ideal [hPre_on_chip17 : Cert.Pre_on_chip17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_on_chip17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_on_chip17 [hPre_on_chip17 : Cert.Pre_on_chip17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_on_chip17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))) = (fun _ => 1#1)

def Pre_Kernel18 [hPre_on_chip18 : Cert.Pre_on_chip18.Facts] (m : (ℓ : Loc Cert.Kernel18.nD Cert.Kernel18.τ Cert.Kernel18.sig) → Buf (Elt Bits) ℓ) : Prop :=
  ∀ c : Dev Cert.Kernel18.nD,
    (Cert.Pre_on_chip18.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2)) (m ((c.tc : Thread Cert.Kernel18.nD Cert.Kernel18.τ).loc Cert.Kernel18.main_arg3)) (m ((c.tc : Thread Cert.Kernel18.nD Cert.Kernel18.τ).loc Cert.Kernel18.main_arg4)) (m ((c.tc : Thread Cert.Kernel18.nD Cert.Kernel18.τ).loc Cert.Kernel18.main_arg5))) = (fun _ => 1#1)

def Pre_Kernel18Ideal [hPre_on_chip18 : Cert.Pre_on_chip18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_on_chip18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_on_chip18 [hPre_on_chip18 : Cert.Pre_on_chip18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_on_chip18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))) = (fun _ => 1#1)

def Pre_Kernel19 [hPre_on_chip19 : Cert.Pre_on_chip19.Facts] (m : (ℓ : Loc Cert.Kernel19.nD Cert.Kernel19.τ Cert.Kernel19.sig) → Buf (Elt Bits) ℓ) : Prop :=
  ∀ c : Dev Cert.Kernel19.nD,
    (Cert.Pre_on_chip19.fn (F := Bits) (m ((c.tc : Thread Cert.Kernel19.nD Cert.Kernel19.τ).loc Cert.Kernel19.main_arg0)) (m ((c.tc : Thread Cert.Kernel19.nD Cert.Kernel19.τ).loc Cert.Kernel19.main_arg1)) (m ((c.tc : Thread Cert.Kernel19.nD Cert.Kernel19.τ).loc Cert.Kernel19.main_arg2)) (m ((c.tc : Thread Cert.Kernel19.nD Cert.Kernel19.τ).loc Cert.Kernel19.main_arg3)) (m ((c.tc : Thread Cert.Kernel19.nD Cert.Kernel19.τ).loc Cert.Kernel19.main_arg4)) (m ((c.tc : Thread Cert.Kernel19.nD Cert.Kernel19.τ).loc Cert.Kernel19.main_arg5))) = (fun _ => 1#1)

def Pre_Kernel19Ideal [hPre_on_chip19 : Cert.Pre_on_chip19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_on_chip19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_on_chip19 [hPre_on_chip19 : Cert.Pre_on_chip19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_on_chip19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] [hPre_on_chip15 : Cert.Pre_on_chip15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] [hPre_on_chip15 : Cert.Pre_on_chip15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_on_chip15 [hReference15Ideal : Cert.Reference15Ideal.Facts] [hPre_on_chip15 : Cert.Pre_on_chip15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_on_chip15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] [hPre_on_chip16 : Cert.Pre_on_chip16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] [hPre_on_chip16 : Cert.Pre_on_chip16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Reference16Ideal_pre_on_chip16 [hReference16Ideal : Cert.Reference16Ideal.Facts] [hPre_on_chip16 : Cert.Pre_on_chip16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_on_chip16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] [hPre_on_chip17 : Cert.Pre_on_chip17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] [hPre_on_chip17 : Cert.Pre_on_chip17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Reference17Ideal_pre_on_chip17 [hReference17Ideal : Cert.Reference17Ideal.Facts] [hPre_on_chip17 : Cert.Pre_on_chip17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_on_chip17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] [hPre_on_chip18 : Cert.Pre_on_chip18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] [hPre_on_chip18 : Cert.Pre_on_chip18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Reference18Ideal_pre_on_chip18 [hReference18Ideal : Cert.Reference18Ideal.Facts] [hPre_on_chip18 : Cert.Pre_on_chip18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_on_chip18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] [hPre_on_chip19 : Cert.Pre_on_chip19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] [hPre_on_chip19 : Cert.Pre_on_chip19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Reference19Ideal_pre_on_chip19 [hReference19Ideal : Cert.Reference19Ideal.Facts] [hPre_on_chip19 : Cert.Pre_on_chip19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_on_chip19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] [hPre_on_chip15 : Cert.Pre_on_chip15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] [hPre_on_chip16 : Cert.Pre_on_chip16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] [hPre_on_chip17 : Cert.Pre_on_chip17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] [hPre_on_chip18 : Cert.Pre_on_chip18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v11) = v2 c
          ∧ r.2.mem ((c.tc : Thread Cert.Reference18Ideal.nD Cert.Reference18Ideal.τ).loc Cert.Reference18Ideal.main_v17) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] [hPre_on_chip19 : Cert.Pre_on_chip19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_v35) = v1 c
          ∧ r.2.mem ((c.tc : Thread Cert.Reference19Ideal.nD Cert.Reference19Ideal.τ).loc Cert.Reference19Ideal.main_v36) = v2 c
          ∧ r.2.mem ((c.tc : Thread Cert.Reference19Ideal.nD Cert.Reference19Ideal.τ).loc Cert.Reference19Ideal.main_v37) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_on_chip15 : Cert.Pre_on_chip15.Facts) (hPre_on_chip16 : Cert.Pre_on_chip16.Facts) (hPre_on_chip17 : Cert.Pre_on_chip17.Facts) (hPre_on_chip18 : Cert.Pre_on_chip18.Facts) (hPre_on_chip19 : Cert.Pre_on_chip19.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15) (hPre_on_chip15 := hPre_on_chip15)
    ∧ quiescent_Kernel15Ideal (hKernel15Ideal := hKernel15Ideal) (hPre_on_chip15 := hPre_on_chip15)
    ∧ quiescent_Reference15Ideal (hReference15Ideal := hReference15Ideal)
    ∧ quiescent_Reference15Ideal_pre_on_chip15 (hReference15Ideal := hReference15Ideal) (hPre_on_chip15 := hPre_on_chip15)
    ∧ quiescent_Kernel16 (hKernel16 := hKernel16) (hPre_on_chip16 := hPre_on_chip16)
    ∧ quiescent_Kernel16Ideal (hKernel16Ideal := hKernel16Ideal) (hPre_on_chip16 := hPre_on_chip16)
    ∧ quiescent_Reference16Ideal (hReference16Ideal := hReference16Ideal)
    ∧ quiescent_Reference16Ideal_pre_on_chip16 (hReference16Ideal := hReference16Ideal) (hPre_on_chip16 := hPre_on_chip16)
    ∧ quiescent_Kernel17 (hKernel17 := hKernel17) (hPre_on_chip17 := hPre_on_chip17)
    ∧ quiescent_Kernel17Ideal (hKernel17Ideal := hKernel17Ideal) (hPre_on_chip17 := hPre_on_chip17)
    ∧ quiescent_Reference17Ideal (hReference17Ideal := hReference17Ideal)
    ∧ quiescent_Reference17Ideal_pre_on_chip17 (hReference17Ideal := hReference17Ideal) (hPre_on_chip17 := hPre_on_chip17)
    ∧ quiescent_Kernel18 (hKernel18 := hKernel18) (hPre_on_chip18 := hPre_on_chip18)
    ∧ quiescent_Kernel18Ideal (hKernel18Ideal := hKernel18Ideal) (hPre_on_chip18 := hPre_on_chip18)
    ∧ quiescent_Reference18Ideal (hReference18Ideal := hReference18Ideal)
    ∧ quiescent_Reference18Ideal_pre_on_chip18 (hReference18Ideal := hReference18Ideal) (hPre_on_chip18 := hPre_on_chip18)
    ∧ quiescent_Kernel19 (hKernel19 := hKernel19) (hPre_on_chip19 := hPre_on_chip19)
    ∧ quiescent_Kernel19Ideal (hKernel19Ideal := hKernel19Ideal) (hPre_on_chip19 := hPre_on_chip19)
    ∧ quiescent_Reference19Ideal (hReference19Ideal := hReference19Ideal)
    ∧ quiescent_Reference19Ideal_pre_on_chip19 (hReference19Ideal := hReference19Ideal) (hPre_on_chip19 := hPre_on_chip19)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal) (hPre_on_chip15 := hPre_on_chip15)
    ∧ preserves_Kernel16_Kernel16Ideal
    ∧ algebraic_Kernel16Ideal_Reference16Ideal (hKernel16Ideal := hKernel16Ideal) (hReference16Ideal := hReference16Ideal) (hPre_on_chip16 := hPre_on_chip16)
    ∧ preserves_Kernel17_Kernel17Ideal
    ∧ algebraic_Kernel17Ideal_Reference17Ideal (hKernel17Ideal := hKernel17Ideal) (hReference17Ideal := hReference17Ideal) (hPre_on_chip17 := hPre_on_chip17)
    ∧ preserves_Kernel18_Kernel18Ideal
    ∧ algebraic_Kernel18Ideal_Reference18Ideal (hKernel18Ideal := hKernel18Ideal) (hReference18Ideal := hReference18Ideal) (hPre_on_chip18 := hPre_on_chip18)
    ∧ preserves_Kernel19_Kernel19Ideal
    ∧ algebraic_Kernel19Ideal_Reference19Ideal (hKernel19Ideal := hKernel19Ideal) (hReference19Ideal := hReference19Ideal) (hPre_on_chip19 := hPre_on_chip19)
    ∧ preserves_Kernel20_Kernel20Ideal
    ∧ algebraic_Kernel20Ideal_Reference20Ideal (hKernel20Ideal := hKernel20Ideal) (hReference20Ideal := hReference20Ideal)
-- ==== Pre_on_chip15.lean ====
abbrev S4x256x2048 : Shape := ⟨3, ![4, 256, 2048]⟩
abbrev S1 : Shape := ⟨1, ![1]⟩
abbrev S256x2048 : Shape := ⟨2, ![256, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x256x2048 .bf16) (main_arg1 : FVec F S4x256x2048 .bf16) (main_arg2 : IVec S1 32) (main_arg3 : FVec F S256x2048 .f32) (main_arg4 : FVec F S256x2048 .f32) (main_arg5 : FVec F S256x2048 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_on_chip16.lean ====
abbrev S4x1024x2048 : Shape := ⟨3, ![4, 1024, 2048]⟩
abbrev S1 : Shape := ⟨1, ![1]⟩
abbrev S1024x2048 : Shape := ⟨2, ![1024, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1024x2048 .bf16) (main_arg1 : FVec F S4x1024x2048 .bf16) (main_arg2 : IVec S1 32) (main_arg3 : FVec F S1024x2048 .f32) (main_arg4 : FVec F S1024x2048 .f32) (main_arg5 : FVec F S1024x2048 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_on_chip17.lean ====
abbrev S4x2048x1024 : Shape := ⟨3, ![4, 2048, 1024]⟩
abbrev S1 : Shape := ⟨1, ![1]⟩
abbrev S2048x1024 : Shape := ⟨2, ![2048, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x2048x1024 .bf16) (main_arg1 : FVec F S4x2048x1024 .bf16) (main_arg2 : IVec S1 32) (main_arg3 : FVec F S2048x1024 .f32) (main_arg4 : FVec F S2048x1024 .f32) (main_arg5 : FVec F S2048x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_on_chip18.lean ====
abbrev S4x128x256 : Shape := ⟨3, ![4, 128, 256]⟩
abbrev S1 : Shape := ⟨1, ![1]⟩
abbrev S128x256 : Shape := ⟨2, ![128, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x128x256 .bf16) (main_arg1 : FVec F S4x128x256 .bf16) (main_arg2 : IVec S1 32) (main_arg3 : FVec F S128x256 .f32) (main_arg4 : FVec F S128x256 .f32) (main_arg5 : FVec F S128x256 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_on_chip19.lean ====
abbrev S4x642x2048 : Shape := ⟨3, ![4, 642, 2048]⟩
abbrev S1 : Shape := ⟨1, ![1]⟩
abbrev S642x1x2048 : Shape := ⟨3, ![642, 1, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x642x2048 .bf16) (main_arg1 : FVec F S4x642x2048 .bf16) (main_arg2 : IVec S1 32) (main_arg3 : FVec F S642x1x2048 .f32) (main_arg4 : FVec F S642x1x2048 .f32) (main_arg5 : FVec F S642x1x2048 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 3#32
  let main_v2 : IVec S1 32 := broadcastInDim S1 ![] bcast_S_S1 main_c_0
  let main_v3 : IVec S1 1 := cmpi .sle main_arg2 main_v2
  let main_v4 : IVec S1 1 := andi main_v1 main_v3
  main_v4
-- ==== Kernel.lean ====
abbrev S2048x1024 : Shape := ⟨2, ![2048, 1024]⟩
abbrev S8x2048x64 : Shape := ⟨3, ![8, 2048, 64]⟩
abbrev S8x32x1x128 : Shape := ⟨4, ![8, 32, 1, 128]⟩
abbrev S8x32x128x128 : Shape := ⟨4, ![8, 32, 128, 128]⟩
abbrev S64x1024 : Shape := ⟨2, ![64, 1024]⟩
abbrev S8x64x64 : Shape := ⟨3, ![8, 64, 64]⟩
abbrev S8x1x1x128 : Shape := ⟨4, ![8, 1, 1, 128]⟩
abbrev S8x1x128x128 : Shape := ⟨4, ![8, 1, 128, 128]⟩
abbrev S8x128x128 : Shape := ⟨3, ![8, 128, 128]⟩
abbrev S64x128 : Shape := ⟨2, ![64, 128]⟩
abbrev S1x64x128 : Shape := ⟨3, ![1, 64, 128]⟩
abbrev S8x64x128 : Shape := ⟨3, ![8, 64, 128]⟩
abbrev S8x1x128 : Shape := ⟨3, ![8, 1, 128]⟩
abbrev S8x128 : Shape := ⟨2, ![8, 128]⟩

abbrev nBuf : Space → Nat
  | .hbm => 15
  | .vmem => 46
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S8x2048x64, .bf16⟩
  | .hbm, ⟨5, _⟩ => ⟨S8x32x1x128, .f32⟩
  | .hbm, ⟨6, _⟩ => ⟨S2048x1024, .f32⟩
  | .hbm, ⟨7, _⟩ => ⟨S2048x1024, .f32⟩
  | .hbm, ⟨8, _⟩ => ⟨S8x32x128x128, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S8x2048x64, .f32⟩
  | .hbm, ⟨14, _⟩ => ⟨S8x32x1x128, .f32⟩
  | .local _ .vmem, ⟨0, _⟩ => ⟨S64x1024, .f32⟩
  | .local _ .vmem, ⟨1, _⟩ => ⟨S64x1024, .f32⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S8x64x64, .bf16⟩
  | .local _ .vmem, ⟨9, _⟩ => ⟨S8x64x64, .bf16⟩
  | .local _ .vmem, ⟨10, _⟩ => ⟨S8x1x1x128, .f32⟩
  | .local _ .vmem, ⟨11, _⟩ => ⟨S8x1x1x128, .f32⟩
  | .local _ .vmem, ⟨12, _⟩ => ⟨S64x1024, .f32⟩
  | .local _ .vmem, ⟨13, _⟩ => ⟨S64x1024, .f32⟩
  | .local _ .vmem, ⟨14, _⟩ => ⟨S8x1x128x128, .f32⟩
  | .local _ .vmem, ⟨15, _⟩ => ⟨S8x1x128x128, .f32⟩
  | .local _ .vmem, ⟨16, _⟩ => ⟨S8x128x128, .f32⟩
  | .local _ .vmem, ⟨17, _⟩ => ⟨S64x1024, .f32⟩
  | .local _ .vmem, ⟨18, _⟩ => ⟨S64x1024, .f32⟩
  | .local _ .vmem, ⟨19, _⟩ => ⟨S64x1024, .bf16⟩
  | .local _ .vmem, ⟨20, _⟩ => ⟨S64x1024, .bf16⟩
  | .local _ .vmem, ⟨21, _⟩ => ⟨S64x1024, .bf16⟩
  | .local _ .vmem, ⟨22, _⟩ => ⟨S64x1024, .bf16⟩
  | .local _ .vmem, ⟨23, _⟩ => ⟨S64x1024, .bf16⟩
  | .local _ .vmem, ⟨24, _⟩ => ⟨S64x1024, .bf16⟩
  | .local _ .vmem, ⟨25, _⟩ => ⟨S8x64x64, .bf16⟩
  | .local _ .vmem, ⟨26, _⟩ => ⟨S8x64x64, .bf16⟩
  | .local _ .vmem, ⟨27, _⟩ => ⟨S8x1x1x128, .f32⟩
  | .local _ .vmem, ⟨28, _⟩ => ⟨S8x1x1x128, .f32⟩
  | .local _ .vmem, ⟨29, _⟩ => ⟨S8x1x128x128, .f32⟩
  | .local _ .vmem, ⟨30, _⟩ => ⟨S8x1x128x128, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S8x64x64, .f32⟩
  | .local _ .vmem, ⟨42, _⟩ => ⟨S8x64x64, .f32⟩
  | .local _ .vmem, ⟨43, _⟩ => ⟨S8x1x1x128, .f32⟩
  | .local _ .vmem, ⟨44, _⟩ => ⟨S8x1x1x128, .f32⟩
  | .local _ .vmem, ⟨45, _⟩ => ⟨S8x128x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_4 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_6 (i : grid1.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_7 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_12 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x64x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S64x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S64x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x64x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x1x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S2048x1024 : Shape := ⟨2, ![2048, 1024]⟩
abbrev S8x2048x64 : Shape := ⟨3, ![8, 2048, 64]⟩
abbrev S8x32x1x128 : Shape := ⟨4, ![8, 32, 1, 128]⟩
abbrev S_ : Shape := ⟨0, ![]⟩
abbrev S8x128x128 : Shape := ⟨3, ![8, 128, 128]⟩
abbrev S8x32x64x64 : Shape := ⟨4, ![8, 32, 64, 64]⟩
abbrev S32x8x64x64 : Shape := ⟨4, ![32, 8, 64, 64]⟩
abbrev S32x64x8x128 : Shape := ⟨4, ![32, 64, 8, 128]⟩
abbrev S32x8x64x128 : Shape := ⟨4, ![32, 8, 64, 128]⟩
abbrev S32x8x1x128 : Shape := ⟨4, ![32, 8, 1, 128]⟩
abbrev S32x8x128x128 : Shape := ⟨4, ![32, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x1x128 : Shape := ⟨4, ![1, 8, 1, 128]⟩
abbrev S8x1x128 : Shape := ⟨3, ![8, 1, 128]⟩
abbrev S1x8x128x128 : Shape := ⟨4, ![1, 8, 128, 128]⟩
abbrev S8x128x64 : Shape := ⟨3, ![8, 128, 64]⟩
abbrev S8x128 : Shape := ⟨2, ![8, 128]⟩

abbrev nBuf : Space → Nat
  | .hbm => 249
  | .vmem => 0
  | .smem => 0
  | _ => 0

abbrev hbmTy0_0 (i : Nat) : BufTy := match i % 128 with
  | 0 => ⟨S2048x1024, .f32⟩
  | 1 => ⟨S2048x1024, .bf16⟩
  | 2 => ⟨S2048x1024, .bf16⟩
  | 3 => ⟨S2048x1024, .bf16⟩
  | 4 => ⟨S8x2048x64, .bf16⟩
  | 5 => ⟨S8x32x1x128, .f32⟩
  | 6 => ⟨S2048x1024, .f32⟩
  | 7 => ⟨S2048x1024, .f32⟩
  | 8 => ⟨S2048x1024, .f32⟩
  | 9 => ⟨S2048x1024, .f32⟩
  | 10 => ⟨S8x2048x64, .f32⟩
  | 11 => ⟨S_, .f32⟩
  | 12 => ⟨S8x128x128, .f32⟩
  | 13 => ⟨S8x32x64x64, .f32⟩
  | 14 => ⟨S32x8x64x64, .f32⟩
  | 15 => ⟨S32x64x8x128, .f32⟩
  | 16 => ⟨S32x8x64x128, .f32⟩
  | 17 => ⟨S32x64x8x128, .f32⟩
  | 18 => ⟨S32x8x64x128, .f32⟩
  | 19 => ⟨S32x64x8x128, .f32⟩
  | 20 => ⟨S32x8x64x128, .f32⟩
  | 21 => ⟨S32x64x8x128, .f32⟩
  | 22 => ⟨S32x8x64x128, .f32⟩
  | 23 => ⟨S32x8x1x128, .f32⟩
  | 24 => ⟨S_, .f32⟩
  | 25 => ⟨S32x8x64x128, .f32⟩
  | 26 => ⟨S_, .f32⟩
  | 27 => ⟨S32x8x128x128, .f32⟩
  | 28 => ⟨S_, .f32⟩
  | 29 => ⟨S32x8x64x128, .f32⟩
  | 30 => ⟨S_, .i32⟩
  | 31 => ⟨S32x8x64x128, .f32⟩
  | 32 => ⟨S32x8x64x128, .f32⟩
  | 33 => ⟨S32x8x64x128, .f32⟩
  | 34 => ⟨S32x8x64x128, .f32⟩
  | 35 => ⟨S32x8x64x64, .f32⟩
  | 36 => ⟨S32x8x1x128, .f32⟩
  | 37 => ⟨S_, .i32⟩
  | 38 => ⟨S8x128x128, .f32⟩
  | 39 => ⟨S32x8x64x128, .f32⟩
  | 40 => ⟨S32x8x128x128, .f32⟩
  | 41 => ⟨S32x8x64x128, .f32⟩
  | 42 => ⟨S_, .i32⟩
  | 43 => ⟨S_, .i1⟩
  | 44 => ⟨S_, .i32⟩
  | 45 => ⟨S_, .i32⟩
  | 46 => ⟨S_, .i32⟩
  | 47 => ⟨S1x8x64x128, .f32⟩
  | 48 => ⟨S8x64x128, .f32⟩
  | 49 => ⟨S_, .i32⟩
  | 50 => ⟨S_, .i32⟩
  | 51 => ⟨S_, .i32⟩
  | 52 => ⟨S1x8x64x128, .f32⟩
  | 53 => ⟨S8x64x128, .f32⟩
  | 54 => ⟨S_, .i32⟩
  | 55 => ⟨S_, .i32⟩
  | 56 => ⟨S_, .i32⟩
  | 57 => ⟨S1x8x64x128, .f32⟩
  | 58 => ⟨S8x64x128, .f32⟩
  | 59 => ⟨S_, .i32⟩
  | 60 => ⟨S_, .i32⟩
  | 61 => ⟨S_, .i32⟩
  | 62 => ⟨S1x8x64x128, .f32⟩
  | 63 => ⟨S8x64x128, .f32⟩
  | 64 => ⟨S_, .i32⟩
  | 65 => ⟨S_, .i32⟩
  | 66 => ⟨S_, .i32⟩
  | 67 => ⟨S1x8x64x64, .f32⟩
  | 68 => ⟨S8x64x64, .f32⟩
  | 69 => ⟨S_, .i32⟩
  | 70 => ⟨S_, .i32⟩
  | 71 => ⟨S_, .i32⟩
  | 72 => ⟨S1x8x1x128, .f32⟩
  | 73 => ⟨S8x1x128, .f32⟩
  | 74 => ⟨S8x64x128, .f32⟩
  | 75 => ⟨S8x64x128, .f32⟩
  | 76 => ⟨S8x64x128, .f32⟩
  | 77 => ⟨S8x64x128, .f32⟩
  | 78 => ⟨S8x64x128, .f32⟩
  | 79 => ⟨S8x128x128, .f32⟩
  | 80 => ⟨S8x128x128, .f32⟩
  | 81 => ⟨S8x128x128, .f32⟩
  | 82 => ⟨S8x128x128, .f32⟩
  | 83 => ⟨S1x8x64x128, .f32⟩
  | 84 => ⟨S_, .i32⟩
  | 85 => ⟨S_, .i32⟩
  | 86 => ⟨S_, .i32⟩
  | 87 => ⟨S32x8x64x128, .f32⟩
  | 88 => ⟨S1x8x128x128, .f32⟩
  | 89 => ⟨S_, .i32⟩
  | 90 => ⟨S_, .i32⟩
  | 91 => ⟨S_, .i32⟩
  | 92 => ⟨S32x8x128x128, .f32⟩
  | 93 => ⟨S1x8x64x128, .f32⟩
  | 94 => ⟨S_, .i32⟩
  | 95 => ⟨S_, .i32⟩
  | 96 => ⟨S_, .i32⟩
  | 97 => ⟨S32x8x64x128, .f32⟩
  | 98 => ⟨S_, .i32⟩
  | 99 => ⟨S_, .i32⟩
  | 100 => ⟨S32x64x8x128, .f32⟩
  | 101 => ⟨S2048x1024, .f32⟩
  | 102 => ⟨S_, .f32⟩
  | 103 => ⟨S8x128x128, .f32⟩
  | 104 => ⟨S32x64x8x128, .f32⟩
  | 105 => ⟨S32x8x64x128, .f32⟩
  | 106 => ⟨S_, .f32⟩
  | 107 => ⟨S8x128x128, .f32⟩
  | 108 => ⟨S_, .f32⟩
  | 109 => ⟨S32x8x64x128, .f32⟩
  | 110 => ⟨S_, .f32⟩
  | 111 => ⟨S32x8x64x128, .f32⟩
  | 112 => ⟨S_, .f32⟩
  | 113 => ⟨S32x8x64x128, .f32⟩
  | 114 => ⟨S_, .f32⟩
  | 115 => ⟨S32x8x64x128, .f32⟩
  | 116 => ⟨S_, .f32⟩
  | 117 => ⟨S32x8x64x64, .f32⟩
  | 118 => ⟨S_, .f32⟩
  | 119 => ⟨S32x8x1x128, .f32⟩
  | 120 => ⟨S_, .i32⟩
  | 121 => ⟨S32x8x64x128, .f32⟩
  | 122 => ⟨S32x8x128x128, .f32⟩
  | 123 => ⟨S32x8x64x128, .f32⟩
  | 124 => ⟨S32x8x64x128, .f32⟩
  | 125 => ⟨S32x8x64x128, .f32⟩
  | 126 => ⟨S32x8x64x64, .f32⟩
  | 127 => ⟨S32x8x1x128, .f32⟩
  | _ => ⟨S2048x1024, .f32⟩

abbrev hbmTy0_1 (i : Nat) : BufTy := match i % 128 with
  | 0 => ⟨S32x8x64x128, .f32⟩
  | 1 => ⟨S_, .i32⟩
  | 2 => ⟨S8x128x128, .f32⟩
  | 3 => ⟨S32x8x64x128, .f32⟩
  | 4 => ⟨S32x8x64x128, .f32⟩
  | 5 => ⟨S32x8x64x128, .f32⟩
  | 6 => ⟨S32x8x64x128, .f32⟩
  | 7 => ⟨S32x8x64x64, .f32⟩
  | 8 => ⟨S32x8x1x128, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S1x8x64x128, .f32⟩
  | 19 => ⟨S8x64x128, .f32⟩
  | 20 => ⟨S_, .i32⟩
  | 21 => ⟨S_, .i32⟩
  | 22 => ⟨S_, .i32⟩
  | 23 => ⟨S1x8x128x128, .f32⟩
  | 24 => ⟨S8x128x128, .f32⟩
  | 25 => ⟨S_, .i32⟩
  | 26 => ⟨S_, .i32⟩
  | 27 => ⟨S_, .i32⟩
  | 28 => ⟨S1x8x64x128, .f32⟩
  | 29 => ⟨S8x64x128, .f32⟩
  | 30 => ⟨S_, .i32⟩
  | 31 => ⟨S_, .i32⟩
  | 32 => ⟨S_, .i32⟩
  | 33 => ⟨S1x8x64x128, .f32⟩
  | 34 => ⟨S8x64x128, .f32⟩
  | 35 => ⟨S_, .i32⟩
  | 36 => ⟨S_, .i32⟩
  | 37 => ⟨S_, .i32⟩
  | 38 => ⟨S1x8x64x128, .f32⟩
  | 39 => ⟨S8x64x128, .f32⟩
  | 40 => ⟨S_, .i32⟩
  | 41 => ⟨S_, .i32⟩
  | 42 => ⟨S_, .i32⟩
  | 43 => ⟨S1x8x64x64, .f32⟩
  | 44 => ⟨S8x64x64, .f32⟩
  | 45 => ⟨S_, .i32⟩
  | 46 => ⟨S_, .i32⟩
  | 47 => ⟨S_, .i32⟩
  | 48 => ⟨S1x8x1x128, .f32⟩
  | 49 => ⟨S8x1x128, .f32⟩
  | 50 => ⟨S_, .i32⟩
  | 51 => ⟨S_, .i32⟩
  | 52 => ⟨S_, .i32⟩
  | 53 => ⟨S1x8x64x128, .f32⟩
  | 54 => ⟨S8x64x128, .f32⟩
  | 55 => ⟨S8x128x64, .f32⟩
  | 56 => ⟨S8x64x128, .f32⟩
  | 57 => ⟨S8x128x64, .f32⟩
  | 58 => ⟨S8x64x128, .f32⟩
  | 59 => ⟨S8x128x128, .f32⟩
  | 60 => ⟨S_, .f32⟩
  | 61 => ⟨S8x128, .f32⟩
  | 62 => ⟨S8x1x128, .f32⟩
  | 63 => ⟨S8x128x128, .f32⟩
  | 64 => ⟨S8x128x128, .f32⟩
  | 65 => ⟨S8x128x64, .f32⟩
  | 66 => ⟨S8x64x128, .f32⟩
  | 67 => ⟨S8x64x128, .f32⟩
  | 68 => ⟨S8x64x64, .f32⟩
  | 69 => ⟨S8x128x128, .f32⟩
  | 70 => ⟨S8x128x128, .f32⟩
  | 71 => ⟨S8x128x128, .f32⟩
  | 72 => ⟨S8x64x128, .f32⟩
  | 73 => ⟨S8x64x128, .f32⟩
  | 74 => ⟨S8x128x128, .f32⟩
  | 75 => ⟨S8x128x128, .f32⟩
  | 76 => ⟨S8x128x128, .f32⟩
  | 77 => ⟨S8x64x128, .f32⟩
  | 78 => ⟨S1x8x64x128, .f32⟩
  | 79 => ⟨S_, .i32⟩
  | 80 => ⟨S_, .i32⟩
  | 81 => ⟨S_, .i32⟩
  | 82 => ⟨S32x8x64x128, .f32⟩
  | 83 => ⟨S1x8x64x128, .f32⟩
  | 84 => ⟨S_, .i32⟩
  | 85 => ⟨S_, .i32⟩
  | 86 => ⟨S_, .i32⟩
  | 87 => ⟨S32x8x64x128, .f32⟩
  | 88 => ⟨S1x8x64x128, .f32⟩
  | 89 => ⟨S_, .i32⟩
  | 90 => ⟨S_, .i32⟩
  | 91 => ⟨S_, .i32⟩
  | 92 => ⟨S32x8x64x128, .f32⟩
  | 93 => ⟨S1x8x64x128, .f32⟩
  | 94 => ⟨S_, .i32⟩
  | 95 => ⟨S_, .i32⟩
  | 96 => ⟨S_, .i32⟩
  | 97 => ⟨S32x8x64x128, .f32⟩
  | 98 => ⟨S1x8x64x64, .f32⟩
  | 99 => ⟨S_, .i32⟩
  | 100 => ⟨S_, .i32⟩
  | 101 => ⟨S_, .i32⟩
  | 102 => ⟨S32x8x64x64, .f32⟩
  | 103 => ⟨S1x8x1x128, .f32⟩
  | 104 => ⟨S_, .i32⟩
  | 105 => ⟨S_, .i32⟩
  | 106 => ⟨S_, .i32⟩
  | 107 => ⟨S32x8x1x128, .f32⟩
  | 108 => ⟨S_, .i32⟩
  | 109 => ⟨S_, .i32⟩
  | 110 => ⟨S8x32x1x128, .f32⟩
  | 111 => ⟨S32x64x8x128, .f32⟩
  | 112 => ⟨S2048x1024, .f32⟩
  | 113 => ⟨S32x64x8x128, .f32⟩
  | 114 => ⟨S2048x1024, .f32⟩
  | 115 => ⟨S32x64x8x128, .f32⟩
  | 116 => ⟨S2048x1024, .f32⟩
  | 117 => ⟨S32x64x8x128, .f32⟩
  | 118 => ⟨S2048x1024, .f32⟩
  | 119 => ⟨S8x32x64x64, .f32⟩
  | 120 => ⟨S8x2048x64, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_c : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev main_v19_6 : Ref sig .tc := ⟨.hbm, 37, rfl⟩
abbrev main_v19_7 : Ref sig .tc := ⟨.hbm, 38, rfl⟩
abbrev main_v19_8 : Ref sig .tc := ⟨.hbm, 39, rfl⟩
abbrev main_v19_9 : Ref sig .tc := ⟨.hbm, 40, rfl⟩
abbrev main_v19_10 : Ref sig .tc := ⟨.hbm, 41, rfl⟩
abbrev main_while0c_c_22 : Ref sig .tc := ⟨.hbm, 42, rfl⟩
abbrev main_while0c_v44 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_v0 : Ref sig .tc := ⟨.hbm, 47, rfl⟩
abbrev main_while0b_v44 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_v0 : Ref sig .tc := ⟨.hbm, 52, rfl⟩
abbrev main_while0b_v45 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_v0 : Ref sig .tc := ⟨.hbm, 57, rfl⟩
abbrev main_while0b_v46 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_call3_v0 : Ref sig .tc := ⟨.hbm, 62, rfl⟩
abbrev main_while0b_v47 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_call4_v0 : Ref sig .tc := ⟨.hbm, 67, rfl⟩
abbrev main_while0b_v48 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_call5_v0 : Ref sig .tc := ⟨.hbm, 72, rfl⟩
abbrev main_while0b_v49 : Ref sig .tc := ⟨.hbm, 73, rfl⟩
abbrev main_while0b_v50 : Ref sig .tc := ⟨.hbm, 74, rfl⟩
abbrev main_while0b_v51 : Ref sig .tc := ⟨.hbm, 75, rfl⟩
abbrev main_while0b_v52 : Ref sig .tc := ⟨.hbm, 76, rfl⟩
abbrev main_while0b_v53 : Ref sig .tc := ⟨.hbm, 77, rfl⟩
abbrev main_while0b_v54 : Ref sig .tc := ⟨.hbm, 78, rfl⟩
abbrev main_while0b_v55 : Ref sig .tc := ⟨.hbm, 79, rfl⟩
abbrev main_while0b_v56 : Ref sig .tc := ⟨.hbm, 80, rfl⟩
abbrev main_while0b_v57 : Ref sig .tc := ⟨.hbm, 81, rfl⟩
abbrev main_while0b_v58 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_v59 : Ref sig .tc := ⟨.hbm, 87, rfl⟩
abbrev main_while0b_call7_v0 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_v60 : Ref sig .tc := ⟨.hbm, 92, rfl⟩
abbrev main_while0b_call8_v0 : Ref sig .tc := ⟨.hbm, 93, rfl⟩
abbrev main_while0b_call8_c : Ref sig .tc := ⟨.hbm, 94, rfl⟩
abbrev main_while0b_call8_c_0 : Ref sig .tc := ⟨.hbm, 95, rfl⟩
abbrev main_while0b_call8_c_1 : Ref sig .tc := ⟨.hbm, 96, rfl⟩
abbrev main_while0b_v61 : Ref sig .tc := ⟨.hbm, 97, rfl⟩
abbrev main_while0b_c_22 : Ref sig .tc := ⟨.hbm, 98, rfl⟩
abbrev main_while0b_v62 : Ref sig .tc := ⟨.hbm, 99, rfl⟩
abbrev main_v20 : Ref sig .tc := ⟨.hbm, 100, rfl⟩
abbrev main_v21 : Ref sig .tc := ⟨.hbm, 101, rfl⟩
abbrev main_cst_3 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_cst_4 : Ref sig .tc := ⟨.hbm, 106, rfl⟩
abbrev main_v25 : Ref sig .tc := ⟨.hbm, 107, rfl⟩
abbrev main_cst_5 : Ref sig .tc := ⟨.hbm, 108, rfl⟩
abbrev main_v26 : Ref sig .tc := ⟨.hbm, 109, rfl⟩
abbrev main_cst_6 : Ref sig .tc := ⟨.hbm, 110, rfl⟩
abbrev main_v27 : Ref sig .tc := ⟨.hbm, 111, rfl⟩
abbrev main_cst_7 : Ref sig .tc := ⟨.hbm, 112, rfl⟩
abbrev main_v28 : Ref sig .tc := ⟨.hbm, 113, rfl⟩
abbrev main_cst_8 : Ref sig .tc := ⟨.hbm, 114, rfl⟩
abbrev main_v29 : Ref sig .tc := ⟨.hbm, 115, rfl⟩
abbrev main_cst_9 : Ref sig .tc := ⟨.hbm, 116, rfl⟩
abbrev main_v30 : Ref sig .tc := ⟨.hbm, 117, rfl⟩
abbrev main_cst_10 : Ref sig .tc := ⟨.hbm, 118, rfl⟩
abbrev main_v31 : Ref sig .tc := ⟨.hbm, 119, rfl⟩
abbrev main_c_11 : Ref sig .tc := ⟨.hbm, 120, rfl⟩
abbrev main_v32_0 : Ref sig .tc := ⟨.hbm, 121, rfl⟩
abbrev main_v32_1 : Ref sig .tc := ⟨.hbm, 122, rfl⟩
abbrev main_v32_2 : Ref sig .tc := ⟨.hbm, 123, rfl⟩
abbrev main_v32_3 : Ref sig .tc := ⟨.hbm, 124, rfl⟩
abbrev main_v32_4 : Ref sig .tc := ⟨.hbm, 125, rfl⟩
abbrev main_v32_5 : Ref sig .tc := ⟨.hbm, 126, rfl⟩
abbrev main_v32_6 : Ref sig .tc := ⟨.hbm, 127, rfl⟩
abbrev main_v32_7 : Ref sig .tc := ⟨.hbm, 128, rfl⟩
abbrev main_v32_8 : Ref sig .tc := ⟨.hbm, 129, rfl⟩
abbrev main_v32_9 : Ref sig .tc := ⟨.hbm, 130, rfl⟩
abbrev main_v32_10 : Ref sig .tc := ⟨.hbm, 131, rfl⟩
abbrev main_v32_11 : Ref sig .tc := ⟨.hbm, 132, rfl⟩
abbrev main_v32_12 : Ref sig .tc := ⟨.hbm, 133, rfl⟩
abbrev main_v32_13 : Ref sig .tc := ⟨.hbm, 134, rfl⟩
abbrev main_v32_14 : Ref sig .tc := ⟨.hbm, 135, rfl⟩
abbrev main_v32_15 : Ref sig .tc := ⟨.hbm, 136, rfl⟩
abbrev main_while1c_c_27 : Ref sig .tc := ⟨.hbm, 137, rfl⟩
abbrev main_while1c_v44 : Ref sig .tc := ⟨.hbm, 138, rfl⟩
abbrev main_while1b_c_27 : Ref sig .tc := ⟨.hbm, 139, rfl⟩
abbrev main_while1b_v44 : Ref sig .tc := ⟨.hbm, 140, rfl⟩
abbrev main_while1b_c_28 : Ref sig .tc := ⟨.hbm, 141, rfl⟩
abbrev main_while1b_v45 : Ref sig .tc := ⟨.hbm, 142, rfl⟩
abbrev main_while1b_call9_c : Ref sig .tc := ⟨.hbm, 143, rfl⟩
abbrev main_while1b_call9_c_0 : Ref sig .tc := ⟨.hbm, 144, rfl⟩
abbrev main_while1b_call9_c_1 : Ref sig .tc := ⟨.hbm, 145, rfl⟩
abbrev main_while1b_call9_v0 : Ref sig .tc := ⟨.hbm, 146, rfl⟩
abbrev main_while1b_v46 : Ref sig .tc := ⟨.hbm, 147, rfl⟩
abbrev main_while1b_call10_c : Ref sig .tc := ⟨.hbm, 148, rfl⟩
abbrev main_while1b_call10_c_0 : Ref sig .tc := ⟨.hbm, 149, rfl⟩
abbrev main_while1b_call10_c_1 : Ref sig .tc := ⟨.hbm, 150, rfl⟩
abbrev main_while1b_call10_v0 : Ref sig .tc := ⟨.hbm, 151, rfl⟩
abbrev main_while1b_v47 : Ref sig .tc := ⟨.hbm, 152, rfl⟩
abbrev main_while1b_call11_c : Ref sig .tc := ⟨.hbm, 153, rfl⟩
abbrev main_while1b_call11_c_0 : Ref sig .tc := ⟨.hbm, 154, rfl⟩
abbrev main_while1b_call11_c_1 : Ref sig .tc := ⟨.hbm, 155, rfl⟩
abbrev main_while1b_call11_v0 : Ref sig .tc := ⟨.hbm, 156, rfl⟩
abbrev main_while1b_v48 : Ref sig .tc := ⟨.hbm, 157, rfl⟩
abbrev main_while1b_call12_c : Ref sig .tc := ⟨.hbm, 158, rfl⟩
abbrev main_while1b_call12_c_0 : Ref sig .tc := ⟨.hbm, 159, rfl⟩
abbrev main_while1b_call12_c_1 : Ref sig .tc := ⟨.hbm, 160, rfl⟩
abbrev main_while1b_call12_v0 : Ref sig .tc := ⟨.hbm, 161, rfl⟩
abbrev main_while1b_v49 : Ref sig .tc := ⟨.hbm, 162, rfl⟩
abbrev main_while1b_call13_c : Ref sig .tc := ⟨.hbm, 163, rfl⟩
abbrev main_while1b_call13_c_0 : Ref sig .tc := ⟨.hbm, 164, rfl⟩
abbrev main_while1b_call13_c_1 : Ref sig .tc := ⟨.hbm, 165, rfl⟩
abbrev main_while1b_call13_v0 : Ref sig .tc := ⟨.hbm, 166, rfl⟩
abbrev main_while1b_v50 : Ref sig .tc := ⟨.hbm, 167, rfl⟩
abbrev main_while1b_call14_c : Ref sig .tc := ⟨.hbm, 168, rfl⟩
abbrev main_while1b_call14_c_0 : Ref sig .tc := ⟨.hbm, 169, rfl⟩
abbrev main_while1b_call14_c_1 : Ref sig .tc := ⟨.hbm, 170, rfl⟩
abbrev main_while1b_call14_v0 : Ref sig .tc := ⟨.hbm, 171, rfl⟩
abbrev main_while1b_v51 : Ref sig .tc := ⟨.hbm, 172, rfl⟩
abbrev main_while1b_call15_c : Ref sig .tc := ⟨.hbm, 173, rfl⟩
abbrev main_while1b_call15_c_0 : Ref sig .tc := ⟨.hbm, 174, rfl⟩
abbrev main_while1b_call15_c_1 : Ref sig .tc := ⟨.hbm, 175, rfl⟩
abbrev main_while1b_call15_v0 : Ref sig .tc := ⟨.hbm, 176, rfl⟩
abbrev main_while1b_v52 : Ref sig .tc := ⟨.hbm, 177, rfl⟩
abbrev main_while1b_call16_c : Ref sig .tc := ⟨.hbm, 178, rfl⟩
abbrev main_while1b_call16_c_0 : Ref sig .tc := ⟨.hbm, 179, rfl⟩
abbrev main_while1b_call16_c_1 : Ref sig .tc := ⟨.hbm, 180, rfl⟩
abbrev main_while1b_call16_v0 : Ref sig .tc := ⟨.hbm, 181, rfl⟩
abbrev main_while1b_v53 : Ref sig .tc := ⟨.hbm, 182, rfl⟩
abbrev main_while1b_v54 : Ref sig .tc := ⟨.hbm, 183, rfl⟩
abbrev main_while1b_v55 : Ref sig .tc := ⟨.hbm, 184, rfl⟩
abbrev main_while1b_v56 : Ref sig .tc := ⟨.hbm, 185, rfl⟩
abbrev main_while1b_v57 : Ref sig .tc := ⟨.hbm, 186, rfl⟩
abbrev main_while1b_v58 : Ref sig .tc := ⟨.hbm, 187, rfl⟩
abbrev main_while1b_cst_29 : Ref sig .tc := ⟨.hbm, 188, rfl⟩
abbrev main_while1b_v59 : Ref sig .tc := ⟨.hbm, 189, rfl⟩
abbrev main_while1b_v60 : Ref sig .tc := ⟨.hbm, 190, rfl⟩
abbrev main_while1b_v61 : Ref sig .tc := ⟨.hbm, 191, rfl⟩
abbrev main_while1b_v62 : Ref sig .tc := ⟨.hbm, 192, rfl⟩
abbrev main_while1b_v63 : Ref sig .tc := ⟨.hbm, 193, rfl⟩
abbrev main_while1b_v64 : Ref sig .tc := ⟨.hbm, 194, rfl⟩
abbrev main_while1b_v65 : Ref sig .tc := ⟨.hbm, 195, rfl⟩
abbrev main_while1b_v66 : Ref sig .tc := ⟨.hbm, 196, rfl⟩
abbrev main_while1b_v67 : Ref sig .tc := ⟨.hbm, 197, rfl⟩
abbrev main_while1b_v68 : Ref sig .tc := ⟨.hbm, 198, rfl⟩
abbrev main_while1b_v69 : Ref sig .tc := ⟨.hbm, 199, rfl⟩
abbrev main_while1b_v70 : Ref sig .tc := ⟨.hbm, 200, rfl⟩
abbrev main_while1b_v71 : Ref sig .tc := ⟨.hbm, 201, rfl⟩
abbrev main_while1b_v72 : Ref sig .tc := ⟨.hbm, 202, rfl⟩
abbrev main_while1b_v73 : Ref sig .tc := ⟨.hbm, 203, rfl⟩
abbrev main_while1b_v74 : Ref sig .tc := ⟨.hbm, 204, rfl⟩
abbrev main_while1b_v75 : Ref sig .tc := ⟨.hbm, 205, rfl⟩
abbrev main_while1b_call17_v0 : Ref sig .tc := ⟨.hbm, 206, rfl⟩
abbrev main_while1b_call17_c : Ref sig .tc := ⟨.hbm, 207, rfl⟩
abbrev main_while1b_call17_c_0 : Ref sig .tc := ⟨.hbm, 208, rfl⟩
abbrev main_while1b_call17_c_1 : Ref sig .tc := ⟨.hbm, 209, rfl⟩
abbrev main_while1b_v76 : Ref sig .tc := ⟨.hbm, 210, rfl⟩
abbrev main_while1b_call18_v0 : Ref sig .tc := ⟨.hbm, 211, rfl⟩
abbrev main_while1b_call18_c : Ref sig .tc := ⟨.hbm, 212, rfl⟩
abbrev main_while1b_call18_c_0 : Ref sig .tc := ⟨.hbm, 213, rfl⟩
abbrev main_while1b_call18_c_1 : Ref sig .tc := ⟨.hbm, 214, rfl⟩
abbrev main_while1b_v77 : Ref sig .tc := ⟨.hbm, 215, rfl⟩
abbrev main_while1b_call19_v0 : Ref sig .tc := ⟨.hbm, 216, rfl⟩
abbrev main_while1b_call19_c : Ref sig .tc := ⟨.hbm, 217, rfl⟩
abbrev main_while1b_call19_c_0 : Ref sig .tc := ⟨.hbm, 218, rfl⟩
abbrev main_while1b_call19_c_1 : Ref sig .tc := ⟨.hbm, 219, rfl⟩
abbrev main_while1b_v78 : Ref sig .tc := ⟨.hbm, 220, rfl⟩
abbrev main_while1b_call20_v0 : Ref sig .tc := ⟨.hbm, 221, rfl⟩
abbrev main_while1b_call20_c : Ref sig .tc := ⟨.hbm, 222, rfl⟩
abbrev main_while1b_call20_c_0 : Ref sig .tc := ⟨.hbm, 223, rfl⟩
abbrev main_while1b_call20_c_1 : Ref sig .tc := ⟨.hbm, 224, rfl⟩
abbrev main_while1b_v79 : Ref sig .tc := ⟨.hbm, 225, rfl⟩
abbrev main_while1b_call21_v0 : Ref sig .tc := ⟨.hbm, 226, rfl⟩
abbrev main_while1b_call21_c : Ref sig .tc := ⟨.hbm, 227, rfl⟩
abbrev main_while1b_call21_c_0 : Ref sig .tc := ⟨.hbm, 228, rfl⟩
abbrev main_while1b_call21_c_1 : Ref sig .tc := ⟨.hbm, 229, rfl⟩
abbrev main_while1b_v80 : Ref sig .tc := ⟨.hbm, 230, rfl⟩
abbrev main_while1b_call22_v0 : Ref sig .tc := ⟨.hbm, 231, rfl⟩
abbrev main_while1b_call22_c : Ref sig .tc := ⟨.hbm, 232, rfl⟩
abbrev main_while1b_call22_c_0 : Ref sig .tc := ⟨.hbm, 233, rfl⟩
abbrev main_while1b_call22_c_1 : Ref sig .tc := ⟨.hbm, 234, rfl⟩
abbrev main_while1b_v81 : Ref sig .tc := ⟨.hbm, 235, rfl⟩
abbrev main_while1b_c_30 : Ref sig .tc := ⟨.hbm, 236, rfl⟩
abbrev main_while1b_v82 : Ref sig .tc := ⟨.hbm, 237, rfl⟩
abbrev main_v33 : Ref sig .tc := ⟨.hbm, 238, rfl⟩
abbrev main_v34 : Ref sig .tc := ⟨.hbm, 239, rfl⟩
abbrev main_v35 : Ref sig .tc := ⟨.hbm, 240, rfl⟩
abbrev main_v36 : Ref sig .tc := ⟨.hbm, 241, rfl⟩
abbrev main_v37 : Ref sig .tc := ⟨.hbm, 242, rfl⟩
abbrev main_v38 : Ref sig .tc := ⟨.hbm, 243, rfl⟩
abbrev main_v39 : Ref sig .tc := ⟨.hbm, 244, rfl⟩
abbrev main_v40 : Ref sig .tc := ⟨.hbm, 245, rfl⟩
abbrev main_v41 : Ref sig .tc := ⟨.hbm, 246, rfl⟩
abbrev main_v42 : Ref sig .tc := ⟨.hbm, 247, rfl⟩
abbrev main_v43 : Ref sig .tc := ⟨.hbm, 248, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x8192, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .i1⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S2048x2048, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S2048x8192 : Shape := ⟨2, ![2048, 8192]⟩
abbrev S8192x2048 : Shape := ⟨2, ![8192, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x2048, .bf16⟩
  | .hbm, ⟨3, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x2048, .bf16⟩
  | .hbm, ⟨3, _⟩ => ⟨S2048x8192, .f32⟩
  | .hbm, ⟨4, _⟩ => ⟨S2048x2048, .f32⟩
  | .hbm, ⟨5, _⟩ => ⟨S2048x2048, .f32⟩
  | .hbm, ⟨6, _⟩ => ⟨S2048x8192, .f32⟩
  | .hbm, ⟨7, _⟩ => ⟨S8192x2048, .f32⟩
  | .hbm, ⟨8, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2048x2048 : Shape := ⟨2, ![2048, 2048]⟩
abbrev S2048x8192 : Shape := ⟨2, ![2048, 8192]⟩
abbrev S8x2048x1024 : Shape := ⟨3, ![8, 2048, 1024]⟩
abbrev S2048x512 : Shape := ⟨2, ![2048, 512]⟩
abbrev S1x2048x512 : Shape := ⟨3, ![1, 2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S2048x8192, .bf16⟩
  | .hbm, ⟨3, _⟩ => ⟨S8x2048x1024, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S1x2048x512, .bf16⟩
  | .local _ .vmem, ⟨4, _⟩ => ⟨S1x2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S2048x8192, .bf16⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S8192x2048, .f32⟩
  | .hbm, ⟨7, _⟩ => ⟨S2048x8192, .f32⟩
  | .hbm, ⟨8, _⟩ => ⟨S2048x8192, .bf16⟩
  | .hbm, ⟨9, _⟩ => ⟨S2048x8x1024, .bf16⟩
  | .hbm, ⟨10, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x2048 : Shape := ⟨2, ![2048, 2048]⟩
abbrev S8x2048x1024 : Shape := ⟨3, ![8, 2048, 1024]⟩
abbrev S2048x8192 : Shape := ⟨2, ![2048, 8192]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S8x2048x1024, .bf16⟩
  | .hbm, ⟨2, _⟩ => ⟨S2048x8192, .bf16⟩
  | .hbm, ⟨3, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S8x2048x1024 : Shape := ⟨3, ![8, 2048, 1024]⟩
abbrev S2048x8192 : Shape := ⟨2, ![2048, 8192]⟩
abbrev S2048x8x1024 : Shape := ⟨3, ![2048, 8, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8x2048x1024, .bf16⟩
  | .hbm, ⟨2, _⟩ => ⟨S2048x8192, .bf16⟩
  | .hbm, ⟨3, _⟩ => ⟨S2048x8x1024, .bf16⟩
  | .hbm, ⟨4, _⟩ => ⟨S2048x8192, .bf16⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x2048 : Shape := ⟨2, ![2048, 2048]⟩
abbrev S8x2048x1024 : Shape := ⟨3, ![8, 2048, 1024]⟩
abbrev S2048x8192 : Shape := ⟨2, ![2048, 8192]⟩
abbrev S1x2048x512 : Shape := ⟨3, ![1, 2048, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .bf16⟩
  | .hbm, ⟨3, _⟩ => ⟨S2048x8192, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x2048 : Shape := ⟨2, ![2048, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S2048x8192, .f32⟩
  | .hbm, ⟨5, _⟩ => ⟨S2048x2048, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S2048x8192, .f32⟩
  | .hbm, ⟨11, _⟩ => ⟨S2048x8192, .bf16⟩
  | .hbm, ⟨12, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S2048x8192 : Shape := ⟨2, ![2048, 8192]⟩
abbrev S8192x2048 : Shape := ⟨2, ![8192, 2048]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S2048x5376 : Shape := ⟨2, ![2048, 5376]⟩
abbrev S5376x2048 : Shape := ⟨2, ![5376, 2048]⟩
abbrev S2048x2048 : Shape := ⟨2, ![2048, 2048]⟩
abbrev S2048x1792 : Shape := ⟨2, ![2048, 1792]⟩
abbrev S1792x512 : Shape := ⟨2, ![1792, 512]⟩
abbrev S2048x512 : Shape := ⟨2, ![2048, 512]⟩

abbrev nBuf : Space → Nat
  | .hbm => 5
  | .vmem => 9
  | .smem => 0
  | _ => 0

abbrev bufTy : (tb : Table) → Fin (tcTables nBuf tb) → BufTy
  | .hbm, ⟨0, _⟩ => ⟨S2048x5376, .f32⟩
  | .hbm, ⟨1, _⟩ => ⟨S5376x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .local _ .vmem, ⟨0, _⟩ => ⟨S2048x1792, .f32⟩
  | .local _ .vmem, ⟨1, _⟩ => ⟨S2048x1792, .f32⟩
  | .local _ .vmem, ⟨2, _⟩ => ⟨S1792x512, .bf16⟩
  | .local _ .vmem, ⟨3, _⟩ => ⟨S1792x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2048x5376 : Shape := ⟨2, ![2048, 5376]⟩
abbrev S5376x2048 : Shape := ⟨2, ![5376, 2048]⟩
abbrev S2048x2048 : Shape := ⟨2, ![2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x5376, .f32⟩
  | .hbm, ⟨1, _⟩ => ⟨S5376x2048, .bf16⟩
  | .hbm, ⟨2, _⟩ => ⟨S2048x2048, .f32⟩
  | .hbm, ⟨3, _⟩ => ⟨S2048x2048, .f32⟩
  | .hbm, ⟨4, _⟩ => ⟨S5376x2048, .f32⟩
  | .hbm, ⟨5, _⟩ => ⟨S2048x5376, .f32⟩
  | .hbm, ⟨6, _⟩ => ⟨S2048x5376, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel9.lean ====
abbrev S2048x5376 : Shape := ⟨2, ![2048, 5376]⟩
abbrev S5376x2048 : Shape := ⟨2, ![5376, 2048]⟩
abbrev S2048x2048 : Shape := ⟨2, ![2048, 2048]⟩
abbrev S2048x768 : Shape := ⟨2, ![2048, 768]⟩
abbrev S768x2048 : Shape := ⟨2, ![768, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x5376, .f32⟩
  | .hbm, ⟨1, _⟩ => ⟨S5376x2048, .f32⟩
  | .hbm, ⟨2, _⟩ => ⟨S2048x2048, .bf16⟩
  | .hbm, ⟨3, _⟩ => ⟨S5376x2048, .bf16⟩
  | .local _ .vmem, ⟨0, _⟩ => ⟨S2048x768, .f32⟩
  | .local _ .vmem, ⟨1, _⟩ => ⟨S2048x768, .f32⟩
  | .local _ .vmem, ⟨2, _⟩ => ⟨S2048x2048, .bf16⟩
  | .local _ .vmem, ⟨3, _⟩ => ⟨S768x2048, .bf16⟩
  | .local _ .vmem, ⟨4, _⟩ => ⟨S768x2048, .bf16⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![7, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x5376 : Shape := ⟨2, ![2048, 5376]⟩
abbrev S5376x2048 : Shape := ⟨2, ![5376, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5376, .f32⟩
  | .hbm, ⟨1, _⟩ => ⟨S5376x2048, .f32⟩
  | .hbm, ⟨2, _⟩ => ⟨S2048x2048, .bf16⟩
  | .hbm, ⟨3, _⟩ => ⟨S2048x2048, .f32⟩
  | .hbm, ⟨4, _⟩ => ⟨S2048x5376, .f32⟩
  | .hbm, ⟨5, _⟩ => ⟨S2048x5376, .f32⟩
  | .hbm, ⟨6, _⟩ => ⟨S5376x2048, .f32⟩
  | .hbm, ⟨7, _⟩ => ⟨S2048x5376, .f32⟩
  | .hbm, ⟨8, _⟩ => ⟨S5376x2048, .f32⟩
  | .hbm, ⟨9, _⟩ => ⟨S5376x2048, .bf16⟩
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x2048 : Shape := ⟨2, ![2048, 2048]⟩
abbrev S5376x2048 : Shape := ⟨2, ![5376, 2048]⟩
abbrev S2048x5376 : Shape := ⟨2, ![2048, 5376]⟩
abbrev S768x2048 : Shape := ⟨2, ![768, 2048]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5376x2048, .bf16⟩
  | .hbm, ⟨2, _⟩ => ⟨S2048x5376, .f32⟩
  | .local _ .vmem, ⟨0, _⟩ => ⟨S2048x2048, .bf16⟩
  | .local _ .vmem, ⟨1, _⟩ => ⟨S768x2048, .bf16⟩
  | .local _ .vmem, ⟨2, _⟩ => ⟨S768x2048, .bf16⟩
  | .local _ .vmem, ⟨3, _⟩ => ⟨S2048x768, .f32⟩
  | .local _ .vmem, ⟨4, _⟩ => ⟨S2048x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S5376x2048 : Shape := ⟨2, ![5376, 2048]⟩
abbrev S2048x5376 : Shape := ⟨2, ![2048, 5376]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5376x2048, .bf16⟩
  | .hbm, ⟨2, _⟩ => ⟨S2048x2048, .f32⟩
  | .hbm, ⟨3, _⟩ => ⟨S5376x2048, .f32⟩
  | .hbm, ⟨4, _⟩ => ⟨S2048x5376, .f32⟩
  | .hbm, ⟨5, _⟩ => ⟨S2048x5376, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S2048x2048 : Shape := ⟨2, ![2048, 2048]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4x256x2048 : Shape := ⟨3, ![4, 256, 2048]⟩
abbrev S1 : Shape := ⟨1, ![1]⟩
abbrev S256x2048 : Shape := ⟨2, ![256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S4x256x2048 : Shape := ⟨3, ![4, 256, 2048]⟩
abbrev S1 : Shape := ⟨1, ![1]⟩
abbrev S256x2048 : Shape := ⟨2, ![256, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S1, .i32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S4x256x2048, .i32⟩
  | .hbm, ⟨7, _⟩ => ⟨S_, .i32⟩
  | .hbm, ⟨8, _⟩ => ⟨S4x256x2048, .i32⟩
  | .hbm, ⟨9, _⟩ => ⟨S4x256x2048, .i1⟩
  | .hbm, ⟨10, _⟩ => ⟨S4x256x2048, .bf16⟩
  | .hbm, ⟨11, _⟩ => ⟨S4x256x2048, .f32⟩
  | .hbm, ⟨12, _⟩ => ⟨S_, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel16.lean ====
abbrev S4x1024x2048 : Shape := ⟨3, ![4, 1024, 2048]⟩
abbrev S1 : Shape := ⟨1, ![1]⟩
abbrev S1024x2048 : Shape := ⟨2, ![1024, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x2048, .bf16⟩
  | .hbm, ⟨1, _⟩ => ⟨S4x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S4x1024x2048 : Shape := ⟨3, ![4, 1024, 2048]⟩
abbrev S1 : Shape := ⟨1, ![1]⟩
abbrev S1024x2048 : Shape := ⟨2, ![1024, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .bf16⟩
  | .hbm, ⟨2, _⟩ => ⟨S1, .i32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S4x1024x2048, .i32⟩
  | .hbm, ⟨7, _⟩ => ⟨S_, .i32⟩
  | .hbm, ⟨8, _⟩ => ⟨S4x1024x2048, .i32⟩
  | .hbm, ⟨9, _⟩ => ⟨S4x1024x2048, .i1⟩
  | .hbm, ⟨10, _⟩ => ⟨S4x1024x2048, .bf16⟩
  | .hbm, ⟨11, _⟩ => ⟨S4x1024x2048, .f32⟩
  | .hbm, ⟨12, _⟩ => ⟨S_, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024x2048, .f32⟩
  | .hbm, ⟨46, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel17.lean ====
abbrev S4x2048x1024 : Shape := ⟨3, ![4, 2048, 1024]⟩
abbrev S1 : Shape := ⟨1, ![1]⟩
abbrev S2048x1024 : Shape := ⟨2, ![2048, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S4x2048x1024 : Shape := ⟨3, ![4, 2048, 1024]⟩
abbrev S1 : Shape := ⟨1, ![1]⟩
abbrev S2048x1024 : Shape := ⟨2, ![2048, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S1, .i32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S4x2048x1024, .i32⟩
  | .hbm, ⟨7, _⟩ => ⟨S_, .i32⟩
  | .hbm, ⟨8, _⟩ => ⟨S4x2048x1024, .i32⟩
  | .hbm, ⟨9, _⟩ => ⟨S4x2048x1024, .i1⟩
  | .hbm, ⟨10, _⟩ => ⟨S4x2048x1024, .bf16⟩
  | .hbm, ⟨11, _⟩ => ⟨S4x2048x1024, .f32⟩
  | .hbm, ⟨12, _⟩ => ⟨S_, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S4x128x256 : Shape := ⟨3, ![4, 128, 256]⟩
abbrev S1 : Shape := ⟨1, ![1]⟩
abbrev S128x256 : Shape := ⟨2, ![128, 256]⟩
abbrev S1x128x256 : Shape := ⟨3, ![1, 128, 256]⟩

abbrev nBuf : Space → Nat
  | .hbm => 9
  | .vmem => 9
  | .smem => 1
  | _ => 0

abbrev bufTy : (tb : Table) → Fin (tcTables nBuf tb) → BufTy
  | .hbm, ⟨0, _⟩ => ⟨S4x128x256, .bf16⟩
  | .hbm, ⟨1, _⟩ => ⟨S4x128x256, .bf16⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .local _ .vmem, ⟨0, _⟩ => ⟨S4x128x256, .bf16⟩
  | .local _ .vmem, ⟨1, _⟩ => ⟨S1x128x256, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .smem, ⟨0, _⟩ => ⟨S1, .i32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference18Ideal.lean ====
abbrev S4x128x256 : Shape := ⟨3, ![4, 128, 256]⟩
abbrev S1 : Shape := ⟨1, ![1]⟩
abbrev S128x256 : Shape := ⟨2, ![128, 256]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S4x128x256, .bf16⟩
  | .hbm, ⟨2, _⟩ => ⟨S1, .i32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S4x128x256, .i32⟩
  | .hbm, ⟨7, _⟩ => ⟨S_, .i32⟩
  | .hbm, ⟨8, _⟩ => ⟨S4x128x256, .i32⟩
  | .hbm, ⟨9, _⟩ => ⟨S4x128x256, .i1⟩
  | .hbm, ⟨10, _⟩ => ⟨S4x128x256, .bf16⟩
  | .hbm, ⟨11, _⟩ => ⟨S4x128x256, .f32⟩
  | .hbm, ⟨12, _⟩ => ⟨S_, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | .hbm, ⟨39, _⟩ => ⟨S128x256, .f32⟩
  | .hbm, ⟨40, _⟩ => ⟨S_, .f32⟩
  | .hbm, ⟨41, _⟩ => ⟨S128x256, .f32⟩
  | .hbm, ⟨42, _⟩ => ⟨S128x256, .f32⟩
  | .hbm, ⟨43, _⟩ => ⟨S128x256, .f32⟩
  | .hbm, ⟨44, _⟩ => ⟨S_, .f32⟩
  | .hbm, ⟨45, _⟩ => ⟨S128x256, .f32⟩
  | .hbm, ⟨46, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel19.lean ====
abbrev S4x642x2048 : Shape := ⟨3, ![4, 642, 2048]⟩
abbrev S1 : Shape := ⟨1, ![1]⟩
abbrev S642x1x2048 : Shape := ⟨3, ![642, 1, 2048]⟩
abbrev S4x642x256 : Shape := ⟨3, ![4, 642, 256]⟩
abbrev S1x642x256 : Shape := ⟨3, ![1, 642, 256]⟩
abbrev S642x1x256 : Shape := ⟨3, ![642, 1, 256]⟩
abbrev S642x256 : Shape := ⟨2, ![642, 256]⟩

abbrev nBuf : Space → Nat
  | .hbm => 9
  | .vmem => 18
  | .smem => 1
  | _ => 0

abbrev bufTy : (tb : Table) → Fin (tcTables nBuf tb) → BufTy
  | .hbm, ⟨0, _⟩ => ⟨S4x642x2048, .bf16⟩
  | .hbm, ⟨1, _⟩ => ⟨S4x642x2048, .bf16⟩
  | .hbm, ⟨2, _⟩ => ⟨S642x1x2048, .f32⟩
  | .hbm, ⟨3, _⟩ => ⟨S642x1x2048, .f32⟩
  | .hbm, ⟨4, _⟩ => ⟨S642x1x2048, .f32⟩
  | .hbm, ⟨5, _⟩ => ⟨S642x1x2048, .f32⟩
  | .hbm, ⟨6, _⟩ => ⟨S642x1x2048, .f32⟩
  | .hbm, ⟨7, _⟩ => ⟨S642x1x2048, .f32⟩
  | .hbm, ⟨8, _⟩ => ⟨S642x1x2048, .f32⟩
  | .local _ .vmem, ⟨0, _⟩ => ⟨S4x642x256, .bf16⟩
  | .local _ .vmem, ⟨1, _⟩ => ⟨S4x642x256, .bf16⟩
  | .local _ .vmem, ⟨2, _⟩ => ⟨S1x642x256, .bf16⟩
  | .local _ .vmem, ⟨3, _⟩ => ⟨S1x642x256, .bf16⟩
  | .local _ .vmem, ⟨4, _⟩ => ⟨S642x1x256, .f32⟩
  | .local _ .vmem, ⟨5, _⟩ => ⟨S642x1x256, .f32⟩
  | .local _ .vmem, ⟨6, _⟩ => ⟨S642x1x256, .f32⟩
  | .local _ .vmem, ⟨7, _⟩ => ⟨S642x1x256, .f32⟩
  | .local _ .vmem, ⟨8, _⟩ => ⟨S642x1x256, .f32⟩
  | .local _ .vmem, ⟨9, _⟩ => ⟨S642x1x256, .f32⟩
  | .local _ .vmem, ⟨10, _⟩ => ⟨S642x1x256, .f32⟩
  | .local _ .vmem, ⟨11, _⟩ => ⟨S642x1x256, .f32⟩
  | .local _ .vmem, ⟨12, _⟩ => ⟨S642x1x256, .f32⟩
  | .local _ .vmem, ⟨13, _⟩ => ⟨S642x1x256, .f32⟩
  | .local _ .vmem, ⟨14, _⟩ => ⟨S642x1x256, .f32⟩
  | .local _ .vmem, ⟨15, _⟩ => ⟨S642x1x256, .f32⟩
  | .local _ .vmem, ⟨16, _⟩ => ⟨S642x1x256, .f32⟩
  | .local _ .vmem, ⟨17, _⟩ => ⟨S642x1x256, .f32⟩
  | .local _ .smem, ⟨0, _⟩ => ⟨S1, .i32⟩
  | _, _ => ⟨S4x642x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x642x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x642x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S642x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S642x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S642x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S642x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S642x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S642x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S642x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S4x642x2048 : Shape := ⟨3, ![4, 642, 2048]⟩
abbrev S1 : Shape := ⟨1, ![1]⟩
abbrev S642x1x2048 : Shape := ⟨3, ![642, 1, 2048]⟩
abbrev S642x2048 : Shape := ⟨2, ![642, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4x642x2048, .bf16⟩
  | .hbm, ⟨1, _⟩ => ⟨S4x642x2048, .bf16⟩
  | .hbm, ⟨2, _⟩ => ⟨S1, .i32⟩
  | .hbm, ⟨3, _⟩ => ⟨S642x1x2048, .f32⟩
  | .hbm, ⟨4, _⟩ => ⟨S642x1x2048, .f32⟩
  | .hbm, ⟨5, _⟩ => ⟨S642x1x2048, .f32⟩
  | .hbm, ⟨6, _⟩ => ⟨S642x2048, .f32⟩
  | .hbm, ⟨7, _⟩ => ⟨S642x2048, .f32⟩
  | .hbm, ⟨8, _⟩ => ⟨S642x2048, .f32⟩
  | .hbm, ⟨9, _⟩ => ⟨S4x642x2048, .i32⟩
  | .hbm, ⟨10, _⟩ => ⟨S_, .i32⟩
  | .hbm, ⟨11, _⟩ => ⟨S4x642x2048, .i32⟩
  | .hbm, ⟨12, _⟩ => ⟨S4x642x2048, .i1⟩
  | .hbm, ⟨13, _⟩ => ⟨S4x642x2048, .bf16⟩
  | .hbm, ⟨14, _⟩ => ⟨S4x642x2048, .f32⟩
  | .hbm, ⟨15, _⟩ => ⟨S_, .f32⟩
  | .hbm, ⟨16, _⟩ => ⟨S642x2048, .f32⟩
  | .hbm, ⟨17, _⟩ => ⟨S_, .f32⟩
  | .hbm, ⟨18, _⟩ => ⟨S642x2048, .f32⟩
  | .hbm, ⟨19, _⟩ => ⟨S642x2048, .f32⟩
  | .hbm, ⟨20, _⟩ => ⟨S_, .f32⟩
  | .hbm, ⟨21, _⟩ => ⟨S642x2048, .f32⟩
  | .hbm, ⟨22, _⟩ => ⟨S642x2048, .f32⟩
  | .hbm, ⟨23, _⟩ => ⟨S642x2048, .f32⟩
  | .hbm, ⟨24, _⟩ => ⟨S_, .f32⟩
  | .hbm, ⟨25, _⟩ => ⟨S642x2048, .f32⟩
  | .hbm, ⟨26, _⟩ => ⟨S642x2048, .f32⟩
  | .hbm, ⟨27, _⟩ => ⟨S642x2048, .f32⟩
  | .hbm, ⟨28, _⟩ => ⟨S_, .f32⟩
  | .hbm, ⟨29, _⟩ => ⟨S642x2048, .f32⟩
  | .hbm, ⟨30, _⟩ => ⟨S642x2048, .f32⟩
  | .hbm, ⟨31, _⟩ => ⟨S642x2048, .f32⟩
  | .hbm, ⟨32, _⟩ => ⟨S_, .f32⟩
  | .hbm, ⟨33, _⟩ => ⟨S642x2048, .f32⟩
  | .hbm, ⟨34, _⟩ => ⟨S642x2048, .f32⟩
  | .hbm, ⟨35, _⟩ => ⟨S_, .f32⟩
  | .hbm, ⟨36, _⟩ => ⟨S642x2048, .f32⟩
  | .hbm, ⟨37, _⟩ => ⟨S642x2048, .f32⟩
  | .hbm, ⟨38, _⟩ => ⟨S642x2048, .f32⟩
  | .hbm, ⟨39, _⟩ => ⟨S_, .f32⟩
  | .hbm, ⟨40, _⟩ => ⟨S642x2048, .f32⟩
  | .hbm, ⟨41, _⟩ => ⟨S642x2048, .f32⟩
  | .hbm, ⟨42, _⟩ => ⟨S642x2048, .f32⟩
  | .hbm, ⟨43, _⟩ => ⟨S_, .f32⟩
  | .hbm, ⟨44, _⟩ => ⟨S642x2048, .f32⟩
  | .hbm, ⟨45, _⟩ => ⟨S642x2048, .f32⟩
  | .hbm, ⟨46, _⟩ => ⟨S642x2048, .f32⟩
  | .hbm, ⟨47, _⟩ => ⟨S_, .f32⟩
  | .hbm, ⟨48, _⟩ => ⟨S642x2048, .f32⟩
  | .hbm, ⟨49, _⟩ => ⟨S642x2048, .f32⟩
  | .hbm, ⟨50, _⟩ => ⟨S642x1x2048, .f32⟩
  | .hbm, ⟨51, _⟩ => ⟨S642x1x2048, .f32⟩
  | .hbm, ⟨52, _⟩ => ⟨S642x1x2048, .f32⟩
  | .hbm, ⟨53, _⟩ => ⟨S642x1x2048, .f32⟩
  | _, _ => ⟨S4x642x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Kernel20.lean ====
abbrev S1x4x384 : Shape := ⟨3, ![1, 4, 384]⟩
abbrev S4x384 : Shape := ⟨2, ![4, 384]⟩
abbrev S_ : Shape := ⟨0, ![]⟩
abbrev S1 : Shape := ⟨1, ![1]⟩

abbrev nBuf : Space → Nat
  | .hbm => 9
  | .vmem => 9
  | .smem => 1
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .i32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S4x384, .f32⟩
  | .local _ .vmem, ⟨0, _⟩ => ⟨S1x4x384, .f32⟩
  | .local _ .vmem, ⟨1, _⟩ => ⟨S1x4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | .local _ .vmem, ⟨8, _⟩ => ⟨S4x384, .f32⟩
  | .local _ .smem, ⟨0, _⟩ => ⟨S1, .i32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference20Ideal.lean ====
abbrev S1x4x384 : Shape := ⟨3, ![1, 4, 384]⟩
abbrev S4x384 : Shape := ⟨2, ![4, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S_, .f32⟩
  | .hbm, ⟨6, _⟩ => ⟨S4x384, .f32⟩
  | .hbm, ⟨7, _⟩ => ⟨S4x384, .f32⟩
  | .hbm, ⟨8, _⟩ => ⟨S_, .f32⟩
  | .hbm, ⟨9, _⟩ => ⟨S4x384, .f32⟩
  | .hbm, ⟨10, _⟩ => ⟨S4x384, .f32⟩
  | .hbm, ⟨11, _⟩ => ⟨S4x384, .f32⟩
  | .hbm, ⟨12, _⟩ => ⟨S_, .f32⟩
  | .hbm, ⟨13, _⟩ => ⟨S4x384, .f32⟩
  | .hbm, ⟨14, _⟩ => ⟨S4x384, .f32⟩
  | .hbm, ⟨15, _⟩ => ⟨S4x384, .f32⟩
  | .hbm, ⟨16, _⟩ => ⟨S_, .f32⟩
  | .hbm, ⟨17, _⟩ => ⟨S4x384, .f32⟩
  | .hbm, ⟨18, _⟩ => ⟨S4x384, .f32⟩
  | .hbm, ⟨19, _⟩ => ⟨S4x384, .f32⟩
  | .hbm, ⟨20, _⟩ => ⟨S_, .f32⟩
  | .hbm, ⟨21, _⟩ => ⟨S4x384, .f32⟩
  | .hbm, ⟨22, _⟩ => ⟨S4x384, .f32⟩
  | .hbm, ⟨23, _⟩ => ⟨S_, .f32⟩
  | .hbm, ⟨24, _⟩ => ⟨S4x384, .f32⟩
  | .hbm, ⟨25, _⟩ => ⟨S4x384, .f32⟩
  | .hbm, ⟨26, _⟩ => ⟨S4x384, .f32⟩
  | .hbm, ⟨27, _⟩ => ⟨S_, .f32⟩
  | .hbm, ⟨28, _⟩ => ⟨S4x384, .f32⟩
  | .hbm, ⟨29, _⟩ => ⟨S4x384, .f32⟩
  | .hbm, ⟨30, _⟩ => ⟨S4x384, .f32⟩
  | .hbm, ⟨31, _⟩ => ⟨S_, .f32⟩
  | .hbm, ⟨32, _⟩ => ⟨S4x384, .f32⟩
  | .hbm, ⟨33, _⟩ => ⟨S4x384, .f32⟩
  | .hbm, ⟨34, _⟩ => ⟨S4x384, .f32⟩
  | .hbm, ⟨35, _⟩ => ⟨S_, .f32⟩
  | .hbm, ⟨36, _⟩ => ⟨S4x384, .f32⟩
  | .hbm, ⟨37, _⟩ => ⟨S4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.Heads.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit
public import Idealize.ShloMosaic.Lib.ValueLayout
public import Idealize.ShloMosaic.Lib.ValueIdx
public import Idealize.ShloMosaic.Lib.Ring
public import Idealize.ShloMosaic.Lib.Tactic
public import Idealize.ShloMosaic.Lib.WordCmp

@[expose] public section

set_option maxRecDepth 16384

noncomputable section

/-! # The eight heads of a wide block

A chunk of a wide array is a block of 64 rows and 1024 columns, head `h` lying in the columns from `128 h`. The kernels read it as
eight blocks of 128 columns which they stack to [8, 64, 128], and store a stack back the same way. -/

namespace Cert.Scan

open Idealize.ShloMosaic Idealize.ShloMosaic.TcCoe Idealize.ShloMosaic.Tactic Cert.KernelIdeal Cert.KernelIdeal.Gen

variable {F : FTy → Type} [FloatOps F]

/-- Offsets that are all zero, by rank. -/
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- The wide block as a stack of its heads. -/
def stack {α : Type} (x : S64x1024.Idx → α) : S8x64x128.Idx → α :=
  fun j => x (ix2 (j 1) ⟨(j 0).val * 128 + (j 2).val, by
    have h0 : (j 0).val < 8 := (j 0).isLt
    have h2 : (j 2).val < 128 := (j 2).isLt
    show _ < 1024; omega⟩)

/-- The stack of heads as a wide block. -/
def flat {α : Type} (y : S8x64x128.Idx → α) : S64x1024.Idx → α :=
  fun j => y (ix3 ⟨(j 1).val / 128, by have h : (j 1).val < 1024 := (j 1).isLt; omega⟩ (j 0) ⟨(j 1).val % 128, Nat.mod_lt _ (by decide)⟩)

/-- The columns of head `k`. -/
abbrev col (k : ℕ) (h : ∀ a, (![0, k] : Fin 2 → Nat) a + S64x128.size a ≤ S64x1024.size a) : Rect S64x1024 :=
  Rect.unit (s := S64x1024) ![0, k] S64x128.size h

/-- Eight stores, each of one head's columns holding that head of a stack, leave the stack laid out wide. -/
theorem read_heads {sig : RefSig} {κ : Kind} {sp : Space} (v : View sig κ sp S64x1024 .f32) (f : v.ty.Contents (Elt F))
    (y : S8x64x128.Idx → Elt F .f32) (p0 p1 p2 p3 p4 p5 p6 p7 : S64x128.Idx → Elt F .f32)
    (h0 : ∀ x : S64x128.Idx, p0 x = y (ix3 0 (x 0) (x 1))) (h1 : ∀ x : S64x128.Idx, p1 x = y (ix3 1 (x 0) (x 1)))
    (h2 : ∀ x : S64x128.Idx, p2 x = y (ix3 2 (x 0) (x 1))) (h3 : ∀ x : S64x128.Idx, p3 x = y (ix3 3 (x 0) (x 1)))
    (h4 : ∀ x : S64x128.Idx, p4 x = y (ix3 4 (x 0) (x 1))) (h5 : ∀ x : S64x128.Idx, p5 x = y (ix3 5 (x 0) (x 1)))
    (h6 : ∀ x : S64x128.Idx, p6 x = y (ix3 6 (x 0) (x 1))) (h7 : ∀ x : S64x128.Idx, p7 x = y (ix3 7 (x 0) (x 1))) :
    v.read (Elt F) (v.writes (Elt F) f [⟨col 896 inb_S64x1024_S64x128_0_896, p7⟩, ⟨col 768 inb_S64x1024_S64x128_0_768, p6⟩,
      ⟨col 640 inb_S64x1024_S64x128_0_640, p5⟩, ⟨col 512 inb_S64x1024_S64x128_0_512, p4⟩, ⟨col 384 inb_S64x1024_S64x128_0_384, p3⟩,
      ⟨col 256 inb_S64x1024_S64x128_0_256, p2⟩, ⟨col 128 inb_S64x1024_S64x128_0_128, p1⟩, ⟨col 0 inb_S64x1024_S64x128_0_0, p0⟩]) = flat y := by
  have key : ∀ (k : Fin 8) (hi) (p : S64x128.Idx → Elt F .f32), (∀ x : S64x128.Idx, p x = y (ix3 k (x 0) (x 1))) →
      ∀ x : S64x128.Idx, p x = flat y ((col (128 * k.val) hi).emb x) := by
    intro k hi p hp x
    rw [hp x]
    have hx : (x 1).val < 128 := (x 1).isLt
    show _ = y _
    congr 1
    funext a
    apply Fin.ext
    match a with
    | ⟨0, _⟩ => show k.val = (128 * k.val + 1 * (x 1).val) / 128; omega
    | ⟨1, _⟩ => show (x 0).val = 0 + 1 * (x 0).val; omega
    | ⟨2, _⟩ => show (x 1).val = (128 * k.val + 1 * (x 1).val) % 128; omega
  funext j
  refine View.read_writes_apply_of_pieces v f (flat y) _ ?_ j (View.cover_of_tiledL (s := S64x1024) _ S64x128.size (by sl_kernel_rfl) j)
  intro p hp
  simp only [List.mem_cons, List.not_mem_nil, or_false] at hp
  rcases hp with rfl | rfl | rfl | rfl | rfl | rfl | rfl | rfl
  · exact key 7 inb_S64x1024_S64x128_0_896 _ h7
  · exact key 6 inb_S64x1024_S64x128_0_768 _ h6
  · exact key 5 inb_S64x1024_S64x128_0_640 _ h5
  · exact key 4 inb_S64x1024_S64x128_0_512 _ h4
  · exact key 3 inb_S64x1024_S64x128_0_384 _ h3
  · exact key 2 inb_S64x1024_S64x128_0_256 _ h2
  · exact key 1 inb_S64x1024_S64x128_0_128 _ h1
  · exact key 0 inb_S64x1024_S64x128_0_0 _ h0

/-- Head `k` of a stack, cut out and its unit axis dropped. -/
theorem cut_apply {α : Type} (y : S8x64x128.Idx → α) (k : Fin 8) (o : Fin 3 → ℕ) (ho : o = ![k.val, 0, 0]) (hs : S8x64x128.Slices o S1x64x128)
    (hc : S1x64x128.ShapeCasts S64x128) (x : S64x128.Idx) :
    shapeCast S64x128 (extractStridedSlice S1x64x128 o y hs) hc x = y (ix3 k (x 0) (x 1)) := by
  subst ho
  rw [ValueIdx.eq_ix2 x]
  refine (ValueIdx.shapeCast_1ab_ab_apply _ hc (x 0) (x 1)).trans ?_
  show y _ = y _
  congr 1
  funext a
  apply Fin.ext
  match a with
  | ⟨0, _⟩ => show k.val + 0 = k.val; omega
  | ⟨1, _⟩ => show 0 + (x 0).val = (x 0).val; omega
  | ⟨2, _⟩ => show 0 + (x 1).val = (x 1).val; omega

/-- The eight blocks of columns of a wide block, each under a unit axis, joined along it, are the stack of its heads. -/
theorem join_heads {α : Type} (x : S64x1024.Idx → α) (p0 p1 p2 p3 p4 p5 p6 p7 : S64x128.Idx → α)
    (e0 : p0 = fun i => x ((col 0 inb_S64x1024_S64x128_0_0).idx i)) (e1 : p1 = fun i => x ((col 128 inb_S64x1024_S64x128_0_128).idx i))
    (e2 : p2 = fun i => x ((col 256 inb_S64x1024_S64x128_0_256).idx i)) (e3 : p3 = fun i => x ((col 384 inb_S64x1024_S64x128_0_384).idx i))
    (e4 : p4 = fun i => x ((col 512 inb_S64x1024_S64x128_0_512).idx i)) (e5 : p5 = fun i => x ((col 640 inb_S64x1024_S64x128_0_640).idx i))
    (e6 : p6 = fun i => x ((col 768 inb_S64x1024_S64x128_0_768).idx i)) (e7 : p7 = fun i => x ((col 896 inb_S64x1024_S64x128_0_896).idx i))
    (hc : S64x128.ShapeCasts S1x64x128)
    (h : Shape.Concatenates [S1x64x128, S1x64x128, S1x64x128, S1x64x128, S1x64x128, S1x64x128, S1x64x128, S1x64x128] S8x64x128 0) :
    concatenate S8x64x128 0 [⟨S1x64x128, shapeCast S1x64x128 p0 hc⟩, ⟨S1x64x128, shapeCast S1x64x128 p1 hc⟩, ⟨S1x64x128, shapeCast S1x64x128 p2 hc⟩,
      ⟨S1x64x128, shapeCast S1x64x128 p3 hc⟩, ⟨S1x64x128, shapeCast S1x64x128 p4 hc⟩, ⟨S1x64x128, shapeCast S1x64x128 p5 hc⟩,
      ⟨S1x64x128, shapeCast S1x64x128 p6 hc⟩, ⟨S1x64x128, shapeCast S1x64x128 p7 hc⟩] h = stack x := by
  funext j
  have key : ∀ (k : ℕ) (hi) (i : S1x64x128.Idx), (j 0).val = k → (∀ b : Fin 3, b ≠ 0 → (i b).val = (j b).val) →
      shapeCast S1x64x128 (fun i => x ((col (128 * k) hi).idx i)) hc i = stack x j := by
    intro k hi i hk hb
    rw [ValueIdx.eq_ix3 i]
    refine (ValueIdx.shapeCast_ab_1ab_apply _ hc (i 0) (i 1) (i 2)).trans ?_
    show x _ = x _
    congr 1
    funext a
    apply Fin.ext
    have b1 := hb 1 (by decide)
    have b2 := hb 2 (by decide)
    match a with
    | ⟨0, _⟩ => show 0 + 1 * (i 1).val = (j 1).val; omega
    | ⟨1, _⟩ => show 128 * k + 1 * (i 2).val = (j 0).val * 128 + (j 2).val; omega
  refine concatenate_ofFn_unit_eq (s₁ := S1x64x128) (N := 8) 0
    (fun n => match n with
      | ⟨0, _⟩ => shapeCast S1x64x128 p0 hc | ⟨1, _⟩ => shapeCast S1x64x128 p1 hc | ⟨2, _⟩ => shapeCast S1x64x128 p2 hc
      | ⟨3, _⟩ => shapeCast S1x64x128 p3 hc | ⟨4, _⟩ => shapeCast S1x64x128 p4 hc | ⟨5, _⟩ => shapeCast S1x64x128 p5 hc
      | ⟨6, _⟩ => shapeCast S1x64x128 p6 hc | ⟨7, _⟩ => shapeCast S1x64x128 p7 hc) h j (stack x j) rfl rfl ?_
  intro n i hn h0 hb
  match n with
  | ⟨0, _⟩ => subst e0; exact key 0 inb_S64x1024_S64x128_0_0 i hn fun b hb' => hb b hb'
  | ⟨1, _⟩ => subst e1; exact key 1 inb_S64x1024_S64x128_0_128 i hn fun b hb' => hb b hb'
  | ⟨2, _⟩ => subst e2; exact key 2 inb_S64x1024_S64x128_0_256 i hn fun b hb' => hb b hb'
  | ⟨3, _⟩ => subst e3; exact key 3 inb_S64x1024_S64x128_0_384 i hn fun b hb' => hb b hb'
  | ⟨4, _⟩ => subst e4; exact key 4 inb_S64x1024_S64x128_0_512 i hn fun b hb' => hb b hb'
  | ⟨5, _⟩ => subst e5; exact key 5 inb_S64x1024_S64x128_0_640 i hn fun b hb' => hb b hb'
  | ⟨6, _⟩ => subst e6; exact key 6 inb_S64x1024_S64x128_0_768 i hn fun b hb' => hb b hb'
  | ⟨7, _⟩ => subst e7; exact key 7 inb_S64x1024_S64x128_0_896 i hn fun b hb' => hb b hb'

end Cert.Scan

end
-- ==== Proof.FwdBody.lean ====
module

public import proofs.«01_k».proof.Proof.Heads

@[expose] public section

set_option maxRecDepth 16384

noncomputable section

/-! # One chunk of the forward call

The body of the forward scan as a triple: what one grid point leaves in the two output blocks and in the carried state, from the
six input blocks and the state the point before left. -/

namespace Cert.Scan

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra the triples live in. -/
abbrev MM (F : FTy → Type) [FloatOps F] := MT nD τ sig Unit (Elt F) ℕ (UR sig nD τ) ℕ

/-- The eight column blocks of a wide block, as a load reads them. -/
abbrev cols {e : EltTy} (x : Vec F S64x1024 e) (k : ℕ) (h : ∀ a, (![0, k] : Fin 2 → Nat) a + (![64, 128] : Fin 2 → Nat) a ≤ S64x1024.size a) : Vec F S64x128 e :=
  View.ld x (Rect.unit (s := S64x1024) ![0, k] ![64, 128] h)

/-- The state after a chunk: the decayed state plus the keys against the corrected values. -/
def fwdState (u : Vec F S64x1024 .f32) (w kd : Vec F S64x1024 .bf16) (el : Vec F S8x1x1x128 .f32) (s : Vec F S8x128x128 .f32) : Vec F S8x128x128 .f32 :=
  k0_pay16 s (stack u) (stack w) (cols kd 0 inb_S64x1024_S64x128_0_0) (cols kd 128 inb_S64x1024_S64x128_0_128)
    (cols kd 256 inb_S64x1024_S64x128_0_256) (cols kd 384 inb_S64x1024_S64x128_0_384) (cols kd 512 inb_S64x1024_S64x128_0_512)
    (cols kd 640 inb_S64x1024_S64x128_0_640) (cols kd 768 inb_S64x1024_S64x128_0_768) (cols kd 896 inb_S64x1024_S64x128_0_896) el

/-- The chunk's output, laid out wide. -/
def fwdOut (u : Vec F S64x1024 .f32) (w qg : Vec F S64x1024 .bf16) (at' : Vec F S8x64x64 .bf16) (s : Vec F S8x128x128 .f32) : Vec F S64x1024 .f32 :=
  flat (k0_pay15 s (stack u) (stack w) (stack qg) at')

theorem pay11_stack (x : Vec F S64x1024 .f32) : k0_pay11 (cols x 0 inb_S64x1024_S64x128_0_0) (cols x 128 inb_S64x1024_S64x128_0_128)
    (cols x 256 inb_S64x1024_S64x128_0_256) (cols x 384 inb_S64x1024_S64x128_0_384) (cols x 512 inb_S64x1024_S64x128_0_512)
    (cols x 640 inb_S64x1024_S64x128_0_640) (cols x 768 inb_S64x1024_S64x128_0_768) (cols x 896 inb_S64x1024_S64x128_0_896) = stack x := by
  unfold k0_pay11
  exact join_heads x _ _ _ _ _ _ _ _ rfl rfl rfl rfl rfl rfl rfl rfl _ _

theorem pay12_stack (x : Vec F S64x1024 .bf16) : k0_pay12 (F := F) (cols x 0 inb_S64x1024_S64x128_0_0) (cols x 128 inb_S64x1024_S64x128_0_128)
    (cols x 256 inb_S64x1024_S64x128_0_256) (cols x 384 inb_S64x1024_S64x128_0_384) (cols x 512 inb_S64x1024_S64x128_0_512)
    (cols x 640 inb_S64x1024_S64x128_0_640) (cols x 768 inb_S64x1024_S64x128_0_768) (cols x 896 inb_S64x1024_S64x128_0_896) = stack x := by
  unfold k0_pay12
  exact join_heads x _ _ _ _ _ _ _ _ rfl rfl rfl rfl rfl rfl rfl rfl _ _

theorem pay13_stack (x : Vec F S64x1024 .bf16) : k0_pay13 (F := F) (cols x 0 inb_S64x1024_S64x128_0_0) (cols x 128 inb_S64x1024_S64x128_0_128)
    (cols x 256 inb_S64x1024_S64x128_0_256) (cols x 384 inb_S64x1024_S64x128_0_384) (cols x 512 inb_S64x1024_S64x128_0_512)
    (cols x 640 inb_S64x1024_S64x128_0_640) (cols x 768 inb_S64x1024_S64x128_0_768) (cols x 896 inb_S64x1024_S64x128_0_896) = stack x := by
  unfold k0_pay13
  exact join_heads x _ _ _ _ _ _ _ _ rfl rfl rfl rfl rfl rfl rfl rfl _ _

/-- The condition of the body's one branch: the first chunk. -/
abbrev isFirst (i : grid0.Coords) : Prop :=
  (Scalar.cmpi .ne (Scalar.extui (Scalar.cmpi .eq (BitVec.ofNat 32 (i 0).val) 0#32)) 0#32) = 1#1

set_option maxHeartbeats 1000000 in
/-- A chunk after the first: from the state the chunk before left. -/
theorem fwd_run_next (c : Dev nD) (i : grid0.Coords) (a1 : Memref sig .tc .vmem S64x1024 .f32) (h1 : a1.IsWhole) (a2 : Memref sig .tc .vmem S64x1024 .bf16) (h2 : a2.IsWhole) (a3 : Memref sig .tc .vmem S64x1024 .bf16) (h3 : a3.IsWhole) (a4 : Memref sig .tc .vmem S64x1024 .bf16) (h4 : a4.IsWhole) (a5 : Memref sig .tc .vmem S8x64x64 .bf16) (h5 : a5.IsWhole) (a6 : Memref sig .tc .vmem S8x1x1x128 .f32) (h6 : a6.IsWhole) (a7 : Memref sig .tc .vmem S64x1024 .f32) (h7 : a7.IsWhole) (a8 : Memref sig .tc .vmem S8x1x128x128 .f32) (h8 : a8.IsWhole) (a9 : Memref sig .tc .vmem S8x128x128 .f32) (h9 : a9.IsWhole)
    (hc : ¬ isFirst i) (u : Vec F S64x1024 .f32) (w qg kd : Vec F S64x1024 .bf16) (at' : Vec F S8x64x64 .bf16) (el : Vec F S8x1x1x128 .f32) (s : Vec F S8x128x128 .f32)
    (E : Set ℕ) (K : PUnit → sProp (MM F)) :
    iprop(owns (c : Thread nD τ) a1 fullShare u ∗ owns (c : Thread nD τ) a2 fullShare w ∗ owns (c : Thread nD τ) a3 fullShare qg ∗ owns (c : Thread nD τ) a4 fullShare kd ∗ owns (c : Thread nD τ) a5 fullShare at' ∗ owns (c : Thread nD τ) a6 fullShare el ∗ (∃ d, owns (c : Thread nD τ) a7 fullShare d) ∗ (∃ d, owns (c : Thread nD τ) a8 fullShare d) ∗ owns (c : Thread nD τ) a9 fullShare s
        ∗ (iprop(owns (c : Thread nD τ) a1 fullShare u ∗ owns (c : Thread nD τ) a2 fullShare w ∗ owns (c : Thread nD τ) a3 fullShare qg ∗ owns (c : Thread nD τ) a4 fullShare kd ∗ owns (c : Thread nD τ) a5 fullShare at' ∗ owns (c : Thread nD τ) a6 fullShare el ∗ owns (c : Thread nD τ) a7 fullShare (fwdOut u w qg at' s) ∗ owns (c : Thread nD τ) a8 fullShare (k0_pay10 s) ∗ owns (c : Thread nD τ) a9 fullShare (fwdState u w kd el s)) -∗ K ⟨⟩))
      ⊢ wp frame (wpE (defs₀ (F := F)) Variants.none c none) E (cc0_gdn_state_fwd i a1 h1 a2 h2 a3 h3 a4 h4 a5 h5 a6 h6 a7 h7 a8 h8 a9 h9) K := by
  simp only [cc0_gdn_state_fwd_eq_skeleton]; unfold cc0_gdn_state_fwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
  obtain rfl := h1.eq_unread hf0; obtain rfl := h2.eq_unread hf1; obtain rfl := h3.eq_unread hf2; obtain rfl := h4.eq_unread hf3; obtain rfl := h5.eq_unread hf4; obtain rfl := h6.eq_unread hf5; obtain rfl := h9.eq_unread hfs0
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; swap; · iexact H6
    ipureintro
    sl_unfold_words
    simp only [View.readAt_eq_ld, h1.read_unread, h2.read_unread, h3.read_unread, h5.read_unread, h9.read_unread]
    rw [View.ld_unit_zero (S := S8x128x128) z3, View.ld_unit_zero (S := S8x64x64) z3, pay11_stack, pay12_stack, pay13_stack]
    exact read_heads _ _ _ _ _ _ _ _ _ _ _ (cut_apply _ 0 _ rfl _ _) (cut_apply _ 1 _ rfl _ _) (cut_apply _ 2 _ rfl _ _) (cut_apply _ 3 _ rfl _ _)
      (cut_apply _ 4 _ rfl _ _) (cut_apply _ 5 _ rfl _ _) (cut_apply _ 6 _ rfl _ _) (cut_apply _ 7 _ rfl _ _)
  isplitl [H7]
  · iexists _; isplitr; swap; · iexact H7
    ipureintro
    sl_unfold_words
    rw [View.read_writes_eq_canon _ _ _ (View.cover_of_tiledL _ S8x1x128x128.size (by sl_kernel_rfl)), View.canon_unit_zero (S := S8x1x128x128) z4]
    simp only [View.readAt_eq_ld, h9.read_unread]
    rw [View.ld_unit_zero (S := S8x128x128) z3]
  · iexists _; isplitr; swap; · iexact HS0
    ipureintro
    sl_unfold_words
    rw [View.read_writes_eq_canon _ _ _ (View.cover_of_tiledL _ S8x128x128.size (by sl_kernel_rfl)), View.canon_unit_zero (S := S8x128x128) z3]
    simp only [View.readAt_eq_ld, h1.read_unread, h2.read_unread, h4.read_unread, h6.read_unread, h9.read_unread]
    rw [View.ld_unit_zero (S := S8x128x128) z3, View.ld_unit_zero (S := S8x1x1x128) z4, pay11_stack, pay12_stack]
    exact shapeCast_self _ _

set_option maxHeartbeats 1000000 in
/-- The first chunk: from the zero state, whatever the scratch held. -/
theorem fwd_run_first (c : Dev nD) (i : grid0.Coords) (a1 : Memref sig .tc .vmem S64x1024 .f32) (h1 : a1.IsWhole) (a2 : Memref sig .tc .vmem S64x1024 .bf16) (h2 : a2.IsWhole) (a3 : Memref sig .tc .vmem S64x1024 .bf16) (h3 : a3.IsWhole) (a4 : Memref sig .tc .vmem S64x1024 .bf16) (h4 : a4.IsWhole) (a5 : Memref sig .tc .vmem S8x64x64 .bf16) (h5 : a5.IsWhole) (a6 : Memref sig .tc .vmem S8x1x1x128 .f32) (h6 : a6.IsWhole) (a7 : Memref sig .tc .vmem S64x1024 .f32) (h7 : a7.IsWhole) (a8 : Memref sig .tc .vmem S8x1x128x128 .f32) (h8 : a8.IsWhole) (a9 : Memref sig .tc .vmem S8x128x128 .f32) (h9 : a9.IsWhole)
    (hc : isFirst i) (u : Vec F S64x1024 .f32) (w qg kd : Vec F S64x1024 .bf16) (at' : Vec F S8x64x64 .bf16) (el : Vec F S8x1x1x128 .f32)
    (E : Set ℕ) (K : PUnit → sProp (MM F)) :
    iprop(owns (c : Thread nD τ) a1 fullShare u ∗ owns (c : Thread nD τ) a2 fullShare w ∗ owns (c : Thread nD τ) a3 fullShare qg ∗ owns (c : Thread nD τ) a4 fullShare kd ∗ owns (c : Thread nD τ) a5 fullShare at' ∗ owns (c : Thread nD τ) a6 fullShare el ∗ (∃ d, owns (c : Thread nD τ) a7 fullShare d) ∗ (∃ d, owns (c : Thread nD τ) a8 fullShare d) ∗ (∃ d, owns (c : Thread nD τ) a9 fullShare d)
        ∗ (iprop(owns (c : Thread nD τ) a1 fullShare u ∗ owns (c : Thread nD τ) a2 fullShare w ∗ owns (c : Thread nD τ) a3 fullShare qg ∗ owns (c : Thread nD τ) a4 fullShare kd ∗ owns (c : Thread nD τ) a5 fullShare at' ∗ owns (c : Thread nD τ) a6 fullShare el ∗ owns (c : Thread nD τ) a7 fullShare (fwdOut u w qg at' (k0_pay9 (F := F))) ∗ owns (c : Thread nD τ) a8 fullShare (k0_pay10 (k0_pay9 (F := F))) ∗ owns (c : Thread nD τ) a9 fullShare (fwdState u w kd el (k0_pay9 (F := F)))) -∗ K ⟨⟩))
      ⊢ wp frame (wpE (defs₀ (F := F)) Variants.none c none) E (cc0_gdn_state_fwd i a1 h1 a2 h2 a3 h3 a4 h4 a5 h5 a6 h6 a7 h7 a8 h8 a9 h9) K := by
  simp only [cc0_gdn_state_fwd_eq_skeleton]; unfold cc0_gdn_state_fwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := h1.eq_unread hf0; obtain rfl := h2.eq_unread hf1; obtain rfl := h3.eq_unread hf2; obtain rfl := h4.eq_unread hf3; obtain rfl := h5.eq_unread hf4; obtain rfl := h6.eq_unread hf5
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr; swap; · iexact H6
    ipureintro
    sl_unfold_words
    simp only [View.readAt_eq_ld, h1.read_unread, h2.read_unread, h3.read_unread, h5.read_unread]
    rw [View.readCov_unit_zero (S := S8x128x128) _ z3, View.ld_unit_zero (S := S8x64x64) z3, pay11_stack, pay12_stack, pay13_stack]
    exact read_heads _ _ _ _ _ _ _ _ _ _ _ (cut_apply _ 0 _ rfl _ _) (cut_apply _ 1 _ rfl _ _) (cut_apply _ 2 _ rfl _ _) (cut_apply _ 3 _ rfl _ _)
      (cut_apply _ 4 _ rfl _ _) (cut_apply _ 5 _ rfl _ _) (cut_apply _ 6 _ rfl _ _) (cut_apply _ 7 _ rfl _ _)
  isplitl [H7]
  · iexists _; isplitr; swap; · iexact H7
    ipureintro
    sl_unfold_words
    rw [View.read_writes_eq_canon _ _ _ (View.cover_of_tiledL _ S8x1x128x128.size (by sl_kernel_rfl)), View.canon_unit_zero (S := S8x1x128x128) z4]
    simp only [View.readAt_eq_ld]
    rw [View.readCov_unit_zero (S := S8x128x128) _ z3]
  · iexists _; isplitr; swap; · iexact HS0
    ipureintro
    sl_unfold_words
    rw [View.read_writes_eq_canon _ _ _ (View.cover_of_tiledL _ S8x128x128.size (by sl_kernel_rfl)), View.canon_cons_unit_zero (S := S8x128x128) z3]
    simp only [View.readAt_eq_ld, h1.read_unread, h2.read_unread, h4.read_unread, h6.read_unread]
    rw [View.readCov_unit_zero (S := S8x128x128) _ z3, View.ld_unit_zero (S := S8x1x1x128) z4, pay11_stack, pay12_stack]
    exact shapeCast_self _ _

end Cert.Scan

end
-- ==== Proof.BwdBody.lean ====
module

public import proofs.«01_k».proof.Proof.FwdBody

@[expose] public section

set_option maxRecDepth 16384

noncomputable section

/-! # One chunk of the backward call

The body of the reverse scan as a triple: what one grid point leaves in the six output blocks and in the carried gradient of the
state, from the eight input blocks and the gradient the chunk after it left. -/

namespace Cert.Scan

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A function of the eight column blocks, at those of a wide block. -/
abbrev at8 {e : EltTy} {β : Type} (x : Vec F S64x1024 e)
    (f : Vec F S64x128 e → Vec F S64x128 e → Vec F S64x128 e → Vec F S64x128 e → Vec F S64x128 e → Vec F S64x128 e → Vec F S64x128 e → Vec F S64x128 e → β) : β :=
  f (cols x 0 inb_S64x1024_S64x128_0_0) (cols x 128 inb_S64x1024_S64x128_0_128) (cols x 256 inb_S64x1024_S64x128_0_256)
    (cols x 384 inb_S64x1024_S64x128_0_384) (cols x 512 inb_S64x1024_S64x128_0_512) (cols x 640 inb_S64x1024_S64x128_0_640)
    (cols x 768 inb_S64x1024_S64x128_0_768) (cols x 896 inb_S64x1024_S64x128_0_896)

/-- The heads of a bfloat16 block, widened. -/
abbrev wide (x : Vec F S64x1024 .bf16) : FVec F S8x64x128 .f32 := extf (F := F) .f32 (stack x : FVec F S8x64x128 .bf16) bitsLt_bf16_f32

theorem bpay7 (x : Vec F S64x1024 .f32) : at8 x k1_pay7 = stack x := by
  show k1_pay7 _ _ _ _ _ _ _ _ = _
  unfold k1_pay7
  exact join_heads x _ _ _ _ _ _ _ _ rfl rfl rfl rfl rfl rfl rfl rfl _ _

theorem bpay15 (x : Vec F S64x1024 .f32) : at8 x k1_pay15 = stack x := by
  show k1_pay15 _ _ _ _ _ _ _ _ = _
  unfold k1_pay15
  exact join_heads x _ _ _ _ _ _ _ _ rfl rfl rfl rfl rfl rfl rfl rfl _ _

theorem bpay8 (x : Vec F S64x1024 .bf16) : at8 x k1_pay8 = wide x := by
  show k1_pay8 _ _ _ _ _ _ _ _ = _
  unfold k1_pay8
  exact congrArg (fun y : FVec F S8x64x128 .bf16 => extf (F := F) .f32 y bitsLt_bf16_f32) (join_heads x _ _ _ _ _ _ _ _ rfl rfl rfl rfl rfl rfl rfl rfl _ _)

theorem bpay9 (x : Vec F S64x1024 .bf16) : at8 x k1_pay9 = wide x := by
  show k1_pay9 _ _ _ _ _ _ _ _ = _
  unfold k1_pay9
  exact congrArg (fun y : FVec F S8x64x128 .bf16 => extf (F := F) .f32 y bitsLt_bf16_f32) (join_heads x _ _ _ _ _ _ _ _ rfl rfl rfl rfl rfl rfl rfl rfl _ _)

theorem bpay10 (x : Vec F S64x1024 .bf16) : at8 x k1_pay10 = wide x := by
  show k1_pay10 _ _ _ _ _ _ _ _ = _
  unfold k1_pay10
  exact congrArg (fun y : FVec F S8x64x128 .bf16 => extf (F := F) .f32 y bitsLt_bf16_f32) (join_heads x _ _ _ _ _ _ _ _ rfl rfl rfl rfl rfl rfl rfl rfl _ _)

/-- The corrected values of a chunk. -/
def bV (u : Vec F S64x1024 .f32) (w : Vec F S64x1024 .bf16) (sv : Vec F S8x1x128x128 .f32) : FVec F S8x64x128 .f32 := k1_pay14 (stack u) (wide w) sv
/-- The gradient of the keys. -/
def bDk (u : Vec F S64x1024 .f32) (w : Vec F S64x1024 .bf16) (sv : Vec F S8x1x128x128 .f32) (s : Vec F S8x128x128 .f32) : FVec F S8x64x128 .f32 :=
  k1_pay18 (bV u w sv) s
/-- The gradient of the decay. -/
def bDel (sv : Vec F S8x1x128x128 .f32) (s : Vec F S8x128x128 .f32) : Vec F S8x1x1x128 .f32 := k1_pay4 (k1_pay19 (k1_pay13 sv) s)
/-- The gradient of the attention inside the chunk. -/
def bDat (u : Vec F S64x1024 .f32) (w : Vec F S64x1024 .bf16) (sv : Vec F S8x1x128x128 .f32) (d : Vec F S64x1024 .f32) : Vec F S8x64x64 .f32 :=
  at8 d (k1_pay20 (bV u w sv))
/-- The gradient of the values. -/
def bDu (kd : Vec F S64x1024 .bf16) (at' : Vec F S8x64x64 .bf16) (d : Vec F S64x1024 .f32) (s : Vec F S8x128x128 .f32) : FVec F S8x64x128 .f32 :=
  at8 d (fun x0 x1 x2 x3 x4 x5 x6 x7 => k1_pay21 (wide kd) (k1_pay11 at') x0 x1 x2 x3 x4 x5 x6 x7 s)
/-- The gradient of the queries. -/
def bDq (sv : Vec F S8x1x128x128 .f32) (d : Vec F S64x1024 .f32) : FVec F S8x64x128 .f32 := at8 d (k1_pay22 (k1_pay13 sv))
/-- The gradient of the erasing keys. -/
def bDw (kd : Vec F S64x1024 .bf16) (at' : Vec F S8x64x64 .bf16) (sv : Vec F S8x1x128x128 .f32) (d : Vec F S64x1024 .f32) (s : Vec F S8x128x128 .f32) : FVec F S8x64x128 .f32 :=
  k1_pay27 (at8 d (fun x0 x1 x2 x3 x4 x5 x6 x7 => k1_pay25 (wide kd) (k1_pay11 at') x0 x1 x2 x3 x4 x5 x6 x7 s)) (k1_pay26 (k1_pay13 sv))
/-- The gradient of the state before the chunk. -/
def bState (w qg kd : Vec F S64x1024 .bf16) (at' : Vec F S8x64x64 .bf16) (el : Vec F S8x1x1x128 .f32) (d : Vec F S64x1024 .f32) (s : Vec F S8x128x128 .f32) : Vec F S8x128x128 .f32 :=
  k1_pay28 (wide w) (at8 d (fun x0 x1 x2 x3 x4 x5 x6 x7 => k1_pay23 (wide qg) (k1_pay12 el) x0 x1 x2 x3 x4 x5 x6 x7 s))
    (at8 d (fun x0 x1 x2 x3 x4 x5 x6 x7 => k1_pay24 (wide kd) (k1_pay11 at') x0 x1 x2 x3 x4 x5 x6 x7 s))

set_option maxHeartbeats 2000000 in
/-- A chunk before the last: from the gradient the chunk after it left. -/
theorem bwd_run_next (c : Dev nD) (i : grid1.Coords) (a1 : Memref sig .tc .vmem S64x1024 .f32) (h1 : a1.IsWhole) (a2 : Memref sig .tc .vmem S64x1024 .bf16) (h2 : a2.IsWhole) (a3 : Memref sig .tc .vmem S64x1024 .bf16) (h3 : a3.IsWhole) (a4 : Memref sig .tc .vmem S64x1024 .bf16) (h4 : a4.IsWhole) (a5 : Memref sig .tc .vmem S8x64x64 .bf16) (h5 : a5.IsWhole) (a6 : Memref sig .tc .vmem S8x1x1x128 .f32) (h6 : a6.IsWhole) (a7 : Memref sig .tc .vmem S8x1x128x128 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S64x1024 .f32) (h12 : a12.IsWhole) (a13 : Memref sig .tc .vmem S8x64x64 .f32) (h13 : a13.IsWhole) (a14 : Memref sig .tc .vmem S8x1x1x128 .f32) (h14 : a14.IsWhole) (a15 : Memref sig .tc .vmem S8x128x128 .f32) (h15 : a15.IsWhole)
    (hc : ¬ isFirst i) (u : Vec F S64x1024 .f32) (w qg kd : Vec F S64x1024 .bf16) (at' : Vec F S8x64x64 .bf16) (el : Vec F S8x1x1x128 .f32) (sv : Vec F S8x1x128x128 .f32) (d : Vec F S64x1024 .f32) (s : Vec F S8x128x128 .f32)
    (E : Set ℕ) (K : PUnit → sProp (MM F)) :
    iprop(owns (c : Thread nD τ) a1 fullShare u ∗ owns (c : Thread nD τ) a2 fullShare w ∗ owns (c : Thread nD τ) a3 fullShare qg ∗ owns (c : Thread nD τ) a4 fullShare kd ∗ owns (c : Thread nD τ) a5 fullShare at' ∗ owns (c : Thread nD τ) a6 fullShare el ∗ owns (c : Thread nD τ) a7 fullShare sv ∗ owns (c : Thread nD τ) a8 fullShare d ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ owns (c : Thread nD τ) a15 fullShare s
        ∗ (iprop(owns (c : Thread nD τ) a1 fullShare u ∗ owns (c : Thread nD τ) a2 fullShare w ∗ owns (c : Thread nD τ) a3 fullShare qg ∗ owns (c : Thread nD τ) a4 fullShare kd ∗ owns (c : Thread nD τ) a5 fullShare at' ∗ owns (c : Thread nD τ) a6 fullShare el ∗ owns (c : Thread nD τ) a7 fullShare sv ∗ owns (c : Thread nD τ) a8 fullShare d ∗ owns (c : Thread nD τ) a9 fullShare (flat (bDu kd at' d s)) ∗ owns (c : Thread nD τ) a10 fullShare (flat (bDw kd at' sv d s)) ∗ owns (c : Thread nD τ) a11 fullShare (flat (bDq sv d)) ∗ owns (c : Thread nD τ) a12 fullShare (flat (bDk u w sv s)) ∗ owns (c : Thread nD τ) a13 fullShare (bDat u w sv d) ∗ owns (c : Thread nD τ) a14 fullShare (bDel sv s) ∗ owns (c : Thread nD τ) a15 fullShare (bState w qg kd at' el d s)) -∗ K ⟨⟩))
      ⊢ wp frame (wpE (defs₀ (F := F)) Variants.none c none) E (cc1_gdn_state_bwd i a1 h1 a2 h2 a3 h3 a4 h4 a5 h5 a6 h6 a7 h7 a8 h8 a9 h9 a10 h10 a11 h11 a12 h12 a13 h13 a14 h14 a15 h15) K := by
  simp only [cc1_gdn_state_bwd_eq_skeleton]; unfold cc1_gdn_state_bwd_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, Hk⟩
  obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h15.eq_unread hf15
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    sl_unfold_words
    simp only [View.readAt_eq_ld, h1.read_unread, h2.read_unread, h3.read_unread, h4.read_unread, h5.read_unread, h6.read_unread, h7.read_unread, h8.read_unread, h15.read_unread, View.ld_unit_zero (S := S8x64x64) z3, View.ld_unit_zero (S := S8x1x1x128) z4, View.ld_unit_zero (S := S8x1x128x128) z4, View.ld_unit_zero (S := S8x128x128) z3]
    have ebpay10 := bpay10 (F := F) kd; dsimp only [at8] at ebpay10; simp only [ebpay10]
    exact read_heads _ _ (bDu kd at' d s) _ _ _ _ _ _ _ _ (cut_apply _ 0 _ rfl _ _) (cut_apply _ 1 _ rfl _ _) (cut_apply _ 2 _ rfl _ _) (cut_apply _ 3 _ rfl _ _) (cut_apply _ 4 _ rfl _ _) (cut_apply _ 5 _ rfl _ _) (cut_apply _ 6 _ rfl _ _) (cut_apply _ 7 _ rfl _ _)
  isplitl [H10]
  · iexists _; isplitr; swap; · iexact H10
    ipureintro
    sl_unfold_words
    simp only [View.readAt_eq_ld, h1.read_unread, h2.read_unread, h3.read_unread, h4.read_unread, h5.read_unread, h6.read_unread, h7.read_unread, h8.read_unread, h15.read_unread, View.ld_unit_zero (S := S8x64x64) z3, View.ld_unit_zero (S := S8x1x1x128) z4, View.ld_unit_zero (S := S8x1x128x128) z4, View.ld_unit_zero (S := S8x128x128) z3]
    have ebpay10 := bpay10 (F := F) kd; dsimp only [at8] at ebpay10; simp only [ebpay10]
    exact read_heads _ _ (bDw kd at' sv d s) _ _ _ _ _ _ _ _ (cut_apply _ 0 _ rfl _ _) (cut_apply _ 1 _ rfl _ _) (cut_apply _ 2 _ rfl _ _) (cut_apply _ 3 _ rfl _ _) (cut_apply _ 4 _ rfl _ _) (cut_apply _ 5 _ rfl _ _) (cut_apply _ 6 _ rfl _ _) (cut_apply _ 7 _ rfl _ _)
  isplitl [H11]
  · iexists _; isplitr; swap; · iexact H11
    ipureintro
    sl_unfold_words
    simp only [View.readAt_eq_ld, h1.read_unread, h2.read_unread, h3.read_unread, h4.read_unread, h5.read_unread, h6.read_unread, h7.read_unread, h8.read_unread, h15.read_unread, View.ld_unit_zero (S := S8x64x64) z3, View.ld_unit_zero (S := S8x1x1x128) z4, View.ld_unit_zero (S := S8x1x128x128) z4, View.ld_unit_zero (S := S8x128x128) z3]
    exact read_heads _ _ (bDq sv d) _ _ _ _ _ _ _ _ (cut_apply _ 0 _ rfl _ _) (cut_apply _ 1 _ rfl _ _) (cut_apply _ 2 _ rfl _ _) (cut_apply _ 3 _ rfl _ _) (cut_apply _ 4 _ rfl _ _) (cut_apply _ 5 _ rfl _ _) (cut_apply _ 6 _ rfl _ _) (cut_apply _ 7 _ rfl _ _)
  isplitl [H12]
  · iexists _; isplitr; swap; · iexact H12
    ipureintro
    sl_unfold_words
    simp only [View.readAt_eq_ld, h1.read_unread, h2.read_unread, h3.read_unread, h4.read_unread, h5.read_unread, h6.read_unread, h7.read_unread, h8.read_unread, h15.read_unread, View.ld_unit_zero (S := S8x64x64) z3, View.ld_unit_zero (S := S8x1x1x128) z4, View.ld_unit_zero (S := S8x1x128x128) z4, View.ld_unit_zero (S := S8x128x128) z3]
    have ebpay7 := bpay7 (F := F) u; dsimp only [at8] at ebpay7; simp only [ebpay7]
    have ebpay8 := bpay8 (F := F) w; dsimp only [at8] at ebpay8; simp only [ebpay8]
    exact read_heads _ _ (bDk u w sv s) _ _ _ _ _ _ _ _ (cut_apply _ 0 _ rfl _ _) (cut_apply _ 1 _ rfl _ _) (cut_apply _ 2 _ rfl _ _) (cut_apply _ 3 _ rfl _ _) (cut_apply _ 4 _ rfl _ _) (cut_apply _ 5 _ rfl _ _) (cut_apply _ 6 _ rfl _ _) (cut_apply _ 7 _ rfl _ _)
  isplitl [H13]
  · iexists _; isplitr; swap; · iexact H13
    ipureintro
    sl_unfold_words
    rw [View.read_writes_eq_canon _ _ _ (View.cover_of_tiledL _ S8x64x64.size (by sl_kernel_rfl)), View.canon_unit_zero (S := S8x64x64) z3]
    simp only [View.readAt_eq_ld, h1.read_unread, h2.read_unread, h3.read_unread, h4.read_unread, h5.read_unread, h6.read_unread, h7.read_unread, h8.read_unread, h15.read_unread, View.ld_unit_zero (S := S8x64x64) z3, View.ld_unit_zero (S := S8x1x1x128) z4, View.ld_unit_zero (S := S8x1x128x128) z4, View.ld_unit_zero (S := S8x128x128) z3]
    have ebpay7 := bpay7 (F := F) u; dsimp only [at8] at ebpay7; simp only [ebpay7]
    have ebpay8 := bpay8 (F := F) w; dsimp only [at8] at ebpay8; simp only [ebpay8]
    rfl
  isplitl [H14]
  · iexists _; isplitr; swap; · iexact H14
    ipureintro
    sl_unfold_words
    rw [View.read_writes_eq_canon _ _ _ (View.cover_of_tiledL _ S8x1x1x128.size (by sl_kernel_rfl)), View.canon_unit_zero (S := S8x1x1x128) z4]
    simp only [View.readAt_eq_ld, h1.read_unread, h2.read_unread, h3.read_unread, h4.read_unread, h5.read_unread, h6.read_unread, h7.read_unread, h8.read_unread, h15.read_unread, View.ld_unit_zero (S := S8x64x64) z3, View.ld_unit_zero (S := S8x1x1x128) z4, View.ld_unit_zero (S := S8x1x128x128) z4, View.ld_unit_zero (S := S8x128x128) z3]
    rfl
  · iexists _; isplitr; swap; · iexact H15
    ipureintro
    sl_unfold_words
    rw [View.read_writes_eq_canon _ _ _ (View.cover_of_tiledL _ S8x128x128.size (by sl_kernel_rfl)), View.canon_unit_zero (S := S8x128x128) z3]
    simp only [View.readAt_eq_ld, h1.read_unread, h2.read_unread, h3.read_unread, h4.read_unread, h5.read_unread, h6.read_unread, h7.read_unread, h8.read_unread, h15.read_unread, View.ld_unit_zero (S := S8x64x64) z3, View.ld_unit_zero (S := S8x1x1x128) z4, View.ld_unit_zero (S := S8x1x128x128) z4, View.ld_unit_zero (S := S8x128x128) z3]
    have ebpay8 := bpay8 (F := F) w; dsimp only [at8] at ebpay8; simp only [ebpay8]
    have ebpay9 := bpay9 (F := F) qg; dsimp only [at8] at ebpay9; simp only [ebpay9]
    have ebpay10 := bpay10 (F := F) kd; dsimp only [at8] at ebpay10; simp only [ebpay10]
    exact shapeCast_self _ _

set_option maxHeartbeats 2000000 in
/-- The last chunk, taken first: from a zero gradient, whatever the scratch held. -/
theorem bwd_run_first (c : Dev nD) (i : grid1.Coords) (a1 : Memref sig .tc .vmem S64x1024 .f32) (h1 : a1.IsWhole) (a2 : Memref sig .tc .vmem S64x1024 .bf16) (h2 : a2.IsWhole) (a3 : Memref sig .tc .vmem S64x1024 .bf16) (h3 : a3.IsWhole) (a4 : Memref sig .tc .vmem S64x1024 .bf16) (h4 : a4.IsWhole) (a5 : Memref sig .tc .vmem S8x64x64 .bf16) (h5 : a5.IsWhole) (a6 : Memref sig .tc .vmem S8x1x1x128 .f32) (h6 : a6.IsWhole) (a7 : Memref sig .tc .vmem S8x1x128x128 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S64x1024 .f32) (h12 : a12.IsWhole) (a13 : Memref sig .tc .vmem S8x64x64 .f32) (h13 : a13.IsWhole) (a14 : Memref sig .tc .vmem S8x1x1x128 .f32) (h14 : a14.IsWhole) (a15 : Memref sig .tc .vmem S8x128x128 .f32) (h15 : a15.IsWhole)
    (hc : isFirst i) (u : Vec F S64x1024 .f32) (w qg kd : Vec F S64x1024 .bf16) (at' : Vec F S8x64x64 .bf16) (el : Vec F S8x1x1x128 .f32) (sv : Vec F S8x1x128x128 .f32) (d : Vec F S64x1024 .f32)
    (E : Set ℕ) (K : PUnit → sProp (MM F)) :
    iprop(owns (c : Thread nD τ) a1 fullShare u ∗ owns (c : Thread nD τ) a2 fullShare w ∗ owns (c : Thread nD τ) a3 fullShare qg ∗ owns (c : Thread nD τ) a4 fullShare kd ∗ owns (c : Thread nD τ) a5 fullShare at' ∗ owns (c : Thread nD τ) a6 fullShare el ∗ owns (c : Thread nD τ) a7 fullShare sv ∗ owns (c : Thread nD τ) a8 fullShare d ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
        ∗ (iprop(owns (c : Thread nD τ) a1 fullShare u ∗ owns (c : Thread nD τ) a2 fullShare w ∗ owns (c : Thread nD τ) a3 fullShare qg ∗ owns (c : Thread nD τ) a4 fullShare kd ∗ owns (c : Thread nD τ) a5 fullShare at' ∗ owns (c : Thread nD τ) a6 fullShare el ∗ owns (c : Thread nD τ) a7 fullShare sv ∗ owns (c : Thread nD τ) a8 fullShare d ∗ owns (c : Thread nD τ) a9 fullShare (flat (bDu kd at' d (k1_pay6 (F := F)))) ∗ owns (c : Thread nD τ) a10 fullShare (flat (bDw kd at' sv d (k1_pay6 (F := F)))) ∗ owns (c : Thread nD τ) a11 fullShare (flat (bDq sv d)) ∗ owns (c : Thread nD τ) a12 fullShare (flat (bDk u w sv (k1_pay6 (F := F)))) ∗ owns (c : Thread nD τ) a13 fullShare (bDat u w sv d) ∗ owns (c : Thread nD τ) a14 fullShare (bDel sv (k1_pay6 (F := F))) ∗ owns (c : Thread nD τ) a15 fullShare (bState w qg kd at' el d (k1_pay6 (F := F)))) -∗ K ⟨⟩))
      ⊢ wp frame (wpE (defs₀ (F := F)) Variants.none c none) E (cc1_gdn_state_bwd i a1 h1 a2 h2 a3 h3 a4 h4 a5 h5 a6 h6 a7 h7 a8 h8 a9 h9 a10 h10 a11 h11 a12 h12 a13 h13 a14 h14 a15 h15) K := by
  simp only [cc1_gdn_state_bwd_eq_skeleton]; unfold cc1_gdn_state_bwd_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    sl_unfold_words
    simp only [View.readAt_eq_ld, h1.read_unread, h2.read_unread, h3.read_unread, h4.read_unread, h5.read_unread, h6.read_unread, h7.read_unread, h8.read_unread, View.ld_unit_zero (S := S8x64x64) z3, View.ld_unit_zero (S := S8x1x1x128) z4, View.ld_unit_zero (S := S8x1x128x128) z4, View.readCov_unit_zero (S := S8x128x128) _ z3]
    have ebpay10 := bpay10 (F := F) kd; dsimp only [at8] at ebpay10; simp only [ebpay10]
    exact read_heads _ _ (bDu kd at' d (k1_pay6 (F := F))) _ _ _ _ _ _ _ _ (cut_apply _ 0 _ rfl _ _) (cut_apply _ 1 _ rfl _ _) (cut_apply _ 2 _ rfl _ _) (cut_apply _ 3 _ rfl _ _) (cut_apply _ 4 _ rfl _ _) (cut_apply _ 5 _ rfl _ _) (cut_apply _ 6 _ rfl _ _) (cut_apply _ 7 _ rfl _ _)
  isplitl [H10]
  · iexists _; isplitr; swap; · iexact H10
    ipureintro
    sl_unfold_words
    simp only [View.readAt_eq_ld, h1.read_unread, h2.read_unread, h3.read_unread, h4.read_unread, h5.read_unread, h6.read_unread, h7.read_unread, h8.read_unread, View.ld_unit_zero (S := S8x64x64) z3, View.ld_unit_zero (S := S8x1x1x128) z4, View.ld_unit_zero (S := S8x1x128x128) z4, View.readCov_unit_zero (S := S8x128x128) _ z3]
    have ebpay10 := bpay10 (F := F) kd; dsimp only [at8] at ebpay10; simp only [ebpay10]
    exact read_heads _ _ (bDw kd at' sv d (k1_pay6 (F := F))) _ _ _ _ _ _ _ _ (cut_apply _ 0 _ rfl _ _) (cut_apply _ 1 _ rfl _ _) (cut_apply _ 2 _ rfl _ _) (cut_apply _ 3 _ rfl _ _) (cut_apply _ 4 _ rfl _ _) (cut_apply _ 5 _ rfl _ _) (cut_apply _ 6 _ rfl _ _) (cut_apply _ 7 _ rfl _ _)
  isplitl [H11]
  · iexists _; isplitr; swap; · iexact H11
    ipureintro
    sl_unfold_words
    simp only [View.readAt_eq_ld, h1.read_unread, h2.read_unread, h3.read_unread, h4.read_unread, h5.read_unread, h6.read_unread, h7.read_unread, h8.read_unread, View.ld_unit_zero (S := S8x64x64) z3, View.ld_unit_zero (S := S8x1x1x128) z4, View.ld_unit_zero (S := S8x1x128x128) z4, View.readCov_unit_zero (S := S8x128x128) _ z3]
    exact read_heads _ _ (bDq sv d) _ _ _ _ _ _ _ _ (cut_apply _ 0 _ rfl _ _) (cut_apply _ 1 _ rfl _ _) (cut_apply _ 2 _ rfl _ _) (cut_apply _ 3 _ rfl _ _) (cut_apply _ 4 _ rfl _ _) (cut_apply _ 5 _ rfl _ _) (cut_apply _ 6 _ rfl _ _) (cut_apply _ 7 _ rfl _ _)
  isplitl [H12]
  · iexists _; isplitr; swap; · iexact H12
    ipureintro
    sl_unfold_words
    simp only [View.readAt_eq_ld, h1.read_unread, h2.read_unread, h3.read_unread, h4.read_unread, h5.read_unread, h6.read_unread, h7.read_unread, h8.read_unread, View.ld_unit_zero (S := S8x64x64) z3, View.ld_unit_zero (S := S8x1x1x128) z4, View.ld_unit_zero (S := S8x1x128x128) z4, View.readCov_unit_zero (S := S8x128x128) _ z3]
    have ebpay7 := bpay7 (F := F) u; dsimp only [at8] at ebpay7; simp only [ebpay7]
    have ebpay8 := bpay8 (F := F) w; dsimp only [at8] at ebpay8; simp only [ebpay8]
    exact read_heads _ _ (bDk u w sv (k1_pay6 (F := F))) _ _ _ _ _ _ _ _ (cut_apply _ 0 _ rfl _ _) (cut_apply _ 1 _ rfl _ _) (cut_apply _ 2 _ rfl _ _) (cut_apply _ 3 _ rfl _ _) (cut_apply _ 4 _ rfl _ _) (cut_apply _ 5 _ rfl _ _) (cut_apply _ 6 _ rfl _ _) (cut_apply _ 7 _ rfl _ _)
  isplitl [H13]
  · iexists _; isplitr; swap; · iexact H13
    ipureintro
    sl_unfold_words
    rw [View.read_writes_eq_canon _ _ _ (View.cover_of_tiledL _ S8x64x64.size (by sl_kernel_rfl)), View.canon_unit_zero (S := S8x64x64) z3]
    simp only [View.readAt_eq_ld, h1.read_unread, h2.read_unread, h3.read_unread, h4.read_unread, h5.read_unread, h6.read_unread, h7.read_unread, h8.read_unread, View.ld_unit_zero (S := S8x64x64) z3, View.ld_unit_zero (S := S8x1x1x128) z4, View.ld_unit_zero (S := S8x1x128x128) z4, View.readCov_unit_zero (S := S8x128x128) _ z3]
    have ebpay7 := bpay7 (F := F) u; dsimp only [at8] at ebpay7; simp only [ebpay7]
    have ebpay8 := bpay8 (F := F) w; dsimp only [at8] at ebpay8; simp only [ebpay8]
    rfl
  isplitl [H14]
  · iexists _; isplitr; swap; · iexact H14
    ipureintro
    sl_unfold_words
    rw [View.read_writes_eq_canon _ _ _ (View.cover_of_tiledL _ S8x1x1x128.size (by sl_kernel_rfl)), View.canon_unit_zero (S := S8x1x1x128) z4]
    simp only [View.readAt_eq_ld, h1.read_unread, h2.read_unread, h3.read_unread, h4.read_unread, h5.read_unread, h6.read_unread, h7.read_unread, h8.read_unread, View.ld_unit_zero (S := S8x64x64) z3, View.ld_unit_zero (S := S8x1x1x128) z4, View.ld_unit_zero (S := S8x1x128x128) z4, View.readCov_unit_zero (S := S8x128x128) _ z3]
    rfl
  · iexists _; isplitr; swap; · iexact H15
    ipureintro
    sl_unfold_words
    rw [View.read_writes_eq_canon _ _ _ (View.cover_of_tiledL _ S8x128x128.size (by sl_kernel_rfl)), View.canon_cons_unit_zero (S := S8x128x128) z3]
    simp only [View.readAt_eq_ld, h1.read_unread, h2.read_unread, h3.read_unread, h4.read_unread, h5.read_unread, h6.read_unread, h7.read_unread, h8.read_unread, View.ld_unit_zero (S := S8x64x64) z3, View.ld_unit_zero (S := S8x1x1x128) z4, View.ld_unit_zero (S := S8x1x128x128) z4, View.readCov_unit_zero (S := S8x128x128) _ z3]
    have ebpay8 := bpay8 (F := F) w; dsimp only [at8] at ebpay8; simp only [ebpay8]
    have ebpay9 := bpay9 (F := F) qg; dsimp only [at8] at ebpay9; simp only [ebpay9]
    have ebpay10 := bpay10 (F := F) kd; dsimp only [at8] at ebpay10; simp only [ebpay10]
    exact shapeCast_self _ _

end Cert.Scan

end
-- ==== Proof.Data.lean ====
module

public import proofs.«01_k».proof.Proof.BwdBody

@[expose] public section

set_option maxRecDepth 16384

noncomputable section

/-! # What each grid point of the two calls leaves

The proof data of the two pipelines, over any contents `V` of the arrays at entry: the blocks each point reads, the state carried
into each point, the blocks it writes; and the obligation that the bodies do this. -/

namespace Cert.Scan

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-- The two carried scratch buffers. -/
abbrev sc0 : Memref sig .tc .vmem S8x128x128 .f32 := Memref.whole cc0_scratch0
abbrev sc1 : Memref sig .tc .vmem S8x128x128 .f32 := Memref.whole cc1_scratch0

/-! ## Call 0 -/

/-- The block of window `w` at point `t`, as the call finds its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem held0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem held0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem held0_5 {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
abbrev ms0_0 (t : Fin cfg0.N) : Memref sig .tc .vmem S64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x64x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1x128x128 .f32 := win0_7.stage (cfg0.slots t 7)
abbrev hs0_7 (t : Fin cfg0.N) : (ms0_7 t).IsWhole := hstage0_7 ((cfg0.slots t 7).cast nbuf0_7)

/-- The body's branch is taken at the first point and nowhere else. -/
theorem first0 : ∀ t : Fin cfg0.N, isFirst (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val % 32 = 0)

/-- What is carried into the point at position `n`. -/
def car0 (c : Dev nD) : ℕ → Vec F S8x128x128 .f32
  | 0 => k0_pay9 (F := F)
  | n + 1 => if h : n < cfg0.N then (let t : Fin cfg0.N := ⟨n, h⟩; fwdState (blk0 V c 0 t) (blk0 V c 1 t) (blk0 V c 3 t) (blk0 V c 5 t) (car0 c n)) else car0 c n

theorem car0_succ (c : Dev nD) (t : Fin cfg0.N) : car0 V c (t.val + 1) = fwdState (blk0 V c 0 t) (blk0 V c 1 t) (blk0 V c 3 t) (blk0 V c 5 t) (car0 V c t.val) := dif_pos t.isLt

/-- What the region holds besides the windows: the carried scratch at what is carried, the other scoped buffers at anything. -/
def Phi0 (c : Dev nD) : (n : ℕ) → n ≤ cfg0.N → sProp (MM F)
  | 0, _ => Pipeline.ΦA spec0 c
  | n + 1, _ => iprop(iprop(owns (c : Thread nD τ) sc0 fullShare (car0 V c (n + 1)) ∗ Pipeline.scopedRestBut spec0 c [cc0_scratch0]) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n + 1 ≤ cfg0.N) :
    Phi0 V c (n + 1) hn = iprop(iprop(owns (c : Thread nD τ) sc0 fullShare (car0 V c (n + 1)) ∗ Pipeline.scopedRestBut spec0 c [cc0_scratch0]) ∗ (∃ r, prngReg c r)) := rfl
theorem Phi0_pos (c : Dev nD) (n : ℕ) (h : n ≤ cfg0.N) (hz : n ≠ 0) :
    Phi0 V c n h = iprop(iprop(owns (c : Thread nD τ) sc0 fullShare (car0 V c n) ∗ Pipeline.scopedRestBut spec0 c [cc0_scratch0]) ∗ (∃ r, prngReg c r)) := by
  cases n with
  | zero => exact absurd rfl hz
  | succ n => rfl

/-- The scoped buffers at anything, the carried scratch set apart. -/
theorem scr0_eq (c : Dev nD) :
    (Pipeline.ΦA spec0 c : sProp (MM F))
      = iprop(iprop((∃ d, owns (c : Thread nD τ) sc0 fullShare d) ∗ Pipeline.scopedRestBut spec0 c [cc0_scratch0]) ∗ (∃ r, prngReg c r)) := by
  unfold Pipeline.ΦA
  rw [Pipeline.scopedRest_split_of_list spec0 c [cc0_scratch0] (by decide) (by decide)]
  simp only [sc0, owns_whole]; try rfl

/-- The proof data of call 0. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => fwdOut (blk0 V c 0 t) (blk0 V c 1 t) (blk0 V c 2 t) (blk0 V c 4 t) (car0 V c t.val)
    | ⟨7, _⟩ => k0_pay10 (car0 V c t.val)
  Φ t := Phi0 V c t.val (Nat.le_of_lt_succ t.isLt)
  q _ := fullShare
  owed _ := 0

theorem A0_eq (c : Dev nD) (w : Fin cfg0.W) : (dat0 V c).A w = V c (Pipeline.arrRef spec0 w) := by
  dsimp only [dat0]
theorem Phi0_cast (c : Dev nD) (t : Fin cfg0.N) : (dat0 V c).Φ t.castSucc = Phi0 V c t.val (Nat.le_of_lt t.isLt) := by
  dsimp only [dat0]; exact Pipeline.Dat.Φ_castSucc (Phi0 V c) t
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = fwdOut (blk0 V c 0 t) (blk0 V c 1 t) (blk0 V c 2 t) (blk0 V c 4 t) (car0 V c t.val) := by dsimp only [dat0]
theorem after0_7 (c : Dev nD) (t : Fin cfg0.N) : (dat0 V c).after 7 t = k0_pay10 (car0 V c t.val) := by dsimp only [dat0]
theorem before0_0 (c : Dev nD) (t : Fin cfg0.N) (d) : (dat0 V c).before 0 t d = blk0 V c 0 t :=
  held0_0 V (dat0 V c) (A0_eq V c 0) (after0_0 V c) t d
theorem before0_1 (c : Dev nD) (t : Fin cfg0.N) (d) : (dat0 V c).before 1 t d = blk0 V c 1 t :=
  held0_1 V (dat0 V c) (A0_eq V c 1) (after0_1 V c) t d
theorem before0_2 (c : Dev nD) (t : Fin cfg0.N) (d) : (dat0 V c).before 2 t d = blk0 V c 2 t :=
  held0_2 V (dat0 V c) (A0_eq V c 2) (after0_2 V c) t d
theorem before0_3 (c : Dev nD) (t : Fin cfg0.N) (d) : (dat0 V c).before 3 t d = blk0 V c 3 t :=
  held0_3 V (dat0 V c) (A0_eq V c 3) (after0_3 V c) t d
theorem before0_4 (c : Dev nD) (t : Fin cfg0.N) (d) : (dat0 V c).before 4 t d = blk0 V c 4 t :=
  held0_4 V (dat0 V c) (A0_eq V c 4) (after0_4 V c) t d
theorem before0_5 (c : Dev nD) (t : Fin cfg0.N) (d) : (dat0 V c).before 5 t d = blk0 V c 5 t :=
  held0_5 V (dat0 V c) (A0_eq V c 5) (after0_5 V c) t d

/-- What the body is called with at a point, -/
def pre0 (c : Dev nD) (t : Fin cfg0.N) : sProp (MM F) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def post0 (c : Dev nD) (t : Fin cfg0.N) : sProp (MM F) :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 6400000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = Phi0 V c (t.val + 1) t.isLt from rfl, Phi0_succ, car0_succ]
  have hN : t.val < 32 := lt_of_lt_of_eq t.isLt (show cfg0.N = 32 from N_0)
  by_cases hz : t.val = 0
  · have hf : isFirst (grid0.coords t) := (first0 t).mpr (by omega)
    have hc : car0 V c t.val = k0_pay9 (F := F) := by rw [hz]; rfl
    rw [Phi0_cast V c t, Phi0_zero V c _ _ hz, scr0_eq, hc]
    · iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (fwd_run_first c (grid0.coords t) _ _ _ _ _ _ _ _ _ _ _ _ _ _ _ _ _ _ hf (blk0 V c 0 t) (blk0 V c 1 t) (blk0 V c 2 t) (blk0 V c 3 t) (blk0 V c 4 t) (blk0 V c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hf : ¬ isFirst (grid0.coords t) := fun h => hz (by have := (first0 t).mp h; omega)
    rw [Phi0_cast V c t, Phi0_pos V c _ _ hz]
    · iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (fwd_run_next c (grid0.coords t) _ _ _ _ _ _ _ _ _ _ _ _ _ _ _ _ _ _ hf (blk0 V c 0 t) (blk0 V c 1 t) (blk0 V c 2 t) (blk0 V c 3 t) (blk0 V c 4 t) (blk0 V c 5 t) (car0 V c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem row0 (t : Fin cfg0.N) : defs₀ (F := F) .tc cfg0.body (cfg0.bodyArgs t (cfg0.slots t)) = bodyAt0 t := by
  unfold defs₀; rw [Defs.onTc_tc]

/-- The obligation on the body of call 0, at every point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

theorem enter0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

theorem leave0 (c : Dev nD) : (dat0 V c).Φ (Fin.last cfg0.N) ⊢ Pipeline.ΦA spec0 c := by
  have hN : cfg0.N = 32 := N_0
  rw [show (dat0 V c).Φ (Fin.last cfg0.N) = Phi0 V c cfg0.N (le_refl _) from rfl, Phi0_pos V c _ _ (by omega), scr0_eq]
  iintro ⟨⟨HS, HR⟩, Hg⟩
  isplitl [HS HR]
  · isplitl [HS]
    · iexists _; iexact HS
    iexact HR
  iexact Hg

/-! ## Call 1 -/

/-- The block of window `w` at point `t`, as the call finds its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem held1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem held1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem held1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)
theorem held1_7 {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)
abbrev ms1_0 (t : Fin cfg1.N) : Memref sig .tc .vmem S64x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x64x64 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x1x1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x1x128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x1024 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S64x1024 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8x64x64 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S8x1x1x128 .f32 := win1_13.stage (cfg1.slots t 13)
abbrev hs1_13 (t : Fin cfg1.N) : (ms1_13 t).IsWhole := hstage1_13 ((cfg1.slots t 13).cast nbuf1_13)

/-- The body's branch is taken at the first point and nowhere else. -/
theorem first1 : ∀ t : Fin cfg1.N, isFirst (grid1.coords t) ↔ t.val % 32 = 0 :=
  (fun t => by
    have ht : t.val < 32 := Nat.lt_of_lt_of_eq t.isLt N_1
    have e0 : (grid1.coords t 0).val = t.val / 1 % 32 := Pipeline.Grid.coords_val t 0 (by decide) rfl
    simp only [isFirst, e0]
    word_cmp
   : ∀ t : Fin grid1.N, isFirst (grid1.coords t) ↔ t.val % 32 = 0)

/-- What is carried into the point at position `n`. -/
def car1 (c : Dev nD) : ℕ → Vec F S8x128x128 .f32
  | 0 => k1_pay6 (F := F)
  | n + 1 => if h : n < cfg1.N then (let t : Fin cfg1.N := ⟨n, h⟩; bState (blk1 V c 1 t) (blk1 V c 2 t) (blk1 V c 3 t) (blk1 V c 4 t) (blk1 V c 5 t) (blk1 V c 7 t) (car1 c n)) else car1 c n

theorem car1_succ (c : Dev nD) (t : Fin cfg1.N) : car1 V c (t.val + 1) = bState (blk1 V c 1 t) (blk1 V c 2 t) (blk1 V c 3 t) (blk1 V c 4 t) (blk1 V c 5 t) (blk1 V c 7 t) (car1 V c t.val) := dif_pos t.isLt

/-- What the region holds besides the windows: the carried scratch at what is carried, the other scoped buffers at anything. -/
def Phi1 (c : Dev nD) : (n : ℕ) → n ≤ cfg1.N → sProp (MM F)
  | 0, _ => Pipeline.ΦA spec1 c
  | n + 1, _ => iprop(iprop(owns (c : Thread nD τ) sc1 fullShare (car1 V c (n + 1)) ∗ Pipeline.scopedRestBut spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n + 1 ≤ cfg1.N) :
    Phi1 V c (n + 1) hn = iprop(iprop(owns (c : Thread nD τ) sc1 fullShare (car1 V c (n + 1)) ∗ Pipeline.scopedRestBut spec1 c [cc1_scratch0]) ∗ (∃ r, prngReg c r)) := rfl
theorem Phi1_pos (c : Dev nD) (n : ℕ) (h : n ≤ cfg1.N) (hz : n ≠ 0) :
    Phi1 V c n h = iprop(iprop(owns (c : Thread nD τ) sc1 fullShare (car1 V c n) ∗ Pipeline.scopedRestBut spec1 c [cc1_scratch0]) ∗ (∃ r, prngReg c r)) := by
  cases n with
  | zero => exact absurd rfl hz
  | succ n => rfl

/-- The scoped buffers at anything, the carried scratch set apart. -/
theorem scr1_eq (c : Dev nD) :
    (Pipeline.ΦA spec1 c : sProp (MM F))
      = iprop(iprop((∃ d, owns (c : Thread nD τ) sc1 fullShare d) ∗ Pipeline.scopedRestBut spec1 c [cc1_scratch0]) ∗ (∃ r, prngReg c r)) := by
  unfold Pipeline.ΦA
  rw [Pipeline.scopedRest_split_of_list spec1 c [cc1_scratch0] (by decide) (by decide)]
  simp only [sc1, owns_whole]; try rfl

/-- The proof data of call 1. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => flat (bDu (blk1 V c 3 t) (blk1 V c 4 t) (blk1 V c 7 t) (car1 V c t.val))
    | ⟨9, _⟩ => flat (bDw (blk1 V c 3 t) (blk1 V c 4 t) (blk1 V c 6 t) (blk1 V c 7 t) (car1 V c t.val))
    | ⟨10, _⟩ => flat (bDq (blk1 V c 6 t) (blk1 V c 7 t))
    | ⟨11, _⟩ => flat (bDk (blk1 V c 0 t) (blk1 V c 1 t) (blk1 V c 6 t) (car1 V c t.val))
    | ⟨12, _⟩ => bDat (blk1 V c 0 t) (blk1 V c 1 t) (blk1 V c 6 t) (blk1 V c 7 t)
    | ⟨13, _⟩ => bDel (blk1 V c 6 t) (car1 V c t.val)
  Φ t := Phi1 V c t.val (Nat.le_of_lt_succ t.isLt)
  q _ := fullShare
  owed _ := 0

theorem A1_eq (c : Dev nD) (w : Fin cfg1.W) : (dat1 V c).A w = V c (Pipeline.arrRef spec1 w) := by
  dsimp only [dat1]
theorem Phi1_cast (c : Dev nD) (t : Fin cfg1.N) : (dat1 V c).Φ t.castSucc = Phi1 V c t.val (Nat.le_of_lt t.isLt) := by
  dsimp only [dat1]; exact Pipeline.Dat.Φ_castSucc (Phi1 V c) t
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = flat (bDu (blk1 V c 3 t) (blk1 V c 4 t) (blk1 V c 7 t) (car1 V c t.val)) := by dsimp only [dat1]
theorem after1_9 (c : Dev nD) (t : Fin cfg1.N) : (dat1 V c).after 9 t = flat (bDw (blk1 V c 3 t) (blk1 V c 4 t) (blk1 V c 6 t) (blk1 V c 7 t) (car1 V c t.val)) := by dsimp only [dat1]
theorem after1_10 (c : Dev nD) (t : Fin cfg1.N) : (dat1 V c).after 10 t = flat (bDq (blk1 V c 6 t) (blk1 V c 7 t)) := by dsimp only [dat1]
theorem after1_11 (c : Dev nD) (t : Fin cfg1.N) : (dat1 V c).after 11 t = flat (bDk (blk1 V c 0 t) (blk1 V c 1 t) (blk1 V c 6 t) (car1 V c t.val)) := by dsimp only [dat1]
theorem after1_12 (c : Dev nD) (t : Fin cfg1.N) : (dat1 V c).after 12 t = bDat (blk1 V c 0 t) (blk1 V c 1 t) (blk1 V c 6 t) (blk1 V c 7 t) := by dsimp only [dat1]
theorem after1_13 (c : Dev nD) (t : Fin cfg1.N) : (dat1 V c).after 13 t = bDel (blk1 V c 6 t) (car1 V c t.val) := by dsimp only [dat1]
theorem before1_0 (c : Dev nD) (t : Fin cfg1.N) (d) : (dat1 V c).before 0 t d = blk1 V c 0 t :=
  held1_0 V (dat1 V c) (A1_eq V c 0) (after1_0 V c) t d
theorem before1_1 (c : Dev nD) (t : Fin cfg1.N) (d) : (dat1 V c).before 1 t d = blk1 V c 1 t :=
  held1_1 V (dat1 V c) (A1_eq V c 1) (after1_1 V c) t d
theorem before1_2 (c : Dev nD) (t : Fin cfg1.N) (d) : (dat1 V c).before 2 t d = blk1 V c 2 t :=
  held1_2 V (dat1 V c) (A1_eq V c 2) (after1_2 V c) t d
theorem before1_3 (c : Dev nD) (t : Fin cfg1.N) (d) : (dat1 V c).before 3 t d = blk1 V c 3 t :=
  held1_3 V (dat1 V c) (A1_eq V c 3) (after1_3 V c) t d
theorem before1_4 (c : Dev nD) (t : Fin cfg1.N) (d) : (dat1 V c).before 4 t d = blk1 V c 4 t :=
  held1_4 V (dat1 V c) (A1_eq V c 4) (after1_4 V c) t d
theorem before1_5 (c : Dev nD) (t : Fin cfg1.N) (d) : (dat1 V c).before 5 t d = blk1 V c 5 t :=
  held1_5 V (dat1 V c) (A1_eq V c 5) (after1_5 V c) t d
theorem before1_6 (c : Dev nD) (t : Fin cfg1.N) (d) : (dat1 V c).before 6 t d = blk1 V c 6 t :=
  held1_6 V (dat1 V c) (A1_eq V c 6) (after1_6 V c) t d
theorem before1_7 (c : Dev nD) (t : Fin cfg1.N) (d) : (dat1 V c).before 7 t d = blk1 V c 7 t :=
  held1_7 V (dat1 V c) (A1_eq V c 7) (after1_7 V c) t d

/-- What the body is called with at a point, -/
def pre1 (c : Dev nD) (t : Fin cfg1.N) : sProp (MM F) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

/-- and what it returns. -/
def post1 (c : Dev nD) (t : Fin cfg1.N) : sProp (MM F) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

set_option maxHeartbeats 6400000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = Phi1 V c (t.val + 1) t.isLt from rfl, Phi1_succ, car1_succ]
  have hN : t.val < 32 := lt_of_lt_of_eq t.isLt (show cfg1.N = 32 from N_1)
  by_cases hz : t.val = 0
  · have hf : isFirst (grid1.coords t) := (first1 t).mpr (by omega)
    have hc : car1 V c t.val = k1_pay6 (F := F) := by rw [hz]; rfl
    rw [Phi1_cast V c t, Phi1_zero V c _ _ hz, scr1_eq, hc]
    · iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (bwd_run_first c (grid1.coords t) _ _ _ _ _ _ _ _ _ _ _ _ _ _ _ _ _ _ _ _ _ _ _ _ _ _ _ _ _ _ hf (blk1 V c 0 t) (blk1 V c 1 t) (blk1 V c 2 t) (blk1 V c 3 t) (blk1 V c 4 t) (blk1 V c 5 t) (blk1 V c 6 t) (blk1 V c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS]; · iexact HS
      iintro ⟨H0, H1, H2, H3, H4, H5, H6, H7, H8, H9, H10, H11, H12, H13, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · have hf : ¬ isFirst (grid1.coords t) := fun h => hz (by have := (first1 t).mp h; omega)
    rw [Phi1_cast V c t, Phi1_pos V c _ _ hz]
    · iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (bwd_run_next c (grid1.coords t) _ _ _ _ _ _ _ _ _ _ _ _ _ _ _ _ _ _ _ _ _ _ _ _ _ _ _ _ _ _ hf (blk1 V c 0 t) (blk1 V c 1 t) (blk1 V c 2 t) (blk1 V c 3 t) (blk1 V c 4 t) (blk1 V c 5 t) (blk1 V c 6 t) (blk1 V c 7 t) (car1 V c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS]; · iexact HS
      iintro ⟨H0, H1, H2, H3, H4, H5, H6, H7, H8, H9, H10, H11, H12, H13, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

theorem row1 (t : Fin cfg1.N) : defs₀ (F := F) .tc cfg1.body (cfg1.bodyArgs t (cfg1.slots t)) = bodyAt1 t := by
  unfold defs₀; rw [Defs.onTc_tc]

/-- The obligation on the body of call 1, at every point. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

theorem enter1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem leave1 (c : Dev nD) : (dat1 V c).Φ (Fin.last cfg1.N) ⊢ Pipeline.ΦA spec1 c := by
  have hN : cfg1.N = 32 := N_1
  rw [show (dat1 V c).Φ (Fin.last cfg1.N) = Phi1 V c cfg1.N (le_refl _) from rfl, Phi1_pos V c _ _ (by omega), scr1_eq]
  iintro ⟨⟨HS, HR⟩, Hg⟩
  isplitl [HS HR]
  · isplitl [HS]
    · iexists _; iexact HS
    iexact HR
  iexact Hg

end Cert.Scan

end
-- ==== Proof.RefOps.lean ====
/- The reference's host operations in order: the stretch before the forward loop, the forward loop's body, the stretch
   between the two loops, the backward loop's body and the stretch after it; and that the program is these stretches
   with the two loops entered between them. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ScanRef

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]

/-- 35 host operations of @main, in order. -/
abbrev hostOps0 : List (HloOp τ sig (Elt F)) :=
  ( StableHlo.unary main_arg1 main_v0 ((extf .f32 · bitsLt_bf16_f32) : (⟨S2048x1024, .bf16⟩ : BufTy).Contents (Elt F) → (⟨S2048x1024, .f32⟩ : BufTy).Contents (Elt F))
  :: StableHlo.unary main_arg2 main_v1 ((extf .f32 · bitsLt_bf16_f32) : (⟨S2048x1024, .bf16⟩ : BufTy).Contents (Elt F) → (⟨S2048x1024, .f32⟩ : BufTy).Contents (Elt F))
  :: StableHlo.unary main_arg3 main_v2 ((extf .f32 · bitsLt_bf16_f32) : (⟨S2048x1024, .bf16⟩ : BufTy).Contents (Elt F) → (⟨S2048x1024, .f32⟩ : BufTy).Contents (Elt F))
  :: StableHlo.unary main_arg4 main_v3 ((extf .f32 · bitsLt_bf16_f32) : (⟨S8x2048x64, .bf16⟩ : BufTy).Contents (Elt F) → (⟨S8x2048x64, .f32⟩ : BufTy).Contents (Elt F))
  :: StableHlo.nullary main_cst (constant S_ .f32 0x00000000#32)
  :: StableHlo.unary main_cst main_v4 (broadcastInDim S8x128x128 ![] bcast_S_S8x128x128 : (⟨S_, .f32⟩ : BufTy).Contents (Elt F) → (⟨S8x128x128, .f32⟩ : BufTy).Contents (Elt F))
  :: StableHlo.reshape main_v3 main_v5 (rfl : (.f32 : EltTy) = .f32) shapeCasts_S8x2048x64_S8x32x64x64
  :: StableHlo.unary main_v5 main_v6 ((transpose S32x8x64x64 [1, 0, 2, 3] · transposes_S8x32x64x64_S32x8x64x64_1_0_2_3) : (⟨S8x32x64x64, .f32⟩ : BufTy).Contents (Elt F) → (⟨S32x8x64x64, .f32⟩ : BufTy).Contents (Elt F))
  :: StableHlo.reshape main_arg0 main_v7 (rfl : (.f32 : EltTy) = .f32) shapeCasts_S2048x1024_S32x64x8x128
  :: StableHlo.unary main_v7 main_v8 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.reshape main_v0 main_v9 (rfl : (.f32 : EltTy) = .f32) shapeCasts_S2048x1024_S32x64x8x128
  :: StableHlo.unary main_v9 main_v10 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.reshape main_v1 main_v11 (rfl : (.f32 : EltTy) = .f32) shapeCasts_S2048x1024_S32x64x8x128
  :: StableHlo.unary main_v11 main_v12 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.reshape main_v2 main_v13 (rfl : (.f32 : EltTy) = .f32) shapeCasts_S2048x1024_S32x64x8x128
  :: StableHlo.unary main_v13 main_v14 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.unary main_arg5 main_v15 ((transpose S32x8x1x128 [1, 0, 2, 3] · transposes_S8x32x1x128_S32x8x1x128_1_0_2_3) : (⟨S8x32x1x128, .f32⟩ : BufTy).Contents (Elt F) → (⟨S32x8x1x128, .f32⟩ : BufTy).Contents (Elt F))
  :: StableHlo.nullary main_cst_0 (constant S_ .f32 0x00000000#32)
  :: StableHlo.unary main_cst_0 main_v16 (broadcastInDim S32x8x64x128 ![] bcast_S_S32x8x64x128 : (⟨S_, .f32⟩ : BufTy).Contents (Elt F) → (⟨S32x8x64x128, .f32⟩ : BufTy).Contents (Elt F))
  :: StableHlo.nullary main_cst_1 (constant S_ .f32 0x00000000#32)
  :: StableHlo.unary main_cst_1 main_v17 (broadcastInDim S32x8x128x128 ![] bcast_S_S32x8x128x128 : (⟨S_, .f32⟩ : BufTy).Contents (Elt F) → (⟨S32x8x128x128, .f32⟩ : BufTy).Contents (Elt F))
  :: StableHlo.nullary main_cst_2 (constant S_ .f32 0x00000000#32)
  :: StableHlo.unary main_cst_2 main_v18 (broadcastInDim S32x8x64x128 ![] bcast_S_S32x8x64x128 : (⟨S_, .f32⟩ : BufTy).Contents (Elt F) → (⟨S32x8x64x128, .f32⟩ : BufTy).Contents (Elt F))
  :: StableHlo.nullary main_c (constantI S_ 32 0#32)
  :: StableHlo.unary main_v8 main_v19_0 id
  :: StableHlo.unary main_v10 main_v19_1 id
  :: StableHlo.unary main_v12 main_v19_2 id
  :: StableHlo.unary main_v14 main_v19_3 id
  :: StableHlo.unary main_v6 main_v19_4 id
  :: StableHlo.unary main_v15 main_v19_5 id
  :: StableHlo.unary main_c main_v19_6 id
  :: StableHlo.unary main_v4 main_v19_7 id
  :: StableHlo.unary main_v16 main_v19_8 id
  :: StableHlo.unary main_v17 main_v19_9 id
  :: StableHlo.unary main_v18 main_v19_10 id
  :: [] )
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 37 host operations of @main, in order. -/
abbrev hostOps0_1 : List (HloOp τ sig (Elt F)) :=
  ( StableHlo.unary main_v19_8 main_v20 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F))
  :: StableHlo.reshape main_v20 main_v21 (rfl : (.f32 : EltTy) = .f32) shapeCasts_S32x64x8x128_S2048x1024
  :: StableHlo.nullary main_cst_3 (constant S_ .f32 0x00000000#32)
  :: StableHlo.unary main_cst_3 main_v22 (broadcastInDim S8x128x128 ![] bcast_S_S8x128x128 : (⟨S_, .f32⟩ : BufTy).Contents (Elt F) → (⟨S8x128x128, .f32⟩ : BufTy).Contents (Elt F))
  :: StableHlo.reshape main_arg6 main_v23 (rfl : (.f32 : EltTy) = .f32) shapeCasts_S2048x1024_S32x64x8x128
  :: StableHlo.unary main_v23 main_v24 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.nullary main_cst_4 (constant S_ .f32 0x00000000#32)
  :: StableHlo.unary main_cst_4 main_v25 (broadcastInDim S8x128x128 ![] bcast_S_S8x128x128 : (⟨S_, .f32⟩ : BufTy).Contents (Elt F) → (⟨S8x128x128, .f32⟩ : BufTy).Contents (Elt F))
  :: StableHlo.nullary main_cst_5 (constant S_ .f32 0x00000000#32)
  :: StableHlo.unary main_cst_5 main_v26 (broadcastInDim S32x8x64x128 ![] bcast_S_S32x8x64x128 : (⟨S_, .f32⟩ : BufTy).Contents (Elt F) → (⟨S32x8x64x128, .f32⟩ : BufTy).Contents (Elt F))
  :: StableHlo.nullary main_cst_6 (constant S_ .f32 0x00000000#32)
  :: StableHlo.unary main_cst_6 main_v27 (broadcastInDim S32x8x64x128 ![] bcast_S_S32x8x64x128 : (⟨S_, .f32⟩ : BufTy).Contents (Elt F) → (⟨S32x8x64x128, .f32⟩ : BufTy).Contents (Elt F))
  :: StableHlo.nullary main_cst_7 (constant S_ .f32 0x00000000#32)
  :: StableHlo.unary main_cst_7 main_v28 (broadcastInDim S32x8x64x128 ![] bcast_S_S32x8x64x128 : (⟨S_, .f32⟩ : BufTy).Contents (Elt F) → (⟨S32x8x64x128, .f32⟩ : BufTy).Contents (Elt F))
  :: StableHlo.nullary main_cst_8 (constant S_ .f32 0x00000000#32)
  :: StableHlo.unary main_cst_8 main_v29 (broadcastInDim S32x8x64x128 ![] bcast_S_S32x8x64x128 : (⟨S_, .f32⟩ : BufTy).Contents (Elt F) → (⟨S32x8x64x128, .f32⟩ : BufTy).Contents (Elt F))
  :: StableHlo.nullary main_cst_9 (constant S_ .f32 0x00000000#32)
  :: StableHlo.unary main_cst_9 main_v30 (broadcastInDim S32x8x64x64 ![] bcast_S_S32x8x64x64 : (⟨S_, .f32⟩ : BufTy).Contents (Elt F) → (⟨S32x8x64x64, .f32⟩ : BufTy).Contents (Elt F))
  :: StableHlo.nullary main_cst_10 (constant S_ .f32 0x00000000#32)
  :: StableHlo.unary main_cst_10 main_v31 (broadcastInDim S32x8x1x128 ![] bcast_S_S32x8x1x128 : (⟨S_, .f32⟩ : BufTy).Contents (Elt F) → (⟨S32x8x1x128, .f32⟩ : BufTy).Contents (Elt F))
  :: StableHlo.nullary main_c_11 (constantI S_ 32 0#32)
  :: StableHlo.unary main_v24 main_v32_0 id
  :: StableHlo.unary main_v19_9 main_v32_1 id
  :: StableHlo.unary main_v10 main_v32_2 id
  :: StableHlo.unary main_v12 main_v32_3 id
  :: StableHlo.unary main_v19_10 main_v32_4 id
  :: StableHlo.unary main_v6 main_v32_5 id
  :: StableHlo.unary main_v15 main_v32_6 id
  :: StableHlo.unary main_v14 main_v32_7 id
  :: StableHlo.unary main_c_11 main_v32_8 id
  :: StableHlo.unary main_v25 main_v32_9 id
  :: StableHlo.unary main_v26 main_v32_10 id
  :: StableHlo.unary main_v27 main_v32_11 id
  :: StableHlo.unary main_v28 main_v32_12 id
  :: StableHlo.unary main_v29 main_v32_13 id
  :: StableHlo.unary main_v30 main_v32_14 id
  :: StableHlo.unary main_v31 main_v32_15 id
  :: [] )
theorem hostOps0_1_sub : (hostOps0_1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 11 host operations of @main, in order. -/
abbrev hostOps0_2 : List (HloOp τ sig (Elt F)) :=
  [ StableHlo.unary main_v32_15 main_v33 ((transpose S8x32x1x128 [1, 0, 2, 3] · transposes_S32x8x1x128_S8x32x1x128_1_0_2_3) : (⟨S32x8x1x128, .f32⟩ : BufTy).Contents (Elt F) → (⟨S8x32x1x128, .f32⟩ : BufTy).Contents (Elt F)),
    StableHlo.unary main_v32_13 main_v34 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v34 main_v35 (rfl : (.f32 : EltTy) = .f32) shapeCasts_S32x64x8x128_S2048x1024,
    StableHlo.unary main_v32_12 main_v36 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v36 main_v37 (rfl : (.f32 : EltTy) = .f32) shapeCasts_S32x64x8x128_S2048x1024,
    StableHlo.unary main_v32_11 main_v38 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v38 main_v39 (rfl : (.f32 : EltTy) = .f32) shapeCasts_S32x64x8x128_S2048x1024,
    StableHlo.unary main_v32_10 main_v40 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v40 main_v41 (rfl : (.f32 : EltTy) = .f32) shapeCasts_S32x64x8x128_S2048x1024,
    StableHlo.unary main_v32_14 main_v42 ((transpose S8x32x64x64 [1, 0, 2, 3] · transposes_S32x8x64x64_S8x32x64x64_1_0_2_3) : (⟨S32x8x64x64, .f32⟩ : BufTy).Contents (Elt F) → (⟨S8x32x64x64, .f32⟩ : BufTy).Contents (Elt F)),
    StableHlo.reshape main_v42 main_v43 (rfl : (.f32 : EltTy) = .f32) shapeCasts_S8x32x64x64_S8x2048x64 ]
theorem hostOps0_2_sub : (hostOps0_2 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- 35 host operations of @main, window 0 (statements 1 … 60), in order. -/
abbrev main_part0_ops0 : List (HloOp τ sig (Elt F)) :=
  ( StableHlo.unary main_arg1 main_v0 ((extf .f32 · bitsLt_bf16_f32) : (⟨S2048x1024, .bf16⟩ : BufTy).Contents (Elt F) → (⟨S2048x1024, .f32⟩ : BufTy).Contents (Elt F))
  :: StableHlo.unary main_arg2 main_v1 ((extf .f32 · bitsLt_bf16_f32) : (⟨S2048x1024, .bf16⟩ : BufTy).Contents (Elt F) → (⟨S2048x1024, .f32⟩ : BufTy).Contents (Elt F))
  :: StableHlo.unary main_arg3 main_v2 ((extf .f32 · bitsLt_bf16_f32) : (⟨S2048x1024, .bf16⟩ : BufTy).Contents (Elt F) → (⟨S2048x1024, .f32⟩ : BufTy).Contents (Elt F))
  :: StableHlo.unary main_arg4 main_v3 ((extf .f32 · bitsLt_bf16_f32) : (⟨S8x2048x64, .bf16⟩ : BufTy).Contents (Elt F) → (⟨S8x2048x64, .f32⟩ : BufTy).Contents (Elt F))
  :: StableHlo.nullary main_cst (constant S_ .f32 0x00000000#32)
  :: StableHlo.unary main_cst main_v4 (broadcastInDim S8x128x128 ![] bcast_S_S8x128x128 : (⟨S_, .f32⟩ : BufTy).Contents (Elt F) → (⟨S8x128x128, .f32⟩ : BufTy).Contents (Elt F))
  :: StableHlo.reshape main_v3 main_v5 (rfl : (.f32 : EltTy) = .f32) shapeCasts_S8x2048x64_S8x32x64x64
  :: StableHlo.unary main_v5 main_v6 ((transpose S32x8x64x64 [1, 0, 2, 3] · transposes_S8x32x64x64_S32x8x64x64_1_0_2_3) : (⟨S8x32x64x64, .f32⟩ : BufTy).Contents (Elt F) → (⟨S32x8x64x64, .f32⟩ : BufTy).Contents (Elt F))
  :: StableHlo.reshape main_arg0 main_v7 (rfl : (.f32 : EltTy) = .f32) shapeCasts_S2048x1024_S32x64x8x128
  :: StableHlo.unary main_v7 main_v8 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.reshape main_v0 main_v9 (rfl : (.f32 : EltTy) = .f32) shapeCasts_S2048x1024_S32x64x8x128
  :: StableHlo.unary main_v9 main_v10 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.reshape main_v1 main_v11 (rfl : (.f32 : EltTy) = .f32) shapeCasts_S2048x1024_S32x64x8x128
  :: StableHlo.unary main_v11 main_v12 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.reshape main_v2 main_v13 (rfl : (.f32 : EltTy) = .f32) shapeCasts_S2048x1024_S32x64x8x128
  :: StableHlo.unary main_v13 main_v14 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.unary main_arg5 main_v15 ((transpose S32x8x1x128 [1, 0, 2, 3] · transposes_S8x32x1x128_S32x8x1x128_1_0_2_3) : (⟨S8x32x1x128, .f32⟩ : BufTy).Contents (Elt F) → (⟨S32x8x1x128, .f32⟩ : BufTy).Contents (Elt F))
  :: StableHlo.nullary main_cst_0 (constant S_ .f32 0x00000000#32)
  :: StableHlo.unary main_cst_0 main_v16 (broadcastInDim S32x8x64x128 ![] bcast_S_S32x8x64x128 : (⟨S_, .f32⟩ : BufTy).Contents (Elt F) → (⟨S32x8x64x128, .f32⟩ : BufTy).Contents (Elt F))
  :: StableHlo.nullary main_cst_1 (constant S_ .f32 0x00000000#32)
  :: StableHlo.unary main_cst_1 main_v17 (broadcastInDim S32x8x128x128 ![] bcast_S_S32x8x128x128 : (⟨S_, .f32⟩ : BufTy).Contents (Elt F) → (⟨S32x8x128x128, .f32⟩ : BufTy).Contents (Elt F))
  :: StableHlo.nullary main_cst_2 (constant S_ .f32 0x00000000#32)
  :: StableHlo.unary main_cst_2 main_v18 (broadcastInDim S32x8x64x128 ![] bcast_S_S32x8x64x128 : (⟨S_, .f32⟩ : BufTy).Contents (Elt F) → (⟨S32x8x64x128, .f32⟩ : BufTy).Contents (Elt F))
  :: StableHlo.nullary main_c (constantI S_ 32 0#32)
  :: StableHlo.unary main_v8 main_v19_0 id
  :: StableHlo.unary main_v10 main_v19_1 id
  :: StableHlo.unary main_v12 main_v19_2 id
  :: StableHlo.unary main_v14 main_v19_3 id
  :: StableHlo.unary main_v6 main_v19_4 id
  :: StableHlo.unary main_v15 main_v19_5 id
  :: StableHlo.unary main_c main_v19_6 id
  :: StableHlo.unary main_v4 main_v19_7 id
  :: StableHlo.unary main_v16 main_v19_8 id
  :: StableHlo.unary main_v17 main_v19_9 id
  :: StableHlo.unary main_v18 main_v19_10 id
  :: [] )
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 24 host operations of @main, window 0 (statements 1 … 60), in order. -/
abbrev main_part0_ops1 : List (HloOp τ sig (Elt F)) :=
  [ StableHlo.unary main_v19_8 main_v20 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v20 main_v21 (rfl : (.f32 : EltTy) = .f32) shapeCasts_S32x64x8x128_S2048x1024,
    StableHlo.nullary main_cst_3 (constant S_ .f32 0x00000000#32),
    StableHlo.unary main_cst_3 main_v22 (broadcastInDim S8x128x128 ![] bcast_S_S8x128x128 : (⟨S_, .f32⟩ : BufTy).Contents (Elt F) → (⟨S8x128x128, .f32⟩ : BufTy).Contents (Elt F)),
    StableHlo.reshape main_arg6 main_v23 (rfl : (.f32 : EltTy) = .f32) shapeCasts_S2048x1024_S32x64x8x128,
    StableHlo.unary main_v23 main_v24 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.nullary main_cst_4 (constant S_ .f32 0x00000000#32),
    StableHlo.unary main_cst_4 main_v25 (broadcastInDim S8x128x128 ![] bcast_S_S8x128x128 : (⟨S_, .f32⟩ : BufTy).Contents (Elt F) → (⟨S8x128x128, .f32⟩ : BufTy).Contents (Elt F)),
    StableHlo.nullary main_cst_5 (constant S_ .f32 0x00000000#32),
    StableHlo.unary main_cst_5 main_v26 (broadcastInDim S32x8x64x128 ![] bcast_S_S32x8x64x128 : (⟨S_, .f32⟩ : BufTy).Contents (Elt F) → (⟨S32x8x64x128, .f32⟩ : BufTy).Contents (Elt F)),
    StableHlo.nullary main_cst_6 (constant S_ .f32 0x00000000#32),
    StableHlo.unary main_cst_6 main_v27 (broadcastInDim S32x8x64x128 ![] bcast_S_S32x8x64x128 : (⟨S_, .f32⟩ : BufTy).Contents (Elt F) → (⟨S32x8x64x128, .f32⟩ : BufTy).Contents (Elt F)),
    StableHlo.nullary main_cst_7 (constant S_ .f32 0x00000000#32),
    StableHlo.unary main_cst_7 main_v28 (broadcastInDim S32x8x64x128 ![] bcast_S_S32x8x64x128 : (⟨S_, .f32⟩ : BufTy).Contents (Elt F) → (⟨S32x8x64x128, .f32⟩ : BufTy).Contents (Elt F)),
    StableHlo.nullary main_cst_8 (constant S_ .f32 0x00000000#32),
    StableHlo.unary main_cst_8 main_v29 (broadcastInDim S32x8x64x128 ![] bcast_S_S32x8x64x128 : (⟨S_, .f32⟩ : BufTy).Contents (Elt F) → (⟨S32x8x64x128, .f32⟩ : BufTy).Contents (Elt F)),
    StableHlo.nullary main_cst_9 (constant S_ .f32 0x00000000#32),
    StableHlo.unary main_cst_9 main_v30 (broadcastInDim S32x8x64x64 ![] bcast_S_S32x8x64x64 : (⟨S_, .f32⟩ : BufTy).Contents (Elt F) → (⟨S32x8x64x64, .f32⟩ : BufTy).Contents (Elt F)),
    StableHlo.nullary main_cst_10 (constant S_ .f32 0x00000000#32),
    StableHlo.unary main_cst_10 main_v31 (broadcastInDim S32x8x1x128 ![] bcast_S_S32x8x1x128 : (⟨S_, .f32⟩ : BufTy).Contents (Elt F) → (⟨S32x8x1x128, .f32⟩ : BufTy).Contents (Elt F)),
    StableHlo.nullary main_c_11 (constantI S_ 32 0#32),
    StableHlo.unary main_v24 main_v32_0 id,
    StableHlo.unary main_v19_9 main_v32_1 id,
    StableHlo.unary main_v10 main_v32_2 id ]
theorem main_part0_ops1_sub : (main_part0_ops1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub ..⟩
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 13 host operations of @main, window 1 (statements 61 … 86), in order. -/
abbrev main_part1_ops0 : List (HloOp τ sig (Elt F)) :=
  [ StableHlo.unary main_v12 main_v32_3 id,
    StableHlo.unary main_v19_10 main_v32_4 id,
    StableHlo.unary main_v6 main_v32_5 id,
    StableHlo.unary main_v15 main_v32_6 id,
    StableHlo.unary main_v14 main_v32_7 id,
    StableHlo.unary main_c_11 main_v32_8 id,
    StableHlo.unary main_v25 main_v32_9 id,
    StableHlo.unary main_v26 main_v32_10 id,
    StableHlo.unary main_v27 main_v32_11 id,
    StableHlo.unary main_v28 main_v32_12 id,
    StableHlo.unary main_v29 main_v32_13 id,
    StableHlo.unary main_v30 main_v32_14 id,
    StableHlo.unary main_v31 main_v32_15 id ]
theorem main_part1_ops0_sub : (main_part1_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 11 host operations of @main, window 1 (statements 61 … 86), in order. -/
abbrev main_part1_ops1 : List (HloOp τ sig (Elt F)) :=
  [ StableHlo.unary main_v32_15 main_v33 ((transpose S8x32x1x128 [1, 0, 2, 3] · transposes_S32x8x1x128_S8x32x1x128_1_0_2_3) : (⟨S32x8x1x128, .f32⟩ : BufTy).Contents (Elt F) → (⟨S8x32x1x128, .f32⟩ : BufTy).Contents (Elt F)),
    StableHlo.unary main_v32_13 main_v34 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v34 main_v35 (rfl : (.f32 : EltTy) = .f32) shapeCasts_S32x64x8x128_S2048x1024,
    StableHlo.unary main_v32_12 main_v36 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v36 main_v37 (rfl : (.f32 : EltTy) = .f32) shapeCasts_S32x64x8x128_S2048x1024,
    StableHlo.unary main_v32_11 main_v38 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v38 main_v39 (rfl : (.f32 : EltTy) = .f32) shapeCasts_S32x64x8x128_S2048x1024,
    StableHlo.unary main_v32_10 main_v40 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v40 main_v41 (rfl : (.f32 : EltTy) = .f32) shapeCasts_S32x64x8x128_S2048x1024,
    StableHlo.unary main_v32_14 main_v42 ((transpose S8x32x64x64 [1, 0, 2, 3] · transposes_S32x8x64x64_S8x32x64x64_1_0_2_3) : (⟨S32x8x64x64, .f32⟩ : BufTy).Contents (Elt F) → (⟨S8x32x64x64, .f32⟩ : BufTy).Contents (Elt F)),
    StableHlo.reshape main_v42 main_v43 (rfl : (.f32 : EltTy) = .f32) shapeCasts_S8x32x64x64_S8x2048x64 ]
theorem main_part1_ops1_sub : (main_part1_ops1 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
theorem main_part1_chain (c : Dev nD) : main_part1 (F := F) c = (Pipeline.chain
  [ StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain_windows (c : Dev nD) : main (F := F) c = (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .prog (HostLoop.enter 1),
    .ops [main_part1_ops1] ]

theorem main_chain_cut (c : Dev nD) : (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  chain_rfl

theorem main_chain (c : Dev nD) : main (F := F) c = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 5 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v19_0 : StableHlo.TRef sig ⟨S32x8x64x128, .f32⟩) ![(.of main_v19_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call0_v0 : StableHlo.TRef sig ⟨S1x8x64x128, .f32⟩) (.of main_while0b_v44 : StableHlo.TRef sig ⟨S8x64x128, .f32⟩) (rfl : (.f32 : EltTy) = .f32) shapeCasts_S1x8x64x128_S8x64x128 ]
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while0b_call1), in order. -/
abbrev while0Ops0_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v19_1 : StableHlo.TRef sig ⟨S32x8x64x128, .f32⟩) ![(.of main_v19_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call1_v0 : StableHlo.TRef sig ⟨S1x8x64x128, .f32⟩) (.of main_while0b_v45 : StableHlo.TRef sig ⟨S8x64x128, .f32⟩) (rfl : (.f32 : EltTy) = .f32) shapeCasts_S1x8x64x128_S8x64x128 ]
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while0b_call2), in order. -/
abbrev while0Ops0_2 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v19_2 : StableHlo.TRef sig ⟨S32x8x64x128, .f32⟩) ![(.of main_v19_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call2_v0 : StableHlo.TRef sig ⟨S1x8x64x128, .f32⟩) (.of main_while0b_v46 : StableHlo.TRef sig ⟨S8x64x128, .f32⟩) (rfl : (.f32 : EltTy) = .f32) shapeCasts_S1x8x64x128_S8x64x128 ]
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while0b_call3), in order. -/
abbrev while0Ops0_3 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v19_3 : StableHlo.TRef sig ⟨S32x8x64x128, .f32⟩) ![(.of main_v19_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call3_v0 : StableHlo.TRef sig ⟨S1x8x64x128, .f32⟩) (.of main_while0b_v47 : StableHlo.TRef sig ⟨S8x64x128, .f32⟩) (rfl : (.f32 : EltTy) = .f32) shapeCasts_S1x8x64x128_S8x64x128 ]
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_0 (main_while0b_call4), in order. -/
abbrev while0Ops0_4 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v19_4 : StableHlo.TRef sig ⟨S32x8x64x64, .f32⟩) ![(.of main_v19_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x8x64x64, .f32⟩) (fun x i => Host.dynamicSlice S1x8x64x64 x (fun k => (i k (Shape.Idx.first h_S_)).toInt) sliceFits_S32x8x64x64_S1x8x64x64),
    StableHlo.TRef.reshape (.of main_while0b_call4_v0 : StableHlo.TRef sig ⟨S1x8x64x64, .f32⟩) (.of main_while0b_v48 : StableHlo.TRef sig ⟨S8x64x64, .f32⟩) (rfl : (.f32 : EltTy) = .f32) shapeCasts_S1x8x64x64_S8x64x64 ]
theorem while0Ops0_4_sub : (while0Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_1 (main_while0b_call5), in order. -/
abbrev while0Ops0_5 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.unaryIndexed (.of main_v19_5 : StableHlo.TRef sig ⟨S32x8x1x128, .f32⟩) ![(.of main_v19_6 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x8x1x128, .f32⟩) (fun x i => Host.dynamicSlice S1x8x1x128 x (fun k => (i k (Shape.Idx.first h_S_)).toInt) sliceFits_S32x8x1x128_S1x8x1x128),
    StableHlo.TRef.reshape (.of main_while0b_call5_v0 : StableHlo.TRef sig ⟨S1x8x1x128, .f32⟩) (.of main_while0b_v49 : StableHlo.TRef sig ⟨S8x1x128, .f32⟩) (rfl : (.f32 : EltTy) = .f32) shapeCasts_S1x8x1x128_S8x1x128 ]
theorem while0Ops0_5_sub : (while0Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 9 host operations of host loop 0's body region, in order. -/
abbrev while0Ops0_6 : List (HloOp τ sig (Elt F)) :=
  [ StableHlo.binary main_while0b_v45 main_v19_7 main_while0b_v50 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v44 main_while0b_v50 main_while0b_v51 (subf : (⟨S8x64x128, .f32⟩ : BufTy).Contents (Elt F) → (⟨S8x64x128, .f32⟩ : BufTy).Contents (Elt F) → (⟨S8x64x128, .f32⟩ : BufTy).Contents (Elt F)),
    StableHlo.binary main_while0b_v46 main_v19_7 main_while0b_v52 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v48 main_while0b_v51 main_while0b_v53 ((fun l r => Host.dotGeneral dot_S8x64x64_S8x64x128_S8x64x128_2_1_1_2_0_0 none l r) : (⟨S8x64x64, .f32⟩ : BufTy).Contents (Elt F) → (⟨S8x64x128, .f32⟩ : BufTy).Contents (Elt F) → (⟨S8x64x128, .f32⟩ : BufTy).Contents (Elt F)),
    StableHlo.binary main_while0b_v52 main_while0b_v53 main_while0b_v54 (addf : (⟨S8x64x128, .f32⟩ : BufTy).Contents (Elt F) → (⟨S8x64x128, .f32⟩ : BufTy).Contents (Elt F) → (⟨S8x64x128, .f32⟩ : BufTy).Contents (Elt F)),
    StableHlo.unary main_while0b_v49 main_while0b_v55 (broadcastInDim S8x128x128 ![0, 1, 2] bcast_S8x1x128_S8x128x128_0_1_2 : (⟨S8x1x128, .f32⟩ : BufTy).Contents (Elt F) → (⟨S8x128x128, .f32⟩ : BufTy).Contents (Elt F)),
    StableHlo.binary main_v19_7 main_while0b_v55 main_while0b_v56 (mulf : (⟨S8x128x128, .f32⟩ : BufTy).Contents (Elt F) → (⟨S8x128x128, .f32⟩ : BufTy).Contents (Elt F) → (⟨S8x128x128, .f32⟩ : BufTy).Contents (Elt F)),
    StableHlo.binary main_while0b_v47 main_while0b_v51 main_while0b_v57 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.binary main_while0b_v56 main_while0b_v57 main_while0b_v58 (addf : (⟨S8x128x128, .f32⟩ : BufTy).Contents (Elt F) → (⟨S8x128x128, .f32⟩ : BufTy).Contents (Elt F) → (⟨S8x128x128, .f32⟩ : BufTy).Contents (Elt F)) ]
theorem while0Ops0_6_sub : (while0Ops0_6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub ..⟩
/-- 5 host operations of @dynamic_update_index_in_dim (main_while0b_call6), in order. -/
abbrev while0Ops0_7 : List (HloOp τ sig (Elt F)) :=
  [ StableHlo.TRef.unary (.of main_while0b_v54 : StableHlo.TRef sig ⟨S8x64x128, .f32⟩) (.of main_while0b_call6_v0 : StableHlo.TRef sig ⟨S1x8x64x128, .f32⟩) (broadcastInDim S1x8x64x128 ![1, 2, 3] bcast_S8x64x128_S1x8x64x128_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v19_8 : StableHlo.TRef sig ⟨S32x8x64x128, .f32⟩) (.of main_while0b_call6_v0 : StableHlo.TRef sig ⟨S1x8x64x128, .f32⟩) ![(.of main_v19_6 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v59 : StableHlo.TRef sig ⟨S32x8x64x128, .f32⟩) (fun x u i => Host.dynamicUpdateSlice x u (fun k => (i k (Shape.Idx.first h_S_)).toInt) updateFits_S32x8x64x128_S1x8x64x128) ]
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_2 (main_while0b_call7), in order. -/
abbrev while0Ops0_8 : List (HloOp τ sig (Elt F)) :=
  [ StableHlo.TRef.unary (.of main_v19_7 : StableHlo.TRef sig ⟨S8x128x128, .f32⟩) (.of main_while0b_call7_v0 : StableHlo.TRef sig ⟨S1x8x128x128, .f32⟩) (broadcastInDim S1x8x128x128 ![1, 2, 3] bcast_S8x128x128_S1x8x128x128_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v19_9 : StableHlo.TRef sig ⟨S32x8x128x128, .f32⟩) (.of main_while0b_call7_v0 : StableHlo.TRef sig ⟨S1x8x128x128, .f32⟩) ![(.of main_v19_6 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v60 : StableHlo.TRef sig ⟨S32x8x128x128, .f32⟩) (fun x u i => Host.dynamicUpdateSlice x u (fun k => (i k (Shape.Idx.first h_S_)).toInt) updateFits_S32x8x128x128_S1x8x128x128) ]
theorem while0Ops0_8_sub : (while0Ops0_8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim (main_while0b_call8), in order. -/
abbrev while0Ops0_9 : List (HloOp τ sig (Elt F)) :=
  [ StableHlo.TRef.unary (.of main_while0b_v51 : StableHlo.TRef sig ⟨S8x64x128, .f32⟩) (.of main_while0b_call8_v0 : StableHlo.TRef sig ⟨S1x8x64x128, .f32⟩) (broadcastInDim S1x8x64x128 ![1, 2, 3] bcast_S8x64x128_S1x8x64x128_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v19_10 : StableHlo.TRef sig ⟨S32x8x64x128, .f32⟩) (.of main_while0b_call8_v0 : StableHlo.TRef sig ⟨S1x8x64x128, .f32⟩) ![(.of main_v19_6 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v61 : StableHlo.TRef sig ⟨S32x8x64x128, .f32⟩) (fun x u i => Host.dynamicUpdateSlice x u (fun k => (i k (Shape.Idx.first h_S_)).toInt) updateFits_S32x8x64x128_S1x8x64x128) ]
theorem while0Ops0_9_sub : (while0Ops0_9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 7 host operations of host loop 0's body region, in order. -/
abbrev while0Ops0_10 : List (HloOp τ sig (Elt F)) :=
  [ StableHlo.nullary main_while0b_c_22 (constantI S_ 32 1#32),
    StableHlo.binary main_v19_6 main_while0b_c_22 main_while0b_v62 (addi : (⟨S_, .i32⟩ : BufTy).Contents (Elt F) → (⟨S_, .i32⟩ : BufTy).Contents (Elt F) → (⟨S_, .i32⟩ : BufTy).Contents (Elt F)),
    StableHlo.unary main_while0b_v62 main_v19_6 id,
    StableHlo.unary main_while0b_v58 main_v19_7 id,
    StableHlo.unary main_while0b_v59 main_v19_8 id,
    StableHlo.unary main_while0b_v60 main_v19_9 id,
    StableHlo.unary main_while0b_v61 main_v19_10 id ]
theorem while0Ops0_10_sub : (while0Ops0_10 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_27 (constantI S_ 32 32#32),
    StableHlo.binary main_while1b_c_27 main_v32_8 main_while1b_v44 (subi : (⟨S_, .i32⟩ : BufTy).Contents (Elt F) → (⟨S_, .i32⟩ : BufTy).Contents (Elt F) → (⟨S_, .i32⟩ : BufTy).Contents (Elt F)),
    StableHlo.nullary main_while1b_c_28 (constantI S_ 32 1#32),
    StableHlo.binary main_while1b_v44 main_while1b_c_28 main_while1b_v45 (subi : (⟨S_, .i32⟩ : BufTy).Contents (Elt F) → (⟨S_, .i32⟩ : BufTy).Contents (Elt F) → (⟨S_, .i32⟩ : BufTy).Contents (Elt F)) ]
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- 5 host operations of @dynamic_index_in_dim (main_while1b_call9), in order. -/
abbrev while1Ops0_1 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.unaryIndexed (.of main_v32_0 : StableHlo.TRef sig ⟨S32x8x64x128, .f32⟩) ![(.of main_while1b_v45 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩)] (.of main_while1b_call9_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call9_v0 : StableHlo.TRef sig ⟨S1x8x64x128, .f32⟩) (.of main_while1b_v46 : StableHlo.TRef sig ⟨S8x64x128, .f32⟩) (rfl : (.f32 : EltTy) = .f32) shapeCasts_S1x8x64x128_S8x64x128 ]
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_3 (main_while1b_call10), in order. -/
abbrev while1Ops0_2 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.unaryIndexed (.of main_v32_1 : StableHlo.TRef sig ⟨S32x8x128x128, .f32⟩) ![(.of main_while1b_v45 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_call10_v0 : StableHlo.TRef sig ⟨S1x8x128x128, .f32⟩) (fun x i => Host.dynamicSlice S1x8x128x128 x (fun k => (i k (Shape.Idx.first h_S_)).toInt) sliceFits_S32x8x128x128_S1x8x128x128),
    StableHlo.TRef.reshape (.of main_while1b_call10_v0 : StableHlo.TRef sig ⟨S1x8x128x128, .f32⟩) (.of main_while1b_v47 : StableHlo.TRef sig ⟨S8x128x128, .f32⟩) (rfl : (.f32 : EltTy) = .f32) shapeCasts_S1x8x128x128_S8x128x128 ]
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while1b_call11), in order. -/
abbrev while1Ops0_3 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.unaryIndexed (.of main_v32_2 : StableHlo.TRef sig ⟨S32x8x64x128, .f32⟩) ![(.of main_while1b_v45 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_call11_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call11_v0 : StableHlo.TRef sig ⟨S1x8x64x128, .f32⟩) (.of main_while1b_v48 : StableHlo.TRef sig ⟨S8x64x128, .f32⟩) (rfl : (.f32 : EltTy) = .f32) shapeCasts_S1x8x64x128_S8x64x128 ]
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while1b_call12), in order. -/
abbrev while1Ops0_4 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v32_3 : StableHlo.TRef sig ⟨S32x8x64x128, .f32⟩) ![(.of main_while1b_v45 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call12_v0 : StableHlo.TRef sig ⟨S1x8x64x128, .f32⟩) (.of main_while1b_v49 : StableHlo.TRef sig ⟨S8x64x128, .f32⟩) (rfl : (.f32 : EltTy) = .f32) shapeCasts_S1x8x64x128_S8x64x128 ]
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while1b_call13), in order. -/
abbrev while1Ops0_5 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v32_4 : StableHlo.TRef sig ⟨S32x8x64x128, .f32⟩) ![(.of main_while1b_v45 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call13_v0 : StableHlo.TRef sig ⟨S1x8x64x128, .f32⟩) (.of main_while1b_v50 : StableHlo.TRef sig ⟨S8x64x128, .f32⟩) (rfl : (.f32 : EltTy) = .f32) shapeCasts_S1x8x64x128_S8x64x128 ]
theorem while1Ops0_5_sub : (while1Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_0 (main_while1b_call14), in order. -/
abbrev while1Ops0_6 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v32_5 : StableHlo.TRef sig ⟨S32x8x64x64, .f32⟩) ![(.of main_while1b_v45 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x8x64x64, .f32⟩) (fun x i => Host.dynamicSlice S1x8x64x64 x (fun k => (i k (Shape.Idx.first h_S_)).toInt) sliceFits_S32x8x64x64_S1x8x64x64),
    StableHlo.TRef.reshape (.of main_while1b_call14_v0 : StableHlo.TRef sig ⟨S1x8x64x64, .f32⟩) (.of main_while1b_v51 : StableHlo.TRef sig ⟨S8x64x64, .f32⟩) (rfl : (.f32 : EltTy) = .f32) shapeCasts_S1x8x64x64_S8x64x64 ]
theorem while1Ops0_6_sub : (while1Ops0_6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_1 (main_while1b_call15), in order. -/
abbrev while1Ops0_7 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.unaryIndexed (.of main_v32_6 : StableHlo.TRef sig ⟨S32x8x1x128, .f32⟩) ![(.of main_while1b_v45 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x8x1x128, .f32⟩) (fun x i => Host.dynamicSlice S1x8x1x128 x (fun k => (i k (Shape.Idx.first h_S_)).toInt) sliceFits_S32x8x1x128_S1x8x1x128),
    StableHlo.TRef.reshape (.of main_while1b_call15_v0 : StableHlo.TRef sig ⟨S1x8x1x128, .f32⟩) (.of main_while1b_v52 : StableHlo.TRef sig ⟨S8x1x128, .f32⟩) (rfl : (.f32 : EltTy) = .f32) shapeCasts_S1x8x1x128_S8x1x128 ]
theorem while1Ops0_7_sub : (while1Ops0_7 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while1b_call16), in order. -/
abbrev while1Ops0_8 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v32_7 : StableHlo.TRef sig ⟨S32x8x64x128, .f32⟩) ![(.of main_while1b_v45 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call16_v0 : StableHlo.TRef sig ⟨S1x8x64x128, .f32⟩) (.of main_while1b_v53 : StableHlo.TRef sig ⟨S8x64x128, .f32⟩) (rfl : (.f32 : EltTy) = .f32) shapeCasts_S1x8x64x128_S8x64x128 ]
theorem while1Ops0_8_sub : (while1Ops0_8 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 23 host operations of host loop 1's body region, in order. -/
abbrev while1Ops0_9 : List (HloOp τ sig (Elt F)) :=
  [ StableHlo.binary main_v32_9 main_while1b_v53 main_while1b_v54 ((fun l r => Host.dotGeneral dot_S8x128x128_S8x64x128_S8x128x64_1_2_2_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v54 main_while1b_v55 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_v32_9 main_while1b_v50 main_while1b_v56 ((fun l r => Host.dotGeneral dot_S8x128x128_S8x64x128_S8x128x64_2_2_1_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v56 main_while1b_v57 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v47 main_v32_9 main_while1b_v58 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_29 (constant S_ .f32 0x00000000#32),
    StableHlo.binary main_while1b_v58 main_while1b_cst_29 main_while1b_v59 ((fun x v => Host.reduceAdd x v reducesTo_S8x128x128_S8x128_d1 h_S_) : (⟨S8x128x128, .f32⟩ : BufTy).Contents (Elt F) → (⟨S_, .f32⟩ : BufTy).Contents (Elt F) → (⟨S8x128, .f32⟩ : BufTy).Contents (Elt F)),
    StableHlo.reshape main_while1b_v59 main_while1b_v60 (rfl : (.f32 : EltTy) = .f32) shapeCasts_S8x128_S8x1x128,
    StableHlo.unary main_while1b_v52 main_while1b_v61 (broadcastInDim S8x128x128 ![0, 1, 2] bcast_S8x1x128_S8x128x128_0_1_2 : (⟨S8x1x128, .f32⟩ : BufTy).Contents (Elt F) → (⟨S8x128x128, .f32⟩ : BufTy).Contents (Elt F)),
    StableHlo.binary main_v32_9 main_while1b_v61 main_while1b_v62 (mulf : (⟨S8x128x128, .f32⟩ : BufTy).Contents (Elt F) → (⟨S8x128x128, .f32⟩ : BufTy).Contents (Elt F) → (⟨S8x128x128, .f32⟩ : BufTy).Contents (Elt F)),
    StableHlo.binary main_while1b_v46 main_while1b_v51 main_while1b_v63 ((fun l r => Host.dotGeneral dot_S8x64x128_S8x64x64_S8x128x64_1_1_2_2_0_0 none l r) : (⟨S8x64x128, .f32⟩ : BufTy).Contents (Elt F) → (⟨S8x64x64, .f32⟩ : BufTy).Contents (Elt F) → (⟨S8x128x64, .f32⟩ : BufTy).Contents (Elt F)),
    StableHlo.unary main_while1b_v63 main_while1b_v64 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v55 main_while1b_v64 main_while1b_v65 (addf : (⟨S8x64x128, .f32⟩ : BufTy).Contents (Elt F) → (⟨S8x64x128, .f32⟩ : BufTy).Contents (Elt F) → (⟨S8x64x128, .f32⟩ : BufTy).Contents (Elt F)),
    StableHlo.binary main_while1b_v46 main_while1b_v50 main_while1b_v66 ((fun l r => Host.dotGeneral dot_S8x64x128_S8x64x128_S8x64x64_2_2_1_1_0_0 none l r) : (⟨S8x64x128, .f32⟩ : BufTy).Contents (Elt F) → (⟨S8x64x128, .f32⟩ : BufTy).Contents (Elt F) → (⟨S8x64x64, .f32⟩ : BufTy).Contents (Elt F)),
    StableHlo.binary main_while1b_v46 main_while1b_v49 main_while1b_v67 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v67 main_while1b_v68 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v62 main_while1b_v68 main_while1b_v69 (addf : (⟨S8x128x128, .f32⟩ : BufTy).Contents (Elt F) → (⟨S8x128x128, .f32⟩ : BufTy).Contents (Elt F) → (⟨S8x128x128, .f32⟩ : BufTy).Contents (Elt F)),
    StableHlo.binary main_while1b_v46 main_while1b_v47 main_while1b_v70 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)),
    StableHlo.unary main_while1b_v65 main_while1b_v71 (Host.negf : (⟨S8x64x128, .f32⟩ : BufTy).Contents (Elt F) → (⟨S8x64x128, .f32⟩ : BufTy).Contents (Elt F)),
    StableHlo.binary main_while1b_v71 main_while1b_v48 main_while1b_v72 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v72 main_while1b_v73 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v69 main_while1b_v73 main_while1b_v74 (addf : (⟨S8x128x128, .f32⟩ : BufTy).Contents (Elt F) → (⟨S8x128x128, .f32⟩ : BufTy).Contents (Elt F) → (⟨S8x128x128, .f32⟩ : BufTy).Contents (Elt F)),
    StableHlo.binary main_while1b_v71 main_while1b_v47 main_while1b_v75 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)) ]
theorem while1Ops0_9_sub : (while1Ops0_9 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩
/-- 5 host operations of @dynamic_update_index_in_dim (main_while1b_call17), in order. -/
abbrev while1Ops0_10 : List (HloOp τ sig (Elt F)) :=
  [ StableHlo.TRef.unary (.of main_while1b_v65 : StableHlo.TRef sig ⟨S8x64x128, .f32⟩) (.of main_while1b_call17_v0 : StableHlo.TRef sig ⟨S1x8x64x128, .f32⟩) (broadcastInDim S1x8x64x128 ![1, 2, 3] bcast_S8x64x128_S1x8x64x128_1_2_3),
    StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.binaryIndexed (.of main_v32_10 : StableHlo.TRef sig ⟨S32x8x64x128, .f32⟩) (.of main_while1b_call17_v0 : StableHlo.TRef sig ⟨S1x8x64x128, .f32⟩) ![(.of main_while1b_v45 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_v76 : StableHlo.TRef sig ⟨S32x8x64x128, .f32⟩) (fun x u i => Host.dynamicUpdateSlice x u (fun k => (i k (Shape.Idx.first h_S_)).toInt) updateFits_S32x8x64x128_S1x8x64x128) ]
theorem while1Ops0_10_sub : (while1Ops0_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim (main_while1b_call18), in order. -/
abbrev while1Ops0_11 : List (HloOp τ sig (Elt F)) :=
  [ StableHlo.TRef.unary (.of main_while1b_v75 : StableHlo.TRef sig ⟨S8x64x128, .f32⟩) (.of main_while1b_call18_v0 : StableHlo.TRef sig ⟨S1x8x64x128, .f32⟩) (broadcastInDim S1x8x64x128 ![1, 2, 3] bcast_S8x64x128_S1x8x64x128_1_2_3),
    StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.binaryIndexed (.of main_v32_11 : StableHlo.TRef sig ⟨S32x8x64x128, .f32⟩) (.of main_while1b_call18_v0 : StableHlo.TRef sig ⟨S1x8x64x128, .f32⟩) ![(.of main_while1b_v45 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_v77 : StableHlo.TRef sig ⟨S32x8x64x128, .f32⟩) (fun x u i => Host.dynamicUpdateSlice x u (fun k => (i k (Shape.Idx.first h_S_)).toInt) updateFits_S32x8x64x128_S1x8x64x128) ]
theorem while1Ops0_11_sub : (while1Ops0_11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim (main_while1b_call19), in order. -/
abbrev while1Ops0_12 : List (HloOp τ sig (Elt F)) :=
  [ StableHlo.TRef.unary (.of main_while1b_v70 : StableHlo.TRef sig ⟨S8x64x128, .f32⟩) (.of main_while1b_call19_v0 : StableHlo.TRef sig ⟨S1x8x64x128, .f32⟩) (broadcastInDim S1x8x64x128 ![1, 2, 3] bcast_S8x64x128_S1x8x64x128_1_2_3),
    StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.binaryIndexed (.of main_v32_12 : StableHlo.TRef sig ⟨S32x8x64x128, .f32⟩) (.of main_while1b_call19_v0 : StableHlo.TRef sig ⟨S1x8x64x128, .f32⟩) ![(.of main_while1b_v45 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_v78 : StableHlo.TRef sig ⟨S32x8x64x128, .f32⟩) (fun x u i => Host.dynamicUpdateSlice x u (fun k => (i k (Shape.Idx.first h_S_)).toInt) updateFits_S32x8x64x128_S1x8x64x128) ]
theorem while1Ops0_12_sub : (while1Ops0_12 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim (main_while1b_call20), in order. -/
abbrev while1Ops0_13 : List (HloOp τ sig (Elt F)) :=
  [ StableHlo.TRef.unary (.of main_while1b_v57 : StableHlo.TRef sig ⟨S8x64x128, .f32⟩) (.of main_while1b_call20_v0 : StableHlo.TRef sig ⟨S1x8x64x128, .f32⟩) (broadcastInDim S1x8x64x128 ![1, 2, 3] bcast_S8x64x128_S1x8x64x128_1_2_3),
    StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.binaryIndexed (.of main_v32_13 : StableHlo.TRef sig ⟨S32x8x64x128, .f32⟩) (.of main_while1b_call20_v0 : StableHlo.TRef sig ⟨S1x8x64x128, .f32⟩) ![(.of main_while1b_v45 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩)] (.of main_while1b_v79 : StableHlo.TRef sig ⟨S32x8x64x128, .f32⟩) (fun x u i => Host.dynamicUpdateSlice x u (fun k => (i k (Shape.Idx.first h_S_)).toInt) updateFits_S32x8x64x128_S1x8x64x128) ]
theorem while1Ops0_13_sub : (while1Ops0_13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_4 (main_while1b_call21), in order. -/
abbrev while1Ops0_14 : List (HloOp τ sig (Elt F)) :=
  [ StableHlo.TRef.unary (.of main_while1b_v66 : StableHlo.TRef sig ⟨S8x64x64, .f32⟩) (.of main_while1b_call21_v0 : StableHlo.TRef sig ⟨S1x8x64x64, .f32⟩) (broadcastInDim S1x8x64x64 ![1, 2, 3] bcast_S8x64x64_S1x8x64x64_1_2_3),
    StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.binaryIndexed (.of main_v32_14 : StableHlo.TRef sig ⟨S32x8x64x64, .f32⟩) (.of main_while1b_call21_v0 : StableHlo.TRef sig ⟨S1x8x64x64, .f32⟩) ![(.of main_while1b_v45 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩)] (.of main_while1b_v80 : StableHlo.TRef sig ⟨S32x8x64x64, .f32⟩) (fun x u i => Host.dynamicUpdateSlice x u (fun k => (i k (Shape.Idx.first h_S_)).toInt) updateFits_S32x8x64x64_S1x8x64x64) ]
theorem while1Ops0_14_sub : (while1Ops0_14 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_5 (main_while1b_call22), in order. -/
abbrev while1Ops0_15 : List (HloOp τ sig (Elt F)) :=
  [ StableHlo.TRef.unary (.of main_while1b_v60 : StableHlo.TRef sig ⟨S8x1x128, .f32⟩) (.of main_while1b_call22_v0 : StableHlo.TRef sig ⟨S1x8x1x128, .f32⟩) (broadcastInDim S1x8x1x128 ![1, 2, 3] bcast_S8x1x128_S1x8x1x128_1_2_3),
    StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.binaryIndexed (.of main_v32_15 : StableHlo.TRef sig ⟨S32x8x1x128, .f32⟩) (.of main_while1b_call22_v0 : StableHlo.TRef sig ⟨S1x8x1x128, .f32⟩) ![(.of main_while1b_v45 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩)] (.of main_while1b_v81 : StableHlo.TRef sig ⟨S32x8x1x128, .f32⟩) (fun x u i => Host.dynamicUpdateSlice x u (fun k => (i k (Shape.Idx.first h_S_)).toInt) updateFits_S32x8x1x128_S1x8x1x128) ]
theorem while1Ops0_15_sub : (while1Ops0_15 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 10 host operations of host loop 1's body region, in order. -/
abbrev while1Ops0_16 : List (HloOp τ sig (Elt F)) :=
  [ StableHlo.nullary main_while1b_c_30 (constantI S_ 32 1#32),
    StableHlo.binary main_v32_8 main_while1b_c_30 main_while1b_v82 (addi : (⟨S_, .i32⟩ : BufTy).Contents (Elt F) → (⟨S_, .i32⟩ : BufTy).Contents (Elt F) → (⟨S_, .i32⟩ : BufTy).Contents (Elt F)),
    StableHlo.unary main_while1b_v82 main_v32_8 id,
    StableHlo.unary main_while1b_v74 main_v32_9 id,
    StableHlo.unary main_while1b_v76 main_v32_10 id,
    StableHlo.unary main_while1b_v77 main_v32_11 id,
    StableHlo.unary main_while1b_v78 main_v32_12 id,
    StableHlo.unary main_while1b_v79 main_v32_13 id,
    StableHlo.unary main_while1b_v80 main_v32_14 id,
    StableHlo.unary main_while1b_v81 main_v32_15 id ]
theorem while1Ops0_16_sub : (while1Ops0_16 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12,
    StableHlo.seq while1Ops0_13,
    StableHlo.seq while1Ops0_14,
    StableHlo.seq while1Ops0_15,
    StableHlo.seq while1Ops0_16 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

/-- The stretches before the forward loop. -/
abbrev preI : List (List (HloOp τ sig (Elt F))) := [hostOps0]
/-- None of them allocates a buffer and each stays within the TensorCore's references. -/
theorem preI_plain : Plain (preI (F := F)) :=
  .cons hostOps0_sub (hf := List.forall_iff_forall_mem.mp (StableHlo.forall_fresh_of_map rfl)) (.nil)
/-- The stretches in the forward loop's body. -/
abbrev body0 : List (List (HloOp τ sig (Elt F))) := [while0Ops0, while0Ops0_1, while0Ops0_2, while0Ops0_3, while0Ops0_4, while0Ops0_5, while0Ops0_6, while0Ops0_7, while0Ops0_8, while0Ops0_9, while0Ops0_10]
/-- None of them allocates a buffer and each stays within the TensorCore's references. -/
theorem body0_plain : Plain (body0 (F := F)) :=
  .cons while0Ops0_sub (hf := List.forall_iff_forall_mem.mp (StableHlo.forall_fresh_of_map rfl)) (.cons while0Ops0_1_sub (hf := List.forall_iff_forall_mem.mp (StableHlo.forall_fresh_of_map rfl)) (.cons while0Ops0_2_sub (hf := List.forall_iff_forall_mem.mp (StableHlo.forall_fresh_of_map rfl)) (.cons while0Ops0_3_sub (hf := List.forall_iff_forall_mem.mp (StableHlo.forall_fresh_of_map rfl)) (.cons while0Ops0_4_sub (hf := List.forall_iff_forall_mem.mp (StableHlo.forall_fresh_of_map rfl)) (.cons while0Ops0_5_sub (hf := List.forall_iff_forall_mem.mp (StableHlo.forall_fresh_of_map rfl)) (.cons while0Ops0_6_sub (hf := List.forall_iff_forall_mem.mp (StableHlo.forall_fresh_of_map rfl)) (.cons while0Ops0_7_sub (hf := List.forall_iff_forall_mem.mp (StableHlo.forall_fresh_of_map rfl)) (.cons while0Ops0_8_sub (hf := List.forall_iff_forall_mem.mp (StableHlo.forall_fresh_of_map rfl)) (.cons while0Ops0_9_sub (hf := List.forall_iff_forall_mem.mp (StableHlo.forall_fresh_of_map rfl)) (.cons while0Ops0_10_sub (hf := List.forall_iff_forall_mem.mp (StableHlo.forall_fresh_of_map rfl)) (.nil)))))))))))
/-- The stretches between the loops. -/
abbrev midI : List (List (HloOp τ sig (Elt F))) := [hostOps0_1]
/-- None of them allocates a buffer and each stays within the TensorCore's references. -/
theorem midI_plain : Plain (midI (F := F)) :=
  .cons hostOps0_1_sub (hf := List.forall_iff_forall_mem.mp (StableHlo.forall_fresh_of_map rfl)) (.nil)
/-- The stretches in the backward loop's body. -/
abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]
/-- None of them allocates a buffer and each stays within the TensorCore's references. -/
theorem body1_plain : Plain (body1 (F := F)) :=
  .cons while1Ops0_sub (hf := List.forall_iff_forall_mem.mp (StableHlo.forall_fresh_of_map rfl)) (.cons while1Ops0_1_sub (hf := List.forall_iff_forall_mem.mp (StableHlo.forall_fresh_of_map rfl)) (.cons while1Ops0_2_sub (hf := List.forall_iff_forall_mem.mp (StableHlo.forall_fresh_of_map rfl)) (.cons while1Ops0_3_sub (hf := List.forall_iff_forall_mem.mp (StableHlo.forall_fresh_of_map rfl)) (.cons while1Ops0_4_sub (hf := List.forall_iff_forall_mem.mp (StableHlo.forall_fresh_of_map rfl)) (.cons while1Ops0_5_sub (hf := List.forall_iff_forall_mem.mp (StableHlo.forall_fresh_of_map rfl)) (.cons while1Ops0_6_sub (hf := List.forall_iff_forall_mem.mp (StableHlo.forall_fresh_of_map rfl)) (.cons while1Ops0_7_sub (hf := List.forall_iff_forall_mem.mp (StableHlo.forall_fresh_of_map rfl)) (.cons while1Ops0_8_sub (hf := List.forall_iff_forall_mem.mp (StableHlo.forall_fresh_of_map rfl)) (.cons while1Ops0_9_sub (hf := List.forall_iff_forall_mem.mp (StableHlo.forall_fresh_of_map rfl)) (.cons while1Ops0_10_sub (hf := List.forall_iff_forall_mem.mp (StableHlo.forall_fresh_of_map rfl)) (.cons while1Ops0_11_sub (hf := List.forall_iff_forall_mem.mp (StableHlo.forall_fresh_of_map rfl)) (.cons while1Ops0_12_sub (hf := List.forall_iff_forall_mem.mp (StableHlo.forall_fresh_of_map rfl)) (.cons while1Ops0_13_sub (hf := List.forall_iff_forall_mem.mp (StableHlo.forall_fresh_of_map rfl)) (.cons while1Ops0_14_sub (hf := List.forall_iff_forall_mem.mp (StableHlo.forall_fresh_of_map rfl)) (.cons while1Ops0_15_sub (hf := List.forall_iff_forall_mem.mp (StableHlo.forall_fresh_of_map rfl)) (.cons while1Ops0_16_sub (hf := List.forall_iff_forall_mem.mp (StableHlo.forall_fresh_of_map rfl)) (.nil)))))))))))))))))
/-- The stretches after the backward loop. -/
abbrev postI : List (List (HloOp τ sig (Elt F))) := [hostOps0_2]
/-- None of them allocates a buffer and each stays within the TensorCore's references. -/
theorem postI_plain : Plain (postI (F := F)) :=
  .cons hostOps0_2_sub (hf := List.forall_iff_forall_mem.mp (StableHlo.forall_fresh_of_map rfl)) (.nil)

end Cert.ScanRef

end
-- ==== Proof.RefRun.lean ====
/- The reference's run: the two counted loops between the stretches of host operations. Every execution ends, every
   buffer holds what the stretches and the trips leave in it, and every counter is at zero. -/
module

public import proofs.«01_k».proof.Proof.RefOps
public import Idealize.ShloMosaic.Lib.Pipeline.RegionsLoop
public import Idealize.ShloMosaic.Lib.Pipeline.FrameSuffix
public import Idealize.ShloMosaic.Lib.Claim

@[expose] public section

noncomputable section

namespace Cert.ScanRef

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg PCfg Ticket)

variable {F : FTy → Type} [FloatOps F]

local notation "𝕄" => MT nD τ sig Unit (Elt F) ℕ (Option PUnit) ℕ

/-- No pipeline, so nothing is admitted, no ticket is drawn and no level is set. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
theorem cells_inj : Function.Injective (Pipeline.cellOf (nD := nD) (τ := τ) (Pipeline.pin (pcfgs (F := F)) adm)) := fun k => k.1.elim0

/-- What a core owes: nothing. -/
abbrev R (c : Dev nD) : sProp 𝕄 := iprop(∃ W, owes (c : Thread nD τ) (0 : CellTallies nD τ sig Unit) W)

variable (m : (ℓ : Loc nD τ sig) → Buf (Elt F) ℓ) (ρ : Dev nD → PrngReg)

/-- Every buffer where the forward loop is entered. -/
abbrev entry0 (c : Dev nD) : Valuation τ sig (Elt F) := afterL preI (launchContents m c)

/-- The condition of loop 0: the bound, and the counter compared with it. -/
abbrev cond0 : List (HloOp τ sig (Elt F)) :=
  [ StableHlo.nullary main_while0c_c_22 (constantI S_ 32 32#32),
    StableHlo.binary main_v19_6 main_while0c_c_22 main_while0c_v44 (cmpi .slt) ]

/-- Every buffer before the `k`-th run of loop 0's condition. -/
abbrev at0 (k : ℕ) (c : Dev nD) : Valuation τ sig (Elt F) := atTrip cond0 body0 (entry0 m) k c

set_option maxRecDepth 100000 in
/-- One trip of loop 0 raises its counter by one, -/
theorem ctr0_trip (X : Valuation τ sig (Elt F)) :
    afterL body0 (after cond0 X) (Proc.devRef .tc main_v19_6) = addi (X (Proc.devRef .tc main_v19_6)) (constantI S_ 32 1#32) := by
  simp only [afterL_cons, afterL_nil]
  after_reads_simp
  rfl

set_option maxRecDepth 100000 in
/-- it begins at zero, -/
theorem ctr0_entry (c : Dev nD) : entry0 m c (Proc.devRef .tc main_v19_6) = fun _ => (0#32 : BitVec 32) := by
  simp only [entry0, afterL_cons, afterL_nil]
  after_reads_simp
  rfl

/-- so before the `k`-th run of the condition it is `k`. -/
theorem ctr0 (c : Dev nD) : ∀ k, at0 m k c (Proc.devRef .tc main_v19_6) = fun _ => Scf.iv 0#32 1#32 k
  | 0 => by rw [show at0 m 0 c = entry0 m c from rfl, ctr0_entry, Scf.iv_zero]
  | k + 1 => by
    rw [show at0 m (k + 1) c = afterL body0 (after cond0 (at0 m k c)) from rfl, ctr0_trip, ctr0 c k, Scf.iv_succ]
    rfl

set_option backward.isDefEq.respectTransparency.types false in
/-- The condition of loop 0 says yes exactly for the first 32 trips. -/
theorem cond0_spec : CondSpec (pcfgs (F := F)) defs₀ loops (main_while0_cond (F := F)) cond0 body0 (entry0 m) 32 := by
  intro k hk c bd
  have hctr := ctr0 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v19_6 HostLoop.idx0)
        (HloOp.result _ (at0 m k c) main_while0c_c_22 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

/-- The same beside what the core owes. -/
theorem cond0_loop : LoopCond (pcfgs (F := F)) defs₀ Variants.none loops R (main_while0_cond (F := F)) cond0 body0 (entry0 m) 32 := fun k hk c bd => by
  have hc := cond0_spec m k hk c bd
  have hpost : ∀ v : Elt F .i1,
      iprop(iprop(⌜v = 1#1 ↔ k < 32⌝ ∗ boundary (c : Thread nD τ) ∗ held (c : Thread nD τ) (ucRefs τ sig) (after cond0 (at0 m k c))) ∗ R c)
        ⊢ iprop(⌜v = 1#1 ↔ k < 32⌝ ∗ boundary (c : Thread nD τ) ∗ held (c : Thread nD τ) (ucRefs τ sig) (after cond0 (at0 m k c)) ∗ R c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

/-- Every buffer where the backward loop is entered. -/
abbrev entry1 (c : Dev nD) : Valuation τ sig (Elt F) := afterL midI (after cond0 (at0 m 32 c))

/-- The condition of loop 1: the bound, and the counter compared with it. -/
abbrev cond1 : List (HloOp τ sig (Elt F)) :=
  [ StableHlo.nullary main_while1c_c_27 (constantI S_ 32 32#32),
    StableHlo.binary main_v32_8 main_while1c_c_27 main_while1c_v44 (cmpi .slt) ]

/-- Every buffer before the `k`-th run of loop 1's condition. -/
abbrev at1 (k : ℕ) (c : Dev nD) : Valuation τ sig (Elt F) := atTrip cond1 body1 (entry1 m) k c

set_option maxRecDepth 100000 in
/-- One trip of loop 1 raises its counter by one, -/
theorem ctr1_trip (X : Valuation τ sig (Elt F)) :
    afterL body1 (after cond1 X) (Proc.devRef .tc main_v32_8) = addi (X (Proc.devRef .tc main_v32_8)) (constantI S_ 32 1#32) := by
  simp only [afterL_cons, afterL_nil]
  after_reads_simp
  rfl

set_option maxRecDepth 100000 in
/-- it begins at zero, -/
theorem ctr1_entry (c : Dev nD) : entry1 m c (Proc.devRef .tc main_v32_8) = fun _ => (0#32 : BitVec 32) := by
  simp only [entry1, afterL_cons, afterL_nil]
  after_reads_simp
  rfl

/-- so before the `k`-th run of the condition it is `k`. -/
theorem ctr1 (c : Dev nD) : ∀ k, at1 m k c (Proc.devRef .tc main_v32_8) = fun _ => Scf.iv 0#32 1#32 k
  | 0 => by rw [show at1 m 0 c = entry1 m c from rfl, ctr1_entry, Scf.iv_zero]
  | k + 1 => by
    rw [show at1 m (k + 1) c = afterL body1 (after cond1 (at1 m k c)) from rfl, ctr1_trip, ctr1 c k, Scf.iv_succ]
    rfl

set_option backward.isDefEq.respectTransparency.types false in
/-- The condition of loop 1 says yes exactly for the first 32 trips. -/
theorem cond1_spec : CondSpec (pcfgs (F := F)) defs₀ loops (main_while1_cond (F := F)) cond1 body1 (entry1 m) 32 := by
  intro k hk c bd
  have hctr := ctr1 m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v32_8 HostLoop.idx0)
        (HloOp.result _ (at1 m k c) main_while1c_c_27 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

/-- The same beside what the core owes. -/
theorem cond1_loop : LoopCond (pcfgs (F := F)) defs₀ Variants.none loops R (main_while1_cond (F := F)) cond1 body1 (entry1 m) 32 := fun k hk c bd => by
  have hc := cond1_spec m k hk c bd
  have hpost : ∀ v : Elt F .i1,
      iprop(iprop(⌜v = 1#1 ↔ k < 32⌝ ∗ boundary (c : Thread nD τ) ∗ held (c : Thread nD τ) (ucRefs τ sig) (after cond1 (at1 m k c))) ∗ R c)
        ⊢ iprop(⌜v = 1#1 ↔ k < 32⌝ ∗ boundary (c : Thread nD τ) ∗ held (c : Thread nD τ) (ucRefs τ sig) (after cond1 (at1 m k c)) ∗ R c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

/-- Every buffer at the end. -/
abbrev final (c : Dev nD) : Valuation τ sig (Elt F) := afterL postI (after cond1 (at1 m 32 c))

/-- The program's segments: stretch, loop, stretch, loop, stretch. -/
def segs : List (CSeg (pcfgs (F := F)) adm defs₀ Variants.none L lv loops tk) :=
  segsOf _ _ _ _ _ _ _ _ R preI preI_plain (launchContents m)
    ++ loopSeg _ _ _ _ _ _ _ _ 0 main_while0_cond main_while0_body rfl cond0 body0 body0_plain (by rw [while0_body_chain]; rfl) 32 (entry0 m) R (cond0_loop m)
      :: (segsOf _ _ _ _ _ _ _ _ R midI midI_plain (fun c => after cond0 (at0 m 32 c))
    ++ loopSeg _ _ _ _ _ _ _ _ 1 main_while1_cond main_while1_body rfl cond1 body1 body1_plain (by rw [while1_body_chain]; rfl) 32 (entry1 m) R (cond1_loop m)
      :: segsOf _ _ _ _ _ _ _ _ R postI postI_plain (fun c => after cond1 (at1 m 32 c)))

/-- Their programs in order. -/
theorem segs_prog : (segs m).map CSeg.prog = (preI.map fun ops => (seq ops : Prog _ PUnit)) ++ HostLoop.enter 0 ::
    ((midI.map fun ops => (seq ops : Prog _ PUnit)) ++ HostLoop.enter 1 :: postI.map fun ops => (seq ops : Prog _ PUnit)) := by
  unfold segs
  rw [List.map_append, List.map_cons, List.map_append, List.map_cons, segsOf_prog, segsOf_prog, segsOf_prog]
  rfl

/-- Each begins where the one before ends. -/
theorem segs_chains : CSeg.Chains (fun c => iprop(held (c : Thread nD τ) (ucRefs τ sig) (launchContents m c) ∗ R c)) (segs m)
    (fun c => iprop(iprop(held (c : Thread nD τ) (ucRefs τ sig) (final m c)) ∗ ∃ W, owes (c : Thread nD τ) (0 : CellTallies nD τ sig Unit) W)) := by
  unfold segs
  exact CSeg.Chains.append (segsOf_chains _ _ _ _ _ _ _ _ R preI preI_plain _) ⟨fun _ => .rfl,
    CSeg.Chains.append (segsOf_chains _ _ _ _ _ _ _ _ R midI midI_plain _) ⟨fun _ => .rfl, segsOf_chains _ _ _ _ _ _ _ _ R postI postI_plain _⟩⟩

theorem no_unscoped : ∀ sm : SemLoc sig, sm.isScoped .tc = true := by decide

set_option maxRecDepth 100000 in
/-- The reference run from any memory with zero counters. -/
theorem run : θ_run (defs (F := F)) (onTc (τ := τ) (main (F := F))) ⟨m, fun _ => 0, ρ⟩
    (fun r => (∀ (c : Dev nD), ∀ b ∈ ucRefs τ sig, r.2.mem ((c : Dev nD), b) = final m c b) ∧ r.2.sem = fun _ => 0) :=
  Pipeline.θ_run_regions_loop_kit_sems (Ix := Unit) (Name := ℕ) (U := Option PUnit) (Lvl := ℕ) (J := Fin 0) (P := Fin 0) (Val := Elt F)
    pcfgs adm cells_inj defs₀ Variants.none L lv loops tk m ρ main (segs m)
    (fun c Q => by
      rw [main_chain c]
      show wp _ _ _ (Pipeline.chain ((segs m).map CSeg.prog)) Q ⊢ _
      rw [segs_prog]; exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ R c))
    (Tₙ := fun c => iprop(held (c : Thread nD τ) (ucRefs τ sig) (final m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h hz => ⟨h, funext fun g => hz g (.inr (no_unscoped g.2))⟩)

/-- A reference that the operations of a list do not write is left as it was. -/
theorem kept {items : List (List (HloOp τ sig (Elt F)))} (W : List (List (Ref sig .tc))) (r : Ref sig .tc)
    (hW : items.map (fun ops => ops.map HloOp.writes) = W.map fun ws => ws.map fun w => {Proc.devRef (τ := τ) .tc w}) (hr : ∀ ws ∈ W, r ∉ ws)
    (V : Valuation τ sig (Elt F)) : afterL items V (Proc.devRef .tc r) = V (Proc.devRef .tc r) := by
  induction items generalizing W V with
  | nil => rfl
  | cons ops rest ih =>
    cases W with
    | nil => cases hW
    | cons ws W =>
      obtain ⟨h₁, h₂⟩ := List.cons.inj hW
      rw [afterL_cons, ih W h₂ (fun w hw => hr w (List.mem_cons_of_mem _ hw)), after_unwritten ws h₁ (hr ws List.mem_cons_self)]

end Cert.ScanRef

end
-- ==== Proof.RefRows.lean ====
/- A chunk of a stacked array: read at a loop's index and written at a loop's index. -/
module

public import proofs.«01_k».proof.Proof.Gen.ReferenceIdeal
public import Idealize.ShloMosaic.Lib.ValueLayout
public import Idealize.ShloMosaic.Lib.Pointwise.ShapeOpsCore
public import Idealize.ShloMosaic.Lib.DynamicIndex
public import Idealize.ShloMosaic.Lib.Scf.Counter

@[expose] public section

noncomputable section

namespace Cert.ScanRef

open Cert.ReferenceIdeal Cert.ReferenceIdeal.Gen
open Idealize.ShloMosaic

variable {α : Type} {a b : ℕ}

/-- Chunk `k` of a stacked array. -/
def row (x : (⟨4, ![32, 8, a, b]⟩ : Shape).Idx → α) (k : Fin 32) : (⟨3, ![8, a, b]⟩ : Shape).Idx → α := fun j => x (ix4 k (j 0) (j 1) (j 2))

/-- The stacked array with chunk `k` replaced. -/
def put (x : (⟨4, ![32, 8, a, b]⟩ : Shape).Idx → α) (k : Fin 32) (v : (⟨3, ![8, a, b]⟩ : Shape).Idx → α) :
    (⟨4, ![32, 8, a, b]⟩ : Shape).Idx → α := fun i => if (i 0).val = k.val then v (ix3 (i 1) (i 2) (i 3)) else x i

theorem row_put_self (x : (⟨4, ![32, 8, a, b]⟩ : Shape).Idx → α) (k : Fin 32) (v : (⟨3, ![8, a, b]⟩ : Shape).Idx → α) : row (put x k v) k = v := by
  funext j
  show (if k.val = k.val then v (ix3 (j 0) (j 1) (j 2)) else _) = _
  rw [if_pos rfl]; congr 1; funext d
  match d with
  | ⟨0, _⟩ => rfl
  | ⟨1, _⟩ => rfl
  | ⟨2, _⟩ => rfl

theorem row_put_ne (x : (⟨4, ![32, 8, a, b]⟩ : Shape).Idx → α) {k l : Fin 32} (h : l ≠ k) (v : (⟨3, ![8, a, b]⟩ : Shape).Idx → α) :
    row (put x k v) l = row x l := by
  funext j
  show (if l.val = k.val then _ else row x l j) = _
  rw [if_neg fun e => h (Fin.ext e)]

/-- An array whose chunks are known is known. -/
theorem of_rows (x : (⟨4, ![32, 8, a, b]⟩ : Shape).Idx → α) (i : (⟨4, ![32, 8, a, b]⟩ : Shape).Idx) : x i = row x (i 0) (ix3 (i 1) (i 2) (i 3)) := by
  show x i = x (ix4 (i 0) (i 1) (i 2) (i 3))
  congr 1; funext d
  match d with
  | ⟨0, _⟩ => rfl
  | ⟨1, _⟩ => rfl
  | ⟨2, _⟩ => rfl
  | ⟨3, _⟩ => rfl

/-- The block cut at chunk `k`, as an array of rank three. -/
theorem slice_row (x : (⟨4, ![32, 8, a, b]⟩ : Shape).Idx → α) (st : Fin 4 → Int) (k : Fin 32) (h : (⟨4, ![32, 8, a, b]⟩ : Shape).Slices (fun _ => 0) ⟨4, ![1, 8, a, b]⟩)
    (hc : (⟨4, ![1, 8, a, b]⟩ : Shape).ShapeCasts ⟨3, ![8, a, b]⟩) (h0 : st 0 = (k.val : Int)) (h1 : st 1 = 0) (h2 : st 2 = 0) (h3 : st 3 = 0) :
    shapeCast ⟨3, ![8, a, b]⟩ (Host.dynamicSlice ⟨4, ![1, 8, a, b]⟩ x st h) hc = row x k := by
  funext j
  have ej : j = ValueIdx.ix3 (n0 := 8) (n1 := a) (n2 := b) (j 0) (j 1) (j 2) := by
    funext d
    match d with
    | ⟨0, _⟩ => rfl
    | ⟨1, _⟩ => rfl
    | ⟨2, _⟩ => rfl
  refine (congrArg _ ej).trans ((ValueIdx.shapeCast_1abc_abc_apply _ hc (j 0) (j 1) (j 2)).trans ?_)
  show x _ = x _
  have c0 : Host.clampedStart ⟨4, ![32, 8, a, b]⟩ ⟨4, ![1, 8, a, b]⟩ h.1 st 0 = k.val :=
    Host.clampedStart_of_le h.1 st 0 k.val h0 (by show k.val + 1 ≤ 32; omega)
  have c1 : Host.clampedStart ⟨4, ![32, 8, a, b]⟩ ⟨4, ![1, 8, a, b]⟩ h.1 st 1 = 0 :=
    Host.clampedStart_of_le h.1 st 1 0 h1 (by show 0 + 8 ≤ 8; omega)
  have c2 : Host.clampedStart ⟨4, ![32, 8, a, b]⟩ ⟨4, ![1, 8, a, b]⟩ h.1 st 2 = 0 :=
    Host.clampedStart_of_le h.1 st 2 0 h2 (by show 0 + a ≤ a; omega)
  have c3 : Host.clampedStart ⟨4, ![32, 8, a, b]⟩ ⟨4, ![1, 8, a, b]⟩ h.1 st 3 = 0 :=
    Host.clampedStart_of_le h.1 st 3 0 h3 (by show 0 + b ≤ b; omega)
  congr 1; funext d; apply Fin.ext
  match d with
  | ⟨0, _⟩ => show Host.clampedStart _ _ h.1 st 0 + 0 = _; rw [c0]; rfl
  | ⟨1, _⟩ => show Host.clampedStart _ _ h.1 st 1 + (j 0).val = _; rw [c1, Nat.zero_add]; rfl
  | ⟨2, _⟩ => show Host.clampedStart _ _ h.1 st 2 + (j 1).val = _; rw [c2, Nat.zero_add]; rfl
  | ⟨3, _⟩ => show Host.clampedStart _ _ h.1 st 3 + (j 2).val = _; rw [c3, Nat.zero_add]; rfl

/-- The block written at chunk `k`. -/
theorem update_row (x : (⟨4, ![32, 8, a, b]⟩ : Shape).Idx → α) (v : (⟨3, ![8, a, b]⟩ : Shape).Idx → α) (st : Fin 4 → Int) (k : Fin 32)
    (h : (⟨4, ![32, 8, a, b]⟩ : Shape).Slices (fun _ => 0) ⟨4, ![1, 8, a, b]⟩)
    (hb : (⟨3, ![8, a, b]⟩ : Shape).BroadcastsInDim ⟨4, ![1, 8, a, b]⟩ (![1, 2, 3] : Fin 3 → Fin 4))
    (h0 : st 0 = (k.val : Int)) (h1 : st 1 = 0) (h2 : st 2 = 0) (h3 : st 3 = 0) :
    Host.dynamicUpdateSlice x (broadcastInDim ⟨4, ![1, 8, a, b]⟩ ![1, 2, 3] hb v) st h = put x k v := by
  have c0 : Host.clampedStart ⟨4, ![32, 8, a, b]⟩ ⟨4, ![1, 8, a, b]⟩ h.1 st 0 = k.val :=
    Host.clampedStart_of_le h.1 st 0 k.val h0 (by show k.val + 1 ≤ 32; omega)
  have c1 : Host.clampedStart ⟨4, ![32, 8, a, b]⟩ ⟨4, ![1, 8, a, b]⟩ h.1 st 1 = 0 :=
    Host.clampedStart_of_le h.1 st 1 0 h1 (by show 0 + 8 ≤ 8; omega)
  have c2 : Host.clampedStart ⟨4, ![32, 8, a, b]⟩ ⟨4, ![1, 8, a, b]⟩ h.1 st 2 = 0 :=
    Host.clampedStart_of_le h.1 st 2 0 h2 (by show 0 + a ≤ a; omega)
  have c3 : Host.clampedStart ⟨4, ![32, 8, a, b]⟩ ⟨4, ![1, 8, a, b]⟩ h.1 st 3 = 0 :=
    Host.clampedStart_of_le h.1 st 3 0 h3 (by show 0 + b ≤ b; omega)
  funext i
  rw [Host.dynamicUpdateSlice_apply]
  unfold put
  by_cases hi : (i 0).val = k.val
  · rw [if_pos hi, dif_pos ?_]
    · show v _ = v _
      congr 1; funext d; apply Fin.ext
      match d with
      | ⟨0, _⟩ => show (i 1).val - Host.clampedStart _ _ h.1 st 1 = (i 1).val; rw [c1]; rfl
      | ⟨1, _⟩ =>
        show Fin.val (if h1 : a = 1 then _ else _) = (i 2).val
        split
        · next h1 => have : (i 2).val < a := (i 2).isLt; show 0 = (i 2).val; omega
        · show (i 2).val - Host.clampedStart _ _ h.1 st 2 = (i 2).val; rw [c2]; rfl
      | ⟨2, _⟩ =>
        show Fin.val (if h1 : b = 1 then _ else _) = (i 3).val
        split
        · next h1 => have : (i 3).val < b := (i 3).isLt; show 0 = (i 3).val; omega
        · show (i 3).val - Host.clampedStart _ _ h.1 st 3 = (i 3).val; rw [c3]; rfl
    · intro d
      match d with
      | ⟨0, _⟩ => show Host.clampedStart _ _ h.1 st 0 ≤ _ ∧ _ < Host.clampedStart _ _ h.1 st 0 + 1; rw [c0]; exact ⟨le_of_eq hi.symm, Nat.lt_succ_of_le (le_of_eq hi)⟩
      | ⟨1, _⟩ => show Host.clampedStart _ _ h.1 st 1 ≤ _ ∧ _ < Host.clampedStart _ _ h.1 st 1 + 8; rw [c1, Nat.zero_add]; exact ⟨Nat.zero_le _, (i 1).isLt⟩
      | ⟨2, _⟩ => show Host.clampedStart _ _ h.1 st 2 ≤ _ ∧ _ < Host.clampedStart _ _ h.1 st 2 + a; rw [c2, Nat.zero_add]; exact ⟨Nat.zero_le _, (i 2).isLt⟩
      | ⟨3, _⟩ => show Host.clampedStart _ _ h.1 st 3 ≤ _ ∧ _ < Host.clampedStart _ _ h.1 st 3 + b; rw [c3, Nat.zero_add]; exact ⟨Nat.zero_le _, (i 3).isLt⟩
  · rw [if_neg hi, dif_neg ?_]
    intro hin
    have := hin 0
    rw [c0] at this
    apply hi
    have h2 : (i 0).val < k.val + 1 := this.2
    have h1 : k.val ≤ (i 0).val := this.1
    omega

end Cert.ScanRef

end
-- ==== Proof.RefTrip.lean ====
/- What the reference's host operations write, so what each loop and each stretch leaves alone; the arguments at the end;
   and what one trip of each loop does to each buffer it carries. -/
module

public import proofs.«01_k».proof.Proof.RefRun
public import proofs.«01_k».proof.Proof.RefRows

@[expose] public section

noncomputable section

namespace Cert.ScanRef

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-- What the operations before the forward loop write. -/
abbrev wPre : List (List (Ref sig .tc)) :=
  [[main_v0, main_v1, main_v2, main_v3, main_cst, main_v4, main_v5, main_v6, main_v7, main_v8, main_v9, main_v10, main_v11, main_v12, main_v13, main_v14, main_v15, main_cst_0, main_v16, main_cst_1, main_v17, main_cst_2, main_v18, main_c, main_v19_0, main_v19_1, main_v19_2, main_v19_3, main_v19_4, main_v19_5, main_v19_6, main_v19_7, main_v19_8, main_v19_9, main_v19_10]]
theorem wPre_spec : (preI (F := F)).map (fun ops => ops.map HloOp.writes) = wPre.map fun ws => ws.map fun w => {Proc.devRef (τ := τ) .tc w} := rfl

/-- What the operations in the forward loop's body write. -/
abbrev wBody0 : List (List (Ref sig .tc)) :=
  [[main_while0b_call0_c, main_while0b_call0_c_0, main_while0b_call0_c_1, main_while0b_call0_v0, main_while0b_v44],
   [main_while0b_call1_c, main_while0b_call1_c_0, main_while0b_call1_c_1, main_while0b_call1_v0, main_while0b_v45],
   [main_while0b_call2_c, main_while0b_call2_c_0, main_while0b_call2_c_1, main_while0b_call2_v0, main_while0b_v46],
   [main_while0b_call3_c, main_while0b_call3_c_0, main_while0b_call3_c_1, main_while0b_call3_v0, main_while0b_v47],
   [main_while0b_call4_c, main_while0b_call4_c_0, main_while0b_call4_c_1, main_while0b_call4_v0, main_while0b_v48],
   [main_while0b_call5_c, main_while0b_call5_c_0, main_while0b_call5_c_1, main_while0b_call5_v0, main_while0b_v49],
   [main_while0b_v50, main_while0b_v51, main_while0b_v52, main_while0b_v53, main_while0b_v54, main_while0b_v55, main_while0b_v56, main_while0b_v57, main_while0b_v58],
   [main_while0b_call6_v0, main_while0b_call6_c, main_while0b_call6_c_0, main_while0b_call6_c_1, main_while0b_v59],
   [main_while0b_call7_v0, main_while0b_call7_c, main_while0b_call7_c_0, main_while0b_call7_c_1, main_while0b_v60],
   [main_while0b_call8_v0, main_while0b_call8_c, main_while0b_call8_c_0, main_while0b_call8_c_1, main_while0b_v61],
   [main_while0b_c_22, main_while0b_v62, main_v19_6, main_v19_7, main_v19_8, main_v19_9, main_v19_10]]
theorem wBody0_spec : (body0 (F := F)).map (fun ops => ops.map HloOp.writes) = wBody0.map fun ws => ws.map fun w => {Proc.devRef (τ := τ) .tc w} := rfl

/-- What the operations between the loops write. -/
abbrev wMid : List (List (Ref sig .tc)) :=
  [[main_v20, main_v21, main_cst_3, main_v22, main_v23, main_v24, main_cst_4, main_v25, main_cst_5, main_v26, main_cst_6, main_v27, main_cst_7, main_v28, main_cst_8, main_v29, main_cst_9, main_v30, main_cst_10, main_v31, main_c_11, main_v32_0, main_v32_1, main_v32_2, main_v32_3, main_v32_4, main_v32_5, main_v32_6, main_v32_7, main_v32_8, main_v32_9, main_v32_10, main_v32_11, main_v32_12, main_v32_13, main_v32_14, main_v32_15]]
theorem wMid_spec : (midI (F := F)).map (fun ops => ops.map HloOp.writes) = wMid.map fun ws => ws.map fun w => {Proc.devRef (τ := τ) .tc w} := rfl

/-- What the operations in the backward loop's body write. -/
abbrev wBody1 : List (List (Ref sig .tc)) :=
  [[main_while1b_c_27, main_while1b_v44, main_while1b_c_28, main_while1b_v45],
   [main_while1b_call9_c, main_while1b_call9_c_0, main_while1b_call9_c_1, main_while1b_call9_v0, main_while1b_v46],
   [main_while1b_call10_c, main_while1b_call10_c_0, main_while1b_call10_c_1, main_while1b_call10_v0, main_while1b_v47],
   [main_while1b_call11_c, main_while1b_call11_c_0, main_while1b_call11_c_1, main_while1b_call11_v0, main_while1b_v48],
   [main_while1b_call12_c, main_while1b_call12_c_0, main_while1b_call12_c_1, main_while1b_call12_v0, main_while1b_v49],
   [main_while1b_call13_c, main_while1b_call13_c_0, main_while1b_call13_c_1, main_while1b_call13_v0, main_while1b_v50],
   [main_while1b_call14_c, main_while1b_call14_c_0, main_while1b_call14_c_1, main_while1b_call14_v0, main_while1b_v51],
   [main_while1b_call15_c, main_while1b_call15_c_0, main_while1b_call15_c_1, main_while1b_call15_v0, main_while1b_v52],
   [main_while1b_call16_c, main_while1b_call16_c_0, main_while1b_call16_c_1, main_while1b_call16_v0, main_while1b_v53],
   [main_while1b_v54, main_while1b_v55, main_while1b_v56, main_while1b_v57, main_while1b_v58, main_while1b_cst_29, main_while1b_v59, main_while1b_v60, main_while1b_v61, main_while1b_v62, main_while1b_v63, main_while1b_v64, main_while1b_v65, main_while1b_v66, main_while1b_v67, main_while1b_v68, main_while1b_v69, main_while1b_v70, main_while1b_v71, main_while1b_v72, main_while1b_v73, main_while1b_v74, main_while1b_v75],
   [main_while1b_call17_v0, main_while1b_call17_c, main_while1b_call17_c_0, main_while1b_call17_c_1, main_while1b_v76],
   [main_while1b_call18_v0, main_while1b_call18_c, main_while1b_call18_c_0, main_while1b_call18_c_1, main_while1b_v77],
   [main_while1b_call19_v0, main_while1b_call19_c, main_while1b_call19_c_0, main_while1b_call19_c_1, main_while1b_v78],
   [main_while1b_call20_v0, main_while1b_call20_c, main_while1b_call20_c_0, main_while1b_call20_c_1, main_while1b_v79],
   [main_while1b_call21_v0, main_while1b_call21_c, main_while1b_call21_c_0, main_while1b_call21_c_1, main_while1b_v80],
   [main_while1b_call22_v0, main_while1b_call22_c, main_while1b_call22_c_0, main_while1b_call22_c_1, main_while1b_v81],
   [main_while1b_c_30, main_while1b_v82, main_v32_8, main_v32_9, main_v32_10, main_v32_11, main_v32_12, main_v32_13, main_v32_14, main_v32_15]]
theorem wBody1_spec : (body1 (F := F)).map (fun ops => ops.map HloOp.writes) = wBody1.map fun ws => ws.map fun w => {Proc.devRef (τ := τ) .tc w} := rfl

/-- What the operations after the backward loop write. -/
abbrev wPost : List (List (Ref sig .tc)) :=
  [[main_v33, main_v34, main_v35, main_v36, main_v37, main_v38, main_v39, main_v40, main_v41, main_v42, main_v43]]
theorem wPost_spec : (postI (F := F)).map (fun ops => ops.map HloOp.writes) = wPost.map fun ws => ws.map fun w => {Proc.devRef (τ := τ) .tc w} := rfl

/-- A reference neither loop 0's condition nor its body writes is through `k` trips what it was at the loop's entry. -/
theorem kept0 (m : (ℓ : Loc nD τ sig) → Buf (Elt F) ℓ) (c : Dev nD) (r : Ref sig .tc) (hb : ∀ ws ∈ wBody0, r ∉ ws)
    (hc : r ∉ [main_while0c_c_22, main_while0c_v44]) : ∀ k, at0 m k c (Proc.devRef .tc r) = entry0 m c (Proc.devRef .tc r)
  | 0 => rfl
  | k + 1 => by
    rw [show at0 m (k + 1) c = afterL body0 (after cond0 (at0 m k c)) from rfl, kept wBody0 r wBody0_spec hb,
      after_unwritten [main_while0c_c_22, main_while0c_v44] rfl hc, kept0 m c r hb hc k]

/-- The same for loop 1. -/
theorem kept1 (m : (ℓ : Loc nD τ sig) → Buf (Elt F) ℓ) (c : Dev nD) (r : Ref sig .tc) (hb : ∀ ws ∈ wBody1, r ∉ ws)
    (hc : r ∉ [main_while1c_c_27, main_while1c_v44]) : ∀ k, at1 m k c (Proc.devRef .tc r) = entry1 m c (Proc.devRef .tc r)
  | 0 => rfl
  | k + 1 => by
    rw [show at1 m (k + 1) c = afterL body1 (after cond1 (at1 m k c)) from rfl, kept wBody1 r wBody1_spec hb,
      after_unwritten [main_while1c_c_27, main_while1c_v44] rfl hc, kept1 m c r hb hc k]

/-- A reference nothing writes before the second loop is at its entry what the memory holds. -/
theorem kept_entry1 (m : (ℓ : Loc nD τ sig) → Buf (Elt F) ℓ) (c : Dev nD) (r : Ref sig .tc) (h : ∀ ws ∈ wPre ++ wBody0 ++ wMid, r ∉ ws)
    (hc : r ∉ [main_while0c_c_22, main_while0c_v44]) : entry1 m c (Proc.devRef .tc r) = m ((c : Thread nD τ).loc r) := by
  rw [entry1, kept wMid r wMid_spec (fun ws hw => h ws (List.mem_append_right _ hw)), after_unwritten [main_while0c_c_22, main_while0c_v44] rfl hc,
    kept0 m c r (fun ws hw => h ws (List.mem_append_left _ (List.mem_append_right _ hw))) hc, entry0,
    kept wPre r wPre_spec (fun ws hw => h ws (List.mem_append_left _ (List.mem_append_left _ hw)))]

/-- A reference nothing writes is at the end what the memory holds. -/
theorem kept_final (m : (ℓ : Loc nD τ sig) → Buf (Elt F) ℓ) (c : Dev nD) (r : Ref sig .tc) (h : ∀ ws ∈ wPre ++ wBody0 ++ wMid, r ∉ ws)
    (h' : ∀ ws ∈ wBody1 ++ wPost, r ∉ ws)
    (hc : r ∉ [main_while0c_c_22, main_while0c_v44]) (hc' : r ∉ [main_while1c_c_27, main_while1c_v44]) :
    final m c (Proc.devRef .tc r) = m ((c : Thread nD τ).loc r) := by
  rw [final, kept wPost r wPost_spec (fun ws hw => h' ws (List.mem_append_right _ hw)), after_unwritten [main_while1c_c_27, main_while1c_v44] rfl hc',
    kept1 m c r (fun ws hw => h' ws (List.mem_append_left _ hw)) hc', kept_entry1 m c r h hc]

/-- What the run leaves in a buffer. -/
theorem mem_final {m : (ℓ : Loc nD τ sig) → Buf (Elt F) ℓ} {m' : (ℓ : Loc nD τ sig) → Buf (Elt F) ℓ}
    (h : ∀ (c : Dev nD), ∀ b ∈ Pipeline.ucRefs τ sig, m' ((c : Dev nD), b) = final m c b) (c : Dev nD) (b : Ref sig .tc)
    (hb : Proc.devRef (τ := τ) .tc b ∈ Pipeline.ucRefs τ sig) : m' ((c : Thread nD τ).loc b) = final m c (Proc.devRef .tc b) := h c _ hb

/-- The arguments are left alone and every counter ends at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r h => ⟨fun c =>
    have e (a : Ref sig .tc) (ha : Proc.devRef (τ := τ) .tc a ∈ Pipeline.ucRefs τ sig) (h1 : ∀ ws ∈ wPre ++ wBody0 ++ wMid, a ∉ ws)
        (h2 : ∀ ws ∈ wBody1 ++ wPost, a ∉ ws) (hc : a ∉ [main_while0c_c_22, main_while0c_v44]) (hc' : a ∉ [main_while1c_c_27, main_while1c_v44]) :
        r.2.mem ((c : Thread nD τ).loc a) = m ((c : Thread nD τ).loc a) := (mem_final h.1 c a ha).trans (kept_final m c a h1 h2 hc hc')
    ⟨e main_arg0 (by decide) (by decide) (by decide) (by decide) (by decide), e main_arg1 (by decide) (by decide) (by decide) (by decide) (by decide),
      e main_arg2 (by decide) (by decide) (by decide) (by decide) (by decide), e main_arg3 (by decide) (by decide) (by decide) (by decide) (by decide),
      e main_arg4 (by decide) (by decide) (by decide) (by decide) (by decide), e main_arg5 (by decide) (by decide) (by decide) (by decide) (by decide),
      e main_arg6 (by decide) (by decide) (by decide) (by decide) (by decide)⟩, h.2⟩) (run m ρ)

end Cert.ScanRef

end
-- ==== Proof.RefVals.lean ====
/- One trip of each of the reference's loops, in values: what it does to the state and to each stacked array. -/
module

public import proofs.«01_k».proof.Proof.RefTrip

@[expose] public section

noncomputable section

namespace Cert.ScanRef

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-- The starts of a cut at a counter. -/
abbrev start (i : IVec S_ 32) : Fin 4 → Int := fun k =>
  ((![i, constantI S_ 32 0#32, constantI S_ 32 0#32, constantI S_ 32 0#32] : Fin 4 → IVec S_ 32) k (Shape.Idx.first h_S_)).toInt

/-- A chunk as the host cuts it, for each of the four shapes. -/
abbrev pickV (x : FVec F S32x8x64x128 .f32) (i : IVec S_ 32) : FVec F S8x64x128 .f32 :=
  shapeCast S8x64x128 (Host.dynamicSlice S1x8x64x128 x (start i) sliceFits_S32x8x64x128_S1x8x64x128) shapeCasts_S1x8x64x128_S8x64x128
abbrev pickA (x : FVec F S32x8x64x64 .f32) (i : IVec S_ 32) : FVec F S8x64x64 .f32 :=
  shapeCast S8x64x64 (Host.dynamicSlice S1x8x64x64 x (start i) sliceFits_S32x8x64x64_S1x8x64x64) shapeCasts_S1x8x64x64_S8x64x64
abbrev pickE (x : FVec F S32x8x1x128 .f32) (i : IVec S_ 32) : FVec F S8x1x128 .f32 :=
  shapeCast S8x1x128 (Host.dynamicSlice S1x8x1x128 x (start i) sliceFits_S32x8x1x128_S1x8x1x128) shapeCasts_S1x8x1x128_S8x1x128
abbrev pickS (x : FVec F S32x8x128x128 .f32) (i : IVec S_ 32) : FVec F S8x128x128 .f32 :=
  shapeCast S8x128x128 (Host.dynamicSlice S1x8x128x128 x (start i) sliceFits_S32x8x128x128_S1x8x128x128) shapeCasts_S1x8x128x128_S8x128x128

/-- A chunk as the host writes it, for each of the four shapes. -/
abbrev setV (x : FVec F S32x8x64x128 .f32) (v : FVec F S8x64x128 .f32) (i : IVec S_ 32) : FVec F S32x8x64x128 .f32 :=
  Host.dynamicUpdateSlice x (broadcastInDim S1x8x64x128 ![1, 2, 3] bcast_S8x64x128_S1x8x64x128_1_2_3 v) (start i) updateFits_S32x8x64x128_S1x8x64x128
abbrev setA (x : FVec F S32x8x64x64 .f32) (v : FVec F S8x64x64 .f32) (i : IVec S_ 32) : FVec F S32x8x64x64 .f32 :=
  Host.dynamicUpdateSlice x (broadcastInDim S1x8x64x64 ![1, 2, 3] bcast_S8x64x64_S1x8x64x64_1_2_3 v) (start i) updateFits_S32x8x64x64_S1x8x64x64
abbrev setE (x : FVec F S32x8x1x128 .f32) (v : FVec F S8x1x128 .f32) (i : IVec S_ 32) : FVec F S32x8x1x128 .f32 :=
  Host.dynamicUpdateSlice x (broadcastInDim S1x8x1x128 ![1, 2, 3] bcast_S8x1x128_S1x8x1x128_1_2_3 v) (start i) updateFits_S32x8x1x128_S1x8x1x128
abbrev setS (x : FVec F S32x8x128x128 .f32) (v : FVec F S8x128x128 .f32) (i : IVec S_ 32) : FVec F S32x8x128x128 .f32 :=
  Host.dynamicUpdateSlice x (broadcastInDim S1x8x128x128 ![1, 2, 3] bcast_S8x128x128_S1x8x128x128_1_2_3 v) (start i) updateFits_S32x8x128x128_S1x8x128x128

theorem start_zero {i : IVec S_ 32} {k : Fin 32} (h : i = fun _ => BitVec.ofNat 32 k.val) : start i 0 = (k.val : Int) := by
  subst h; exact toInt_ofNat_of_lt (by omega)

theorem pickV_eq (x : FVec F S32x8x64x128 .f32) {i : IVec S_ 32} {k : Fin 32} (h : i = fun _ => BitVec.ofNat 32 k.val) : pickV x i = row x k :=
  slice_row x _ k _ _ (start_zero h) rfl rfl rfl
theorem pickA_eq (x : FVec F S32x8x64x64 .f32) {i : IVec S_ 32} {k : Fin 32} (h : i = fun _ => BitVec.ofNat 32 k.val) : pickA x i = row x k :=
  slice_row x _ k _ _ (start_zero h) rfl rfl rfl
theorem pickE_eq (x : FVec F S32x8x1x128 .f32) {i : IVec S_ 32} {k : Fin 32} (h : i = fun _ => BitVec.ofNat 32 k.val) : pickE x i = row x k :=
  slice_row x _ k _ _ (start_zero h) rfl rfl rfl
theorem pickS_eq (x : FVec F S32x8x128x128 .f32) {i : IVec S_ 32} {k : Fin 32} (h : i = fun _ => BitVec.ofNat 32 k.val) : pickS x i = row x k :=
  slice_row x _ k _ _ (start_zero h) rfl rfl rfl
theorem setV_eq (x : FVec F S32x8x64x128 .f32) (v : FVec F S8x64x128 .f32) {i : IVec S_ 32} {k : Fin 32} (h : i = fun _ => BitVec.ofNat 32 k.val) : setV x v i = put x k v :=
  update_row x v _ k _ _ (start_zero h) rfl rfl rfl
theorem setA_eq (x : FVec F S32x8x64x64 .f32) (v : FVec F S8x64x64 .f32) {i : IVec S_ 32} {k : Fin 32} (h : i = fun _ => BitVec.ofNat 32 k.val) : setA x v i = put x k v :=
  update_row x v _ k _ _ (start_zero h) rfl rfl rfl
theorem setE_eq (x : FVec F S32x8x1x128 .f32) (v : FVec F S8x1x128 .f32) {i : IVec S_ 32} {k : Fin 32} (h : i = fun _ => BitVec.ofNat 32 k.val) : setE x v i = put x k v :=
  update_row x v _ k _ _ (start_zero h) rfl rfl rfl
theorem setS_eq (x : FVec F S32x8x128x128 .f32) (v : FVec F S8x128x128 .f32) {i : IVec S_ 32} {k : Fin 32} (h : i = fun _ => BitVec.ofNat 32 k.val) : setS x v i = put x k v :=
  update_row x v _ k _ _ (start_zero h) rfl rfl rfl

/-- The new values of a chunk and the state after it. -/
def rV (u w : FVec F S8x64x128 .f32) (s : FVec F S8x128x128 .f32) : FVec F S8x64x128 .f32 := subf u (Host.dotGeneral dot_S8x64x128_S8x128x128_S8x64x128_2_1_1_2_0_0 none w s)
def rS (u w kd : FVec F S8x64x128 .f32) (el : FVec F S8x1x128 .f32) (s : FVec F S8x128x128 .f32) : FVec F S8x128x128 .f32 :=
  addf (mulf s (broadcastInDim S8x128x128 ![0, 1, 2] bcast_S8x1x128_S8x128x128_0_1_2 el))
    (Host.dotGeneral dot_S8x64x128_S8x64x128_S8x128x128_1_1_2_2_0_0 none kd (rV u w s))

/-- The gradients of a chunk from the state's gradient `d`, and the gradient of the state before it. -/
def rDu (kd dO : FVec F S8x64x128 .f32) (at' : FVec F S8x64x64 .f32) (d : FVec F S8x128x128 .f32) : FVec F S8x64x128 .f32 :=
  addf (transpose S8x64x128 [0, 2, 1] (Host.dotGeneral dot_S8x128x128_S8x64x128_S8x128x64_1_2_2_1_0_0 none d kd) transposes_S8x128x64_S8x64x128_0_2_1)
    (transpose S8x64x128 [0, 2, 1] (Host.dotGeneral dot_S8x64x128_S8x64x64_S8x128x64_1_1_2_2_0_0 none dO at') transposes_S8x128x64_S8x64x128_0_2_1)
def rDw (kd dO : FVec F S8x64x128 .f32) (at' : FVec F S8x64x64 .f32) (s d : FVec F S8x128x128 .f32) : FVec F S8x64x128 .f32 :=
  Host.dotGeneral dot_S8x64x128_S8x128x128_S8x64x128_2_2_1_1_0_0 none (Host.negf (rDu kd dO at' d)) s
def rDq (dO : FVec F S8x64x128 .f32) (s : FVec F S8x128x128 .f32) : FVec F S8x64x128 .f32 := Host.dotGeneral dot_S8x64x128_S8x128x128_S8x64x128_2_2_1_1_0_0 none dO s
def rDk (v : FVec F S8x64x128 .f32) (d : FVec F S8x128x128 .f32) : FVec F S8x64x128 .f32 :=
  transpose S8x64x128 [0, 2, 1] (Host.dotGeneral dot_S8x128x128_S8x64x128_S8x128x64_2_2_1_1_0_0 none d v) transposes_S8x128x64_S8x64x128_0_2_1
def rDat (dO v : FVec F S8x64x128 .f32) : FVec F S8x64x64 .f32 := Host.dotGeneral dot_S8x64x128_S8x64x128_S8x64x64_2_2_1_1_0_0 none dO v
def rDel (s d : FVec F S8x128x128 .f32) : FVec F S8x1x128 .f32 :=
  shapeCast S8x1x128 (Host.reduceAdd (mulf s d) (constant S_ .f32 0x00000000#32) reducesTo_S8x128x128_S8x128_d1 h_S_) shapeCasts_S8x128_S8x1x128
def rD (w q kd dO : FVec F S8x64x128 .f32) (at' : FVec F S8x64x64 .f32) (el : FVec F S8x1x128 .f32) (d : FVec F S8x128x128 .f32) : FVec F S8x128x128 .f32 :=
  addf (addf (mulf d (broadcastInDim S8x128x128 ![0, 1, 2] bcast_S8x1x128_S8x128x128_0_1_2 el))
      (transpose S8x128x128 [0, 2, 1] (Host.dotGeneral dot_S8x64x128_S8x64x128_S8x128x128_1_1_2_2_0_0 none dO q) transposes_S8x128x128_S8x128x128_0_2_1))
    (transpose S8x128x128 [0, 2, 1] (Host.dotGeneral dot_S8x64x128_S8x64x128_S8x128x128_1_1_2_2_0_0 none (Host.negf (rDu kd dO at' d)) w)
      transposes_S8x128x128_S8x128x128_0_2_1)

section Trips
variable (X : Valuation τ sig (Elt F)) (k : Fin 32)

set_option maxRecDepth 100000 in
theorem trip0_state (h : X (Proc.devRef .tc main_v19_6) = fun _ => BitVec.ofNat 32 k.val) :
    afterL body0 (after cond0 X) (Proc.devRef .tc main_v19_7) = rS (row (X (Proc.devRef .tc main_v19_0)) k) (row (X (Proc.devRef .tc main_v19_1)) k)
      (row (X (Proc.devRef .tc main_v19_3)) k) (row (X (Proc.devRef .tc main_v19_5)) k) (X (Proc.devRef .tc main_v19_7)) := by
  rw [← pickV_eq _ h, ← pickV_eq _ h, ← pickV_eq _ h, ← pickE_eq _ h]
  simp only [afterL_cons, afterL_nil]
  after_reads_simp [unaryIndexed_result_read, binaryIndexed_result_read, indexContents_tref_cons, indexContents_tref_empty]
  rfl

set_option maxRecDepth 100000 in
theorem trip0_saved (h : X (Proc.devRef .tc main_v19_6) = fun _ => BitVec.ofNat 32 k.val) :
    afterL body0 (after cond0 X) (Proc.devRef .tc main_v19_9) = put (X (Proc.devRef .tc main_v19_9)) k (X (Proc.devRef .tc main_v19_7)) := by
  rw [← setS_eq _ _ h]
  simp only [afterL_cons, afterL_nil]
  after_reads_simp [unaryIndexed_result_read, binaryIndexed_result_read, indexContents_tref_cons, indexContents_tref_empty]
  rfl

set_option maxRecDepth 100000 in
theorem trip0_new (h : X (Proc.devRef .tc main_v19_6) = fun _ => BitVec.ofNat 32 k.val) :
    afterL body0 (after cond0 X) (Proc.devRef .tc main_v19_10) = put (X (Proc.devRef .tc main_v19_10)) k
      (rV (row (X (Proc.devRef .tc main_v19_0)) k) (row (X (Proc.devRef .tc main_v19_1)) k) (X (Proc.devRef .tc main_v19_7))) := by
  rw [← pickV_eq _ h, ← pickV_eq _ h, ← setV_eq _ _ h]
  simp only [afterL_cons, afterL_nil]
  after_reads_simp [unaryIndexed_result_read, binaryIndexed_result_read, indexContents_tref_cons, indexContents_tref_empty]
  rfl

/-- The backward loop's chunk number from its counter. -/
abbrev rev (i : IVec S_ 32) : IVec S_ 32 := subi (subi (constantI S_ 32 32#32) i) (constantI S_ 32 1#32)

theorem rev_eq {i : IVec S_ 32} {k l : Fin 32} (h : i = fun _ => BitVec.ofNat 32 k.val) (hl : l.val = 31 - k.val) : rev i = fun _ => BitVec.ofNat 32 l.val := by
  subst h; rw [hl]; funext z
  exact (by decide : ∀ k : Fin 32, 32#32 - BitVec.ofNat 32 k.val - 1#32 = BitVec.ofNat 32 (31 - k.val)) k

variable (l : Fin 32)

set_option maxRecDepth 100000 in
theorem trip1_state (h : rev (X (Proc.devRef .tc main_v32_8)) = fun _ => BitVec.ofNat 32 l.val) :
    afterL body1 (after cond1 X) (Proc.devRef .tc main_v32_9) =
      rD (row (X (Proc.devRef .tc main_v32_2)) l) (row (X (Proc.devRef .tc main_v32_3)) l) (row (X (Proc.devRef .tc main_v32_7)) l) (row (X (Proc.devRef .tc main_v32_0)) l) (row (X (Proc.devRef .tc main_v32_5)) l) (row (X (Proc.devRef .tc main_v32_6)) l) (X (Proc.devRef .tc main_v32_9)) := by
  rw [← pickV_eq (X (Proc.devRef .tc main_v32_2)) h, ← pickV_eq (X (Proc.devRef .tc main_v32_3)) h, ← pickV_eq (X (Proc.devRef .tc main_v32_7)) h, ← pickV_eq (X (Proc.devRef .tc main_v32_0)) h, ← pickA_eq (X (Proc.devRef .tc main_v32_5)) h, ← pickE_eq (X (Proc.devRef .tc main_v32_6)) h]
  simp only [afterL_cons, afterL_nil]
  after_reads_simp [unaryIndexed_result_read, binaryIndexed_result_read, indexContents_tref_cons, indexContents_tref_empty]
  rfl

set_option maxRecDepth 100000 in
theorem trip1_du (h : rev (X (Proc.devRef .tc main_v32_8)) = fun _ => BitVec.ofNat 32 l.val) :
    afterL body1 (after cond1 X) (Proc.devRef .tc main_v32_10) =
      put (X (Proc.devRef .tc main_v32_10)) l (rDu (row (X (Proc.devRef .tc main_v32_7)) l) (row (X (Proc.devRef .tc main_v32_0)) l) (row (X (Proc.devRef .tc main_v32_5)) l) (X (Proc.devRef .tc main_v32_9))) := by
  rw [← pickV_eq (X (Proc.devRef .tc main_v32_7)) h, ← pickV_eq (X (Proc.devRef .tc main_v32_0)) h, ← pickA_eq (X (Proc.devRef .tc main_v32_5)) h, ← setV_eq _ _ h]
  simp only [afterL_cons, afterL_nil]
  after_reads_simp [unaryIndexed_result_read, binaryIndexed_result_read, indexContents_tref_cons, indexContents_tref_empty]
  rfl

set_option maxRecDepth 100000 in
theorem trip1_dw (h : rev (X (Proc.devRef .tc main_v32_8)) = fun _ => BitVec.ofNat 32 l.val) :
    afterL body1 (after cond1 X) (Proc.devRef .tc main_v32_11) =
      put (X (Proc.devRef .tc main_v32_11)) l (rDw (row (X (Proc.devRef .tc main_v32_7)) l) (row (X (Proc.devRef .tc main_v32_0)) l) (row (X (Proc.devRef .tc main_v32_5)) l) (row (X (Proc.devRef .tc main_v32_1)) l) (X (Proc.devRef .tc main_v32_9))) := by
  rw [← pickV_eq (X (Proc.devRef .tc main_v32_7)) h, ← pickV_eq (X (Proc.devRef .tc main_v32_0)) h, ← pickA_eq (X (Proc.devRef .tc main_v32_5)) h, ← pickS_eq (X (Proc.devRef .tc main_v32_1)) h, ← setV_eq _ _ h]
  simp only [afterL_cons, afterL_nil]
  after_reads_simp [unaryIndexed_result_read, binaryIndexed_result_read, indexContents_tref_cons, indexContents_tref_empty]
  rfl

set_option maxRecDepth 100000 in
theorem trip1_dq (h : rev (X (Proc.devRef .tc main_v32_8)) = fun _ => BitVec.ofNat 32 l.val) :
    afterL body1 (after cond1 X) (Proc.devRef .tc main_v32_12) =
      put (X (Proc.devRef .tc main_v32_12)) l (rDq (row (X (Proc.devRef .tc main_v32_0)) l) (row (X (Proc.devRef .tc main_v32_1)) l)) := by
  rw [← pickV_eq (X (Proc.devRef .tc main_v32_0)) h, ← pickS_eq (X (Proc.devRef .tc main_v32_1)) h, ← setV_eq _ _ h]
  simp only [afterL_cons, afterL_nil]
  after_reads_simp [unaryIndexed_result_read, binaryIndexed_result_read, indexContents_tref_cons, indexContents_tref_empty]
  rfl

set_option maxRecDepth 100000 in
theorem trip1_dk (h : rev (X (Proc.devRef .tc main_v32_8)) = fun _ => BitVec.ofNat 32 l.val) :
    afterL body1 (after cond1 X) (Proc.devRef .tc main_v32_13) =
      put (X (Proc.devRef .tc main_v32_13)) l (rDk (row (X (Proc.devRef .tc main_v32_4)) l) (X (Proc.devRef .tc main_v32_9))) := by
  rw [← pickV_eq (X (Proc.devRef .tc main_v32_4)) h, ← setV_eq _ _ h]
  simp only [afterL_cons, afterL_nil]
  after_reads_simp [unaryIndexed_result_read, binaryIndexed_result_read, indexContents_tref_cons, indexContents_tref_empty]
  rfl

set_option maxRecDepth 100000 in
theorem trip1_dat (h : rev (X (Proc.devRef .tc main_v32_8)) = fun _ => BitVec.ofNat 32 l.val) :
    afterL body1 (after cond1 X) (Proc.devRef .tc main_v32_14) =
      put (X (Proc.devRef .tc main_v32_14)) l (rDat (row (X (Proc.devRef .tc main_v32_0)) l) (row (X (Proc.devRef .tc main_v32_4)) l)) := by
  rw [← pickV_eq (X (Proc.devRef .tc main_v32_0)) h, ← pickV_eq (X (Proc.devRef .tc main_v32_4)) h, ← setA_eq _ _ h]
  simp only [afterL_cons, afterL_nil]
  after_reads_simp [unaryIndexed_result_read, binaryIndexed_result_read, indexContents_tref_cons, indexContents_tref_empty]
  rfl

set_option maxRecDepth 100000 in
theorem trip1_del (h : rev (X (Proc.devRef .tc main_v32_8)) = fun _ => BitVec.ofNat 32 l.val) :
    afterL body1 (after cond1 X) (Proc.devRef .tc main_v32_15) =
      put (X (Proc.devRef .tc main_v32_15)) l (rDel (row (X (Proc.devRef .tc main_v32_1)) l) (X (Proc.devRef .tc main_v32_9))) := by
  rw [← pickS_eq (X (Proc.devRef .tc main_v32_1)) h, ← setE_eq _ _ h]
  simp only [afterL_cons, afterL_nil]
  after_reads_simp [unaryIndexed_result_read, binaryIndexed_result_read, indexContents_tref_cons, indexContents_tref_empty]
  rfl

end Trips

end Cert.ScanRef

end
-- ==== Proof.RefLayout.lean ====
/- The chunks of the wide arrays as the reference lays them out, and back. -/
module

public import proofs.«01_k».proof.Proof.RefRows
public import Idealize.ShloMosaic.Lib.Pipeline.Value

@[expose] public section

noncomputable section

namespace Cert.ScanRef

open Cert.ReferenceIdeal Cert.ReferenceIdeal.Gen
open Idealize.ShloMosaic

variable {α : Type}

/-- Chunk `k` of a wide array: its 64 rows as a stack of heads. -/
def chunk (x : S2048x1024.Idx → α) (k : Fin 32) : S8x64x128.Idx → α := fun j =>
  x (ix2 ⟨k.val * 64 + (j 1).val, by have h : (j 1).val < 64 := (j 1).isLt; show _ < 2048; omega⟩
    ⟨(j 0).val * 128 + (j 2).val, by have h : (j 0).val < 8 := (j 0).isLt; have h' : (j 2).val < 128 := (j 2).isLt; show _ < 1024; omega⟩)
/-- Chunk `k` of the attention blocks. -/
def chunkA (x : S8x2048x64.Idx → α) (k : Fin 32) : S8x64x64.Idx → α := fun j =>
  x (ix3 (j 0) ⟨k.val * 64 + (j 1).val, by have h : (j 1).val < 64 := (j 1).isLt; show _ < 2048; omega⟩ (j 2))
/-- Chunk `k` of the decays. -/
def chunkE (x : S8x32x1x128.Idx → α) (k : Fin 32) : S8x1x128.Idx → α := fun j => x (ix4 (j 0) k (j 1) (j 2))

/-- The wide array of given chunks. -/
def glue (g : Fin 32 → S8x64x128.Idx → α) : S2048x1024.Idx → α := fun i =>
  g ⟨(i 0).val / 64, by have h : (i 0).val < 2048 := (i 0).isLt; omega⟩
    (ix3 ⟨(i 1).val / 128, by have h : (i 1).val < 1024 := (i 1).isLt; omega⟩ ⟨(i 0).val % 64, Nat.mod_lt _ (by decide)⟩ ⟨(i 1).val % 128, Nat.mod_lt _ (by decide)⟩)
/-- The attention blocks of given chunks. -/
def glueA (g : Fin 32 → S8x64x64.Idx → α) : S8x2048x64.Idx → α := fun i =>
  g ⟨(i 1).val / 64, by have h : (i 1).val < 2048 := (i 1).isLt; omega⟩ (ix3 (i 0) ⟨(i 1).val % 64, Nat.mod_lt _ (by decide)⟩ (i 2))
/-- The decays of given chunks. -/
def glueE (g : Fin 32 → S8x1x128.Idx → α) : S8x32x1x128.Idx → α := fun i => g (i 1) (ix3 (i 0) (i 2) (i 3))

theorem row_chunk (x : S2048x1024.Idx → α) (k : Fin 32) :
    row (transpose S32x8x64x128 [0, 2, 1, 3] (shapeCast S32x64x8x128 x shapeCasts_S2048x1024_S32x64x8x128) transposes_S32x64x8x128_S32x8x64x128_0_2_1_3) k
      = chunk x k := by
  funext j
  show transpose S32x8x64x128 [0, 2, 1, 3] _ _ (ix4 k (j 0) (j 1) (j 2)) = _
  refine (transpose_apply (s := S32x64x8x128) _ _ _ _ (ix4 (n0 := 32) (n1 := 64) (n2 := 8) (n3 := 128) k (j 1) (j 0) (j 2)) (fun b => match b with | ⟨0, _⟩ => rfl | ⟨1, _⟩ => rfl | ⟨2, _⟩ => rfl | ⟨3, _⟩ => rfl)).trans ?_
  refine shapeCast_apply _ _ _ _ ?_
  rw [Shape.rowMajor_val_four, Shape.rowMajor_val_two]
  show (k.val * 64 + (j 1).val) * 1024 + ((j 0).val * 128 + (j 2).val) = ((k.val * 64 + (j 1).val) * 8 + (j 0).val) * 128 + (j 2).val
  omega

theorem row_chunkA (x : S8x2048x64.Idx → α) (k : Fin 32) :
    row (transpose S32x8x64x64 [1, 0, 2, 3] (shapeCast S8x32x64x64 x shapeCasts_S8x2048x64_S8x32x64x64) transposes_S8x32x64x64_S32x8x64x64_1_0_2_3) k
      = chunkA x k := by
  funext j
  show transpose S32x8x64x64 [1, 0, 2, 3] _ _ (ix4 k (j 0) (j 1) (j 2)) = _
  refine (transpose_apply (s := S8x32x64x64) _ _ _ _ (ix4 (n0 := 8) (n1 := 32) (n2 := 64) (n3 := 64) (j 0) k (j 1) (j 2)) (fun b => match b with | ⟨0, _⟩ => rfl | ⟨1, _⟩ => rfl | ⟨2, _⟩ => rfl | ⟨3, _⟩ => rfl)).trans ?_
  refine shapeCast_apply _ _ _ _ ?_
  rw [Shape.rowMajor_val_four, Shape.rowMajor_val_three]
  show ((j 0).val * 2048 + (k.val * 64 + (j 1).val)) * 64 + (j 2).val = (((j 0).val * 32 + k.val) * 64 + (j 1).val) * 64 + (j 2).val
  omega

theorem row_chunkE (x : S8x32x1x128.Idx → α) (k : Fin 32) :
    row (transpose S32x8x1x128 [1, 0, 2, 3] x transposes_S8x32x1x128_S32x8x1x128_1_0_2_3) k = chunkE x k := by
  funext j
  show transpose S32x8x1x128 [1, 0, 2, 3] _ _ (ix4 k (j 0) (j 1) (j 2)) = _
  exact transpose_apply _ _ _ (ix4 k (j 0) (j 1) (j 2)) (ix4 (j 0) k (j 1) (j 2)) (fun b => match b with | ⟨0, _⟩ => rfl | ⟨1, _⟩ => rfl | ⟨2, _⟩ => rfl | ⟨3, _⟩ => rfl)

theorem glue_rows (x : S32x8x64x128.Idx → α) :
    shapeCast S2048x1024 (transpose S32x64x8x128 [0, 2, 1, 3] x transposes_S32x8x64x128_S32x64x8x128_0_2_1_3) shapeCasts_S32x64x8x128_S2048x1024
      = glue (row x) := by
  funext i
  have h0 : (i 0).val < 2048 := (i 0).isLt
  have h1 : (i 1).val < 1024 := (i 1).isLt
  rw [shapeCast_apply _ _ i (ix4 (n0 := 32) (n1 := 64) (n2 := 8) (n3 := 128) ⟨(i 0).val / 64, by omega⟩ ⟨(i 0).val % 64, Nat.mod_lt _ (by decide)⟩ ⟨(i 1).val / 128, by omega⟩ ⟨(i 1).val % 128, Nat.mod_lt _ (by decide)⟩)
    (by
      rw [Shape.rowMajor_val_four, Shape.rowMajor_val_two]
      show (((i 0).val / 64 * 64 + (i 0).val % 64) * 8 + (i 1).val / 128) * 128 + (i 1).val % 128 = (i 0).val * 1024 + (i 1).val
      omega)]
  exact transpose_apply _ _ _ _ (ix4 _ _ _ _) (fun b => match b with | ⟨0, _⟩ => rfl | ⟨1, _⟩ => rfl | ⟨2, _⟩ => rfl | ⟨3, _⟩ => rfl)

theorem glue_rowsA (x : S32x8x64x64.Idx → α) :
    shapeCast S8x2048x64 (transpose S8x32x64x64 [1, 0, 2, 3] x transposes_S32x8x64x64_S8x32x64x64_1_0_2_3) shapeCasts_S8x32x64x64_S8x2048x64
      = glueA (row x) := by
  funext i
  have h0 : (i 0).val < 8 := (i 0).isLt
  have h1 : (i 1).val < 2048 := (i 1).isLt
  have h2 : (i 2).val < 64 := (i 2).isLt
  rw [shapeCast_apply _ _ i (ix4 (n0 := 8) (n1 := 32) (n2 := 64) (n3 := 64) (i 0) ⟨(i 1).val / 64, by omega⟩ ⟨(i 1).val % 64, Nat.mod_lt _ (by decide)⟩ (i 2))
    (by
      rw [Shape.rowMajor_val_four, Shape.rowMajor_val_three]
      show (((i 0).val * 32 + (i 1).val / 64) * 64 + (i 1).val % 64) * 64 + (i 2).val = ((i 0).val * 2048 + (i 1).val) * 64 + (i 2).val
      omega)]
  exact transpose_apply _ _ _ _ (ix4 _ _ _ _) (fun b => match b with | ⟨0, _⟩ => rfl | ⟨1, _⟩ => rfl | ⟨2, _⟩ => rfl | ⟨3, _⟩ => rfl)

theorem glue_rowsE (x : S32x8x1x128.Idx → α) :
    transpose S8x32x1x128 [1, 0, 2, 3] x transposes_S32x8x1x128_S8x32x1x128_1_0_2_3 = glueE (row x) := by
  funext i
  exact transpose_apply _ _ _ _ (ix4 _ _ _ _) (fun b => match b with | ⟨0, _⟩ => rfl | ⟨1, _⟩ => rfl | ⟨2, _⟩ => rfl | ⟨3, _⟩ => rfl)

end Cert.ScanRef

end
-- ==== Proof.RefFin.lean ====
/- What the reference leaves in its results: the chunk recurrences, forwards for the states and backwards for the state's
   gradient, and each result glued from its chunks. -/
module

public import proofs.«01_k».proof.Proof.RefVals
public import proofs.«01_k».proof.Proof.RefLayout

@[expose] public section

noncomputable section

namespace Cert.ScanRef

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-- The chunks of a wide array, of the attention blocks and of the decays. -/
abbrev Vs (F : FTy → Type) := Fin 32 → FVec F S8x64x128 .f32
abbrev As (F : FTy → Type) := Fin 32 → FVec F S8x64x64 .f32
abbrev Es (F : FTy → Type) := Fin 32 → FVec F S8x1x128 .f32

/-- The chunk a trip takes. -/
abbrev ch (n : ℕ) : Fin 32 := Fin.ofNat 32 n

/-- The zero state. -/
def zS : FVec F S8x128x128 .f32 := broadcastInDim S8x128x128 ![] bcast_S_S8x128x128 (constant S_ .f32 0x00000000#32)

/-- The state into chunk `n`. -/
def St (u w kd : Vs F) (el : Es F) : ℕ → FVec F S8x128x128 .f32
  | 0 => zS
  | n + 1 => rS (u (ch n)) (w (ch n)) (kd (ch n)) (el (ch n)) (St u w kd el n)

/-- The state's gradient after the last `n` chunks. -/
def Gr (w q kd dO : Vs F) (at' : As F) (el : Es F) : ℕ → FVec F S8x128x128 .f32
  | 0 => zS
  | n + 1 => rD (w (ch (31 - n))) (q (ch (31 - n))) (kd (ch (31 - n))) (dO (ch (31 - n))) (at' (ch (31 - n))) (el (ch (31 - n))) (Gr w q kd dO at' el n)

theorem ch_of_lt {n : ℕ} (h : n < 32) : (ch n).val = n := Nat.mod_eq_of_lt h

variable (m : (ℓ : Loc nD τ sig) → Buf (Elt F) ℓ) (c : Dev nD)

/-- What a memory holds in an argument. -/
abbrev ar (r : Ref sig .tc) : r.ty.Contents (Elt F) := m ((c : Thread nD τ).loc r)

abbrev cU : Vs F := fun k => chunk (ar m c main_arg0) k
abbrev cW : Vs F := fun k => chunk (extf .f32 (ar m c main_arg1 : FVec F S2048x1024 .bf16) bitsLt_bf16_f32) k
abbrev cQ : Vs F := fun k => chunk (extf .f32 (ar m c main_arg2 : FVec F S2048x1024 .bf16) bitsLt_bf16_f32) k
abbrev cK : Vs F := fun k => chunk (extf .f32 (ar m c main_arg3 : FVec F S2048x1024 .bf16) bitsLt_bf16_f32) k
abbrev cA : As F := fun k => chunkA (extf .f32 (ar m c main_arg4 : FVec F S8x2048x64 .bf16) bitsLt_bf16_f32) k
abbrev cE : Es F := fun k => chunkE (ar m c main_arg5) k
abbrev cO : Vs F := fun k => chunk (ar m c main_arg6) k

section Entry0
/- The forward loop's entry. -/

set_option maxRecDepth 100000 in
theorem entry0_v8 : entry0 m c (Proc.devRef .tc main_v8)
    = transpose S32x8x64x128 [0, 2, 1, 3] (shapeCast S32x64x8x128 (ar m c main_arg0) shapeCasts_S2048x1024_S32x64x8x128) transposes_S32x64x8x128_S32x8x64x128_0_2_1_3 := by
  simp only [entry0, afterL_cons, afterL_nil]
  after_reads_simp
  rfl

set_option maxRecDepth 100000 in
theorem entry0_v10 : entry0 m c (Proc.devRef .tc main_v10)
    = transpose S32x8x64x128 [0, 2, 1, 3] (shapeCast S32x64x8x128 (extf .f32 (ar m c main_arg1 : FVec F S2048x1024 .bf16) bitsLt_bf16_f32) shapeCasts_S2048x1024_S32x64x8x128) transposes_S32x64x8x128_S32x8x64x128_0_2_1_3 := by
  simp only [entry0, afterL_cons, afterL_nil]
  after_reads_simp
  rfl

set_option maxRecDepth 100000 in
theorem entry0_v12 : entry0 m c (Proc.devRef .tc main_v12)
    = transpose S32x8x64x128 [0, 2, 1, 3] (shapeCast S32x64x8x128 (extf .f32 (ar m c main_arg2 : FVec F S2048x1024 .bf16) bitsLt_bf16_f32) shapeCasts_S2048x1024_S32x64x8x128) transposes_S32x64x8x128_S32x8x64x128_0_2_1_3 := by
  simp only [entry0, afterL_cons, afterL_nil]
  after_reads_simp
  rfl

set_option maxRecDepth 100000 in
theorem entry0_v14 : entry0 m c (Proc.devRef .tc main_v14)
    = transpose S32x8x64x128 [0, 2, 1, 3] (shapeCast S32x64x8x128 (extf .f32 (ar m c main_arg3 : FVec F S2048x1024 .bf16) bitsLt_bf16_f32) shapeCasts_S2048x1024_S32x64x8x128) transposes_S32x64x8x128_S32x8x64x128_0_2_1_3 := by
  simp only [entry0, afterL_cons, afterL_nil]
  after_reads_simp
  rfl

set_option maxRecDepth 100000 in
theorem entry0_v6 : entry0 m c (Proc.devRef .tc main_v6)
    = transpose S32x8x64x64 [1, 0, 2, 3] (shapeCast S8x32x64x64 (extf .f32 (ar m c main_arg4 : FVec F S8x2048x64 .bf16) bitsLt_bf16_f32) shapeCasts_S8x2048x64_S8x32x64x64) transposes_S8x32x64x64_S32x8x64x64_1_0_2_3 := by
  simp only [entry0, afterL_cons, afterL_nil]
  after_reads_simp
  rfl

set_option maxRecDepth 100000 in
theorem entry0_v15 : entry0 m c (Proc.devRef .tc main_v15)
    = transpose S32x8x1x128 [1, 0, 2, 3] (ar m c main_arg5) transposes_S8x32x1x128_S32x8x1x128_1_0_2_3 := by
  simp only [entry0, afterL_cons, afterL_nil]
  after_reads_simp

set_option maxRecDepth 100000 in
theorem entry0_v19_0 : entry0 m c (Proc.devRef .tc main_v19_0)
    = transpose S32x8x64x128 [0, 2, 1, 3] (shapeCast S32x64x8x128 (ar m c main_arg0) shapeCasts_S2048x1024_S32x64x8x128) transposes_S32x64x8x128_S32x8x64x128_0_2_1_3 := by
  simp only [entry0, afterL_cons, afterL_nil]
  after_reads_simp
  rfl

set_option maxRecDepth 100000 in
theorem entry0_v19_1 : entry0 m c (Proc.devRef .tc main_v19_1)
    = transpose S32x8x64x128 [0, 2, 1, 3] (shapeCast S32x64x8x128 (extf .f32 (ar m c main_arg1 : FVec F S2048x1024 .bf16) bitsLt_bf16_f32) shapeCasts_S2048x1024_S32x64x8x128) transposes_S32x64x8x128_S32x8x64x128_0_2_1_3 := by
  simp only [entry0, afterL_cons, afterL_nil]
  after_reads_simp
  rfl

set_option maxRecDepth 100000 in
theorem entry0_v19_3 : entry0 m c (Proc.devRef .tc main_v19_3)
    = transpose S32x8x64x128 [0, 2, 1, 3] (shapeCast S32x64x8x128 (extf .f32 (ar m c main_arg3 : FVec F S2048x1024 .bf16) bitsLt_bf16_f32) shapeCasts_S2048x1024_S32x64x8x128) transposes_S32x64x8x128_S32x8x64x128_0_2_1_3 := by
  simp only [entry0, afterL_cons, afterL_nil]
  after_reads_simp
  rfl

set_option maxRecDepth 100000 in
theorem entry0_v19_5 : entry0 m c (Proc.devRef .tc main_v19_5)
    = transpose S32x8x1x128 [1, 0, 2, 3] (ar m c main_arg5) transposes_S8x32x1x128_S32x8x1x128_1_0_2_3 := by
  simp only [entry0, afterL_cons, afterL_nil]
  after_reads_simp
  rfl

set_option maxRecDepth 100000 in
theorem entry0_v19_7 : entry0 m c (Proc.devRef .tc main_v19_7)
    = zS := by
  simp only [entry0, afterL_cons, afterL_nil]
  after_reads_simp
  rfl

end Entry0

/-- The counter in the words the trip lemmas take. -/
theorem ctr0_ch {k : ℕ} (hk : k < 32) : at0 m k c (Proc.devRef .tc main_v19_6) = fun _ => BitVec.ofNat 32 (ch k).val := by
  rw [ctr0, ch_of_lt hk]; funext _; show 0#32 + BitVec.ofNat 32 k * 1#32 = _; simp

theorem ctr1_ch {k : ℕ} (hk : k < 32) : rev (at1 m k c (Proc.devRef .tc main_v32_8)) = fun _ => BitVec.ofNat 32 (ch (31 - k)).val := by
  refine rev_eq (k := ch k) ?_ ?_
  · rw [ctr1, ch_of_lt hk]; funext _; show 0#32 + BitVec.ofNat 32 k * 1#32 = _; simp
  · rw [ch_of_lt hk, ch_of_lt (by omega)]

theorem at0_v19_0 (k : ℕ) (l : Fin 32) : row (at0 m k c (Proc.devRef .tc main_v19_0)) l = cU m c l := by
  rw [kept0 m c main_v19_0 (by decide) (by decide), entry0_v19_0]; exact row_chunk _ l

theorem at0_v19_1 (k : ℕ) (l : Fin 32) : row (at0 m k c (Proc.devRef .tc main_v19_1)) l = cW m c l := by
  rw [kept0 m c main_v19_1 (by decide) (by decide), entry0_v19_1]; exact row_chunk _ l

theorem at0_v19_3 (k : ℕ) (l : Fin 32) : row (at0 m k c (Proc.devRef .tc main_v19_3)) l = cK m c l := by
  rw [kept0 m c main_v19_3 (by decide) (by decide), entry0_v19_3]; exact row_chunk _ l

theorem at0_v19_5 (k : ℕ) (l : Fin 32) : row (at0 m k c (Proc.devRef .tc main_v19_5)) l = cE m c l := by
  rw [kept0 m c main_v19_5 (by decide) (by decide), entry0_v19_5]; exact row_chunkE _ l

/-- The states of this memory's forward recurrence, and the new values. -/
abbrev mS (n : ℕ) : FVec F S8x128x128 .f32 := St (cU m c) (cW m c) (cK m c) (cE m c) n
abbrev mV (l : Fin 32) : FVec F S8x64x128 .f32 := rV (cU m c l) (cW m c l) (mS m c l.val)

theorem at0_state : ∀ {k : ℕ}, k ≤ 32 → at0 m k c (Proc.devRef .tc main_v19_7) = mS m c k
  | 0, _ => entry0_v19_7 m c
  | k + 1, hk => by
    refine (trip0_state (at0 m k c) (ch k) (ctr0_ch m c (by omega))).trans ?_
    rw [at0_state (by omega : k ≤ 32), at0_v19_0, at0_v19_1, at0_v19_3, at0_v19_5]
    rfl

theorem at0_saved (l : Fin 32) : ∀ {k : ℕ}, k ≤ 32 → l.val < k → row (at0 m k c (Proc.devRef .tc main_v19_9)) l = mS m c l.val
  | k + 1, hk, hl => by
    refine (congrArg (fun x => row x l) (trip0_saved (at0 m k c) (ch k) (ctr0_ch m c (by omega)))).trans ?_
    by_cases h : l.val = k
    · obtain rfl : l = ch k := Fin.ext (h.trans (ch_of_lt (by omega)).symm)
      refine (row_put_self _ _ _).trans ?_
      rw [at0_state m c (by omega : k ≤ 32), ch_of_lt (by omega)]
    · refine (row_put_ne _ (fun e => h (by rw [e]; exact ch_of_lt (by omega))) _).trans ?_
      exact at0_saved l (by omega) (by omega)

theorem at0_new (l : Fin 32) : ∀ {k : ℕ}, k ≤ 32 → l.val < k → row (at0 m k c (Proc.devRef .tc main_v19_10)) l = mV m c l
  | k + 1, hk, hl => by
    refine (congrArg (fun x => row x l) (trip0_new (at0 m k c) (ch k) (ctr0_ch m c (by omega)))).trans ?_
    by_cases h : l.val = k
    · obtain rfl : l = ch k := Fin.ext (h.trans (ch_of_lt (by omega)).symm)
      refine (row_put_self _ _ _).trans ?_
      rw [at0_state m c (by omega : k ≤ 32), at0_v19_0, at0_v19_1]
      show _ = rV _ _ (mS m c (ch k).val)
      rw [ch_of_lt (by omega)]
    · refine (row_put_ne _ (fun e => h (by rw [e]; exact ch_of_lt (by omega))) _).trans ?_
      exact at0_new l (by omega) (by omega)

section Entry1
/- The backward loop's entry. -/

set_option maxRecDepth 100000 in
theorem mid_1 (X : Valuation τ sig (Elt F)) : afterL midI (after cond0 X) (Proc.devRef .tc main_v32_1) = X (Proc.devRef .tc main_v19_9) := by
  simp only [afterL_cons, afterL_nil]
  after_reads_simp
  rfl

set_option maxRecDepth 100000 in
theorem mid_2 (X : Valuation τ sig (Elt F)) : afterL midI (after cond0 X) (Proc.devRef .tc main_v32_2) = X (Proc.devRef .tc main_v10) := by
  simp only [afterL_cons, afterL_nil]
  after_reads_simp
  rfl

set_option maxRecDepth 100000 in
theorem mid_3 (X : Valuation τ sig (Elt F)) : afterL midI (after cond0 X) (Proc.devRef .tc main_v32_3) = X (Proc.devRef .tc main_v12) := by
  simp only [afterL_cons, afterL_nil]
  after_reads_simp
  rfl

set_option maxRecDepth 100000 in
theorem mid_4 (X : Valuation τ sig (Elt F)) : afterL midI (after cond0 X) (Proc.devRef .tc main_v32_4) = X (Proc.devRef .tc main_v19_10) := by
  simp only [afterL_cons, afterL_nil]
  after_reads_simp
  rfl

set_option maxRecDepth 100000 in
theorem mid_5 (X : Valuation τ sig (Elt F)) : afterL midI (after cond0 X) (Proc.devRef .tc main_v32_5) = X (Proc.devRef .tc main_v6) := by
  simp only [afterL_cons, afterL_nil]
  after_reads_simp
  rfl

set_option maxRecDepth 100000 in
theorem mid_6 (X : Valuation τ sig (Elt F)) : afterL midI (after cond0 X) (Proc.devRef .tc main_v32_6) = X (Proc.devRef .tc main_v15) := by
  simp only [afterL_cons, afterL_nil]
  after_reads_simp
  rfl

set_option maxRecDepth 100000 in
theorem mid_7 (X : Valuation τ sig (Elt F)) : afterL midI (after cond0 X) (Proc.devRef .tc main_v32_7) = X (Proc.devRef .tc main_v14) := by
  simp only [afterL_cons, afterL_nil]
  after_reads_simp
  rfl

set_option maxRecDepth 100000 in
theorem mid_0 (X : Valuation τ sig (Elt F)) : afterL midI (after cond0 X) (Proc.devRef .tc main_v32_0)
    = transpose S32x8x64x128 [0, 2, 1, 3] (shapeCast S32x64x8x128 (X (Proc.devRef .tc main_arg6) : FVec F S2048x1024 .f32) shapeCasts_S2048x1024_S32x64x8x128) transposes_S32x64x8x128_S32x8x64x128_0_2_1_3 := by
  simp only [afterL_cons, afterL_nil]
  after_reads_simp
  rfl

set_option maxRecDepth 100000 in
theorem mid_9 (X : Valuation τ sig (Elt F)) : afterL midI (after cond0 X) (Proc.devRef .tc main_v32_9) = zS := by
  simp only [afterL_cons, afterL_nil]
  after_reads_simp
  rfl

end Entry1

theorem at1_0 (k : ℕ) (l : Fin 32) : row (at1 m k c (Proc.devRef .tc main_v32_0)) l = cO m c l := by
  rw [kept1 m c main_v32_0 (by decide) (by decide), entry1, mid_0]
  rw [kept0 m c main_arg6 (by decide) (by decide), entry0, kept wPre main_arg6 wPre_spec (by decide)]; exact row_chunk _ l

theorem at1_1 (k : ℕ) (l : Fin 32) : row (at1 m k c (Proc.devRef .tc main_v32_1)) l = mS m c l.val := by
  rw [kept1 m c main_v32_1 (by decide) (by decide), entry1, mid_1]
  exact at0_saved m c l le_rfl l.isLt

theorem at1_2 (k : ℕ) (l : Fin 32) : row (at1 m k c (Proc.devRef .tc main_v32_2)) l = cW m c l := by
  rw [kept1 m c main_v32_2 (by decide) (by decide), entry1, mid_2]
  rw [kept0 m c main_v10 (by decide) (by decide), entry0_v10]; exact row_chunk _ l

theorem at1_3 (k : ℕ) (l : Fin 32) : row (at1 m k c (Proc.devRef .tc main_v32_3)) l = cQ m c l := by
  rw [kept1 m c main_v32_3 (by decide) (by decide), entry1, mid_3]
  rw [kept0 m c main_v12 (by decide) (by decide), entry0_v12]; exact row_chunk _ l

theorem at1_4 (k : ℕ) (l : Fin 32) : row (at1 m k c (Proc.devRef .tc main_v32_4)) l = mV m c l := by
  rw [kept1 m c main_v32_4 (by decide) (by decide), entry1, mid_4]
  exact at0_new m c l le_rfl l.isLt

theorem at1_5 (k : ℕ) (l : Fin 32) : row (at1 m k c (Proc.devRef .tc main_v32_5)) l = cA m c l := by
  rw [kept1 m c main_v32_5 (by decide) (by decide), entry1, mid_5]
  rw [kept0 m c main_v6 (by decide) (by decide), entry0_v6]; exact row_chunkA _ l

theorem at1_6 (k : ℕ) (l : Fin 32) : row (at1 m k c (Proc.devRef .tc main_v32_6)) l = cE m c l := by
  rw [kept1 m c main_v32_6 (by decide) (by decide), entry1, mid_6]
  rw [kept0 m c main_v15 (by decide) (by decide), entry0_v15]; exact row_chunkE _ l

theorem at1_7 (k : ℕ) (l : Fin 32) : row (at1 m k c (Proc.devRef .tc main_v32_7)) l = cK m c l := by
  rw [kept1 m c main_v32_7 (by decide) (by decide), entry1, mid_7]
  rw [kept0 m c main_v14 (by decide) (by decide), entry0_v14]; exact row_chunk _ l

/-- The gradients of the state. -/
abbrev mG (n : ℕ) : FVec F S8x128x128 .f32 := Gr (cW m c) (cQ m c) (cK m c) (cO m c) (cA m c) (cE m c) n

theorem at1_state : ∀ {k : ℕ}, k ≤ 32 → at1 m k c (Proc.devRef .tc main_v32_9) = mG m c k
  | 0, _ => mid_9 _
  | k + 1, hk => by
    refine (trip1_state (at1 m k c) (ch (31 - k)) (ctr1_ch m c (by omega))).trans ?_
    rw [at1_state (by omega : k ≤ 32), at1_0, at1_2, at1_3, at1_5, at1_6, at1_7]
    rfl

abbrev mDu (l : Fin 32) := rDu (cK m c l) (cO m c l) (cA m c l) (mG m c (31 - l.val))
theorem at1_du (l : Fin 32) : ∀ {k : ℕ}, k ≤ 32 → 31 - l.val < k → row (at1 m k c (Proc.devRef .tc main_v32_10)) l = mDu m c l
  | k + 1, hk, hl => by
    refine (congrArg (fun x => row x l) (trip1_du (at1 m k c) (ch (31 - k)) (ctr1_ch m c (by omega)))).trans ?_
    by_cases h : l.val = 31 - k
    · obtain rfl : l = ch (31 - k) := Fin.ext (h.trans (ch_of_lt (by omega)).symm)
      refine (row_put_self _ _ _).trans ?_
      have hn : 31 - (ch (31 - k)).val = k := by rw [ch_of_lt (by omega)]; omega
      show _ = rDu (cK m c (ch (31 - k))) (cO m c (ch (31 - k))) (cA m c (ch (31 - k))) (mG m c (31 - (ch (31 - k)).val))
      rw [hn, at1_state m c (by omega : k ≤ 32), at1_7, at1_0, at1_5]
    · refine (row_put_ne _ (fun e => h (by rw [e]; exact ch_of_lt (by omega))) _).trans ?_
      exact at1_du l (by omega) (by omega)

abbrev mDw (l : Fin 32) := rDw (cK m c l) (cO m c l) (cA m c l) (mS m c l.val) (mG m c (31 - l.val))
theorem at1_dw (l : Fin 32) : ∀ {k : ℕ}, k ≤ 32 → 31 - l.val < k → row (at1 m k c (Proc.devRef .tc main_v32_11)) l = mDw m c l
  | k + 1, hk, hl => by
    refine (congrArg (fun x => row x l) (trip1_dw (at1 m k c) (ch (31 - k)) (ctr1_ch m c (by omega)))).trans ?_
    by_cases h : l.val = 31 - k
    · obtain rfl : l = ch (31 - k) := Fin.ext (h.trans (ch_of_lt (by omega)).symm)
      refine (row_put_self _ _ _).trans ?_
      have hn : 31 - (ch (31 - k)).val = k := by rw [ch_of_lt (by omega)]; omega
      show _ = rDw (cK m c (ch (31 - k))) (cO m c (ch (31 - k))) (cA m c (ch (31 - k))) (mS m c (ch (31 - k)).val) (mG m c (31 - (ch (31 - k)).val))
      rw [hn, at1_state m c (by omega : k ≤ 32), at1_7, at1_0, at1_5, at1_1]
    · refine (row_put_ne _ (fun e => h (by rw [e]; exact ch_of_lt (by omega))) _).trans ?_
      exact at1_dw l (by omega) (by omega)

abbrev mDq (l : Fin 32) := rDq (cO m c l) (mS m c l.val)
theorem at1_dq (l : Fin 32) : ∀ {k : ℕ}, k ≤ 32 → 31 - l.val < k → row (at1 m k c (Proc.devRef .tc main_v32_12)) l = mDq m c l
  | k + 1, hk, hl => by
    refine (congrArg (fun x => row x l) (trip1_dq (at1 m k c) (ch (31 - k)) (ctr1_ch m c (by omega)))).trans ?_
    by_cases h : l.val = 31 - k
    · obtain rfl : l = ch (31 - k) := Fin.ext (h.trans (ch_of_lt (by omega)).symm)
      refine (row_put_self _ _ _).trans ?_
      have hn : 31 - (ch (31 - k)).val = k := by rw [ch_of_lt (by omega)]; omega
      show _ = rDq (cO m c (ch (31 - k))) (mS m c (ch (31 - k)).val)
      rw [at1_0, at1_1]
    · refine (row_put_ne _ (fun e => h (by rw [e]; exact ch_of_lt (by omega))) _).trans ?_
      exact at1_dq l (by omega) (by omega)

abbrev mDk (l : Fin 32) := rDk (mV m c l) (mG m c (31 - l.val))
theorem at1_dk (l : Fin 32) : ∀ {k : ℕ}, k ≤ 32 → 31 - l.val < k → row (at1 m k c (Proc.devRef .tc main_v32_13)) l = mDk m c l
  | k + 1, hk, hl => by
    refine (congrArg (fun x => row x l) (trip1_dk (at1 m k c) (ch (31 - k)) (ctr1_ch m c (by omega)))).trans ?_
    by_cases h : l.val = 31 - k
    · obtain rfl : l = ch (31 - k) := Fin.ext (h.trans (ch_of_lt (by omega)).symm)
      refine (row_put_self _ _ _).trans ?_
      have hn : 31 - (ch (31 - k)).val = k := by rw [ch_of_lt (by omega)]; omega
      show _ = rDk (mV m c (ch (31 - k))) (mG m c (31 - (ch (31 - k)).val))
      rw [hn, at1_state m c (by omega : k ≤ 32), at1_4]
    · refine (row_put_ne _ (fun e => h (by rw [e]; exact ch_of_lt (by omega))) _).trans ?_
      exact at1_dk l (by omega) (by omega)

abbrev mDat (l : Fin 32) := rDat (cO m c l) (mV m c l)
theorem at1_dat (l : Fin 32) : ∀ {k : ℕ}, k ≤ 32 → 31 - l.val < k → row (at1 m k c (Proc.devRef .tc main_v32_14)) l = mDat m c l
  | k + 1, hk, hl => by
    refine (congrArg (fun x => row x l) (trip1_dat (at1 m k c) (ch (31 - k)) (ctr1_ch m c (by omega)))).trans ?_
    by_cases h : l.val = 31 - k
    · obtain rfl : l = ch (31 - k) := Fin.ext (h.trans (ch_of_lt (by omega)).symm)
      refine (row_put_self _ _ _).trans ?_
      have hn : 31 - (ch (31 - k)).val = k := by rw [ch_of_lt (by omega)]; omega
      show _ = rDat (cO m c (ch (31 - k))) (mV m c (ch (31 - k)))
      rw [at1_0, at1_4]
    · refine (row_put_ne _ (fun e => h (by rw [e]; exact ch_of_lt (by omega))) _).trans ?_
      exact at1_dat l (by omega) (by omega)

abbrev mDel (l : Fin 32) := rDel (mS m c l.val) (mG m c (31 - l.val))
theorem at1_del (l : Fin 32) : ∀ {k : ℕ}, k ≤ 32 → 31 - l.val < k → row (at1 m k c (Proc.devRef .tc main_v32_15)) l = mDel m c l
  | k + 1, hk, hl => by
    refine (congrArg (fun x => row x l) (trip1_del (at1 m k c) (ch (31 - k)) (ctr1_ch m c (by omega)))).trans ?_
    by_cases h : l.val = 31 - k
    · obtain rfl : l = ch (31 - k) := Fin.ext (h.trans (ch_of_lt (by omega)).symm)
      refine (row_put_self _ _ _).trans ?_
      have hn : 31 - (ch (31 - k)).val = k := by rw [ch_of_lt (by omega)]; omega
      show _ = rDel (mS m c (ch (31 - k)).val) (mG m c (31 - (ch (31 - k)).val))
      rw [hn, at1_state m c (by omega : k ≤ 32), at1_1]
    · refine (row_put_ne _ (fun e => h (by rw [e]; exact ch_of_lt (by omega))) _).trans ?_
      exact at1_del l (by omega) (by omega)

section Results

set_option maxRecDepth 100000 in
theorem post_du (X : Valuation τ sig (Elt F)) : afterL postI (after cond1 X) (Proc.devRef .tc main_v41) = glue (row (X (Proc.devRef .tc main_v32_10))) := by
  rw [← glue_rows]
  simp only [afterL_cons, afterL_nil]
  after_reads_simp
  rfl

/-- The result at the end. -/
theorem final_du : final m c (Proc.devRef .tc main_v41) = glue (mDu m c) := by
  rw [final, post_du]
  exact congrArg glue (funext fun l => at1_du m c l le_rfl (by have := l.isLt; omega))

set_option maxRecDepth 100000 in
theorem post_dw (X : Valuation τ sig (Elt F)) : afterL postI (after cond1 X) (Proc.devRef .tc main_v39) = glue (row (X (Proc.devRef .tc main_v32_11))) := by
  rw [← glue_rows]
  simp only [afterL_cons, afterL_nil]
  after_reads_simp
  rfl

/-- The result at the end. -/
theorem final_dw : final m c (Proc.devRef .tc main_v39) = glue (mDw m c) := by
  rw [final, post_dw]
  exact congrArg glue (funext fun l => at1_dw m c l le_rfl (by have := l.isLt; omega))

set_option maxRecDepth 100000 in
theorem post_dq (X : Valuation τ sig (Elt F)) : afterL postI (after cond1 X) (Proc.devRef .tc main_v37) = glue (row (X (Proc.devRef .tc main_v32_12))) := by
  rw [← glue_rows]
  simp only [afterL_cons, afterL_nil]
  after_reads_simp
  rfl

/-- The result at the end. -/
theorem final_dq : final m c (Proc.devRef .tc main_v37) = glue (mDq m c) := by
  rw [final, post_dq]
  exact congrArg glue (funext fun l => at1_dq m c l le_rfl (by have := l.isLt; omega))

set_option maxRecDepth 100000 in
theorem post_dk (X : Valuation τ sig (Elt F)) : afterL postI (after cond1 X) (Proc.devRef .tc main_v35) = glue (row (X (Proc.devRef .tc main_v32_13))) := by
  rw [← glue_rows]
  simp only [afterL_cons, afterL_nil]
  after_reads_simp
  rfl

/-- The result at the end. -/
theorem final_dk : final m c (Proc.devRef .tc main_v35) = glue (mDk m c) := by
  rw [final, post_dk]
  exact congrArg glue (funext fun l => at1_dk m c l le_rfl (by have := l.isLt; omega))

set_option maxRecDepth 100000 in
theorem post_dat (X : Valuation τ sig (Elt F)) : afterL postI (after cond1 X) (Proc.devRef .tc main_v43) = glueA (row (X (Proc.devRef .tc main_v32_14))) := by
  rw [← glue_rowsA]
  simp only [afterL_cons, afterL_nil]
  after_reads_simp
  rfl

/-- The result at the end. -/
theorem final_dat : final m c (Proc.devRef .tc main_v43) = glueA (mDat m c) := by
  rw [final, post_dat]
  exact congrArg glueA (funext fun l => at1_dat m c l le_rfl (by have := l.isLt; omega))

set_option maxRecDepth 100000 in
theorem post_del (X : Valuation τ sig (Elt F)) : afterL postI (after cond1 X) (Proc.devRef .tc main_v33) = glueE (row (X (Proc.devRef .tc main_v32_15))) := by
  rw [← glue_rowsE]
  simp only [afterL_cons, afterL_nil]
  after_reads_simp

/-- The result at the end. -/
theorem final_del : final m c (Proc.devRef .tc main_v33) = glueE (mDel m c) := by
  rw [final, post_del]
  exact congrArg glueE (funext fun l => at1_del m c l le_rfl (by have := l.isLt; omega))

end Results

end Cert.ScanRef

end
-- ==== Proof.Products.lean ====
/- The products of two stacks of matrices as sums, one for each pair of contracted axes; and a product transposed is the
   product of the operands in the other order. -/
module

public import Idealize.ShloMosaic.Lib.StackMember
public import Idealize.ShloMosaic.Lib.ValueLayout

@[expose] public section

noncomputable section

namespace Cert.Scan

open Idealize.ShloMosaic Idealize.ShloMosaic.ValueIdx

variable {G m n k : ℕ} {φ₁ φ₂ : FTy}

/-- Rows against rows. -/
theorem dot_rows_apply (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂) (g : Fin G) (a : Fin m) (b : Fin n) :
    Host.dotGeneral (⟨[2], [2], [1], [1], [0], [0], w⟩ : DotDims _ _ _) prec A B (ValueIdx.ix3 g a b) = ∑ c : Fin k, A (ValueIdx.ix3 g a c) * B (ValueIdx.ix3 g b c) := by
  show FloatOps.dotGeneral _ prec _ A B (ValueIdx.ix3 g a b) = _
  rw [Ideal.dotGeneral_apply, ← Equiv.sum_comp (contrEquiv1 (⟨[2], [2], [1], [1], [0], [0], w⟩ : DotDims _ _ _) k rfl rfl).symm]
  refine Finset.sum_congr rfl fun c _ => ?_
  have c3 := contrEquiv1_symm_val (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ValueIdx.ix3 g a b)
      ((contrEquiv1 _ k rfl rfl).symm c) = ValueIdx.ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ValueIdx.ix3 g a b)
      ((contrEquiv1 _ k rfl rfl).symm c) = ValueIdx.ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- Columns against columns. -/
theorem dot_cols_apply (w : DotDims.WF ⟨3, ![G, k, m]⟩ ⟨3, ![G, k, n]⟩ ⟨3, ![G, m, n]⟩ [1] [1] [2] [2] [0] [0])
    (prec : Option ContractPrecision) (A : FVec Ideal ⟨3, ![G, k, m]⟩ φ₁) (B : FVec Ideal ⟨3, ![G, k, n]⟩ φ₂) (g : Fin G) (a : Fin m) (b : Fin n) :
    Host.dotGeneral (⟨[1], [1], [2], [2], [0], [0], w⟩ : DotDims _ _ _) prec A B (ValueIdx.ix3 g a b) = ∑ c : Fin k, A (ValueIdx.ix3 g c a) * B (ValueIdx.ix3 g c b) := by
  show FloatOps.dotGeneral _ prec _ A B (ValueIdx.ix3 g a b) = _
  rw [Ideal.dotGeneral_apply, ← Equiv.sum_comp (contrEquiv1 (⟨[1], [1], [2], [2], [0], [0], w⟩ : DotDims _ _ _) k rfl rfl).symm]
  refine Finset.sum_congr rfl fun c _ => ?_
  have c3 := contrEquiv1_symm_val (⟨[1], [1], [2], [2], [0], [0], w⟩ : DotDims ⟨3, ![G, k, m]⟩ ⟨3, ![G, k, n]⟩ ⟨3, ![G, m, n]⟩) k rfl rfl c
  have l3 : (⟨[1], [1], [2], [2], [0], [0], w⟩ : DotDims ⟨3, ![G, k, m]⟩ ⟨3, ![G, k, n]⟩ ⟨3, ![G, m, n]⟩).lhsIdx (ValueIdx.ix3 g a b)
      ((contrEquiv1 _ k rfl rfl).symm c) = ValueIdx.ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, k, m]⟩ ⟨3, ![G, k, n]⟩ ⟨3, ![G, m, n]⟩).rhsIdx (ValueIdx.ix3 g a b)
      ((contrEquiv1 _ k rfl rfl).symm c) = ValueIdx.ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- Columns against rows. -/
theorem dot_colrow_apply (w : DotDims.WF ⟨3, ![G, k, m]⟩ ⟨3, ![G, n, k]⟩ ⟨3, ![G, m, n]⟩ [1] [2] [2] [1] [0] [0])
    (prec : Option ContractPrecision) (A : FVec Ideal ⟨3, ![G, k, m]⟩ φ₁) (B : FVec Ideal ⟨3, ![G, n, k]⟩ φ₂) (g : Fin G) (a : Fin m) (b : Fin n) :
    Host.dotGeneral (⟨[1], [2], [2], [1], [0], [0], w⟩ : DotDims _ _ _) prec A B (ValueIdx.ix3 g a b) = ∑ c : Fin k, A (ValueIdx.ix3 g c a) * B (ValueIdx.ix3 g b c) := by
  show FloatOps.dotGeneral _ prec _ A B (ValueIdx.ix3 g a b) = _
  rw [Ideal.dotGeneral_apply, ← Equiv.sum_comp (contrEquiv1 (⟨[1], [2], [2], [1], [0], [0], w⟩ : DotDims _ _ _) k rfl rfl).symm]
  refine Finset.sum_congr rfl fun c _ => ?_
  have c3 := contrEquiv1_symm_val (⟨[1], [2], [2], [1], [0], [0], w⟩ : DotDims ⟨3, ![G, k, m]⟩ ⟨3, ![G, n, k]⟩ ⟨3, ![G, m, n]⟩) k rfl rfl c
  have l3 : (⟨[1], [2], [2], [1], [0], [0], w⟩ : DotDims ⟨3, ![G, k, m]⟩ ⟨3, ![G, n, k]⟩ ⟨3, ![G, m, n]⟩).lhsIdx (ValueIdx.ix3 g a b)
      ((contrEquiv1 _ k rfl rfl).symm c) = ValueIdx.ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [2], [2], [1], [0], [0], w⟩ : DotDims ⟨3, ![G, k, m]⟩ ⟨3, ![G, n, k]⟩ ⟨3, ![G, m, n]⟩).rhsIdx (ValueIdx.ix3 g a b)
      ((contrEquiv1 _ k rfl rfl).symm c) = ValueIdx.ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- Rows against rows, transposed. -/
theorem dot_rows_swap (w : DotDims.WF ⟨3, ![G, m, k]⟩ ⟨3, ![G, n, k]⟩ ⟨3, ![G, m, n]⟩ [2] [2] [1] [1] [0] [0])
    (w' : DotDims.WF ⟨3, ![G, n, k]⟩ ⟨3, ![G, m, k]⟩ ⟨3, ![G, n, m]⟩ [2] [2] [1] [1] [0] [0]) (h : (⟨3, ![G, m, n]⟩ : Shape).Transposes [0, 2, 1] ⟨3, ![G, n, m]⟩)
    (prec : Option ContractPrecision) (A : FVec Ideal ⟨3, ![G, m, k]⟩ φ₁) (B : FVec Ideal ⟨3, ![G, n, k]⟩ φ₂) :
    transpose ⟨3, ![G, n, m]⟩ [0, 2, 1] (Host.dotGeneral (⟨[2], [2], [1], [1], [0], [0], w⟩ : DotDims _ _ _) prec A B) h
      = Host.dotGeneral (⟨[2], [2], [1], [1], [0], [0], w'⟩ : DotDims _ _ _) prec B A := by
  funext j
  obtain ⟨a, b, c, rfl⟩ : ∃ (a : Fin G) (b : Fin n) (c : Fin m), j = ValueIdx.ix3 a b c := ⟨j 0, j 1, j 2, ValueIdx.eq_ix3 j⟩
  rw [ValueIdx.transpose_ix3_021_apply, dot_rows_apply, dot_rows_apply]
  exact Finset.sum_congr rfl fun c _ => mul_comm _ _

/-- Columns against columns, transposed. -/
theorem dot_cols_swap (w : DotDims.WF ⟨3, ![G, k, m]⟩ ⟨3, ![G, k, n]⟩ ⟨3, ![G, m, n]⟩ [1] [1] [2] [2] [0] [0])
    (w' : DotDims.WF ⟨3, ![G, k, n]⟩ ⟨3, ![G, k, m]⟩ ⟨3, ![G, n, m]⟩ [1] [1] [2] [2] [0] [0]) (h : (⟨3, ![G, m, n]⟩ : Shape).Transposes [0, 2, 1] ⟨3, ![G, n, m]⟩)
    (prec : Option ContractPrecision) (A : FVec Ideal ⟨3, ![G, k, m]⟩ φ₁) (B : FVec Ideal ⟨3, ![G, k, n]⟩ φ₂) :
    transpose ⟨3, ![G, n, m]⟩ [0, 2, 1] (Host.dotGeneral (⟨[1], [1], [2], [2], [0], [0], w⟩ : DotDims _ _ _) prec A B) h
      = Host.dotGeneral (⟨[1], [1], [2], [2], [0], [0], w'⟩ : DotDims _ _ _) prec B A := by
  funext j
  obtain ⟨a, b, c, rfl⟩ : ∃ (a : Fin G) (b : Fin n) (c : Fin m), j = ValueIdx.ix3 a b c := ⟨j 0, j 1, j 2, ValueIdx.eq_ix3 j⟩
  rw [ValueIdx.transpose_ix3_021_apply, dot_cols_apply, dot_cols_apply]
  exact Finset.sum_congr rfl fun c _ => mul_comm _ _

/-- Columns against rows, transposed: the plain product. -/
theorem dot_colrow_swap (w : DotDims.WF ⟨3, ![G, k, m]⟩ ⟨3, ![G, n, k]⟩ ⟨3, ![G, m, n]⟩ [1] [2] [2] [1] [0] [0])
    (w' : DotDims.WF ⟨3, ![G, n, k]⟩ ⟨3, ![G, k, m]⟩ ⟨3, ![G, n, m]⟩ [2] [1] [1] [2] [0] [0]) (h : (⟨3, ![G, m, n]⟩ : Shape).Transposes [0, 2, 1] ⟨3, ![G, n, m]⟩)
    (prec : Option ContractPrecision) (A : FVec Ideal ⟨3, ![G, k, m]⟩ φ₁) (B : FVec Ideal ⟨3, ![G, n, k]⟩ φ₂) :
    transpose ⟨3, ![G, n, m]⟩ [0, 2, 1] (Host.dotGeneral (⟨[1], [2], [2], [1], [0], [0], w⟩ : DotDims _ _ _) prec A B) h
      = Host.dotGeneral (⟨[2], [1], [1], [2], [0], [0], w'⟩ : DotDims _ _ _) prec B A := by
  funext j
  obtain ⟨a, b, c, rfl⟩ : ∃ (a : Fin G) (b : Fin n) (c : Fin m), j = ValueIdx.ix3 a b c := ⟨j 0, j 1, j 2, ValueIdx.eq_ix3 j⟩
  rw [ValueIdx.transpose_ix3_021_apply, dot_colrow_apply, StackMember.dotGeneral_stack_apply]
  exact Finset.sum_congr rfl fun c _ => mul_comm _ _

end Cert.Scan

end
-- ==== Proof.Algebra.lean ====
/- One chunk of the kernel at the ideal values is one chunk of the reference: the casts are the identity, a product into
   zero is the product, and the reference's transposed products are the kernel's with the operands exchanged. -/
module

public import proofs.«01_k».proof.Proof.Data
public import proofs.«01_k».proof.Proof.RefFin
public import proofs.«01_k».proof.Proof.Products
public import Idealize.ShloMosaic.Lib.KernelVsHost

@[expose] public section

noncomputable section

namespace Cert.Scan

open Idealize.ShloMosaic Idealize.ShloMosaic.TcCoe Idealize.ShloMosaic.Tactic Cert.KernelIdeal Cert.KernelIdeal.Gen

/-- The decay of a chunk without its unit axis, and the saved state without its. -/
def sqE {α : Type} (x : S8x1x1x128.Idx → α) : S8x1x128.Idx → α := fun j => x (ix4 (j 0) 0 (j 1) (j 2))
def sqS {α : Type} (x : S8x1x128x128.Idx → α) : S8x128x128.Idx → α := fun j => x (ix4 (j 0) 0 (j 1) (j 2))

theorem cast_sqE {α : Type} (x : S8x1x1x128.Idx → α) (h : S8x1x1x128.ShapeCasts S8x1x128) : shapeCast S8x1x128 x h = sqE x := by
  funext j
  refine shapeCast_apply _ _ _ _ ?_
  rw [Shape.rowMajor_val_four, Shape.rowMajor_val_three]
  show (((j 0).val * 1 + 0) * 1 + (j 1).val) * 128 + (j 2).val = ((j 0).val * 1 + (j 1).val) * 128 + (j 2).val
  omega

theorem cast_sqS {α : Type} (x : S8x1x128x128.Idx → α) (h : S8x1x128x128.ShapeCasts S8x128x128) : shapeCast S8x128x128 x h = sqS x := by
  funext j
  refine shapeCast_apply _ _ _ _ ?_
  rw [Shape.rowMajor_val_four, Shape.rowMajor_val_three]
  show (((j 0).val * 1 + 0) * 128 + (j 1).val) * 128 + (j 2).val = ((j 0).val * 128 + (j 1).val) * 128 + (j 2).val
  omega

/-- A stack whose unit axis is spread is the same spread either way. -/
theorem spread (x : FVec Ideal S8x1x128 .f32) (h : S8x1x128.Broadcasts S8x128x128) (h' : S8x1x128.BroadcastsInDim S8x128x128 (![0, 1, 2] : Fin 3 → Fin 3)) :
    broadcastTo S8x128x128 x h = broadcastInDim S8x128x128 ![0, 1, 2] h' x := by
  funext j
  refine (broadcastTo_apply x h j (ix3 (j 0) 0 (j 2)) ?_).trans (broadcastInDim_apply _ h' x j (ix3 (j 0) 0 (j 2)) ?_).symm <;>
  · intro a
    match a with
    | ⟨0, _⟩ => rfl
    | ⟨1, _⟩ => rfl
    | ⟨2, _⟩ => rfl

/-- The kernel's corrected values. -/
theorem pay14_eq (u w : FVec Ideal S8x64x128 .f32) (s : FVec Ideal S8x128x128 .f32) : k0_pay14 (F := Ideal) s u (truncf .bf16 w bitsLt_bf16_f32) = ScanRef.rV (F := Ideal) u w s := by
  dsimp only [k0_pay14, ScanRef.rV]
  exact congrArg (subf u) (matmul_zero_eq_dotGeneral _ _ _ _)

/-- The forward state's step. -/
theorem fwdState_eq (u : Vec Ideal S64x1024 .f32) (w kd : Vec Ideal S64x1024 .bf16) (el : Vec Ideal S8x1x1x128 .f32) (s : Vec Ideal S8x128x128 .f32) :
    fwdState u w kd el s = ScanRef.rS (F := Ideal) (stack u) (wide w) (wide kd) (sqE el) s := by
  dsimp only [fwdState, k0_pay16, ScanRef.rS]
  refine congrArg₂ addf (congrArg₂ mulf rfl ?_) ?_
  · rw [cast_sqE]
    exact spread _ _ _
  · have hk := pay13_stack (F := Ideal) kd
    dsimp only [k0_pay13] at hk
    rw [hk]
    exact (matmul_zero_eq_dotGeneral _ _ _ _).trans (congrArg (fun y => Host.dotGeneral _ _ _ y) (pay14_eq (stack u) (wide w) s))

/-- The starting state. -/
theorem pay9_eq : k0_pay9 (F := Ideal) = ScanRef.zS (F := Ideal) := by
  dsimp only [k0_pay9]
  exact shapeCast_self _ _
theorem pay6_eq : k1_pay6 (F := Ideal) = ScanRef.zS (F := Ideal) := by
  dsimp only [k1_pay6]
  exact shapeCast_self _ _

/-- The corrected values of a chunk. -/
theorem bV_eq (u : Vec Ideal S64x1024 .f32) (w : Vec Ideal S64x1024 .bf16) (sv : Vec Ideal S8x1x128x128 .f32) :
    bV u w sv = ScanRef.rV (F := Ideal) (stack u) (wide w) (sqS sv) := by
  dsimp only [bV, k1_pay14, k1_pay13, ScanRef.rV]
  rw [cast_sqS]
  exact congrArg (subf (stack u)) (matmul_zero_eq_dotGeneral _ _ _ _)

theorem bDu_eq (kd : Vec Ideal S64x1024 .bf16) (at' : Vec Ideal S8x64x64 .bf16) (d : Vec Ideal S64x1024 .f32) (s : Vec Ideal S8x128x128 .f32) :
    bDu kd at' d s = ScanRef.rDu (F := Ideal) (wide kd) (stack d) (extf .f32 (at' : FVec Ideal S8x64x64 .bf16) bitsLt_bf16_f32) s := by
  dsimp only [bDu, ScanRef.rDu, at8, k1_pay21, k1_pay17, k1_pay15, k1_pay11]
  have hd := bpay15 d
  dsimp only [at8, k1_pay15] at hd
  rw [hd, shapeCast_self]
  refine congrArg₂ addf ((matmul_zero_eq_dotGeneral _ _ _ _).trans ?_) ((matmul_zero_eq_dotGeneral _ _ _ _).trans ?_)
  · exact (dot_colrow_swap _ _ _ _ _ _).symm
  · exact (dot_cols_swap _ _ _ _ _ _).symm

theorem bDq_eq (sv : Vec Ideal S8x1x128x128 .f32) (d : Vec Ideal S64x1024 .f32) : bDq sv d = ScanRef.rDq (F := Ideal) (stack d) (sqS sv) := by
  dsimp only [bDq, ScanRef.rDq, at8, k1_pay22, k1_pay15, k1_pay13]
  have hd := bpay15 d
  dsimp only [at8, k1_pay15] at hd
  rw [hd, cast_sqS]
  exact matmul_zero_eq_dotGeneral _ _ _ _

theorem bDk_eq (u : Vec Ideal S64x1024 .f32) (w : Vec Ideal S64x1024 .bf16) (sv : Vec Ideal S8x1x128x128 .f32) (s : Vec Ideal S8x128x128 .f32) :
    bDk u w sv s = ScanRef.rDk (F := Ideal) (ScanRef.rV (F := Ideal) (stack u) (wide w) (sqS sv)) s := by
  dsimp only [bDk, ScanRef.rDk, k1_pay18, k1_pay17]
  rw [bV_eq, shapeCast_self]
  exact (matmul_zero_eq_dotGeneral _ _ _ _).trans (dot_rows_swap _ _ _ _ _ _).symm

theorem bDat_eq (u : Vec Ideal S64x1024 .f32) (w : Vec Ideal S64x1024 .bf16) (sv : Vec Ideal S8x1x128x128 .f32) (d : Vec Ideal S64x1024 .f32) :
    bDat u w sv d = ScanRef.rDat (F := Ideal) (stack d) (ScanRef.rV (F := Ideal) (stack u) (wide w) (sqS sv)) := by
  dsimp only [bDat, ScanRef.rDat, at8, k1_pay20, k1_pay15]
  have hd := bpay15 d
  dsimp only [at8, k1_pay15] at hd
  rw [bV_eq, hd]
  exact matmul_zero_eq_dotGeneral _ _ _ _

/-- The negated gradient of the values. -/
theorem neg_du (kd : Vec Ideal S64x1024 .bf16) (at' : Vec Ideal S8x64x64 .bf16) (d : Vec Ideal S64x1024 .f32) (s : Vec Ideal S8x128x128 .f32) :
    at8 d (fun x0 x1 x2 x3 x4 x5 x6 x7 => k1_pay24 (wide kd) (k1_pay11 at') x0 x1 x2 x3 x4 x5 x6 x7 s)
      = Host.negf (ScanRef.rDu (F := Ideal) (wide kd) (stack d) (extf .f32 (at' : FVec Ideal S8x64x64 .bf16) bitsLt_bf16_f32) s) := by
  rw [← bDu_eq]
  exact subf_zero_eq_hostNegf _

theorem bDw_eq (kd : Vec Ideal S64x1024 .bf16) (at' : Vec Ideal S8x64x64 .bf16) (sv : Vec Ideal S8x1x128x128 .f32) (d : Vec Ideal S64x1024 .f32) (s : Vec Ideal S8x128x128 .f32) :
    bDw kd at' sv d s = ScanRef.rDw (F := Ideal) (wide kd) (stack d) (extf .f32 (at' : FVec Ideal S8x64x64 .bf16) bitsLt_bf16_f32) (sqS sv) s := by
  dsimp only [bDw, ScanRef.rDw]
  rw [← neg_du]
  dsimp only [k1_pay27, k1_pay26, k1_pay13]
  rw [cast_sqS]
  exact matmul_zero_eq_dotGeneral _ _ _ _

theorem pay19_eq (x s : FVec Ideal S8x128x128 .f32) : k1_pay19 (F := Ideal) x s = ScanRef.rDel (F := Ideal) x s := by
  have e : k1_pay16 (F := Ideal) s = s := shapeCast_self _ _
  dsimp only [ScanRef.rDel, k1_pay19]
  simp only [e]
  exact congrArg (fun y => shapeCast S8x1x128 y _) (multiReduction_add_eq_hostReduceAdd (mulf x s) _ _ _ _ (constant (F := Ideal) ReferenceIdeal.S_ .f32 0x00000000#32)
    ReferenceIdeal.Gen.reducesTo_S8x128x128_S8x128_d1 ReferenceIdeal.Gen.h_S_ Ideal.ofBits_zero_f32)

theorem pay4_eq (x : FVec Ideal S8x1x128 .f32) : sqE (k1_pay4 (F := Ideal) x) = x := by
  dsimp only [k1_pay4]
  rw [← cast_sqE _ (by decide), shapeCast_shapeCast]

theorem pay13_eq (sv : Vec Ideal S8x1x128x128 .f32) : k1_pay13 (F := Ideal) sv = sqS sv := cast_sqS _ _

theorem bDel_eq (sv : Vec Ideal S8x1x128x128 .f32) (s : Vec Ideal S8x128x128 .f32) : sqE (bDel sv s) = ScanRef.rDel (F := Ideal) (sqS sv) s := by
  unfold bDel
  rw [pay4_eq, pay13_eq, pay19_eq]

theorem bState_eq (w qg kd : Vec Ideal S64x1024 .bf16) (at' : Vec Ideal S8x64x64 .bf16) (el : Vec Ideal S8x1x1x128 .f32) (d : Vec Ideal S64x1024 .f32) (s : Vec Ideal S8x128x128 .f32) :
    bState w qg kd at' el d s = ScanRef.rD (F := Ideal) (wide w) (wide qg) (wide kd) (stack d) (extf .f32 (at' : FVec Ideal S8x64x64 .bf16) bitsLt_bf16_f32) (sqE el) s := by
  dsimp only [bState, ScanRef.rD]
  rw [neg_du]
  dsimp only [k1_pay28]
  refine congrArg₂ addf ?_ ((matmul_zero_eq_dotGeneral _ _ _ _).trans (dot_cols_swap _ _ _ _ _ _).symm)
  dsimp only [at8, k1_pay23, k1_pay16, k1_pay15, k1_pay12]
  have hd := bpay15 d
  dsimp only [at8, k1_pay15] at hd
  rw [hd, shapeCast_self, cast_sqE]
  refine congrArg₂ addf (congrArg (mulf s) (spread _ _ _)) ((matmul_zero_eq_dotGeneral _ _ _ _).trans (dot_cols_swap _ _ _ _ _ _).symm)

end Cert.Scan

end
-- ==== Proof.Run.lean ====
module

public import proofs.«01_k».proof.Proof.Data
public import Idealize.ShloMosaic.Lib.Pipeline.Regions
public import Idealize.ShloMosaic.Lib.Pipeline.RegionsLoop
public import Idealize.ShloMosaic.Lib.Pipeline.FrameSuffix
public import Idealize.ShloMosaic.Lib.Claim

@[expose] public section

set_option maxRecDepth 16384

noncomputable section

/-! # The two calls run one after the other

The forward call leaves the state before every chunk in an array the backward call reads. The contents of the buffers at the three
boundaries are `W0` (the launch), `W1` (between the calls) and `W2` (the end). -/

namespace Cert.Scan

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

abbrev argRefs : List (Ref sig .tc) := [main_arg0, main_arg1, main_arg2, main_arg3, main_arg4, main_arg5, main_arg6]

abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
abbrev V0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (V0 m) c).arrAt_in w (h w rfl) _).trans (A0_eq (V0 m) c w))
  · exact W1_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m c (Proc.devRef .tc a) = m ((c : Thread nD τ).loc a) :=
  fun a ha => (W1_of m c a (argsIn0 a ha)).trans (W0_args m c a ha)
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((dat1 (V1 m) c).arrAt_in w (h w rfl) _).trans (A1_eq (V1 m) c w))
  · exact W2_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn1 a ha)).trans (W1_args m c a ha)
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
abbrev R (c : Dev nD) : sProp (MM F) := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp (MM F) := iprop(StableHlo.held (c : Thread nD τ) (Pipeline.ucRefs τ sig) (W2 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A0_eq (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter0 (V0 m) c)
    unfold Pipeline.ΦA
    iintro ⟨Hp, -, Hr⟩
    isplitl [Hr]; · iexact Hr
    iexact Hp
  hout c := by
    rw [Pipeline.ownSems0_none]
    refine BIBase.Entails.trans (leave0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) (A1_eq (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter1 (V1 m) c)
    unfold Pipeline.ΦA
    iintro ⟨Hp, -, Hr⟩
    isplitl [Hr]; · iexact Hr
    iexact Hp
  hout c := by
    rw [Pipeline.ownSems0_none]
    refine BIBase.Entails.trans (leave1 (V1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m),
    .region (reg1 m) ]
theorem main_run (c : Dev nD) : main (F := F) c = Pipeline.Seg.run (segs m) := (main_chain c).trans (by chain_rfl)

theorem no_unscoped : ∀ sm : SemLoc sig, sm.isScoped .tc = true := by decide

set_option backward.isDefEq.respectTransparency.types false in
/-- The two calls, run from any memory with zero counters: every weakly fair execution ends, every unscoped buffer holds what the
second call leaves, and every counter is back at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W2 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MM F))
            ⊢ BI.own (emb₁ (initOf (Pipeline.cells cfgs cellOf_inj) (Pipeline.launchToks cfgs cellOf_inj))) from .rfl)
        iexact Hu
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h hz => ⟨h, funext fun g => hz g (.inr (no_unscoped g.2))⟩)

/-- An argument ends as it was launched. -/
theorem mem_arg {mem : (ℓ : Loc nD τ sig) → Buf (Elt F) ℓ} (h : ∀ c : Dev nD, ∀ b ∈ Pipeline.ucRefs τ sig, mem (((c : Thread nD τ)).1, b) = W2 m c b)
    (c : Dev nD) (a : Ref sig .tc) (ha : a ∈ argRefs) (hu : ¬ (Proc.devRef .tc a : DevRef τ sig).isScoped) :
    mem ((c.tc : Thread nD τ).loc a) = m ((c.tc : Thread nD τ).loc a) :=
  (h c _ (mem_uc a hu)).trans (W2_args m c a ha)

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨mem_arg m h.1 c main_arg0 (by decide) (by decide), mem_arg m h.1 c main_arg1 (by decide) (by decide),
    mem_arg m h.1 c main_arg2 (by decide) (by decide), mem_arg m h.1 c main_arg3 (by decide) (by decide), mem_arg m h.1 c main_arg4 (by decide) (by decide),
    mem_arg m h.1 c main_arg5 (by decide) (by decide), mem_arg m h.1 c main_arg6 (by decide) (by decide)⟩, h.2⟩) (run m ρ)

end Cert.Scan

end
-- ==== Proof.KerFin.lean ====
/- What the kernel leaves in its results, at the ideal values: the carried scratch holds the reference's recurrences, the
   saved states are the reference's states, and each result is glued from its chunks. -/
module

public import proofs.«01_k».proof.Proof.Algebra
public import proofs.«01_k».proof.Proof.Run
public import Idealize.ShloMosaic.Lib.Pipeline.ValueKit.Geometry

@[expose] public section

noncomputable section

namespace Cert.Scan

open Idealize.ShloMosaic Idealize.ShloMosaic.TcCoe Idealize.ShloMosaic.Tactic Cert.KernelIdeal Cert.KernelIdeal.Gen
open Cert.ScanRef (ch chunk chunkA chunkE glue glueA glueE Vs As Es St Gr rV rDu rDw rDq rDk rDat rDel)

variable (V : (c : Dev nD) → (b : Ref sig .tc) → Buf (Elt Ideal) ((c : Thread nD τ).loc b)) (c : Dev nD)

/- The chunks of the arguments. -/
abbrev kU : Vs Ideal := fun k => chunk (V c main_arg0) k
abbrev kW : Vs Ideal := fun k => chunk (extf .f32 (V c main_arg1 : FVec Ideal S2048x1024 .bf16) bitsLt_bf16_f32) k
abbrev kQ : Vs Ideal := fun k => chunk (extf .f32 (V c main_arg2 : FVec Ideal S2048x1024 .bf16) bitsLt_bf16_f32) k
abbrev kK : Vs Ideal := fun k => chunk (extf .f32 (V c main_arg3 : FVec Ideal S2048x1024 .bf16) bitsLt_bf16_f32) k
abbrev kA : As Ideal := fun k => chunkA (extf .f32 (V c main_arg4 : FVec Ideal S8x2048x64 .bf16) bitsLt_bf16_f32) k
abbrev kE : Es Ideal := fun k => chunkE (V c main_arg5) k
abbrev kO : Vs Ideal := fun k => chunk (V c main_arg6) k
/-- The state into chunk `n`, and the state's gradient after the last `n` chunks. -/
abbrev kS (n : ℕ) : FVec Ideal S8x128x128 .f32 := St (kU V c) (kW V c) (kK V c) (kE V c) n
abbrev kG (n : ℕ) : FVec Ideal S8x128x128 .f32 := Gr (kW V c) (kQ V c) (kK V c) (kO V c) (kA V c) (kE V c) n

/-- The saved states as one array. -/
def saved (g : Fin 32 → S8x128x128.Idx → Ideal .f32) : S8x32x128x128.Idx → Ideal .f32 := fun i => g (i 1) (ix3 (i 0) (i 2) (i 3))

theorem lt0 (t : Fin cfg0.N) : t.val < 32 := lt_of_lt_of_eq t.isLt (show cfg0.N = 32 from N_0)
theorem lt1 (t : Fin cfg1.N) : t.val < 32 := lt_of_lt_of_eq t.isLt (show cfg1.N = 32 from N_1)
theorem ch0 (t : Fin cfg0.N) : (ch t.val).val = t.val := ScanRef.ch_of_lt (lt0 t)
theorem ch1 (t : Fin cfg1.N) : (ch (31 - t.val)).val = 31 - t.val := ScanRef.ch_of_lt (by omega)

/- Which block each window takes at a point. -/
theorem ix0_0 : ∀ t : Fin cfg0.N, win0_0.index t = ![t.val, 0] := by decide +kernel
theorem ix0_1 : ∀ t : Fin cfg0.N, win0_1.index t = ![t.val, 0] := by decide +kernel
theorem ix0_3 : ∀ t : Fin cfg0.N, win0_3.index t = ![t.val, 0] := by decide +kernel
theorem ix0_5 : ∀ t : Fin cfg0.N, win0_5.index t = ![0, t.val, 0, 0] := by decide +kernel
theorem ix0_7 : ∀ t : Fin cfg0.N, win0_7.index t = ![0, t.val, 0, 0] := by decide +kernel
theorem ix1_0 : ∀ t : Fin cfg1.N, win1_0.index t = ![31 - t.val, 0] := by decide +kernel
theorem ix1_1 : ∀ t : Fin cfg1.N, win1_1.index t = ![31 - t.val, 0] := by decide +kernel
theorem ix1_2 : ∀ t : Fin cfg1.N, win1_2.index t = ![31 - t.val, 0] := by decide +kernel
theorem ix1_3 : ∀ t : Fin cfg1.N, win1_3.index t = ![31 - t.val, 0] := by decide +kernel
theorem ix1_7 : ∀ t : Fin cfg1.N, win1_7.index t = ![31 - t.val, 0] := by decide +kernel
theorem ix1_8 : ∀ t : Fin cfg1.N, win1_8.index t = ![31 - t.val, 0] := by decide +kernel
theorem ix1_9 : ∀ t : Fin cfg1.N, win1_9.index t = ![31 - t.val, 0] := by decide +kernel
theorem ix1_10 : ∀ t : Fin cfg1.N, win1_10.index t = ![31 - t.val, 0] := by decide +kernel
theorem ix1_11 : ∀ t : Fin cfg1.N, win1_11.index t = ![31 - t.val, 0] := by decide +kernel
theorem ix1_4 : ∀ t : Fin cfg1.N, win1_4.index t = ![0, 31 - t.val, 0] := by decide +kernel
theorem ix1_12 : ∀ t : Fin cfg1.N, win1_12.index t = ![0, 31 - t.val, 0] := by decide +kernel
theorem ix1_5 : ∀ t : Fin cfg1.N, win1_5.index t = ![0, 31 - t.val, 0, 0] := by decide +kernel
theorem ix1_13 : ∀ t : Fin cfg1.N, win1_13.index t = ![0, 31 - t.val, 0, 0] := by decide +kernel
theorem ix1_6 : ∀ t : Fin cfg1.N, win1_6.index t = ![0, 31 - t.val, 0, 0] := by decide +kernel

/- The blocks fetched are the chunks of the arguments. -/
theorem blk0_0_eq (t : Fin cfg0.N) : stack (blk0 V c 0 t) = kU V c (ch t.val) := by
  funext j
  refine congrArg (V c main_arg0) (funext fun a => Fin.ext ?_)
  have h := ix0_0 t
  have hc := ch0 t
  match a with
  | ⟨0, _⟩ =>
    show win0_0.index t 0 * 64 + 1 * (j 1).val = (ch t.val).val * 64 + (j 1).val
    have e : win0_0.index t 0 = t.val := congrFun h 0
    rw [e]; omega
  | ⟨1, _⟩ =>
    show win0_0.index t 1 * 1024 + 1 * ((j 0).val * 128 + (j 2).val) = (j 0).val * 128 + (j 2).val
    have e : win0_0.index t 1 = 0 := congrFun h 1
    rw [e]; omega

theorem blk0_1_eq (t : Fin cfg0.N) : wide (blk0 V c 1 t) = kW V c (ch t.val) := by
  funext j
  refine congrArg (V c main_arg1) (funext fun a => Fin.ext ?_)
  have h := ix0_1 t
  have hc := ch0 t
  match a with
  | ⟨0, _⟩ =>
    show win0_1.index t 0 * 64 + 1 * (j 1).val = (ch t.val).val * 64 + (j 1).val
    have e : win0_1.index t 0 = t.val := congrFun h 0
    rw [e]; omega
  | ⟨1, _⟩ =>
    show win0_1.index t 1 * 1024 + 1 * ((j 0).val * 128 + (j 2).val) = (j 0).val * 128 + (j 2).val
    have e : win0_1.index t 1 = 0 := congrFun h 1
    rw [e]; omega

theorem blk0_3_eq (t : Fin cfg0.N) : wide (blk0 V c 3 t) = kK V c (ch t.val) := by
  funext j
  refine congrArg (V c main_arg3) (funext fun a => Fin.ext ?_)
  have h := ix0_3 t
  have hc := ch0 t
  match a with
  | ⟨0, _⟩ =>
    show win0_3.index t 0 * 64 + 1 * (j 1).val = (ch t.val).val * 64 + (j 1).val
    have e : win0_3.index t 0 = t.val := congrFun h 0
    rw [e]; omega
  | ⟨1, _⟩ =>
    show win0_3.index t 1 * 1024 + 1 * ((j 0).val * 128 + (j 2).val) = (j 0).val * 128 + (j 2).val
    have e : win0_3.index t 1 = 0 := congrFun h 1
    rw [e]; omega

theorem blk0_5_eq (t : Fin cfg0.N) : sqE (blk0 V c 5 t) = kE V c (ch t.val) := by
  funext j
  refine congrArg (V c main_arg5) (funext fun a => Fin.ext ?_)
  have h := ix0_5 t
  have hc := ch0 t
  match a with
  | ⟨0, _⟩ =>
    show win0_5.index t 0 * 8 + 1 * (j 0).val = (j 0).val
    have e : win0_5.index t 0 = 0 := congrFun h 0
    rw [e]; omega
  | ⟨1, _⟩ =>
    show win0_5.index t 1 * 1 + 1 * 0 = (ch t.val).val
    have e : win0_5.index t 1 = t.val := congrFun h 1
    rw [e]; omega
  | ⟨2, _⟩ =>
    show win0_5.index t 2 * 1 + 1 * (j 1).val = (j 1).val
    have e : win0_5.index t 2 = 0 := congrFun h 2
    rw [e]; omega
  | ⟨3, _⟩ =>
    show win0_5.index t 3 * 128 + 1 * (j 2).val = (j 2).val
    have e : win0_5.index t 3 = 0 := congrFun h 3
    rw [e]; omega

theorem blk1_0_eq (t : Fin cfg1.N) : stack (blk1 V c 0 t) = kU V c (ch (31 - t.val)) := by
  funext j
  refine congrArg (V c main_arg0) (funext fun a => Fin.ext ?_)
  have h := ix1_0 t
  have hc := ch1 t
  match a with
  | ⟨0, _⟩ =>
    show win1_0.index t 0 * 64 + 1 * (j 1).val = (ch (31 - t.val)).val * 64 + (j 1).val
    have e : win1_0.index t 0 = 31 - t.val := congrFun h 0
    rw [e]; omega
  | ⟨1, _⟩ =>
    show win1_0.index t 1 * 1024 + 1 * ((j 0).val * 128 + (j 2).val) = (j 0).val * 128 + (j 2).val
    have e : win1_0.index t 1 = 0 := congrFun h 1
    rw [e]; omega

theorem blk1_1_eq (t : Fin cfg1.N) : wide (blk1 V c 1 t) = kW V c (ch (31 - t.val)) := by
  funext j
  refine congrArg (V c main_arg1) (funext fun a => Fin.ext ?_)
  have h := ix1_1 t
  have hc := ch1 t
  match a with
  | ⟨0, _⟩ =>
    show win1_1.index t 0 * 64 + 1 * (j 1).val = (ch (31 - t.val)).val * 64 + (j 1).val
    have e : win1_1.index t 0 = 31 - t.val := congrFun h 0
    rw [e]; omega
  | ⟨1, _⟩ =>
    show win1_1.index t 1 * 1024 + 1 * ((j 0).val * 128 + (j 2).val) = (j 0).val * 128 + (j 2).val
    have e : win1_1.index t 1 = 0 := congrFun h 1
    rw [e]; omega

theorem blk1_2_eq (t : Fin cfg1.N) : wide (blk1 V c 2 t) = kQ V c (ch (31 - t.val)) := by
  funext j
  refine congrArg (V c main_arg2) (funext fun a => Fin.ext ?_)
  have h := ix1_2 t
  have hc := ch1 t
  match a with
  | ⟨0, _⟩ =>
    show win1_2.index t 0 * 64 + 1 * (j 1).val = (ch (31 - t.val)).val * 64 + (j 1).val
    have e : win1_2.index t 0 = 31 - t.val := congrFun h 0
    rw [e]; omega
  | ⟨1, _⟩ =>
    show win1_2.index t 1 * 1024 + 1 * ((j 0).val * 128 + (j 2).val) = (j 0).val * 128 + (j 2).val
    have e : win1_2.index t 1 = 0 := congrFun h 1
    rw [e]; omega

theorem blk1_3_eq (t : Fin cfg1.N) : wide (blk1 V c 3 t) = kK V c (ch (31 - t.val)) := by
  funext j
  refine congrArg (V c main_arg3) (funext fun a => Fin.ext ?_)
  have h := ix1_3 t
  have hc := ch1 t
  match a with
  | ⟨0, _⟩ =>
    show win1_3.index t 0 * 64 + 1 * (j 1).val = (ch (31 - t.val)).val * 64 + (j 1).val
    have e : win1_3.index t 0 = 31 - t.val := congrFun h 0
    rw [e]; omega
  | ⟨1, _⟩ =>
    show win1_3.index t 1 * 1024 + 1 * ((j 0).val * 128 + (j 2).val) = (j 0).val * 128 + (j 2).val
    have e : win1_3.index t 1 = 0 := congrFun h 1
    rw [e]; omega

theorem blk1_4_eq (t : Fin cfg1.N) : (extf .f32 (blk1 V c 4 t : FVec Ideal S8x64x64 .bf16) bitsLt_bf16_f32) = kA V c (ch (31 - t.val)) := by
  funext j
  refine congrArg (V c main_arg4) (funext fun a => Fin.ext ?_)
  have h := ix1_4 t
  have hc := ch1 t
  match a with
  | ⟨0, _⟩ =>
    show win1_4.index t 0 * 8 + 1 * (j 0).val = (j 0).val
    have e : win1_4.index t 0 = 0 := congrFun h 0
    rw [e]; omega
  | ⟨1, _⟩ =>
    show win1_4.index t 1 * 64 + 1 * (j 1).val = (ch (31 - t.val)).val * 64 + (j 1).val
    have e : win1_4.index t 1 = 31 - t.val := congrFun h 1
    rw [e]; omega
  | ⟨2, _⟩ =>
    show win1_4.index t 2 * 64 + 1 * (j 2).val = (j 2).val
    have e : win1_4.index t 2 = 0 := congrFun h 2
    rw [e]; omega

theorem blk1_5_eq (t : Fin cfg1.N) : sqE (blk1 V c 5 t) = kE V c (ch (31 - t.val)) := by
  funext j
  refine congrArg (V c main_arg5) (funext fun a => Fin.ext ?_)
  have h := ix1_5 t
  have hc := ch1 t
  match a with
  | ⟨0, _⟩ =>
    show win1_5.index t 0 * 8 + 1 * (j 0).val = (j 0).val
    have e : win1_5.index t 0 = 0 := congrFun h 0
    rw [e]; omega
  | ⟨1, _⟩ =>
    show win1_5.index t 1 * 1 + 1 * 0 = (ch (31 - t.val)).val
    have e : win1_5.index t 1 = 31 - t.val := congrFun h 1
    rw [e]; omega
  | ⟨2, _⟩ =>
    show win1_5.index t 2 * 1 + 1 * (j 1).val = (j 1).val
    have e : win1_5.index t 2 = 0 := congrFun h 2
    rw [e]; omega
  | ⟨3, _⟩ =>
    show win1_5.index t 3 * 128 + 1 * (j 2).val = (j 2).val
    have e : win1_5.index t 3 = 0 := congrFun h 3
    rw [e]; omega

theorem blk1_7_eq (t : Fin cfg1.N) : stack (blk1 V c 7 t) = kO V c (ch (31 - t.val)) := by
  funext j
  refine congrArg (V c main_arg6) (funext fun a => Fin.ext ?_)
  have h := ix1_7 t
  have hc := ch1 t
  match a with
  | ⟨0, _⟩ =>
    show win1_7.index t 0 * 64 + 1 * (j 1).val = (ch (31 - t.val)).val * 64 + (j 1).val
    have e : win1_7.index t 0 = 31 - t.val := congrFun h 0
    rw [e]; omega
  | ⟨1, _⟩ =>
    show win1_7.index t 1 * 1024 + 1 * ((j 0).val * 128 + (j 2).val) = (j 0).val * 128 + (j 2).val
    have e : win1_7.index t 1 = 0 := congrFun h 1
    rw [e]; omega

/-- The forward call's carried scratch is the reference's state. -/
theorem car0_eq : ∀ n, n ≤ 32 → car0 V c n = kS V c n
  | 0, _ => pay9_eq
  | n + 1, h => by
    have hn : n < cfg0.N := lt_of_lt_of_eq (by omega) (show cfg0.N = 32 from N_0).symm
    refine (car0_succ V c ⟨n, hn⟩).trans ((fwdState_eq _ _ _ _ _).trans ?_)
    rw [blk0_0_eq V c ⟨n, hn⟩, blk0_1_eq V c ⟨n, hn⟩, blk0_3_eq V c ⟨n, hn⟩, blk0_5_eq V c ⟨n, hn⟩, car0_eq n (by omega)]
    rfl

/- One element of an array glued from its chunks. -/
theorem saved_at (g : Fin 32 → S8x128x128.Idx → Ideal .f32) (i : S8x32x128x128.Idx) (k : Fin 32) (j : S8x128x128.Idx)
    (h0 : (i 0).val = (j 0).val) (h1 : (i 1).val = k.val) (h2 : (i 2).val = (j 1).val) (h3 : (i 3).val = (j 2).val) : saved g i = g k j := by
  have hk : i 1 = k := Fin.ext h1
  show g (i 1) _ = g k j
  rw [hk]
  refine congrArg (g k) (funext fun a => Fin.ext ?_)
  match a with
  | ⟨0, _⟩ => exact h0
  | ⟨1, _⟩ => exact h2
  | ⟨2, _⟩ => exact h3

theorem glue_at (g : Fin 32 → S8x64x128.Idx → Ideal .f32) (i : S2048x1024.Idx) (k : Fin 32) (j : S8x64x128.Idx)
    (h0 : (i 0).val = k.val * 64 + (j 1).val) (h1 : (i 1).val = (j 0).val * 128 + (j 2).val) : glue g i = g k j := by
  have b1 : (j 1).val < 64 := (j 1).isLt
  have b2 : (j 2).val < 128 := (j 2).isLt
  unfold glue
  refine (congrArg₂ (fun (k : Fin 32) (j : S8x64x128.Idx) => g k j) (Fin.ext ?_ : _ = k) (funext fun a => Fin.ext ?_ : _ = j))
  · show (i 0).val / 64 = k.val
    omega
  · match a with
    | ⟨0, _⟩ => show (i 1).val / 128 = (j 0).val; omega
    | ⟨1, _⟩ => show (i 0).val % 64 = (j 1).val; omega
    | ⟨2, _⟩ => show (i 1).val % 128 = (j 2).val; omega

theorem glueA_at (g : Fin 32 → S8x64x64.Idx → Ideal .f32) (i : S8x2048x64.Idx) (k : Fin 32) (j : S8x64x64.Idx)
    (h0 : (i 0).val = (j 0).val) (h1 : (i 1).val = k.val * 64 + (j 1).val) (h2 : (i 2).val = (j 2).val) : glueA g i = g k j := by
  have b1 : (j 1).val < 64 := (j 1).isLt
  unfold glueA
  refine (congrArg₂ (fun (k : Fin 32) (j : S8x64x64.Idx) => g k j) (Fin.ext ?_ : _ = k) (funext fun a => Fin.ext ?_ : _ = j))
  · show (i 1).val / 64 = k.val
    omega
  · match a with
    | ⟨0, _⟩ => exact h0
    | ⟨1, _⟩ => show (i 1).val % 64 = (j 1).val; omega
    | ⟨2, _⟩ => exact h2

theorem glueE_at (g : Fin 32 → S8x1x128.Idx → Ideal .f32) (i : S8x32x1x128.Idx) (k : Fin 32) (j : S8x1x128.Idx)
    (h0 : (i 0).val = (j 0).val) (h1 : (i 1).val = k.val) (h3 : (i 3).val = (j 2).val) : glueE g i = g k j := by
  have hk : i 1 = k := Fin.ext h1
  show g (i 1) _ = g k j
  rw [hk]
  refine congrArg (g k) (funext fun a => Fin.ext ?_)
  match a with
  | ⟨0, _⟩ => exact h0
  | ⟨1, _⟩ => exact congrArg Fin.val (Subsingleton.elim (α := Fin 1) (i 2) (j 1))
  | ⟨2, _⟩ => exact h3

theorem pay10_at (s : FVec Ideal S8x128x128 .f32) (y : S8x1x128x128.Idx) : k0_pay10 (F := Ideal) s y = s (ix3 (y 0) (y 2) (y 3)) := by
  refine shapeCast_apply _ _ _ _ ?_
  rw [Shape.rowMajor_val_four, Shape.rowMajor_val_three]
  have h : (y 1).val < 1 := (y 1).isLt
  show ((y 0).val * 128 + (y 2).val) * 128 + (y 3).val = (((y 0).val * 1 + (y 1).val) * 128 + (y 2).val) * 128 + (y 3).val
  omega

/-- The forward call saves the states. -/
theorem arr0_7 : (dat0 V c).arrAt 7 cfg0.N = saved (fun k => kS V c k.val) := by
  refine (dat0 V c).arrAt_eq_of_covers 7 _ (by decide +kernel) (fun t hf y => ?_)
  have h := ix0_7 t
  have ht := lt0 t
  have hy : (y 1).val < 1 := (y 1).isLt
  blk_simp
  rw [after0_7, car0_eq V c t.val (by omega)]
  refine (pay10_at _ _).trans (saved_at (fun k => kS V c k.val) _ ⟨t.val, ht⟩ (ix3 (y 0) (y 2) (y 3)) ?_ ?_ ?_ ?_).symm
  · show win0_7.index t 0 * 8 + 1 * (y 0).val = (y 0).val
    have e : win0_7.index t 0 = 0 := congrFun h 0
    rw [e]; omega
  · show win0_7.index t 1 * 1 + 1 * (y 1).val = t.val
    have e : win0_7.index t 1 = t.val := congrFun h 1
    rw [e]; omega
  · show win0_7.index t 2 * 128 + 1 * (y 2).val = (y 2).val
    have e : win0_7.index t 2 = 0 := congrFun h 2
    rw [e]; omega
  · show win0_7.index t 3 * 128 + 1 * (y 3).val = (y 3).val
    have e : win0_7.index t 3 = 0 := congrFun h 3
    rw [e]; omega

/-- The backward call's carried scratch is the gradient of the reference's state. -/
theorem car1_eq : ∀ n, n ≤ 32 → car1 V c n = kG V c n
  | 0, _ => pay6_eq
  | n + 1, h => by
    have hn : n < cfg1.N := lt_of_lt_of_eq (by omega) (show cfg1.N = 32 from N_1).symm
    refine (car1_succ V c ⟨n, hn⟩).trans ((bState_eq _ _ _ _ _ _ _).trans ?_)
    rw [blk1_1_eq V c ⟨n, hn⟩, blk1_2_eq V c ⟨n, hn⟩, blk1_3_eq V c ⟨n, hn⟩, blk1_4_eq V c ⟨n, hn⟩, blk1_5_eq V c ⟨n, hn⟩, blk1_7_eq V c ⟨n, hn⟩, car1_eq n (by omega)]
    rfl

/-- A chunk's saved state, when the array of saved states is the forward call's. -/
theorem blk1_6_eq (hV : V c main_v0_1 = saved (fun k => kS V c k.val)) (t : Fin cfg1.N) : sqS (blk1 V c 6 t) = kS V c (31 - t.val) := by
  funext j
  have h := ix1_6 t
  have ht := lt1 t
  have e : ∀ (i : S8x32x128x128.Idx), V c main_v0_1 i = saved (fun k => kS V c k.val) i := fun i => congrFun hV i
  refine (e _).trans (saved_at (fun k => kS V c k.val) _ ⟨31 - t.val, by omega⟩ j ?_ ?_ ?_ ?_)
  · show win1_6.index t 0 * 8 + 1 * (j 0).val = (j 0).val
    have e : win1_6.index t 0 = 0 := congrFun h 0
    rw [e]; omega
  · show win1_6.index t 1 * 1 + 1 * 0 = 31 - t.val
    have e : win1_6.index t 1 = 31 - t.val := congrFun h 1
    rw [e]; omega
  · show win1_6.index t 2 * 128 + 1 * (j 1).val = (j 1).val
    have e : win1_6.index t 2 = 0 := congrFun h 2
    rw [e]; omega
  · show win1_6.index t 3 * 128 + 1 * (j 2).val = (j 2).val
    have e : win1_6.index t 3 = 0 := congrFun h 3
    rw [e]; omega

/-- Reading back a glued chunk index. -/
theorem back (t : Fin cfg1.N) : 31 - (ch (31 - t.val)).val = t.val := by have h := ch1 t; have ht := lt1 t; omega

theorem arr1_8 : (dat1 V c).arrAt 8 cfg1.N = glue (fun l => rDu (kK V c l) (kO V c l) (kA V c l) (kG V c (31 - l.val))) := by
  refine (dat1 V c).arrAt_eq_of_covers 8 _ (by decide +kernel) (fun t hf y => ?_)
  have h := ix1_8 t
  have ht := lt1 t
  have hc := ch1 t
  blk_simp
  have hb : bDu (blk1 V c 3 t) (blk1 V c 4 t) (blk1 V c 7 t) (car1 V c t.val) = (fun l : Fin 32 => rDu (kK V c l) (kO V c l) (kA V c l) (kG V c (31 - l.val))) (ch (31 - t.val)) := by
    rw [bDu_eq, blk1_3_eq V c t, blk1_4_eq V c t, blk1_7_eq V c t, car1_eq V c t.val (by omega)]
    simp only [back t]
  rw [after1_8, hb]
  refine (glue_at (fun l => rDu (kK V c l) (kO V c l) (kA V c l) (kG V c (31 - l.val))) _ (ch (31 - t.val)) (ix3 ⟨(y 1).val / 128, _⟩ (y 0) ⟨(y 1).val % 128, _⟩) ?_ ?_).symm
  · show win1_8.index t 0 * 64 + 1 * (y 0).val = (ch (31 - t.val)).val * 64 + (y 0).val
    have e : win1_8.index t 0 = 31 - t.val := congrFun h 0
    rw [e]; omega
  · show win1_8.index t 1 * 1024 + 1 * (y 1).val = (y 1).val / 128 * 128 + (y 1).val % 128
    have e : win1_8.index t 1 = 0 := congrFun h 1
    rw [e]; omega

theorem arr1_9 (hV : V c main_v0_1 = saved (fun k => kS V c k.val)) : (dat1 V c).arrAt 9 cfg1.N = glue (fun l => rDw (kK V c l) (kO V c l) (kA V c l) (kS V c l.val) (kG V c (31 - l.val))) := by
  refine (dat1 V c).arrAt_eq_of_covers 9 _ (by decide +kernel) (fun t hf y => ?_)
  have h := ix1_9 t
  have ht := lt1 t
  have hc := ch1 t
  blk_simp
  have hb : bDw (blk1 V c 3 t) (blk1 V c 4 t) (blk1 V c 6 t) (blk1 V c 7 t) (car1 V c t.val) = (fun l : Fin 32 => rDw (kK V c l) (kO V c l) (kA V c l) (kS V c l.val) (kG V c (31 - l.val))) (ch (31 - t.val)) := by
    rw [bDw_eq, blk1_3_eq V c t, blk1_4_eq V c t, blk1_6_eq V c hV t, blk1_7_eq V c t, car1_eq V c t.val (by omega)]
    simp only [hc, show 31 - (31 - t.val) = t.val from by omega]
  rw [after1_9, hb]
  refine (glue_at (fun l => rDw (kK V c l) (kO V c l) (kA V c l) (kS V c l.val) (kG V c (31 - l.val))) _ (ch (31 - t.val)) (ix3 ⟨(y 1).val / 128, _⟩ (y 0) ⟨(y 1).val % 128, _⟩) ?_ ?_).symm
  · show win1_9.index t 0 * 64 + 1 * (y 0).val = (ch (31 - t.val)).val * 64 + (y 0).val
    have e : win1_9.index t 0 = 31 - t.val := congrFun h 0
    rw [e]; omega
  · show win1_9.index t 1 * 1024 + 1 * (y 1).val = (y 1).val / 128 * 128 + (y 1).val % 128
    have e : win1_9.index t 1 = 0 := congrFun h 1
    rw [e]; omega

theorem arr1_10 (hV : V c main_v0_1 = saved (fun k => kS V c k.val)) : (dat1 V c).arrAt 10 cfg1.N = glue (fun l => rDq (kO V c l) (kS V c l.val)) := by
  refine (dat1 V c).arrAt_eq_of_covers 10 _ (by decide +kernel) (fun t hf y => ?_)
  have h := ix1_10 t
  have ht := lt1 t
  have hc := ch1 t
  blk_simp
  have hb : bDq (blk1 V c 6 t) (blk1 V c 7 t) = (fun l : Fin 32 => rDq (kO V c l) (kS V c l.val)) (ch (31 - t.val)) := by
    rw [bDq_eq, blk1_6_eq V c hV t, blk1_7_eq V c t]
    simp only [hc]
  rw [after1_10, hb]
  refine (glue_at (fun l => rDq (kO V c l) (kS V c l.val)) _ (ch (31 - t.val)) (ix3 ⟨(y 1).val / 128, _⟩ (y 0) ⟨(y 1).val % 128, _⟩) ?_ ?_).symm
  · show win1_10.index t 0 * 64 + 1 * (y 0).val = (ch (31 - t.val)).val * 64 + (y 0).val
    have e : win1_10.index t 0 = 31 - t.val := congrFun h 0
    rw [e]; omega
  · show win1_10.index t 1 * 1024 + 1 * (y 1).val = (y 1).val / 128 * 128 + (y 1).val % 128
    have e : win1_10.index t 1 = 0 := congrFun h 1
    rw [e]; omega

theorem arr1_11 (hV : V c main_v0_1 = saved (fun k => kS V c k.val)) : (dat1 V c).arrAt 11 cfg1.N = glue (fun l => rDk (rV (kU V c l) (kW V c l) (kS V c l.val)) (kG V c (31 - l.val))) := by
  refine (dat1 V c).arrAt_eq_of_covers 11 _ (by decide +kernel) (fun t hf y => ?_)
  have h := ix1_11 t
  have ht := lt1 t
  have hc := ch1 t
  blk_simp
  have hb : bDk (blk1 V c 0 t) (blk1 V c 1 t) (blk1 V c 6 t) (car1 V c t.val) = (fun l : Fin 32 => rDk (rV (kU V c l) (kW V c l) (kS V c l.val)) (kG V c (31 - l.val))) (ch (31 - t.val)) := by
    rw [bDk_eq, blk1_0_eq V c t, blk1_1_eq V c t, blk1_6_eq V c hV t, car1_eq V c t.val (by omega)]
    simp only [hc, show 31 - (31 - t.val) = t.val from by omega]
  rw [after1_11, hb]
  refine (glue_at (fun l => rDk (rV (kU V c l) (kW V c l) (kS V c l.val)) (kG V c (31 - l.val))) _ (ch (31 - t.val)) (ix3 ⟨(y 1).val / 128, _⟩ (y 0) ⟨(y 1).val % 128, _⟩) ?_ ?_).symm
  · show win1_11.index t 0 * 64 + 1 * (y 0).val = (ch (31 - t.val)).val * 64 + (y 0).val
    have e : win1_11.index t 0 = 31 - t.val := congrFun h 0
    rw [e]; omega
  · show win1_11.index t 1 * 1024 + 1 * (y 1).val = (y 1).val / 128 * 128 + (y 1).val % 128
    have e : win1_11.index t 1 = 0 := congrFun h 1
    rw [e]; omega

theorem arr1_12 (hV : V c main_v0_1 = saved (fun k => kS V c k.val)) : (dat1 V c).arrAt 12 cfg1.N = glueA (fun l => rDat (kO V c l) (rV (kU V c l) (kW V c l) (kS V c l.val))) := by
  refine (dat1 V c).arrAt_eq_of_covers 12 _ (by decide +kernel) (fun t hf y => ?_)
  have h := ix1_12 t
  have ht := lt1 t
  have hc := ch1 t
  blk_simp
  have hb : bDat (blk1 V c 0 t) (blk1 V c 1 t) (blk1 V c 6 t) (blk1 V c 7 t) = (fun l : Fin 32 => rDat (kO V c l) (rV (kU V c l) (kW V c l) (kS V c l.val))) (ch (31 - t.val)) := by
    rw [bDat_eq, blk1_0_eq V c t, blk1_1_eq V c t, blk1_6_eq V c hV t, blk1_7_eq V c t]
    simp only [hc]
  rw [after1_12, hb]
  refine (glueA_at (fun l => rDat (kO V c l) (rV (kU V c l) (kW V c l) (kS V c l.val))) _ (ch (31 - t.val)) y ?_ ?_ ?_).symm
  · show win1_12.index t 0 * 8 + 1 * (y 0).val = (y 0).val
    have e : win1_12.index t 0 = 0 := congrFun h 0
    rw [e]; omega
  · show win1_12.index t 1 * 64 + 1 * (y 1).val = (ch (31 - t.val)).val * 64 + (y 1).val
    have e : win1_12.index t 1 = 31 - t.val := congrFun h 1
    rw [e]; omega
  · show win1_12.index t 2 * 64 + 1 * (y 2).val = (y 2).val
    have e : win1_12.index t 2 = 0 := congrFun h 2
    rw [e]; omega

theorem arr1_13 (hV : V c main_v0_1 = saved (fun k => kS V c k.val)) : (dat1 V c).arrAt 13 cfg1.N = glueE (fun l => rDel (kS V c l.val) (kG V c (31 - l.val))) := by
  refine (dat1 V c).arrAt_eq_of_covers 13 _ (by decide +kernel) (fun t hf y => ?_)
  have h := ix1_13 t
  have ht := lt1 t
  have hc := ch1 t
  blk_simp
  have hb : sqE (bDel (blk1 V c 6 t) (car1 V c t.val)) = (fun l : Fin 32 => rDel (kS V c l.val) (kG V c (31 - l.val))) (ch (31 - t.val)) := by
    rw [bDel_eq, blk1_6_eq V c hV t, car1_eq V c t.val (by omega)]
    simp only [hc, show 31 - (31 - t.val) = t.val from by omega]
  have hy : (y 1).val < 1 := (y 1).isLt
  rw [after1_13]
  have hq : bDel (blk1 V c 6 t) (car1 V c t.val) y = sqE (bDel (blk1 V c 6 t) (car1 V c t.val)) (ix3 (y 0) (y 2) (y 3)) := by
    refine congrArg (bDel (blk1 V c 6 t) (car1 V c t.val)) (funext fun a => Fin.ext ?_)
    match a with
    | ⟨0, _⟩ => rfl
    | ⟨1, _⟩ => show (y 1).val = 0; omega
    | ⟨2, _⟩ => rfl
    | ⟨3, _⟩ => rfl
  refine (hq.trans (congrFun hb _)).trans (glueE_at (fun l => rDel (kS V c l.val) (kG V c (31 - l.val))) _ (ch (31 - t.val)) (ix3 (y 0) (y 2) (y 3)) ?_ ?_ ?_).symm
  · show win1_13.index t 0 * 8 + 1 * (y 0).val = (y 0).val
    have e : win1_13.index t 0 = 0 := congrFun h 0
    rw [e]; omega
  · show win1_13.index t 1 * 1 + 1 * (y 1).val = (ch (31 - t.val)).val
    have e : win1_13.index t 1 = 31 - t.val := congrFun h 1
    rw [e]; omega
  · show win1_13.index t 3 * 128 + 1 * (y 3).val = (y 3).val
    have e : win1_13.index t 3 = 0 := congrFun h 3
    rw [e]; omega

end Cert.Scan

end
-- ==== Proof.Equal.lean ====
/- The kernel's results and the reference's are the same arrays, from memories that agree on the arguments. -/
module

public import proofs.«01_k».proof.Proof.KerFin

@[expose] public section

noncomputable section

namespace Cert.Scan

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The backward call finds the forward call's saved states. -/
theorem found_saved : V1 m c main_v0_1 = saved (fun k => kS (V1 m) c k.val) := by
  have e : ∀ a ∈ argRefs, V1 m c a = V0 m c a := fun a ha => (W1_args m c a ha).trans (W0_args m c a ha).symm
  have e0 : kU (V1 m) c = kU (V0 m) c := by funext k; exact congrArg (fun x => ScanRef.chunk x k) (e main_arg0 (by decide))
  have e1 : kW (V1 m) c = kW (V0 m) c := by
    funext k; exact congrArg (fun x : FVec Ideal S2048x1024 .bf16 => ScanRef.chunk (extf .f32 x bitsLt_bf16_f32) k) (e main_arg1 (by decide))
  have e3 : kK (V1 m) c = kK (V0 m) c := by
    funext k; exact congrArg (fun x : FVec Ideal S2048x1024 .bf16 => ScanRef.chunk (extf .f32 x bitsLt_bf16_f32) k) (e main_arg3 (by decide))
  have e5 : kE (V1 m) c = kE (V0 m) c := by funext k; exact congrArg (fun x => ScanRef.chunkE x k) (e main_arg5 (by decide))
  refine (W1_arr m c 7).trans ((arr0_7 (V0 m) c).trans ?_)
  unfold kS
  rw [e0, e1, e3, e5]

variable (m' : (ℓ : Loc ReferenceIdeal.nD ReferenceIdeal.τ ReferenceIdeal.sig) → Buf (Elt Ideal) ℓ)

variable (h0 : m' ((c.tc : Thread ReferenceIdeal.nD ReferenceIdeal.τ).loc ReferenceIdeal.main_arg0) = m ((c.tc : Thread nD τ).loc main_arg0))
variable (h1 : m' ((c.tc : Thread ReferenceIdeal.nD ReferenceIdeal.τ).loc ReferenceIdeal.main_arg1) = m ((c.tc : Thread nD τ).loc main_arg1))
variable (h2 : m' ((c.tc : Thread ReferenceIdeal.nD ReferenceIdeal.τ).loc ReferenceIdeal.main_arg2) = m ((c.tc : Thread nD τ).loc main_arg2))
variable (h3 : m' ((c.tc : Thread ReferenceIdeal.nD ReferenceIdeal.τ).loc ReferenceIdeal.main_arg3) = m ((c.tc : Thread nD τ).loc main_arg3))
variable (h4 : m' ((c.tc : Thread ReferenceIdeal.nD ReferenceIdeal.τ).loc ReferenceIdeal.main_arg4) = m ((c.tc : Thread nD τ).loc main_arg4))
variable (h5 : m' ((c.tc : Thread ReferenceIdeal.nD ReferenceIdeal.τ).loc ReferenceIdeal.main_arg5) = m ((c.tc : Thread nD τ).loc main_arg5))
variable (h6 : m' ((c.tc : Thread ReferenceIdeal.nD ReferenceIdeal.τ).loc ReferenceIdeal.main_arg6) = m ((c.tc : Thread nD τ).loc main_arg6))

/- The chunks are the same. -/
include h0 in
theorem sameU : ScanRef.cU m' c = kU (V1 m) c := by
  funext k; exact congrArg (fun x : FVec Ideal S2048x1024 .f32 => ScanRef.chunk x k) (h0.trans (W1_args m c main_arg0 (by decide)).symm)
include h1 in
theorem sameW : ScanRef.cW m' c = kW (V1 m) c := by
  funext k; exact congrArg (fun x : FVec Ideal S2048x1024 .bf16 => ScanRef.chunk (extf .f32 x bitsLt_bf16_f32) k) (h1.trans (W1_args m c main_arg1 (by decide)).symm)
include h2 in
theorem sameQ : ScanRef.cQ m' c = kQ (V1 m) c := by
  funext k; exact congrArg (fun x : FVec Ideal S2048x1024 .bf16 => ScanRef.chunk (extf .f32 x bitsLt_bf16_f32) k) (h2.trans (W1_args m c main_arg2 (by decide)).symm)
include h3 in
theorem sameK : ScanRef.cK m' c = kK (V1 m) c := by
  funext k; exact congrArg (fun x : FVec Ideal S2048x1024 .bf16 => ScanRef.chunk (extf .f32 x bitsLt_bf16_f32) k) (h3.trans (W1_args m c main_arg3 (by decide)).symm)
include h4 in
theorem sameA : ScanRef.cA m' c = kA (V1 m) c := by
  funext k; exact congrArg (fun x : FVec Ideal S8x2048x64 .bf16 => ScanRef.chunkA (extf .f32 x bitsLt_bf16_f32) k) (h4.trans (W1_args m c main_arg4 (by decide)).symm)
include h5 in
theorem sameE : ScanRef.cE m' c = kE (V1 m) c := by
  funext k; exact congrArg (fun x : FVec Ideal S8x32x1x128 .f32 => ScanRef.chunkE x k) (h5.trans (W1_args m c main_arg5 (by decide)).symm)
include h6 in
theorem sameO : ScanRef.cO m' c = kO (V1 m) c := by
  funext k; exact congrArg (fun x : FVec Ideal S2048x1024 .f32 => ScanRef.chunk x k) (h6.trans (W1_args m c main_arg6 (by decide)).symm)

include h0 h1 h2 h3 h4 h5 h6 in
theorem same_du : W2 m c (Proc.devRef .tc main_v1_0) = ScanRef.final m' c (Proc.devRef .tc ReferenceIdeal.main_v41) := by
  refine (W2_arr m c 8).trans ((arr1_8 (V1 m) c).trans (Eq.symm ((ScanRef.final_du m' c).trans ?_)))
  refine congrArg ScanRef.glue (funext fun l => ?_)
  simp only [ScanRef.mDu, ScanRef.mG, ScanRef.mS, ScanRef.mV, sameU m c m' h0, sameW m c m' h1, sameQ m c m' h2, sameK m c m' h3, sameA m c m' h4, sameE m c m' h5, sameO m c m' h6,
    congrFun (sameU m c m' h0) l, congrFun (sameW m c m' h1) l, congrFun (sameQ m c m' h2) l, congrFun (sameK m c m' h3) l, congrFun (sameA m c m' h4) l, congrFun (sameE m c m' h5) l, congrFun (sameO m c m' h6) l]
include h0 h1 h2 h3 h4 h5 h6 in
theorem same_dw : W2 m c (Proc.devRef .tc main_v1_1) = ScanRef.final m' c (Proc.devRef .tc ReferenceIdeal.main_v39) := by
  refine (W2_arr m c 9).trans ((arr1_9 (V1 m) c (found_saved m c)).trans (Eq.symm ((ScanRef.final_dw m' c).trans ?_)))
  refine congrArg ScanRef.glue (funext fun l => ?_)
  simp only [ScanRef.mDw, ScanRef.mG, ScanRef.mS, ScanRef.mV, sameU m c m' h0, sameW m c m' h1, sameQ m c m' h2, sameK m c m' h3, sameA m c m' h4, sameE m c m' h5, sameO m c m' h6,
    congrFun (sameU m c m' h0) l, congrFun (sameW m c m' h1) l, congrFun (sameQ m c m' h2) l, congrFun (sameK m c m' h3) l, congrFun (sameA m c m' h4) l, congrFun (sameE m c m' h5) l, congrFun (sameO m c m' h6) l]
include h0 h1 h2 h3 h4 h5 h6 in
theorem same_dq : W2 m c (Proc.devRef .tc main_v1_2) = ScanRef.final m' c (Proc.devRef .tc ReferenceIdeal.main_v37) := by
  refine (W2_arr m c 10).trans ((arr1_10 (V1 m) c (found_saved m c)).trans (Eq.symm ((ScanRef.final_dq m' c).trans ?_)))
  refine congrArg ScanRef.glue (funext fun l => ?_)
  simp only [ScanRef.mDq, ScanRef.mG, ScanRef.mS, ScanRef.mV, sameU m c m' h0, sameW m c m' h1, sameQ m c m' h2, sameK m c m' h3, sameA m c m' h4, sameE m c m' h5, sameO m c m' h6,
    congrFun (sameU m c m' h0) l, congrFun (sameW m c m' h1) l, congrFun (sameQ m c m' h2) l, congrFun (sameK m c m' h3) l, congrFun (sameA m c m' h4) l, congrFun (sameE m c m' h5) l, congrFun (sameO m c m' h6) l]
include h0 h1 h2 h3 h4 h5 h6 in
theorem same_dk : W2 m c (Proc.devRef .tc main_v1_3) = ScanRef.final m' c (Proc.devRef .tc ReferenceIdeal.main_v35) := by
  refine (W2_arr m c 11).trans ((arr1_11 (V1 m) c (found_saved m c)).trans (Eq.symm ((ScanRef.final_dk m' c).trans ?_)))
  refine congrArg ScanRef.glue (funext fun l => ?_)
  simp only [ScanRef.mDk, ScanRef.mG, ScanRef.mS, ScanRef.mV, sameU m c m' h0, sameW m c m' h1, sameQ m c m' h2, sameK m c m' h3, sameA m c m' h4, sameE m c m' h5, sameO m c m' h6,
    congrFun (sameU m c m' h0) l, congrFun (sameW m c m' h1) l, congrFun (sameQ m c m' h2) l, congrFun (sameK m c m' h3) l, congrFun (sameA m c m' h4) l, congrFun (sameE m c m' h5) l, congrFun (sameO m c m' h6) l]
include h0 h1 h2 h3 h4 h5 h6 in
theorem same_dat : W2 m c (Proc.devRef .tc main_v1_4) = ScanRef.final m' c (Proc.devRef .tc ReferenceIdeal.main_v43) := by
  refine (W2_arr m c 12).trans ((arr1_12 (V1 m) c (found_saved m c)).trans (Eq.symm ((ScanRef.final_dat m' c).trans ?_)))
  refine congrArg ScanRef.glueA (funext fun l => ?_)
  simp only [ScanRef.mDat, ScanRef.mG, ScanRef.mS, ScanRef.mV, sameU m c m' h0, sameW m c m' h1, sameQ m c m' h2, sameK m c m' h3, sameA m c m' h4, sameE m c m' h5, sameO m c m' h6,
    congrFun (sameU m c m' h0) l, congrFun (sameW m c m' h1) l, congrFun (sameQ m c m' h2) l, congrFun (sameK m c m' h3) l, congrFun (sameA m c m' h4) l, congrFun (sameE m c m' h5) l, congrFun (sameO m c m' h6) l]
include h0 h1 h2 h3 h4 h5 h6 in
theorem same_del : W2 m c (Proc.devRef .tc main_v1_5) = ScanRef.final m' c (Proc.devRef .tc ReferenceIdeal.main_v33) := by
  refine (W2_arr m c 13).trans ((arr1_13 (V1 m) c (found_saved m c)).trans (Eq.symm ((ScanRef.final_del m' c).trans ?_)))
  refine congrArg ScanRef.glueE (funext fun l => ?_)
  simp only [ScanRef.mDel, ScanRef.mG, ScanRef.mS, ScanRef.mV, sameU m c m' h0, sameW m c m' h1, sameQ m c m' h2, sameK m c m' h3, sameA m c m' h4, sameE m c m' h5, sameO m c m' h6,
    congrFun (sameU m c m' h0) l, congrFun (sameW m c m' h1) l, congrFun (sameQ m c m' h2) l, congrFun (sameK m c m' h3) l, congrFun (sameA m c m' h4) l, congrFun (sameE m c m' h5) l, congrFun (sameO m c m' h6) l]

end Cert.Scan

end
-- ==== Proof.Transfer.lean ====
/- The two prints of the kernel are one program: their bodies, their tables and their main agree. -/
module

public import proofs.«01_k».proof.Kernel
public import proofs.«01_k».proof.KernelIdeal
public import proofs.«01_k».proof.Proof.Gen.Kernel
public import proofs.«01_k».proof.Proof.Gen.KernelIdeal
public import proofs.«01_k».proof.Proof.Equal

@[expose] public section

noncomputable section

namespace Cert.Scan

open Idealize.ShloMosaic

attribute [local instance] Cert.Kernel.Gen.facts Cert.KernelIdeal.Gen.facts

set_option maxHeartbeats 8000000 in
/-- The forward call's body, -/
theorem fwd_text : Cert.Kernel.cc0_gdn_state_fwd (F := Bits) = Cert.KernelIdeal.cc0_gdn_state_fwd (F := Bits) := by exact rfl
set_option maxHeartbeats 8000000 in
/-- and the backward call's. -/
theorem bwd_text : Cert.Kernel.cc1_gdn_state_bwd (F := Bits) = Cert.KernelIdeal.cc1_gdn_state_bwd (F := Bits) := by exact rfl

set_option maxHeartbeats 8000000 in
/-- The table of bodies. -/
theorem bodies_text : Cert.Kernel.defs₀ (F := Bits) = Cert.KernelIdeal.defs₀ (F := Bits) := by
  unfold Cert.Kernel.defs₀ Cert.KernelIdeal.defs₀
  rw [fwd_text, bwd_text]
  refine congrArg Defs.onTc (funext fun l => funext fun a => ?_)
  match l, a with
  | ⟨0, _⟩, (t, s) => exact rfl
  | ⟨1, _⟩, (t, s) => exact rfl

set_option maxHeartbeats 8000000 in
/-- The calls' tables. -/
theorem defs_text : Cert.Kernel.defs (F := Bits) = Cert.KernelIdeal.defs (F := Bits) :=
  congrArg (Pipeline.defs (Cert.KernelIdeal.pcfgs (F := Bits))) bodies_text

end Cert.Scan

end
-- ==== Proof.Mat.lean ====
module
public import Idealize.ShloMosaic.Lib.Pipeline.ValueKit
public import Idealize.ShloMosaic.Lib.Pointwise
public import Idealize.ShloMosaic.Lib.ValueLayout

/-! The matrix products the claims state, entry by entry over the extended reals, and the two layouts of a matrix whose
    columns lie in eight chunks. -/

@[expose] public section

noncomputable section

namespace Cert.Mat

open Idealize.ShloMosaic

variable {M K N : Nat}

/-- `A · B`. -/
def nn (A : (⟨2, ![M, K]⟩ : Shape).Idx → EReal) (B : (⟨2, ![K, N]⟩ : Shape).Idx → EReal) : (⟨2, ![M, N]⟩ : Shape).Idx → EReal :=
  fun i => ∑ k : Fin K, A (ix2 (i 0) k) * B (ix2 k (i 1))

/-- `A · Bᵀ`. -/
def nt (A : (⟨2, ![M, K]⟩ : Shape).Idx → EReal) (B : (⟨2, ![N, K]⟩ : Shape).Idx → EReal) : (⟨2, ![M, N]⟩ : Shape).Idx → EReal :=
  fun i => ∑ k : Fin K, A (ix2 (i 0) k) * B (ix2 (i 1) k)

/-- `Aᵀ · B`. -/
def tn (A : (⟨2, ![K, M]⟩ : Shape).Idx → EReal) (B : (⟨2, ![K, N]⟩ : Shape).Idx → EReal) : (⟨2, ![M, N]⟩ : Shape).Idx → EReal :=
  fun i => ∑ k : Fin K, A (ix2 k (i 0)) * B (ix2 k (i 1))

/-- The matrix of 8192 columns whose eight chunks of 1024 columns lie one after the other in `w`. -/
def join (w : (⟨3, ![8, 2048, 1024]⟩ : Shape).Idx → EReal) : (⟨2, ![2048, 8192]⟩ : Shape).Idx → EReal :=
  fun i => w (ix3 ⟨(i 1).val / 1024, by have := (i 1).isLt; simp only [Matrix.cons_val_one, Matrix.cons_val_fin_one] at this; omega⟩ (i 0) ⟨(i 1).val % 1024, Nat.mod_lt _ (by decide)⟩)

/-- A matrix of 8192 columns cut into eight chunks of 1024 columns. -/
def cut (w : (⟨2, ![2048, 8192]⟩ : Shape).Idx → EReal) : (⟨3, ![8, 2048, 1024]⟩ : Shape).Idx → EReal :=
  fun i => w (ix2 (i 1) ⟨(i 0).val * 1024 + (i 2).val, by have := (i 0).isLt; have := (i 2).isLt; simp at *; omega⟩)

/-- Laying the eight chunks of columns side by side is `join`. -/
theorem join_eq (w : (⟨3, ![8, 2048, 1024]⟩ : Shape).Idx → EReal) (h : (⟨3, ![8, 2048, 1024]⟩ : Shape).Transposes [1, 0, 2] ⟨3, ![2048, 8, 1024]⟩)
    (h' : (⟨3, ![2048, 8, 1024]⟩ : Shape).ShapeCasts ⟨2, ![2048, 8192]⟩) :
    shapeCast ⟨2, ![2048, 8192]⟩ (transpose ⟨3, ![2048, 8, 1024]⟩ [1, 0, 2] w h) h' = join w := by
  funext i
  obtain ⟨a, b, rfl⟩ : ∃ a b, i = ix2 a b := ⟨i 0, i 1, eq_ix2 i⟩
  refine (shapeCast_apply _ _ _ (ix3 a ⟨b.val / 1024, by omega⟩ ⟨b.val % 1024, Nat.mod_lt _ (by decide)⟩) ?_).trans ?_
  · rw [Shape.rowMajor_val_three, Shape.rowMajor_val_two]
    simp [ix2, ix3]
    omega
  · refine transpose_apply _ _ _ _ _ fun b => ?_
    fin_cases b <;> rfl

/-- Cutting the columns into eight chunks is `cut`. -/
theorem cut_eq (w : (⟨2, ![2048, 8192]⟩ : Shape).Idx → EReal) (h : (⟨2, ![2048, 8192]⟩ : Shape).ShapeCasts ⟨3, ![2048, 8, 1024]⟩)
    (h' : (⟨3, ![2048, 8, 1024]⟩ : Shape).Transposes [1, 0, 2] ⟨3, ![8, 2048, 1024]⟩) :
    transpose ⟨3, ![8, 2048, 1024]⟩ [1, 0, 2] (shapeCast ⟨3, ![2048, 8, 1024]⟩ w h) h' = cut w := by
  funext i
  obtain ⟨a, b, c, rfl⟩ : ∃ a b c, i = ix3 a b c := ⟨i 0, i 1, i 2, eq_ix3 i⟩
  refine (transpose_apply _ _ _ _ (ix3 b a c) fun b => ?_).trans ?_
  · fin_cases b <;> rfl
  · refine shapeCast_apply _ _ _ _ ?_
    rw [Shape.rowMajor_val_three, Shape.rowMajor_val_two]
    simp [ix2, ix3]
    omega

end Cert.Mat
-- ==== Proof.Mm2.lean ====
module
public import proofs.«01_k».proof.Proof.Gen.Kernel2Ideal.Value
public import proofs.«01_k».proof.Proof.Gen.Reference2Ideal.Run
public import proofs.«01_k».proof.Proof.Mat

/-! The gradient of the hidden layer before its activation: the launched product and the reference are both `(A · Bᵀ)` times twice the positive part of `p`. -/

@[expose] public section

noncomputable section

namespace Cert.Mm2

open Idealize.ShloMosaic Idealize.ShloMosaic.TcCoe Idealize.SL.Sem
open Idealize.ShloMosaic.Pipeline (Dat)

/-- `(A · Bᵀ)` times twice the positive part of `p`. -/
def res (p : (⟨2, ![2048, 8192]⟩ : Shape).Idx → EReal) (B : (⟨2, ![8192, 2048]⟩ : Shape).Idx → EReal) (A : (⟨2, ![2048, 2048]⟩ : Shape).Idx → EReal) :
    (⟨2, ![2048, 8192]⟩ : Shape).Idx → EReal :=
  fun i => Mat.nt A B i * (Ideal.ofBits .f32 0x40000000#32 * max (p i) 0)

section Kernel

open Cert.Kernel2Ideal Cert.Kernel2Ideal.Gen

variable (m : (ℓ : Loc nD τ sig) → Buf (Elt Ideal) ℓ)

theorem at0 : ∀ t : Fin grid0.N, win0_0.index t = ![0, 0] := by decide +kernel
theorem at1 : ∀ t : Fin grid0.N, win0_1.index t = ![(grid0.coords t 1).val, 0] := by decide +kernel
theorem at2 : ∀ t : Fin grid0.N, win0_2.index t = ![0, (grid0.coords t 1).val] := by decide +kernel
theorem at3 : ∀ t : Fin grid0.N, win0_3.index t = ![0, (grid0.coords t 1).val] := by decide +kernel

/-- The call's third operand is the positive part of `p`. -/
theorem third (c : Dev nD) (i : S2048x8192.Idx) : (V m c main_v1 : S2048x8192.Idx → EReal) i = max (show EReal from m ((c : Thread nD τ).loc main_arg0) i) 0 := by
  have h : V m c main_v1 = truncf (F := Ideal) .bf16 (maximumf (m ((c : Thread nD τ).loc main_arg0) : FVec Ideal S2048x8192 .f32) (broadcastInDim S2048x8192 ![] bcast_S_S2048x8192 (constant S_ .f32 0x00000000#32))) bitsLt_bf16_f32 := by
    unfold V
    simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
    after_results
  rw [h]
  pointwise

/-- After the run the result array of each device is `A · Bᵀ` times twice the positive part of `p`. -/
theorem arr (c : Dev nD) : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) (fun t hf y => ?_)
  blk_simp
  rw [after0_3]
  frame_out
  unfold k0_pay1
  pointwise
  refine congrArg₂ (· * ·) ?_ ?_
  · unfold Mat.nt
    refine Fin.sum_fin_congr fun k => ?_
    congr 1 <;> blk_ext [iblk, V, at0 t, at1 t, at3 t]
  · refine congrArg _ ?_
    refine Eq.trans ?_ (third m c _)
    blk_ext [iblk, at2 t, at3 t]

end Kernel

section Reference

open Cert.Reference2Ideal Cert.Reference2Ideal.Gen

/-- The reference's result is `A · Bᵀ` times twice the positive part of `p`. -/
theorem host (p : FVec Ideal S2048x8192 .f32) (B : FVec Ideal S8192x2048 .bf16) (A : FVec Ideal S2048x2048 .bf16) :
    truncf .bf16 (select (cmpf .ogt p (broadcastInDim S2048x8192 ![] bcast_S_S2048x8192 (constant S_ .f32 0x00000000#32))) (mulf (Host.dotGeneral dot_S2048x2048_S8192x2048_S2048x8192_1_1_0_0_n_n none (extf .f32 A bitsLt_bf16_f32) (extf .f32 B bitsLt_bf16_f32)) (mulf (broadcastInDim S2048x8192 ![] bcast_S_S2048x8192 (constant S_ .f32 0x40000000#32)) (maximumf p (broadcastInDim S2048x8192 ![] bcast_S_S2048x8192 (constant S_ .f32 0x00000000#32))))) (broadcastInDim S2048x8192 ![] bcast_S_S2048x8192 (constant S_ .f32 0x00000000#32))) bitsLt_bf16_f32 = res p B A := by
  funext i
  obtain ⟨a, b, rfl⟩ : ∃ a b, i = ix2 a b := ⟨i 0, i 1, eq_ix2 i⟩
  pointwise
  unfold res Mat.nt
  split_ifs with h
  · rfl
  · rw [max_eq_right (not_lt.mp h), mul_zero, mul_zero]

end Reference

end Cert.Mm2
-- ==== Proof.Mm3.lean ====
module
public import proofs.«01_k».proof.Proof.Gen.Kernel3Ideal.Value
public import proofs.«01_k».proof.Proof.Gen.Reference3Ideal.Run
public import proofs.«01_k».proof.Proof.Mat

/-! The gradient of the second weight of the MLP: the launched product and the reference are both `Aᵀ · B`. -/

@[expose] public section

noncomputable section

namespace Cert.Mm3

open Idealize.ShloMosaic Idealize.ShloMosaic.TcCoe Idealize.SL.Sem
open Idealize.ShloMosaic.Pipeline (Dat)

section Kernel

open Cert.Kernel3Ideal Cert.Kernel3Ideal.Gen

variable (m : (ℓ : Loc nD τ sig) → Buf (Elt Ideal) ℓ)

theorem at0 : ∀ t : Fin grid0.N, win0_0.index t = ![0, (grid0.coords t 0).val] := by decide +kernel
theorem at1 : ∀ t : Fin grid0.N, win0_1.index t = ![0, 0] := by decide +kernel
theorem at2 : ∀ t : Fin grid0.N, win0_2.index t = ![(grid0.coords t 0).val, 0] := by decide +kernel

/-- After the run the result array of each device is `Aᵀ · B`. -/
theorem arr (c : Dev nD) : (dats m 0 c).arrAt 2 cfg0.N = Mat.tn (m ((c : Thread nD τ).loc main_arg0)) (m ((c : Thread nD τ).loc main_arg2)) := by
  refine (dats m 0 c).arrAt_eq_of_covers 2 _ (by decide +kernel) (fun t hf y => ?_)
  blk_simp
  rw [after0_2]
  frame_out
  unfold k0_pay1
  pointwise
  refine Fin.sum_fin_congr fun k => ?_
  congr 1 <;> blk_ext [iblk, V, at0 t, at1 t, at2 t]

end Kernel

section Reference

open Cert.Reference3Ideal Cert.Reference3Ideal.Gen

/-- The reference's result is `Aᵀ · B`. -/
theorem host (A : FVec Ideal S2048x8192 .bf16) (B : FVec Ideal S2048x2048 .bf16) :
    truncf .bf16 (transpose S8192x2048 [1, 0] (Host.dotGeneral dot_S2048x2048_S2048x8192_S2048x8192_0_0_1_1_n_n none (extf .f32 B bitsLt_bf16_f32) (extf .f32 A bitsLt_bf16_f32)) transposes_S2048x8192_S8192x2048_1_0) bitsLt_bf16_f32 = Mat.tn A B := by
  funext i
  obtain ⟨a, b, rfl⟩ : ∃ a b, i = ix2 a b := ⟨i 0, i 1, eq_ix2 i⟩
  pointwise
  exact Finset.sum_congr rfl fun k _ => mul_comm _ _

end Reference

end Cert.Mm3
-- ==== Proof.Mm4.lean ====
module
public import proofs.«01_k».proof.Proof.Gen.Kernel4Ideal.Value
public import proofs.«01_k».proof.Proof.Gen.Reference4Ideal.Run
public import proofs.«01_k».proof.Proof.Mat

/-! The gradient of the first weight of the MLP: the launched product and the reference are both `Aᵀ · B`, its columns cut into eight chunks. -/

@[expose] public section

noncomputable section

namespace Cert.Mm4

open Idealize.ShloMosaic Idealize.ShloMosaic.TcCoe Idealize.SL.Sem
open Idealize.ShloMosaic.Pipeline (Dat)

section Kernel

open Cert.Kernel4Ideal Cert.Kernel4Ideal.Gen

variable (m : (ℓ : Loc nD τ sig) → Buf (Elt Ideal) ℓ)

theorem at0 : ∀ t : Fin grid0.N, win0_0.index t = ![0, 0] := by decide +kernel
theorem at1 : ∀ t : Fin grid0.N, win0_1.index t = ![0, (grid0.coords t 1).val] := by decide +kernel
theorem at2 : ∀ t : Fin grid0.N, win0_2.index t = ![(grid0.coords t 1).val / 2, 0, (grid0.coords t 1).val % 2] := by decide +kernel

/-- After the run the result array of each device is `Aᵀ · B`, its columns cut into eight chunks. -/
theorem arr (c : Dev nD) : (dats m 0 c).arrAt 2 cfg0.N = Mat.cut (Mat.tn (m ((c : Thread nD τ).loc main_arg0)) (m ((c : Thread nD τ).loc main_arg2))) := by
  refine (dats m 0 c).arrAt_eq_of_covers 2 _ (by decide +kernel) (fun t hf y => ?_)
  blk_simp
  rw [after0_2]
  frame_out
  unfold k0_pay1
  pointwise
  unfold Mat.cut Mat.tn
  refine Fin.sum_fin_congr fun k => ?_
  congr 1
  · blk_ext [iblk, V, at0 t, at1 t, at2 t]
  · blk_ext [iblk, V, at0 t, at1 t, at2 t]

end Kernel

section Reference

open Cert.Reference4Ideal Cert.Reference4Ideal.Gen

/-- The reference's result is `Aᵀ · B`, its columns cut into eight chunks. -/
theorem host (A : FVec Ideal S2048x2048 .bf16) (B : FVec Ideal S2048x8192 .bf16) :
    transpose S8x2048x1024 [1, 0, 2] (shapeCast _ (truncf .bf16 (transpose S2048x8192 [1, 0] (Host.dotGeneral dot_S2048x8192_S2048x2048_S8192x2048_0_0_1_1_n_n none (extf .f32 B bitsLt_bf16_f32) (extf .f32 A bitsLt_bf16_f32)) transposes_S8192x2048_S2048x8192_1_0) bitsLt_bf16_f32) shapeCasts_S2048x8192_S2048x8x1024) transposes_S2048x8x1024_S8x2048x1024_1_0_2 = Mat.cut (Mat.tn A B) := by
  rw [Mat.cut_eq]
  congr 1
  funext i
  obtain ⟨a, b, rfl⟩ : ∃ a b, i = ix2 a b := ⟨i 0, i 1, eq_ix2 i⟩
  pointwise
  exact Finset.sum_congr rfl fun k _ => mul_comm _ _

end Reference

end Cert.Mm4
-- ==== Proof.Mm5.lean ====
module
public import proofs.«01_k».proof.Proof.Gen.Kernel5Ideal.Value
public import proofs.«01_k».proof.Proof.Gen.Reference5Ideal.Run
public import proofs.«01_k».proof.Proof.Mat
public import Idealize.ShloMosaic.Lib.Pipeline.ReadBack

/-! The gradient of the MLP's input: the sums over eight parts of the contracted axis that the launched grid adds up, and the reference, are both `A · Bᵀ`, `B` the eight chunks side by side. -/

@[expose] public section

noncomputable section

namespace Cert.Mm5

open Idealize.ShloMosaic Idealize.ShloMosaic.TcCoe Idealize.SL.Sem
open Idealize.ShloMosaic.Pipeline (Dat)

section Kernel

open Cert.Kernel5Ideal Cert.Kernel5Ideal.Gen

variable (m : (ℓ : Loc nD τ sig) → Buf (Elt Ideal) ℓ)

theorem at0 : ∀ t : Fin grid0.N, win0_0.index t = ![0, t.val % 8] := by decide +kernel
theorem at1 : ∀ t : Fin grid0.N, win0_1.index t = ![t.val % 8, t.val / 8, 0] := by decide +kernel
theorem at2 : ∀ t : Fin grid0.N, win0_2.index t = ![0, t.val / 8] := by decide +kernel

/-- At the last point of a run the accumulator holds the sum of the run's eight products. -/
theorem scr (c : Dev nD) (t : Fin cfg0.N) (hr : t.val % 8 = 8 - 1) (j : S2048x1024.Idx) :
    (outsAt0 m c t.val t.isLt).2 j = ∑ s : Fin 8, k0_pay1 (iblk m c 0 ⟨8 * (t.val / 8) + s.val, Pipeline.run_point_lt_of_flush t hr s⟩) (iblk m c 1 ⟨8 * (t.val / 8) + s.val, Pipeline.run_point_lt_of_flush t hr s⟩) j := by
  rw [Pipeline.eq_sum_fin_of_reset_step_apply_of_flush (fun n h => (outsAt0 m c n h).2) 8 (fun _ => (0 : EReal))
    (fun t j => k0_pay1 (iblk m c 0 t) (iblk m c 1 t) j)
    (fun t h j => by
      rw [outsAt0_A m c t h (by omega) (by omega)]
      frame_out
      unfold k0_pay2
      rw [shapeCast_self]
      exact (zero_add _).symm)
    (fun t h j => by
      by_cases h' : t.val % 8 = 7
      · rw [outsAt0_C m c t h (by omega) h']
        frame_out
        unfold k0_pay3
        rw [shapeCast_self, read_unread_whole]
        rfl
      · rw [outsAt0_B m c t h (by omega) h']
        frame_out
        unfold k0_pay3
        rw [shapeCast_self, read_unread_whole]
        rfl) t hr j]
  exact zero_add _

/-- After the run the result array of each device is `A · Bᵀ`, `B` the eight chunks side by side. -/
theorem arr (c : Dev nD) : (dats m 0 c).arrAt 2 cfg0.N = Mat.nt (m ((c : Thread nD τ).loc main_arg2)) (Mat.join (m ((c : Thread nD τ).loc main_arg1))) := by
  refine (dats m 0 c).arrAt_eq_of_covers 2 _ (by decide +kernel) (fun t hf y => ?_)
  have hr := (flush0_2 t).mp hf
  have h : (outsAt0 m c t.val t.isLt).1 = (outsAt0 m c t.val t.isLt).2 := by
    rw [outsAt0_C m c t (by omega) (by omega) hr]
    frame_out
  blk_simp
  rw [after0_2]
  rw [h]
  refine (scr m c t hr _).trans ?_
  unfold k0_pay1
  pointwise
  unfold Mat.nt Mat.join
  refine Fin.sum_mul_add_congr fun s k hl => ?_
  congr 1
  · blk_ext [iblk, V, at0, at2 t]
  · blk_ext [iblk, V, at1, at2 t]

end Kernel

section Reference

open Cert.Reference5Ideal Cert.Reference5Ideal.Gen

/-- The reference's result is `A · Bᵀ`, `B` the eight chunks side by side. -/
theorem host (A : FVec Ideal S2048x8192 .bf16) (B : FVec Ideal S8x2048x1024 .bf16) :
    Host.dotGeneral dot_S2048x8192_S2048x8192_S2048x2048_1_1_0_0_n_n none (extf .f32 A bitsLt_bf16_f32) (extf .f32 (shapeCast _ (transpose S2048x8x1024 [1, 0, 2] B transposes_S8x2048x1024_S2048x8x1024_1_0_2) shapeCasts_S2048x8x1024_S2048x8192) bitsLt_bf16_f32) = Mat.nt A (Mat.join B) := by
  rw [Mat.join_eq]
  funext i
  obtain ⟨a, b, rfl⟩ : ∃ a b, i = ix2 a b := ⟨i 0, i 1, eq_ix2 i⟩
  pointwise
  rfl

end Reference

end Cert.Mm5
-- ==== Proof.Mm6.lean ====
module
public import proofs.«01_k».proof.Proof.Gen.Kernel6Ideal.Value
public import proofs.«01_k».proof.Proof.Gen.Reference6Ideal.Run
public import proofs.«01_k».proof.Proof.Mat

/-! The first product of the MLP with its activation: the launched call's results and the reference's are the square of the positive part of `A · B`, and the positive part, `B` the eight chunks side by side. -/

@[expose] public section

noncomputable section

namespace Cert.Mm6

open Idealize.ShloMosaic Idealize.ShloMosaic.TcCoe Idealize.SL.Sem
open Idealize.ShloMosaic.Pipeline (Dat)

section Kernel

open Cert.Kernel6Ideal Cert.Kernel6Ideal.Gen

variable (m : (ℓ : Loc nD τ sig) → Buf (Elt Ideal) ℓ)

theorem at0 : ∀ t : Fin grid0.N, win0_0.index t = ![0, 0] := by decide +kernel
theorem at1 : ∀ t : Fin grid0.N, win0_1.index t = ![(grid0.coords t 1).val / 2, 0, (grid0.coords t 1).val % 2] := by decide +kernel
theorem at2 : ∀ t : Fin grid0.N, win0_2.index t = ![0, (grid0.coords t 1).val] := by decide +kernel
theorem at3 : ∀ t : Fin grid0.N, win0_3.index t = ![0, (grid0.coords t 1).val] := by decide +kernel

/-- After the run result 1 of each device is the square of the positive part. -/
theorem arr1 (c : Dev nD) : (dats m 0 c).arrAt 2 cfg0.N = fun i => max (Mat.nn (m ((c : Thread nD τ).loc main_arg0)) (Mat.join (m ((c : Thread nD τ).loc main_arg1))) i) (Ideal.ofBits .f32 0x00000000#32) * max (Mat.nn (m ((c : Thread nD τ).loc main_arg0)) (Mat.join (m ((c : Thread nD τ).loc main_arg1))) i) (Ideal.ofBits .f32 0x00000000#32) := by
  refine (dats m 0 c).arrAt_eq_of_covers 2 _ (by decide +kernel) (fun t hf y => ?_)
  blk_simp
  rw [after0_2]
  frame_out
  unfold k0_pay2 k0_pay1
  pointwise
  refine congrArg₂ (· * ·) ?_ ?_ <;> refine congrArg (fun z : EReal => max z 0) ?_
  all_goals
    unfold Mat.nn Mat.join
    refine Fin.sum_fin_congr fun k => ?_
    congr 1 <;> blk_ext [iblk, V, at0 t, at1 t, at2 t]

/-- After the run result 2 of each device is the positive part. -/
theorem arr2 (c : Dev nD) : (dats m 0 c).arrAt 3 cfg0.N = fun i => max (Mat.nn (m ((c : Thread nD τ).loc main_arg0)) (Mat.join (m ((c : Thread nD τ).loc main_arg1))) i) (Ideal.ofBits .f32 0x00000000#32) := by
  refine (dats m 0 c).arrAt_eq_of_covers 3 _ (by decide +kernel) (fun t hf y => ?_)
  blk_simp
  rw [after0_3]
  frame_out
  unfold k0_pay3 k0_pay1
  pointwise
  refine congrArg (fun z : EReal => max z 0) ?_
  all_goals
    unfold Mat.nn Mat.join
    refine Fin.sum_fin_congr fun k => ?_
    congr 1 <;> blk_ext [iblk, V, at0 t, at1 t, at3 t]
end Kernel

section Reference

open Cert.Reference6Ideal Cert.Reference6Ideal.Gen

/-- The reference's second result is the positive part. -/
theorem host2 (A : FVec Ideal S2048x2048 .bf16) (B : FVec Ideal S8x2048x1024 .bf16) :
    truncf .bf16 (maximumf (Host.dotGeneral dot_S2048x2048_S2048x8192_S2048x8192_1_0_0_1_n_n none (extf .f32 A bitsLt_bf16_f32) (extf .f32 (shapeCast _ (transpose S2048x8x1024 [1, 0, 2] B transposes_S8x2048x1024_S2048x8x1024_1_0_2) shapeCasts_S2048x8x1024_S2048x8192) bitsLt_bf16_f32)) (broadcastInDim S2048x8192 ![] bcast_S_S2048x8192 (constant S_ .f32 0x00000000#32))) bitsLt_bf16_f32 = fun i => max (Mat.nn A (Mat.join B) i) (Ideal.ofBits .f32 0x00000000#32) := by
  rw [Mat.join_eq]
  funext i
  obtain ⟨a, b, rfl⟩ : ∃ a b, i = ix2 a b := ⟨i 0, i 1, eq_ix2 i⟩
  pointwise
  rfl

/-- The reference's first result is its square. -/
theorem host1 (A : FVec Ideal S2048x2048 .bf16) (B : FVec Ideal S8x2048x1024 .bf16) :
    truncf .bf16 (mulf (maximumf (Host.dotGeneral dot_S2048x2048_S2048x8192_S2048x8192_1_0_0_1_n_n none (extf .f32 A bitsLt_bf16_f32) (extf .f32 (shapeCast _ (transpose S2048x8x1024 [1, 0, 2] B transposes_S8x2048x1024_S2048x8x1024_1_0_2) shapeCasts_S2048x8x1024_S2048x8192) bitsLt_bf16_f32)) (broadcastInDim S2048x8192 ![] bcast_S_S2048x8192 (constant S_ .f32 0x00000000#32))) (maximumf (Host.dotGeneral dot_S2048x2048_S2048x8192_S2048x8192_1_0_0_1_n_n none (extf .f32 A bitsLt_bf16_f32) (extf .f32 (shapeCast _ (transpose S2048x8x1024 [1, 0, 2] B transposes_S8x2048x1024_S2048x8x1024_1_0_2) shapeCasts_S2048x8x1024_S2048x8192) bitsLt_bf16_f32)) (broadcastInDim S2048x8192 ![] bcast_S_S2048x8192 (constant S_ .f32 0x00000000#32)))) bitsLt_bf16_f32 = fun i => max (Mat.nn A (Mat.join B) i) (Ideal.ofBits .f32 0x00000000#32) * max (Mat.nn A (Mat.join B) i) (Ideal.ofBits .f32 0x00000000#32) := by
  rw [Mat.join_eq]
  funext i
  obtain ⟨a, b, rfl⟩ : ∃ a b, i = ix2 a b := ⟨i 0, i 1, eq_ix2 i⟩
  pointwise
  rfl

end Reference

end Cert.Mm6
-- ==== Proof.Mm7.lean ====
module
public import proofs.«01_k».proof.Proof.Gen.Kernel7Ideal.Value
public import proofs.«01_k».proof.Proof.Gen.Reference7Ideal.Run
public import proofs.«01_k».proof.Proof.Mat
public import Idealize.ShloMosaic.Lib.Pipeline.ReadBack

/-! The second product of the MLP: the sums over four parts of the contracted axis that the launched grid adds up, and the reference, are both `A · B`. -/

@[expose] public section

noncomputable section

namespace Cert.Mm7

open Idealize.ShloMosaic Idealize.ShloMosaic.TcCoe Idealize.SL.Sem
open Idealize.ShloMosaic.Pipeline (Dat)

section Kernel

open Cert.Kernel7Ideal Cert.Kernel7Ideal.Gen

variable (m : (ℓ : Loc nD τ sig) → Buf (Elt Ideal) ℓ)

theorem at0 : ∀ t : Fin grid0.N, win0_0.index t = ![0, t.val % 4] := by decide +kernel
theorem at1 : ∀ t : Fin grid0.N, win0_1.index t = ![t.val % 4, t.val / 4] := by decide +kernel
theorem at2 : ∀ t : Fin grid0.N, win0_2.index t = ![0, t.val / 4] := by decide +kernel

/-- At the last point of a run the accumulator holds the sum of the run's four products. -/
theorem scr (c : Dev nD) (t : Fin cfg0.N) (hr : t.val % 4 = 4 - 1) (j : S2048x512.Idx) :
    (outsAt0 m c t.val t.isLt).2 j = ∑ s : Fin 4, k0_pay1 (iblk m c 0 ⟨4 * (t.val / 4) + s.val, Pipeline.run_point_lt_of_flush t hr s⟩) (iblk m c 1 ⟨4 * (t.val / 4) + s.val, Pipeline.run_point_lt_of_flush t hr s⟩) j := by
  rw [Pipeline.eq_sum_fin_of_reset_step_apply_of_flush (fun n h => (outsAt0 m c n h).2) 4 (fun _ => (0 : EReal))
    (fun t j => k0_pay1 (iblk m c 0 t) (iblk m c 1 t) j)
    (fun t h j => by
      rw [outsAt0_A m c t h (by omega) (by omega)]
      frame_out
      unfold k0_pay2
      rw [shapeCast_self]
      exact (zero_add _).symm)
    (fun t h j => by
      by_cases h' : t.val % 4 = 3
      · rw [outsAt0_C m c t h (by omega) h']
        frame_out
        unfold k0_pay3
        rw [shapeCast_self, read_unread_whole]
        rfl
      · rw [outsAt0_B m c t h (by omega) h']
        frame_out
        unfold k0_pay3
        rw [shapeCast_self, read_unread_whole]
        rfl) t hr j]
  exact zero_add _

/-- After the run the result array of each device is `A · B`. -/
theorem arr (c : Dev nD) : (dats m 0 c).arrAt 2 cfg0.N = Mat.nn (m ((c : Thread nD τ).loc main_arg0)) (m ((c : Thread nD τ).loc main_arg1)) := by
  refine (dats m 0 c).arrAt_eq_of_covers 2 _ (by decide +kernel) (fun t hf y => ?_)
  have hr := (flush0_2 t).mp hf
  have h : (outsAt0 m c t.val t.isLt).1 = (outsAt0 m c t.val t.isLt).2 := by
    rw [outsAt0_C m c t (by omega) (by omega) hr]
    frame_out
  blk_simp
  rw [after0_2]
  rw [h]
  refine (scr m c t hr _).trans ?_
  unfold k0_pay1
  pointwise
  unfold Mat.nn
  refine Fin.sum_mul_add_congr fun s k hl => ?_
  congr 1
  · blk_ext [iblk, V, at0, at2 t]
  · blk_ext [iblk, V, at1, at2 t]

end Kernel

section Reference

open Cert.Reference7Ideal Cert.Reference7Ideal.Gen

/-- The reference's result is `A · B`. -/
theorem host (A : FVec Ideal S2048x8192 .bf16) (B : FVec Ideal S8192x2048 .bf16) :
    Host.dotGeneral dot_S2048x8192_S8192x2048_S2048x2048_1_0_0_1_n_n none (extf .f32 A bitsLt_bf16_f32) (extf .f32 B bitsLt_bf16_f32) = Mat.nn A B := by
  funext i
  obtain ⟨a, b, rfl⟩ : ∃ a b, i = ix2 a b := ⟨i 0, i 1, eq_ix2 i⟩
  pointwise
  rfl

end Reference

end Cert.Mm7
-- ==== Proof.Mm8.lean ====
module
public import proofs.«01_k».proof.Proof.Gen.Kernel8Ideal.Value
public import proofs.«01_k».proof.Proof.Gen.Reference8Ideal.Run
public import proofs.«01_k».proof.Proof.Mat
public import Idealize.ShloMosaic.Lib.Pipeline.ReadBack

/-! The gradient of the layer's input: the sums over three parts of the contracted axis that the launched grid adds up, and the reference, are both `A · B` plus the literal times `D`. -/

@[expose] public section

noncomputable section

namespace Cert.Mm8

open Idealize.ShloMosaic Idealize.ShloMosaic.TcCoe Idealize.SL.Sem
open Idealize.ShloMosaic.Pipeline (Dat)

section Kernel

open Cert.Kernel8Ideal Cert.Kernel8Ideal.Gen

variable (m : (ℓ : Loc nD τ sig) → Buf (Elt Ideal) ℓ)

theorem at0 : ∀ t : Fin grid0.N, win0_0.index t = ![0, t.val % 3] := by decide +kernel
theorem at1 : ∀ t : Fin grid0.N, win0_1.index t = ![t.val % 3, t.val / 3] := by decide +kernel
theorem at2 : ∀ t : Fin grid0.N, win0_2.index t = ![0, t.val / 3] := by decide +kernel
theorem at3 : ∀ t : Fin grid0.N, win0_3.index t = ![0, t.val / 3] := by decide +kernel

/-- At the last point of a run the accumulator holds the sum of the run's three products. -/
theorem scr (c : Dev nD) (t : Fin cfg0.N) (hr : t.val % 3 = 3 - 1) (j : S2048x512.Idx) :
    (outsAt0 m c t.val t.isLt).2 j = ∑ s : Fin 3, k0_pay1 (iblk m c 0 ⟨3 * (t.val / 3) + s.val, Pipeline.run_point_lt_of_flush t hr s⟩) (iblk m c 1 ⟨3 * (t.val / 3) + s.val, Pipeline.run_point_lt_of_flush t hr s⟩) j := by
  rw [Pipeline.eq_sum_fin_of_reset_step_apply_of_flush (fun n h => (outsAt0 m c n h).2) 3 (fun _ => (0 : EReal))
    (fun t j => k0_pay1 (iblk m c 0 t) (iblk m c 1 t) j)
    (fun t h j => by
      rw [outsAt0_A m c t h (by omega) (by omega)]
      frame_out
      unfold k0_pay2
      rw [shapeCast_self]
      exact (zero_add _).symm)
    (fun t h j => by
      by_cases h' : t.val % 3 = 2
      · rw [outsAt0_C m c t h (by omega) h']
        frame_out
        unfold k0_pay3
        rw [shapeCast_self, read_unread_whole]
        rfl
      · rw [outsAt0_B m c t h (by omega) h']
        frame_out
        unfold k0_pay3
        rw [shapeCast_self, read_unread_whole]
        rfl) t hr j]
  exact zero_add _

/-- After the run the result array of each device is `A · B` plus the literal times `D`. -/
theorem arr (c : Dev nD) : (dats m 0 c).arrAt 3 cfg0.N = fun i => Mat.nn (m ((c : Thread nD τ).loc main_arg0)) (m ((c : Thread nD τ).loc main_arg1)) i + Ideal.ofBits .f32 0x3F9837F0#32 * (m ((c : Thread nD τ).loc main_arg3) : S2048x2048.Idx → EReal) i := by
  refine (dats m 0 c).arrAt_eq_of_covers 3 _ (by decide +kernel) (fun t hf y => ?_)
  have hr := (flush0_3 t).mp hf
  have h : (outsAt0 m c t.val t.isLt).1 = k0_pay4 (outsAt0 m c t.val t.isLt).2 (iblk m c 2 t) := by
    rw [outsAt0_C m c t (by omega) (by omega) hr]
    frame_out
  blk_simp
  rw [after0_3]
  rw [h]
  unfold k0_pay4
  pointwise
  refine congrArg₂ (· + ·) ?_ (congrArg _ ?_)
  rotate_left
  · blk_ext [iblk, V, at2 t, at3 t]
  refine (scr m c t hr _).trans ?_
  unfold k0_pay1
  pointwise
  unfold Mat.nn
  refine Fin.sum_mul_add_congr fun s k hl => ?_
  congr 1
  · blk_ext [iblk, V, at0, at3 t]
  · blk_ext [iblk, V, at1, at3 t]

end Kernel

section Reference

open Cert.Reference8Ideal Cert.Reference8Ideal.Gen

/-- The reference's result is `A · B` plus the literal times `D`. -/
theorem host (A : FVec Ideal S2048x5376 .f32) (B : FVec Ideal S5376x2048 .bf16) (D : FVec Ideal S2048x2048 .f32) :
    addf (mulf (broadcastInDim S2048x2048 ![] bcast_S_S2048x2048 (constant S_ .f32 0x3F9837F0#32)) D) (Host.dotGeneral dot_S2048x5376_S2048x5376_S2048x2048_1_1_0_0_n_n none A (transpose S2048x5376 [1, 0] (extf .f32 B bitsLt_bf16_f32) transposes_S5376x2048_S2048x5376_1_0)) = fun i => Mat.nn A B i + Ideal.ofBits .f32 0x3F9837F0#32 * D i := by
  funext i
  obtain ⟨a, b, rfl⟩ : ∃ a b, i = ix2 a b := ⟨i 0, i 1, eq_ix2 i⟩
  pointwise
  exact add_comm _ _

end Reference

end Cert.Mm8
-- ==== Proof.Mm9.lean ====
module
public import proofs.«01_k».proof.Proof.Gen.Kernel9Ideal.Value
public import proofs.«01_k».proof.Proof.Gen.Reference9Ideal.Run
public import proofs.«01_k».proof.Proof.Mat

/-! The gradient of the input projection's weight: the launched product and the reference are both `Aᵀ · B`. -/

@[expose] public section

noncomputable section

namespace Cert.Mm9

open Idealize.ShloMosaic Idealize.ShloMosaic.TcCoe Idealize.SL.Sem
open Idealize.ShloMosaic.Pipeline (Dat)

section Kernel

open Cert.Kernel9Ideal Cert.Kernel9Ideal.Gen

variable (m : (ℓ : Loc nD τ sig) → Buf (Elt Ideal) ℓ)

theorem at0 : ∀ t : Fin grid0.N, win0_0.index t = ![0, (grid0.coords t 0).val] := by decide +kernel
theorem at1 : ∀ t : Fin grid0.N, win0_1.index t = ![0, 0] := by decide +kernel
theorem at2 : ∀ t : Fin grid0.N, win0_2.index t = ![(grid0.coords t 0).val, 0] := by decide +kernel

/-- After the run the result array of each device is `Aᵀ · B`. -/
theorem arr (c : Dev nD) : (dats m 0 c).arrAt 2 cfg0.N = Mat.tn (m ((c : Thread nD τ).loc main_arg0)) (m ((c : Thread nD τ).loc main_arg2)) := by
  refine (dats m 0 c).arrAt_eq_of_covers 2 _ (by decide +kernel) (fun t hf y => ?_)
  blk_simp
  rw [after0_2]
  frame_out
  unfold k0_pay1
  pointwise
  refine Fin.sum_fin_congr fun k => ?_
  congr 1 <;> blk_ext [iblk, V, at0 t, at1 t, at2 t]

end Kernel

section Reference

open Cert.Reference9Ideal Cert.Reference9Ideal.Gen

/-- The reference's result is `Aᵀ · B`. -/
theorem host (A : FVec Ideal S2048x5376 .f32) (B : FVec Ideal S2048x2048 .bf16) :
    truncf .bf16 (transpose S5376x2048 [1, 0] (transpose S2048x5376 [1, 0] (Host.dotGeneral dot_S2048x5376_S2048x2048_S5376x2048_0_0_1_1_n_n none A (extf .f32 B bitsLt_bf16_f32)) transposes_S5376x2048_S2048x5376_1_0) transposes_S2048x5376_S5376x2048_1_0) bitsLt_bf16_f32 = Mat.tn A B := by
  funext i
  obtain ⟨a, b, rfl⟩ : ∃ a b, i = ix2 a b := ⟨i 0, i 1, eq_ix2 i⟩
  pointwise
  rfl

end Reference

end Cert.Mm9
-- ==== Proof.Mm10.lean ====
module
public import proofs.«01_k».proof.Proof.Gen.Kernel10Ideal.Value
public import proofs.«01_k».proof.Proof.Gen.Reference10Ideal.Run
public import proofs.«01_k».proof.Proof.Mat

/-! The input projection: the launched product and the reference are both `A · Bᵀ`. -/

@[expose] public section

noncomputable section

namespace Cert.Mm10

open Idealize.ShloMosaic Idealize.ShloMosaic.TcCoe Idealize.SL.Sem
open Idealize.ShloMosaic.Pipeline (Dat)

section Kernel

open Cert.Kernel10Ideal Cert.Kernel10Ideal.Gen

variable (m : (ℓ : Loc nD τ sig) → Buf (Elt Ideal) ℓ)

theorem at0 : ∀ t : Fin grid0.N, win0_0.index t = ![0, 0] := by decide +kernel
theorem at1 : ∀ t : Fin grid0.N, win0_1.index t = ![(grid0.coords t 1).val, 0] := by decide +kernel
theorem at2 : ∀ t : Fin grid0.N, win0_2.index t = ![0, (grid0.coords t 1).val] := by decide +kernel

/-- After the run the result array of each device is `A · Bᵀ`. -/
theorem arr (c : Dev nD) : (dats m 0 c).arrAt 2 cfg0.N = Mat.nt (m ((c : Thread nD τ).loc main_arg0)) (m ((c : Thread nD τ).loc main_arg1)) := by
  refine (dats m 0 c).arrAt_eq_of_covers 2 _ (by decide +kernel) (fun t hf y => ?_)
  blk_simp
  rw [after0_2]
  frame_out
  unfold k0_pay1
  pointwise
  refine Fin.sum_fin_congr fun k => ?_
  congr 1 <;> blk_ext [iblk, V, at0 t, at1 t, at2 t]

end Kernel

section Reference

open Cert.Reference10Ideal Cert.Reference10Ideal.Gen

/-- The reference's result is `A · Bᵀ`. -/
theorem host (A : FVec Ideal S2048x2048 .bf16) (B : FVec Ideal S5376x2048 .bf16) :
    Host.dotGeneral dot_S2048x2048_S2048x5376_S2048x5376_1_0_0_1_n_n none (extf .f32 A bitsLt_bf16_f32) (transpose S2048x5376 [1, 0] (extf .f32 B bitsLt_bf16_f32) transposes_S5376x2048_S2048x5376_1_0) = Mat.nt A B := by
  funext i
  obtain ⟨a, b, rfl⟩ : ∃ a b, i = ix2 a b := ⟨i 0, i 1, eq_ix2 i⟩
  pointwise
  rfl

end Reference

end Cert.Mm10
-- ==== Proof.Mm11.lean ====
module
public import proofs.«01_k».proof.Proof.Gen.Kernel11Ideal.Value
public import proofs.«01_k».proof.Proof.Gen.Reference11Ideal.Run
public import proofs.«01_k».proof.Proof.Mat

/-! The gradient of the output projection: the launched product and the reference are both `Aᵀ · B`. -/

@[expose] public section

noncomputable section

namespace Cert.Mm11

open Idealize.ShloMosaic Idealize.ShloMosaic.TcCoe Idealize.SL.Sem
open Idealize.ShloMosaic.Pipeline (Dat)

section Kernel

open Cert.Kernel11Ideal Cert.Kernel11Ideal.Gen

variable (m : (ℓ : Loc nD τ sig) → Buf (Elt Ideal) ℓ)

theorem at0 : ∀ t : Fin grid0.N, win0_0.index t = ![0, 0] := by decide +kernel
theorem at1 : ∀ t : Fin grid0.N, win0_1.index t = ![0, (grid0.coords t 1).val] := by decide +kernel
theorem at2 : ∀ t : Fin grid0.N, win0_2.index t = ![0, (grid0.coords t 1).val] := by decide +kernel

/-- After the run the result array of each device is `Aᵀ · B`. -/
theorem arr (c : Dev nD) : (dats m 0 c).arrAt 2 cfg0.N = Mat.tn (m ((c : Thread nD τ).loc main_arg0)) (m ((c : Thread nD τ).loc main_arg2)) := by
  refine (dats m 0 c).arrAt_eq_of_covers 2 _ (by decide +kernel) (fun t hf y => ?_)
  blk_simp
  rw [after0_2]
  frame_out
  unfold k0_pay1
  pointwise
  refine Fin.sum_fin_congr fun k => ?_
  congr 1 <;> blk_ext [iblk, V, at0 t, at1 t, at2 t]

end Kernel

section Reference

open Cert.Reference11Ideal Cert.Reference11Ideal.Gen

/-- The reference's result is `Aᵀ · B`. -/
theorem host (A B : FVec Ideal S2048x2048 .bf16) :
    truncf .bf16 (transpose S2048x2048 [1, 0] (Host.dotGeneral dot_S2048x2048_S2048x2048_S2048x2048_0_0_1_1_n_n none (extf .f32 B bitsLt_bf16_f32) (extf .f32 A bitsLt_bf16_f32)) transposes_S2048x2048_S2048x2048_1_0) bitsLt_bf16_f32 = Mat.tn A B := by
  funext i
  obtain ⟨a, b, rfl⟩ : ∃ a b, i = ix2 a b := ⟨i 0, i 1, eq_ix2 i⟩
  pointwise
  exact Finset.sum_congr rfl fun k _ => mul_comm _ _

end Reference

end Cert.Mm11
-- ==== Proof.Mm12.lean ====
module
public import proofs.«01_k».proof.Proof.Gen.Kernel12Ideal.Value
public import proofs.«01_k».proof.Proof.Gen.Reference12Ideal.Run
public import proofs.«01_k».proof.Proof.Mat

/-! The gradient of the output projection's input: the launched product and the reference are both `A · Bᵀ`. -/

@[expose] public section

noncomputable section

namespace Cert.Mm12

open Idealize.ShloMosaic Idealize.ShloMosaic.TcCoe Idealize.SL.Sem
open Idealize.ShloMosaic.Pipeline (Dat)

section Kernel

open Cert.Kernel12Ideal Cert.Kernel12Ideal.Gen

variable (m : (ℓ : Loc nD τ sig) → Buf (Elt Ideal) ℓ)

theorem at0 : ∀ t : Fin grid0.N, win0_0.index t = ![0, 0] := by decide +kernel
theorem at1 : ∀ t : Fin grid0.N, win0_1.index t = ![(grid0.coords t 1).val, 0] := by decide +kernel
theorem at2 : ∀ t : Fin grid0.N, win0_2.index t = ![0, (grid0.coords t 1).val] := by decide +kernel

/-- After the run the result array of each device is `A · Bᵀ`. -/
theorem arr (c : Dev nD) : (dats m 0 c).arrAt 2 cfg0.N = Mat.nt (m ((c : Thread nD τ).loc main_arg2)) (m ((c : Thread nD τ).loc main_arg1)) := by
  refine (dats m 0 c).arrAt_eq_of_covers 2 _ (by decide +kernel) (fun t hf y => ?_)
  blk_simp
  rw [after0_2]
  frame_out
  unfold k0_pay1
  pointwise
  refine Fin.sum_fin_congr fun k => ?_
  congr 1 <;> blk_ext [iblk, V, at0 t, at1 t, at2 t]

end Kernel

section Reference

open Cert.Reference12Ideal Cert.Reference12Ideal.Gen

/-- The reference's result is `A · Bᵀ`. -/
theorem host (A B : FVec Ideal S2048x2048 .bf16) :
    Host.dotGeneral dot_S2048x2048_S2048x2048_S2048x2048_1_1_0_0_n_n none (extf .f32 A bitsLt_bf16_f32) (extf .f32 B bitsLt_bf16_f32) = Mat.nt A B := by
  funext i
  obtain ⟨a, b, rfl⟩ : ∃ a b, i = ix2 a b := ⟨i 0, i 1, eq_ix2 i⟩
  pointwise
  rfl

end Reference

end Cert.Mm12
-- ==== Proof.Mm13.lean ====
module
public import proofs.«01_k».proof.Proof.Gen.Kernel13Ideal.Value
public import proofs.«01_k».proof.Proof.Gen.Reference13Ideal.Run
public import proofs.«01_k».proof.Proof.Mat

/-! The queries of the attention: the launched product and the reference are both `A · B`. -/

@[expose] public section

noncomputable section

namespace Cert.Mm13

open Idealize.ShloMosaic Idealize.ShloMosaic.TcCoe Idealize.SL.Sem
open Idealize.ShloMosaic.Pipeline (Dat)

section Kernel

open Cert.Kernel13Ideal Cert.Kernel13Ideal.Gen

variable (m : (ℓ : Loc nD τ sig) → Buf (Elt Ideal) ℓ)

theorem at0 : ∀ t : Fin grid0.N, win0_0.index t = ![0, 0] := by decide +kernel
theorem at1 : ∀ t : Fin grid0.N, win0_1.index t = ![0, (grid0.coords t 1).val] := by decide +kernel
theorem at2 : ∀ t : Fin grid0.N, win0_2.index t = ![0, (grid0.coords t 1).val] := by decide +kernel

/-- After the run the result array of each device is `A · B`. -/
theorem arr (c : Dev nD) : (dats m 0 c).arrAt 2 cfg0.N = Mat.nn (m ((c : Thread nD τ).loc main_arg0)) (m ((c : Thread nD τ).loc main_arg1)) := by
  refine (dats m 0 c).arrAt_eq_of_covers 2 _ (by decide +kernel) (fun t hf y => ?_)
  blk_simp
  rw [after0_2]
  frame_out
  unfold k0_pay1
  pointwise
  refine Fin.sum_fin_congr fun k => ?_
  congr 1 <;> blk_ext [iblk, V, at0 t, at1 t, at2 t]

end Kernel

section Reference

open Cert.Reference13Ideal Cert.Reference13Ideal.Gen

/-- The reference's result is `A · B`. -/
theorem host (A B : FVec Ideal S2048x2048 .bf16) :
    truncf .bf16 (Host.dotGeneral dot_S2048x2048_S2048x2048_S2048x2048_1_0_0_1_n_n none (extf .f32 A bitsLt_bf16_f32) (extf .f32 B bitsLt_bf16_f32)) bitsLt_bf16_f32 = Mat.nn A B := by
  funext i
  obtain ⟨a, b, rfl⟩ : ∃ a b, i = ix2 a b := ⟨i 0, i 1, eq_ix2 i⟩
  pointwise
  rfl

end Reference

end Cert.Mm13
-- ==== Proof.Mm14.lean ====
module
public import proofs.«01_k».proof.Proof.Gen.Kernel14Ideal.Value
public import proofs.«01_k».proof.Proof.Gen.Reference14Ideal.Run
public import proofs.«01_k».proof.Proof.Mat

/-! The gradient of the attention's output: the launched product and the reference are both `A · Bᵀ`. -/

@[expose] public section

noncomputable section

namespace Cert.Mm14

open Idealize.ShloMosaic Idealize.ShloMosaic.TcCoe Idealize.SL.Sem
open Idealize.ShloMosaic.Pipeline (Dat)

section Kernel

open Cert.Kernel14Ideal Cert.Kernel14Ideal.Gen

variable (m : (ℓ : Loc nD τ sig) → Buf (Elt Ideal) ℓ)

theorem at0 : ∀ t : Fin grid0.N, win0_0.index t = ![0, 0] := by decide +kernel
theorem at1 : ∀ t : Fin grid0.N, win0_1.index t = ![(grid0.coords t 1).val, 0] := by decide +kernel
theorem at2 : ∀ t : Fin grid0.N, win0_2.index t = ![0, (grid0.coords t 1).val] := by decide +kernel

/-- After the run the result array of each device is `A · Bᵀ`. -/
theorem arr (c : Dev nD) : (dats m 0 c).arrAt 2 cfg0.N = Mat.nt (m ((c : Thread nD τ).loc main_arg2)) (m ((c : Thread nD τ).loc main_arg1)) := by
  refine (dats m 0 c).arrAt_eq_of_covers 2 _ (by decide +kernel) (fun t hf y => ?_)
  blk_simp
  rw [after0_2]
  frame_out
  unfold k0_pay1
  pointwise
  refine Fin.sum_fin_congr fun k => ?_
  congr 1 <;> blk_ext [iblk, V, at0 t, at1 t, at2 t]

end Kernel

section Reference

open Cert.Reference14Ideal Cert.Reference14Ideal.Gen

/-- The reference's result is `A · Bᵀ`. -/
theorem host (A B : FVec Ideal S2048x2048 .bf16) :
    truncf .bf16 (Host.dotGeneral dot_S2048x2048_S2048x2048_S2048x2048_1_1_0_0_n_n none (extf .f32 A bitsLt_bf16_f32) (extf .f32 B bitsLt_bf16_f32)) bitsLt_bf16_f32 = Mat.nt A B := by
  funext i
  obtain ⟨a, b, rfl⟩ : ∃ a b, i = ix2 a b := ⟨i 0, i 1, eq_ix2 i⟩
  pointwise
  rfl

end Reference

end Cert.Mm14
-- ==== Proof.Adam.lean ====
module
public import Idealize.ShloMosaic.Lib.Pipeline.ValueKit
public import Idealize.ShloMosaic.Lib.Pointwise
public import Idealize.ShloMosaic.Lib.ValueIdx
public import Idealize.ShloMosaic.Lib.Claim

/-! The optimiser's step on one element, over the extended reals: the new first moment, the new second moment and the change of the weight, from the element of the gradient, and the gradient's element as the sum over the chips. -/

@[expose] public section

noncomputable section

namespace Cert.Adam

open Idealize.ShloMosaic

/-- The gradient's element: the sum over the four chips of their parts, this chip's own part taken from where it lies uncopied. -/
def grad (me : BitVec 32) (own parts : Fin 4 → EReal) : EReal := ∑ j, if me = BitVec.ofNat 32 j.val then own j else parts j

/-- An array of one entry has one index. -/
theorem idx_one (x y : (⟨1, ![1]⟩ : Shape).Idx) : x = y := by
  funext a
  fin_cases a
  exact Subsingleton.elim (α := Fin 1) _ _

/-- The sum over the chips written out, part by part, is the sum. -/
theorem grad_eq (v : BitVec 32) (o p0 p1 p2 p3 : EReal) (own parts : Fin 4 → EReal) (ho : ∀ j : Fin 4, v = BitVec.ofNat 32 j.val → o = own j)
    (h0 : p0 = parts 0) (h1 : p1 = parts 1) (h2 : p2 = parts 2) (h3 : p3 = parts 3) :
    Scalar.select (Scalar.cmpi .eq v 0#32) o p0 + Scalar.select (Scalar.cmpi .eq v 1#32) o p1 + Scalar.select (Scalar.cmpi .eq v 2#32) o p2
      + Scalar.select (Scalar.cmpi .eq v 3#32) o p3 = grad v own parts := by
  have e : ∀ (j : Fin 4) (p : EReal), p = parts j → Scalar.select (Scalar.cmpi .eq v (BitVec.ofNat 32 j.val)) o p = if v = BitVec.ofNat 32 j.val then own j else parts j := by
    intro j p hp
    by_cases h : v = BitVec.ofNat 32 j.val
    · simp [Scalar.select, Scalar.cmpi, IntOp.cmpi, h]; exact ho j h
    · have hb : (v == BitVec.ofNat 32 j.val) = false := beq_eq_false_iff_ne.2 h
      simp only [Scalar.select, Scalar.cmpi, IntOp.cmpi, hb, if_neg h]; exact hp
  unfold grad
  rw [Fin.sum_univ_four, ← e 0 p0 h0, ← e 1 p1 h1, ← e 2 p2 h2, ← e 3 p3 h3]
  rfl

/-- The gradient's array, from the chips' parts of it and this chip's own. -/
def grads {R C : ℕ} (v : BitVec 32) (parts own : (⟨3, ![4, R, C]⟩ : Shape).Idx → EReal) (i : (⟨2, ![R, C]⟩ : Shape).Idx) : EReal :=
  grad v (fun j => own (ix3 j (i 0) (i 1))) (fun j => parts (ix3 j (i 0) (i 1)))

/-- The same where the array has an axis of extent one in the middle. -/
def grads1 {R C : ℕ} (v : BitVec 32) (parts own : (⟨3, ![4, R, C]⟩ : Shape).Idx → EReal) (i : (⟨3, ![R, 1, C]⟩ : Shape).Idx) : EReal :=
  grads v parts own (ix2 (i 0) (i 2))

/-- The new first moment. -/
def mom1 (g m : EReal) : EReal := Ideal.ofBits .f32 0x3F666666#32 * m + Ideal.ofBits .f32 0x3DCCCCCD#32 * g

/-- The new second moment. -/
def mom2 (g v : EReal) : EReal := Ideal.ofBits .f32 0x3F7FBE77#32 * v + Ideal.ofBits .f32 0x3A83126F#32 * (g * g)

/-- The change of the weight. -/
def step (g w m v : EReal) : EReal := Ideal.ofBits .f32 0xBA83126F#32 *
  (Ideal.div (Ideal.div (mom1 g m) (Ideal.ofBits .f32 0x3F26BD02#32)) (Ideal.sqrt (Ideal.div (mom2 g v) (Ideal.ofBits .f32 0x3C231ACC#32)) + Ideal.ofBits .f32 0x322BCC77#32)
    + Ideal.ofBits .f32 0x3C23D70A#32 * w)

/-- The reference's sum over the chips, its choice of the own part made before the sum, is the gradient's element. -/
theorem grad_sum (v : BitVec 32) (own parts : Fin 4 → EReal) : ∑ j : Fin 4, Scalar.select (IntOp.cmpi .eq (BitVec.ofNat 32 j.val) v) (own j) (parts j) = grad v own parts := by
  unfold grad
  refine Finset.sum_congr rfl fun j _ => ?_
  by_cases h : v = BitVec.ofNat 32 j.val
  · simp [Scalar.select, IntOp.cmpi, h]
  · have hb : (BitVec.ofNat 32 j.val == v) = false := beq_eq_false_iff_ne.2 (Ne.symm h)
    simp only [Scalar.select, IntOp.cmpi, hb, if_neg h]; rfl

/-- The word that names a chip is below 4 if it is signed nonnegative and at most 3. -/
theorem lt_of_on_chip (v : BitVec 32) (e : IntOp.andi (IntOp.cmpi .sge v 0#32) (IntOp.cmpi .sle v 3#32) = 1#1) : v.toNat < 4 := by
  have andi_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  simp only [IntOp.cmpi, andi_ofBool, ofBool_one, Bool.and_eq_true, BitVec.sle_eq_decide,
    decide_eq_true_eq, BitVec.toInt_eq_toNat_cond, BitVec.toNat_ofNat, Nat.reducePow, Nat.reduceMod] at e
  omega

end Cert.Adam
-- ==== Proof.Ad15.lean ====
module
public import proofs.«01_k».proof.Proof.Gen.Kernel15Ideal.Frame
public import proofs.«01_k».proof.Proof.Gen.Kernel15.Frame
public import proofs.«01_k».proof.Proof.Gen.Reference15Ideal.Run
public import proofs.«01_k».proof.Proof.Gen.Pre_on_chip15
public import proofs.«01_k».proof.Proof.Adam
public import proofs.«01_k».proof.Defs

/-! The optimiser's update of a shard of 256 rows of 2048: the four arrays the kernel leaves, and the same four from the reference. -/

@[expose] public section

noncomputable section

namespace Cert.Ad15

open Idealize.ShloMosaic Idealize.ShloMosaic.TcCoe Idealize.SL.Sem

section Kernel

open Cert.Kernel15Ideal Cert.Kernel15Ideal.Gen

/-- The chip's number read off the launch memory. -/
abbrev me {F : FTy → Type} (m : (ℓ : Loc nD τ sig) → Buf (Elt F) ℓ) : BitVec 32 := m (((0 : Dev nD) : Thread nD τ).loc main_arg2) (ix1 0)

/-- The block of this chip's own part lies at its number. -/
theorem index1 {F : FTy → Type} [FloatOps F] (m : (ℓ : Loc nD τ sig) → Buf (Elt F) ℓ) (i : grid0.Coords) :
    cc0_transform_1 inb_S1_S1_0 numel1_S1 (tbl m) i = ![(me m).toNat, (i 0).val, (i 1).val] := by
  have h1 : ∀ i : grid0.Coords, (BitVec.ofNat 32 (i 0).val).toNat = (i 0).val ∧ (BitVec.ofNat 32 (i 1).val).toNat = (i 1).val := by decide +kernel
  unfold cc0_transform_1
  dsimp only
  rw [(h1 i).1, (h1 i).2]
  rw [show (tbl m).at 0 (Rect.unit (s := S1) ![0] S1.size inb_S1_S1_0) numel1_S1 = me m from congrArg (m _) (Adam.idx_one _ _)]

/-- If the chip's number is below 4 then every block the call moves lies inside its array. -/
theorem ok {F : FTy → Type} [FloatOps F] (m : (ℓ : Loc nD τ sig) → Buf (Elt F) ℓ) (h : (me m).toNat < 4) : Ok m := by
  have w : ∀ k, k < 4 → ∀ i : grid0.Coords, ∃ h : (∀ a, (![k, (i 0).val, (i 1).val] a + 1) * S1x128x2048.size a ≤ S4x256x2048.size a), EltTy.bits .bf16 = 32 ∨ (Rect.block (s := S4x256x2048) S1x128x2048.size ![k, (i 0).val, (i 1).val] h).WholeWords (EltTy.packing .bf16) := by
    decide +kernel
  intro i
  simp only [index1 m i]
  exact w _ h i

/-- The chip's number is below 4 if the precondition says so of the arguments. -/
theorem below (p o : FVec Ideal S4x256x2048 .bf16) (v : IVec S1 32) (a b d : FVec Ideal S256x2048 .f32)
    (h : (letI := Cert.Pre_on_chip15.Gen.facts; Cert.Pre_on_chip15.fn (F := Ideal) p o v a b d) = fun _ => 1#1) : (v (ix1 0)).toNat < 4 := by
  have e := congrFun h (ix1 0)
  simp only [Cert.Pre_on_chip15.fn, andi, cmpi, broadcastInDim, constantI] at e
  exact Adam.lt_of_on_chip _ e

/-- The same of the program as it is, its arrays as bits. -/
theorem below_bits (p o : FVec Bits S4x256x2048 .bf16) (v : IVec S1 32) (a b d : FVec Bits S256x2048 .f32)
    (h : (letI := Cert.Pre_on_chip15.Gen.facts; Cert.Pre_on_chip15.fn (F := Bits) p o v a b d) = fun _ => 1#1) : (v (ix1 0)).toNat < 4 := by
  have e := congrFun h (ix1 0)
  simp only [Cert.Pre_on_chip15.fn, andi, cmpi, broadcastInDim, constantI] at e
  exact Adam.lt_of_on_chip _ e

variable (m : (ℓ : Loc nD τ sig) → Buf (Elt Ideal) ℓ) (hO : Ok m)

/-- Where the own part's block lies. -/
theorem at1 (t : Fin (cfgM m hO).N) : ((cfgM m hO).win 1).index t = ![(me m).toNat, (grid0.coords t 0).val, 0] := by
  refine (index1 m (grid0.coords t)).trans ?_
  rw [(by decide +kernel : ∀ t : Fin grid0.N, (grid0.coords t 1).val = 0) t]

/-- Where the parts' block lies. -/
theorem at0 (t : Fin (cfgM m hO).N) : ((cfgM m hO).win 0).index t = ![0, (grid0.coords t 0).val, 0] :=
  (by decide +kernel : ∀ t : Fin grid0.N, cc0_transform_0 (grid0.coords t) = ![0, (grid0.coords t 0).val, 0]) t

/-- Where the gradient's block lies. -/
theorem at5 (t : Fin (cfgM m hO).N) : ((cfgM m hO).win 5).index t = ![(grid0.coords t 0).val, 0] :=
  (by decide +kernel : ∀ t : Fin grid0.N, cc0_transform_5 (grid0.coords t) = ![(grid0.coords t 0).val, 0]) t

/-- What a point of the grid leaves of the gradient. -/
theorem g_at (c : Dev nD) (t : Fin (cfgM m hO).N) (y : S128x2048.Idx) : (dats m hO 0 c).after 5 t y =
    (Adam.grads (R := 256) (C := 2048) (me m) (m ((c : Thread nD τ).loc main_arg0)) (m ((c : Thread nD τ).loc main_arg1))) ((((cfgM m hO).win 5).blk t).view.emb y) := by
  rw [after0_5]
  unfold outsAt0
  dsimp only
  frame_out
  unfold k0_pay4
  pointwise
  unfold Adam.grads
  rw [show View.readAt (Elt Ideal) (View.whole main_arg2) (Rect.unit ![0] ![1] inb_S1_S1_0).toLoadRect (tbl m 0) (Shape.Idx.first _) = me m from congrArg (m _) (Adam.idx_one _ _)]
  refine Adam.grad_eq _ _ _ _ _ _ _ _ (fun j hj => ?_) ?_ ?_ ?_ ?_
  · refine (congrFun ((hs0_1 m hO t).read_unread _) _).trans ?_
    have hv : (me m).toNat = j.val := by rw [hj, BitVec.toNat_ofNat]; exact Nat.mod_eq_of_lt (by omega)
    blk_ext [iblk, V, at1 m hO t, at5 m hO t, hv]
  all_goals
    refine (congrFun ((hs0_0 m hO t).read_unread _) _).trans ?_
    blk_ext [iblk, V, at0 m hO t, at5 m hO t]

/-- After the run the first result holds the gradient. -/
theorem arr5 (c : Dev nD) : (dats m hO 0 c).arrAt 5 (cfgM m hO).N = (Adam.grads (R := 256) (C := 2048) (me m) (m ((c : Thread nD τ).loc main_arg0)) (m ((c : Thread nD τ).loc main_arg1))) :=
  (dats m hO 0 c).arrAt_eq_of_covers 5 _ (of_decide_eq_true (by sl_kernel_rfl)) (fun t hf y => g_at m hO c t y)

/-- After the run the third result holds the new first moment. -/
theorem arr7 (c : Dev nD) : (dats m hO 0 c).arrAt 7 (cfgM m hO).N = fun i => Adam.mom1 ((Adam.grads (R := 256) (C := 2048) (me m) (m ((c : Thread nD τ).loc main_arg0)) (m ((c : Thread nD τ).loc main_arg1))) i) (m ((c : Thread nD τ).loc main_arg4) i) := by
  refine (dats m hO 0 c).arrAt_eq_of_covers 7 _ (of_decide_eq_true (by sl_kernel_rfl)) (fun t hf y => ?_)
  have hg := g_at m hO c t y
  rw [after0_5] at hg
  unfold outsAt0 at hg
  dsimp only at hg
  frame_out at hg
  blk_simp
  rw [after0_7]
  unfold outsAt0
  dsimp only
  frame_out
  unfold k0_pay1
  pointwise
  rw [hg]
  unfold Adam.mom1
  refine congrArg₂ (· + ·) (congrArg _ ?_) rfl
  exact congrFun ((hs0_3 m hO t).read_unread _) _

/-- After the run the fourth result holds the new second moment. -/
theorem arr8 (c : Dev nD) : (dats m hO 0 c).arrAt 8 (cfgM m hO).N = fun i => Adam.mom2 ((Adam.grads (R := 256) (C := 2048) (me m) (m ((c : Thread nD τ).loc main_arg0)) (m ((c : Thread nD τ).loc main_arg1))) i) (m ((c : Thread nD τ).loc main_arg5) i) := by
  refine (dats m hO 0 c).arrAt_eq_of_covers 8 _ (of_decide_eq_true (by sl_kernel_rfl)) (fun t hf y => ?_)
  have hg := g_at m hO c t y
  rw [after0_5] at hg
  unfold outsAt0 at hg
  dsimp only at hg
  frame_out at hg
  blk_simp
  rw [after0_8]
  unfold outsAt0
  dsimp only
  frame_out
  unfold k0_pay2
  pointwise
  rw [hg]
  unfold Adam.mom2
  refine congrArg₂ (· + ·) (congrArg _ ?_) rfl
  exact congrFun ((hs0_4 m hO t).read_unread _) _

/-- After the run the second result holds the change of the weights. -/
theorem arr6 (c : Dev nD) : (dats m hO 0 c).arrAt 6 (cfgM m hO).N = fun i => Adam.step ((Adam.grads (R := 256) (C := 2048) (me m) (m ((c : Thread nD τ).loc main_arg0)) (m ((c : Thread nD τ).loc main_arg1))) i) (m ((c : Thread nD τ).loc main_arg3) i) (m ((c : Thread nD τ).loc main_arg4) i) (m ((c : Thread nD τ).loc main_arg5) i) := by
  refine (dats m hO 0 c).arrAt_eq_of_covers 6 _ (of_decide_eq_true (by sl_kernel_rfl)) (fun t hf y => ?_)
  have hg := g_at m hO c t y
  rw [after0_5] at hg
  unfold outsAt0 at hg
  dsimp only at hg
  frame_out at hg
  blk_simp
  rw [after0_6]
  unfold outsAt0
  dsimp only
  frame_out
  unfold k0_pay3 k0_pay2 k0_pay1
  pointwise
  rw [hg]
  clear hg
  refine (?_ : _ = Adam.step _ _ _ _)
  unfold Adam.step Adam.mom1 Adam.mom2
  refine congrArg (Ideal.ofBits .f32 0xBA83126F#32 * ·) (congrArg₂ (· + ·) (congrArg₂ Ideal.div (congrArg (Ideal.div · _) (congrArg₂ (· + ·) (congrArg _ ?_) rfl)) (congrArg (Ideal.sqrt · + _) (congrArg (Ideal.div · _) (congrArg₂ (· + ·) (congrArg _ ?_) rfl)))) (congrArg _ ?_))
  · exact congrFun ((hs0_3 m hO t).read_unread _) _
  · exact congrFun ((hs0_4 m hO t).read_unread _) _
  · exact congrFun ((hs0_2 m hO t).read_unread _) _

variable (ρ : Dev nD → PrngReg)

include hO in
/-- What the kernel leaves: the gradient, the change, the two moments, and the arguments as they were. -/
theorem run : θ_run defs (onTc (τ := τ) (main (F := Ideal))) ⟨m, fun _ => 0, ρ⟩ (fun r => ∀ c : Dev nD,
    (r.2.mem ((c : Thread nD τ).loc main_v0_0) = (Adam.grads (R := 256) (C := 2048) (me m) (m ((c : Thread nD τ).loc main_arg0)) (m ((c : Thread nD τ).loc main_arg1)))
    ∧ (r.2.mem ((c : Thread nD τ).loc main_v0_1) = fun i => Adam.step ((Adam.grads (R := 256) (C := 2048) (me m) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v0_2) = fun i => Adam.mom1 ((Adam.grads (R := 256) (C := 2048) (me m) (m ((c : Thread nD τ).loc main_arg0)) (m ((c : Thread nD τ).loc main_arg1))) i) (m ((c : Thread nD τ).loc main_arg4) i))
    ∧ (r.2.mem ((c : Thread nD τ).loc main_v0_3) = fun i => Adam.mom2 ((Adam.grads (R := 256) (C := 2048) (me m) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) :=
  (θ_run defs _ _).mono (fun r h c => ⟨((h.1 c).1 5).trans (arr5 m hO c), ((h.1 c).1 6).trans (arr6 m hO c), ((h.1 c).1 7).trans (arr7 m hO c),
    ((h.1 c).1 8).trans (arr8 m hO c), h.2 c⟩) (θ_run_and (run_main m ρ hO) (unchanged m ρ hO))

end Kernel

section Reference

open Cert.Reference15Ideal Cert.Reference15Ideal.Gen

/-- The reference's gradient: each chip's part or, for this chip, the own one, summed. -/
theorem host_g (p o : FVec Ideal S4x256x2048 .bf16) (e : IVec S1 32) :
    Host.reduceAdd (extf .f32 (select (cmpi .eq (iotaInDim S4x256x2048 32 0) (broadcastInDim S4x256x2048 ![] bcast_S_S4x256x2048 (shapeCast S_ e shapeCasts_S1_S_))) o p) bitsLt_bf16_f32) (constant S_ .f32 0x00000000#32) reducesTo_S4x256x2048_S256x2048_d0 h_S_ = Adam.grads (R := 256) (C := 2048) (e (ix1 0)) p o := by
  funext i
  obtain ⟨a, b, rfl⟩ : ∃ a b, i = ix2 a b := ⟨i 0, i 1, eq_ix2 i⟩
  pointwise
  exact Adam.grad_sum _ _ _

/-- The reference's new first moment, entry by entry. -/
theorem host_m1 (g m : FVec Ideal S256x2048 .f32) : addf (mulf (broadcastInDim S256x2048 ![] bcast_S_S256x2048 (constant S_ .f32 0x3F666666#32)) m) (mulf (broadcastInDim S256x2048 ![] bcast_S_S256x2048 (constant S_ .f32 0x3DCCCCCD#32)) g)
    = fun i => Adam.mom1 (g i) (m i) := rfl

/-- The reference's new second moment, entry by entry. -/
theorem host_m2 (g v : FVec Ideal S256x2048 .f32) : addf (mulf (broadcastInDim S256x2048 ![] bcast_S_S256x2048 (constant S_ .f32 0x3F7FBE77#32)) v) (mulf (broadcastInDim S256x2048 ![] bcast_S_S256x2048 (constant S_ .f32 0x3A83126F#32)) (mulf g g))
    = fun i => Adam.mom2 (g i) (v i) := rfl

variable (m : (ℓ : Loc nD τ sig) → Buf (Elt Ideal) ℓ) (ρ : Dev nD → PrngReg)

/-- What the reference leaves: the same four arrays, and the arguments as they were. -/
theorem host_run : θ_run defs (onTc (τ := τ) (main (F := Ideal))) ⟨m, fun _ => 0, ρ⟩ (fun r => ∀ c : Dev nD,
    (r.2.mem ((c : Thread nD τ).loc main_v6) = (Adam.grads (R := 256) (C := 2048) ((m ((c : Thread nD τ).loc main_arg2)) (ix1 0)) (m ((c : Thread nD τ).loc main_arg0)) (m ((c : Thread nD τ).loc main_arg1)))
    ∧ (r.2.mem ((c : Thread nD τ).loc main_v30) = fun i => Adam.step ((Adam.grads (R := 256) (C := 2048) ((m ((c : Thread nD τ).loc main_arg2)) (ix1 0)) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v11) = fun i => Adam.mom1 ((Adam.grads (R := 256) (C := 2048) ((m ((c : Thread nD τ).loc main_arg2)) (ix1 0)) (m ((c : Thread nD τ).loc main_arg0)) (m ((c : Thread nD τ).loc main_arg1))) i) (m ((c : Thread nD τ).loc main_arg4) i))
    ∧ (r.2.mem ((c : Thread nD τ).loc main_v17) = fun i => Adam.mom2 ((Adam.grads (R := 256) (C := 2048) ((m ((c : Thread nD τ).loc main_arg2)) (ix1 0)) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) := by
  refine (θ_run defs _ _).mono (fun r h c => ?_) (Cert.Reference15Ideal.Value.run m ρ)
  obtain ⟨h0, h1, h2, h3, hr⟩ := h c
  rw [host_g] at h0 h1 h2 h3
  refine ⟨h0, h1.trans ?_, h2.trans (host_m1 _ _), h3.trans (host_m2 _ _), hr⟩
  rw [host_m1, host_m2]
  rfl

end Reference

/-- The kernel's arrays and the reference's are equal. -/
theorem equal : Cert.algebraic_Kernel15Ideal_Reference15Ideal (hKernel15Ideal := Cert.Kernel15Ideal.Gen.facts) (hReference15Ideal := Cert.Reference15Ideal.Gen.facts)
    (hPre_on_chip15 := Cert.Pre_on_chip15.Gen.facts) := by
  letI := Cert.Kernel15Ideal.Gen.facts
  letI := Cert.Reference15Ideal.Gen.facts
  letI := Cert.Pre_on_chip15.Gen.facts
  intro m g m' g' hp hm
  refine ⟨_, _, _, _, run m (ok m (below _ _ _ _ _ _ (hp 0))) g, (θ_run Cert.Reference15Ideal.defs _ _).mono (fun r h c => ?_) (host_run m' g')⟩
  obtain ⟨e0, e1, e2, e3, e4, e5⟩ := hm c
  obtain rfl : c = 0 := Subsingleton.elim _ _
  obtain ⟨h0, h1, h2, h3, hr⟩ := h 0
  rw [e0, e1, e2] at h0
  rw [e0, e1, e2, e3, e4, e5] at h1
  rw [e0, e1, e2, e4] at h2
  rw [e0, e1, e2, e5] at h3
  exact ⟨h0, h1, h2, h3, hr⟩

/-- The program as it is runs and leaves its arguments as they were. -/
theorem frame_bits : Cert.quiescent_Kernel15 (hKernel15 := Cert.Kernel15.Gen.facts) (hPre_on_chip15 := Cert.Pre_on_chip15.Gen.facts) :=
  letI := Cert.Kernel15.Gen.facts
  letI := Cert.Pre_on_chip15.Gen.facts
  fun m ρ h => Cert.Kernel15.Gen.frame m ρ (ok (F := Bits) m (below_bits _ _ _ _ _ _ (h 0)))

/-- So does the program over the extended reals. -/
theorem frame_ideal : Cert.quiescent_Kernel15Ideal (hKernel15Ideal := Cert.Kernel15Ideal.Gen.facts) (hPre_on_chip15 := Cert.Pre_on_chip15.Gen.facts) :=
  letI := Cert.Kernel15Ideal.Gen.facts
  letI := Cert.Pre_on_chip15.Gen.facts
  fun m ρ h => Cert.Kernel15Ideal.Gen.frame m ρ (ok m (below _ _ _ _ _ _ (h 0)))

/-- The reference runs and leaves its arguments as they were, -/
theorem frame_reference : Cert.quiescent_Reference15Ideal (hReference15Ideal := Cert.Reference15Ideal.Gen.facts) :=
  letI := Cert.Reference15Ideal.Gen.facts
  fun m ρ _ => (θ_run Cert.Reference15Ideal.defs _ _).mono (fun r h => ⟨fun c => (h c).2.2.2.2, sem_eq_zero_of_no_sems rfl _⟩) (Cert.Reference15Ideal.Value.run m ρ)

/-- also where the precondition holds. -/
theorem frame_reference_pre : Cert.quiescent_Reference15Ideal_pre_on_chip15 (hReference15Ideal := Cert.Reference15Ideal.Gen.facts)
    (hPre_on_chip15 := Cert.Pre_on_chip15.Gen.facts) :=
  fun m ρ _ => frame_reference m ρ trivial

end Cert.Ad15

end
-- ==== Proof.Ad16.lean ====
module
public import proofs.«01_k».proof.Proof.Gen.Kernel16Ideal.Frame
public import proofs.«01_k».proof.Proof.Gen.Kernel16.Frame
public import proofs.«01_k».proof.Proof.Gen.Reference16Ideal.Run
public import proofs.«01_k».proof.Proof.Gen.Pre_on_chip16
public import proofs.«01_k».proof.Proof.Adam
public import proofs.«01_k».proof.Defs

/-! The optimiser's update of a shard of 1024 rows of 2048: the four arrays the kernel leaves, and the same four from the reference. -/

@[expose] public section

noncomputable section

namespace Cert.Ad16

open Idealize.ShloMosaic Idealize.ShloMosaic.TcCoe Idealize.SL.Sem

section Kernel

open Cert.Kernel16Ideal Cert.Kernel16Ideal.Gen

/-- The chip's number read off the launch memory. -/
abbrev me {F : FTy → Type} (m : (ℓ : Loc nD τ sig) → Buf (Elt F) ℓ) : BitVec 32 := m (((0 : Dev nD) : Thread nD τ).loc main_arg2) (ix1 0)

/-- The block of this chip's own part lies at its number. -/
theorem index1 {F : FTy → Type} [FloatOps F] (m : (ℓ : Loc nD τ sig) → Buf (Elt F) ℓ) (i : grid0.Coords) :
    cc0_transform_1 inb_S1_S1_0 numel1_S1 (tbl m) i = ![(me m).toNat, (i 0).val, (i 1).val] := by
  have h1 : ∀ i : grid0.Coords, (BitVec.ofNat 32 (i 0).val).toNat = (i 0).val ∧ (BitVec.ofNat 32 (i 1).val).toNat = (i 1).val := by decide +kernel
  unfold cc0_transform_1
  dsimp only
  rw [(h1 i).1, (h1 i).2]
  rw [show (tbl m).at 0 (Rect.unit (s := S1) ![0] S1.size inb_S1_S1_0) numel1_S1 = me m from congrArg (m _) (Adam.idx_one _ _)]

/-- If the chip's number is below 4 then every block the call moves lies inside its array. -/
theorem ok {F : FTy → Type} [FloatOps F] (m : (ℓ : Loc nD τ sig) → Buf (Elt F) ℓ) (h : (me m).toNat < 4) : Ok m := by
  have w : ∀ k, k < 4 → ∀ i : grid0.Coords, ∃ h : (∀ a, (![k, (i 0).val, (i 1).val] a + 1) * S1x128x2048.size a ≤ S4x1024x2048.size a), EltTy.bits .bf16 = 32 ∨ (Rect.block (s := S4x1024x2048) S1x128x2048.size ![k, (i 0).val, (i 1).val] h).WholeWords (EltTy.packing .bf16) := by
    decide +kernel
  intro i
  simp only [index1 m i]
  exact w _ h i

/-- The chip's number is below 4 if the precondition says so of the arguments. -/
theorem below (p o : FVec Ideal S4x1024x2048 .bf16) (v : IVec S1 32) (a b d : FVec Ideal S1024x2048 .f32)
    (h : (letI := Cert.Pre_on_chip16.Gen.facts; Cert.Pre_on_chip16.fn (F := Ideal) p o v a b d) = fun _ => 1#1) : (v (ix1 0)).toNat < 4 := by
  have e := congrFun h (ix1 0)
  simp only [Cert.Pre_on_chip16.fn, andi, cmpi, broadcastInDim, constantI] at e
  exact Adam.lt_of_on_chip _ e

/-- The same of the program as it is, its arrays as bits. -/
theorem below_bits (p o : FVec Bits S4x1024x2048 .bf16) (v : IVec S1 32) (a b d : FVec Bits S1024x2048 .f32)
    (h : (letI := Cert.Pre_on_chip16.Gen.facts; Cert.Pre_on_chip16.fn (F := Bits) p o v a b d) = fun _ => 1#1) : (v (ix1 0)).toNat < 4 := by
  have e := congrFun h (ix1 0)
  simp only [Cert.Pre_on_chip16.fn, andi, cmpi, broadcastInDim, constantI] at e
  exact Adam.lt_of_on_chip _ e

variable (m : (ℓ : Loc nD τ sig) → Buf (Elt Ideal) ℓ) (hO : Ok m)

/-- Where the own part's block lies. -/
theorem at1 (t : Fin (cfgM m hO).N) : ((cfgM m hO).win 1).index t = ![(me m).toNat, (grid0.coords t 0).val, 0] := by
  refine (index1 m (grid0.coords t)).trans ?_
  rw [(by decide +kernel : ∀ t : Fin grid0.N, (grid0.coords t 1).val = 0) t]

/-- Where the parts' block lies. -/
theorem at0 (t : Fin (cfgM m hO).N) : ((cfgM m hO).win 0).index t = ![0, (grid0.coords t 0).val, 0] :=
  (by decide +kernel : ∀ t : Fin grid0.N, cc0_transform_0 (grid0.coords t) = ![0, (grid0.coords t 0).val, 0]) t

/-- Where the gradient's block lies. -/
theorem at5 (t : Fin (cfgM m hO).N) : ((cfgM m hO).win 5).index t = ![(grid0.coords t 0).val, 0] :=
  (by decide +kernel : ∀ t : Fin grid0.N, cc0_transform_5 (grid0.coords t) = ![(grid0.coords t 0).val, 0]) t

/-- What a point of the grid leaves of the gradient. -/
theorem g_at (c : Dev nD) (t : Fin (cfgM m hO).N) (y : S128x2048.Idx) : (dats m hO 0 c).after 5 t y =
    (Adam.grads (R := 1024) (C := 2048) (me m) (m ((c : Thread nD τ).loc main_arg0)) (m ((c : Thread nD τ).loc main_arg1))) ((((cfgM m hO).win 5).blk t).view.emb y) := by
  rw [after0_5]
  unfold outsAt0
  dsimp only
  frame_out
  unfold k0_pay4
  pointwise
  unfold Adam.grads
  rw [show View.readAt (Elt Ideal) (View.whole main_arg2) (Rect.unit ![0] ![1] inb_S1_S1_0).toLoadRect (tbl m 0) (Shape.Idx.first _) = me m from congrArg (m _) (Adam.idx_one _ _)]
  refine Adam.grad_eq _ _ _ _ _ _ _ _ (fun j hj => ?_) ?_ ?_ ?_ ?_
  · refine (congrFun ((hs0_1 m hO t).read_unread _) _).trans ?_
    have hv : (me m).toNat = j.val := by rw [hj, BitVec.toNat_ofNat]; exact Nat.mod_eq_of_lt (by omega)
    blk_ext [iblk, V, at1 m hO t, at5 m hO t, hv]
  all_goals
    refine (congrFun ((hs0_0 m hO t).read_unread _) _).trans ?_
    blk_ext [iblk, V, at0 m hO t, at5 m hO t]

/-- After the run the first result holds the gradient. -/
theorem arr5 (c : Dev nD) : (dats m hO 0 c).arrAt 5 (cfgM m hO).N = (Adam.grads (R := 1024) (C := 2048) (me m) (m ((c : Thread nD τ).loc main_arg0)) (m ((c : Thread nD τ).loc main_arg1))) :=
  (dats m hO 0 c).arrAt_eq_of_covers 5 _ (of_decide_eq_true (by sl_kernel_rfl)) (fun t hf y => g_at m hO c t y)

/-- After the run the third result holds the new first moment. -/
theorem arr7 (c : Dev nD) : (dats m hO 0 c).arrAt 7 (cfgM m hO).N = fun i => Adam.mom1 ((Adam.grads (R := 1024) (C := 2048) (me m) (m ((c : Thread nD τ).loc main_arg0)) (m ((c : Thread nD τ).loc main_arg1))) i) (m ((c : Thread nD τ).loc main_arg4) i) := by
  refine (dats m hO 0 c).arrAt_eq_of_covers 7 _ (of_decide_eq_true (by sl_kernel_rfl)) (fun t hf y => ?_)
  have hg := g_at m hO c t y
  rw [after0_5] at hg
  unfold outsAt0 at hg
  dsimp only at hg
  frame_out at hg
  blk_simp
  rw [after0_7]
  unfold outsAt0
  dsimp only
  frame_out
  unfold k0_pay1
  pointwise
  rw [hg]
  unfold Adam.mom1
  refine congrArg₂ (· + ·) (congrArg _ ?_) rfl
  exact congrFun ((hs0_3 m hO t).read_unread _) _

/-- After the run the fourth result holds the new second moment. -/
theorem arr8 (c : Dev nD) : (dats m hO 0 c).arrAt 8 (cfgM m hO).N = fun i => Adam.mom2 ((Adam.grads (R := 1024) (C := 2048) (me m) (m ((c : Thread nD τ).loc main_arg0)) (m ((c : Thread nD τ).loc main_arg1))) i) (m ((c : Thread nD τ).loc main_arg5) i) := by
  refine (dats m hO 0 c).arrAt_eq_of_covers 8 _ (of_decide_eq_true (by sl_kernel_rfl)) (fun t hf y => ?_)
  have hg := g_at m hO c t y
  rw [after0_5] at hg
  unfold outsAt0 at hg
  dsimp only at hg
  frame_out at hg
  blk_simp
  rw [after0_8]
  unfold outsAt0
  dsimp only
  frame_out
  unfold k0_pay2
  pointwise
  rw [hg]
  unfold Adam.mom2
  refine congrArg₂ (· + ·) (congrArg _ ?_) rfl
  exact congrFun ((hs0_4 m hO t).read_unread _) _

/-- After the run the second result holds the change of the weights. -/
theorem arr6 (c : Dev nD) : (dats m hO 0 c).arrAt 6 (cfgM m hO).N = fun i => Adam.step ((Adam.grads (R := 1024) (C := 2048) (me m) (m ((c : Thread nD τ).loc main_arg0)) (m ((c : Thread nD τ).loc main_arg1))) i) (m ((c : Thread nD τ).loc main_arg3) i) (m ((c : Thread nD τ).loc main_arg4) i) (m ((c : Thread nD τ).loc main_arg5) i) := by
  refine (dats m hO 0 c).arrAt_eq_of_covers 6 _ (of_decide_eq_true (by sl_kernel_rfl)) (fun t hf y => ?_)
  have hg := g_at m hO c t y
  rw [after0_5] at hg
  unfold outsAt0 at hg
  dsimp only at hg
  frame_out at hg
  blk_simp
  rw [after0_6]
  unfold outsAt0
  dsimp only
  frame_out
  unfold k0_pay3 k0_pay2 k0_pay1
  pointwise
  rw [hg]
  clear hg
  refine (?_ : _ = Adam.step _ _ _ _)
  unfold Adam.step Adam.mom1 Adam.mom2
  refine congrArg (Ideal.ofBits .f32 0xBA83126F#32 * ·) (congrArg₂ (· + ·) (congrArg₂ Ideal.div (congrArg (Ideal.div · _) (congrArg₂ (· + ·) (congrArg _ ?_) rfl)) (congrArg (Ideal.sqrt · + _) (congrArg (Ideal.div · _) (congrArg₂ (· + ·) (congrArg _ ?_) rfl)))) (congrArg _ ?_))
  · exact congrFun ((hs0_3 m hO t).read_unread _) _
  · exact congrFun ((hs0_4 m hO t).read_unread _) _
  · exact congrFun ((hs0_2 m hO t).read_unread _) _

variable (ρ : Dev nD → PrngReg)

include hO in
/-- What the kernel leaves: the gradient, the change, the two moments, and the arguments as they were. -/
theorem run : θ_run defs (onTc (τ := τ) (main (F := Ideal))) ⟨m, fun _ => 0, ρ⟩ (fun r => ∀ c : Dev nD,
    (r.2.mem ((c : Thread nD τ).loc main_v0_0) = (Adam.grads (R := 1024) (C := 2048) (me m) (m ((c : Thread nD τ).loc main_arg0)) (m ((c : Thread nD τ).loc main_arg1)))
    ∧ (r.2.mem ((c : Thread nD τ).loc main_v0_1) = fun i => Adam.step ((Adam.grads (R := 1024) (C := 2048) (me m) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v0_2) = fun i => Adam.mom1 ((Adam.grads (R := 1024) (C := 2048) (me m) (m ((c : Thread nD τ).loc main_arg0)) (m ((c : Thread nD τ).loc main_arg1))) i) (m ((c : Thread nD τ).loc main_arg4) i))
    ∧ (r.2.mem ((c : Thread nD τ).loc main_v0_3) = fun i => Adam.mom2 ((Adam.grads (R := 1024) (C := 2048) (me m) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) :=
  (θ_run defs _ _).mono (fun r h c => ⟨((h.1 c).1 5).trans (arr5 m hO c), ((h.1 c).1 6).trans (arr6 m hO c), ((h.1 c).1 7).trans (arr7 m hO c),
    ((h.1 c).1 8).trans (arr8 m hO c), h.2 c⟩) (θ_run_and (run_main m ρ hO) (unchanged m ρ hO))

end Kernel

section Reference

open Cert.Reference16Ideal Cert.Reference16Ideal.Gen

/-- The reference's gradient: each chip's part or, for this chip, the own one, summed. -/
theorem host_g (p o : FVec Ideal S4x1024x2048 .bf16) (e : IVec S1 32) :
    Host.reduceAdd (extf .f32 (select (cmpi .eq (iotaInDim S4x1024x2048 32 0) (broadcastInDim S4x1024x2048 ![] bcast_S_S4x1024x2048 (shapeCast S_ e shapeCasts_S1_S_))) o p) bitsLt_bf16_f32) (constant S_ .f32 0x00000000#32) reducesTo_S4x1024x2048_S1024x2048_d0 h_S_ = Adam.grads (R := 1024) (C := 2048) (e (ix1 0)) p o := by
  funext i
  obtain ⟨a, b, rfl⟩ : ∃ a b, i = ix2 a b := ⟨i 0, i 1, eq_ix2 i⟩
  pointwise
  exact Adam.grad_sum _ _ _

/-- The reference's new first moment, entry by entry. -/
theorem host_m1 (g m : FVec Ideal S1024x2048 .f32) : addf (mulf (broadcastInDim S1024x2048 ![] bcast_S_S1024x2048 (constant S_ .f32 0x3F666666#32)) m) (mulf (broadcastInDim S1024x2048 ![] bcast_S_S1024x2048 (constant S_ .f32 0x3DCCCCCD#32)) g)
    = fun i => Adam.mom1 (g i) (m i) := rfl

/-- The reference's new second moment, entry by entry. -/
theorem host_m2 (g v : FVec Ideal S1024x2048 .f32) : addf (mulf (broadcastInDim S1024x2048 ![] bcast_S_S1024x2048 (constant S_ .f32 0x3F7FBE77#32)) v) (mulf (broadcastInDim S1024x2048 ![] bcast_S_S1024x2048 (constant S_ .f32 0x3A83126F#32)) (mulf g g))
    = fun i => Adam.mom2 (g i) (v i) := rfl

variable (m : (ℓ : Loc nD τ sig) → Buf (Elt Ideal) ℓ) (ρ : Dev nD → PrngReg)

/-- What the reference leaves: the same four arrays, and the arguments as they were. -/
theorem host_run : θ_run defs (onTc (τ := τ) (main (F := Ideal))) ⟨m, fun _ => 0, ρ⟩ (fun r => ∀ c : Dev nD,
    (r.2.mem ((c : Thread nD τ).loc main_v6) = (Adam.grads (R := 1024) (C := 2048) ((m ((c : Thread nD τ).loc main_arg2)) (ix1 0)) (m ((c : Thread nD τ).loc main_arg0)) (m ((c : Thread nD τ).loc main_arg1)))
    ∧ (r.2.mem ((c : Thread nD τ).loc main_v30) = fun i => Adam.step ((Adam.grads (R := 1024) (C := 2048) ((m ((c : Thread nD τ).loc main_arg2)) (ix1 0)) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v11) = fun i => Adam.mom1 ((Adam.grads (R := 1024) (C := 2048) ((m ((c : Thread nD τ).loc main_arg2)) (ix1 0)) (m ((c : Thread nD τ).loc main_arg0)) (m ((c : Thread nD τ).loc main_arg1))) i) (m ((c : Thread nD τ).loc main_arg4) i))
    ∧ (r.2.mem ((c : Thread nD τ).loc main_v17) = fun i => Adam.mom2 ((Adam.grads (R := 1024) (C := 2048) ((m ((c : Thread nD τ).loc main_arg2)) (ix1 0)) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) := by
  refine (θ_run defs _ _).mono (fun r h c => ?_) (Cert.Reference16Ideal.Value.run m ρ)
  obtain ⟨h0, h1, h2, h3, hr⟩ := h c
  rw [host_g] at h0 h1 h2 h3
  refine ⟨h0, h1.trans ?_, h2.trans (host_m1 _ _), h3.trans (host_m2 _ _), hr⟩
  rw [host_m1, host_m2]
  rfl

end Reference

/-- The kernel's arrays and the reference's are equal. -/
theorem equal : Cert.algebraic_Kernel16Ideal_Reference16Ideal (hKernel16Ideal := Cert.Kernel16Ideal.Gen.facts) (hReference16Ideal := Cert.Reference16Ideal.Gen.facts)
    (hPre_on_chip16 := Cert.Pre_on_chip16.Gen.facts) := by
  letI := Cert.Kernel16Ideal.Gen.facts
  letI := Cert.Reference16Ideal.Gen.facts
  letI := Cert.Pre_on_chip16.Gen.facts
  intro m g m' g' hp hm
  refine ⟨_, _, _, _, run m (ok m (below _ _ _ _ _ _ (hp 0))) g, (θ_run Cert.Reference16Ideal.defs _ _).mono (fun r h c => ?_) (host_run m' g')⟩
  obtain ⟨e0, e1, e2, e3, e4, e5⟩ := hm c
  obtain rfl : c = 0 := Subsingleton.elim _ _
  obtain ⟨h0, h1, h2, h3, hr⟩ := h 0
  rw [e0, e1, e2] at h0
  rw [e0, e1, e2, e3, e4, e5] at h1
  rw [e0, e1, e2, e4] at h2
  rw [e0, e1, e2, e5] at h3
  exact ⟨h0, h1, h2, h3, hr⟩

/-- The program as it is runs and leaves its arguments as they were. -/
theorem frame_bits : Cert.quiescent_Kernel16 (hKernel16 := Cert.Kernel16.Gen.facts) (hPre_on_chip16 := Cert.Pre_on_chip16.Gen.facts) :=
  letI := Cert.Kernel16.Gen.facts
  letI := Cert.Pre_on_chip16.Gen.facts
  fun m ρ h => Cert.Kernel16.Gen.frame m ρ (ok (F := Bits) m (below_bits _ _ _ _ _ _ (h 0)))

/-- So does the program over the extended reals. -/
theorem frame_ideal : Cert.quiescent_Kernel16Ideal (hKernel16Ideal := Cert.Kernel16Ideal.Gen.facts) (hPre_on_chip16 := Cert.Pre_on_chip16.Gen.facts) :=
  letI := Cert.Kernel16Ideal.Gen.facts
  letI := Cert.Pre_on_chip16.Gen.facts
  fun m ρ h => Cert.Kernel16Ideal.Gen.frame m ρ (ok m (below _ _ _ _ _ _ (h 0)))

/-- The reference runs and leaves its arguments as they were, -/
theorem frame_reference : Cert.quiescent_Reference16Ideal (hReference16Ideal := Cert.Reference16Ideal.Gen.facts) :=
  letI := Cert.Reference16Ideal.Gen.facts
  fun m ρ _ => (θ_run Cert.Reference16Ideal.defs _ _).mono (fun r h => ⟨fun c => (h c).2.2.2.2, sem_eq_zero_of_no_sems rfl _⟩) (Cert.Reference16Ideal.Value.run m ρ)

/-- also where the precondition holds. -/
theorem frame_reference_pre : Cert.quiescent_Reference16Ideal_pre_on_chip16 (hReference16Ideal := Cert.Reference16Ideal.Gen.facts)
    (hPre_on_chip16 := Cert.Pre_on_chip16.Gen.facts) :=
  fun m ρ _ => frame_reference m ρ trivial

end Cert.Ad16

end
-- ==== Proof.Ad17.lean ====
module
public import proofs.«01_k».proof.Proof.Gen.Kernel17Ideal.Frame
public import proofs.«01_k».proof.Proof.Gen.Kernel17.Frame
public import proofs.«01_k».proof.Proof.Gen.Reference17Ideal.Run
public import proofs.«01_k».proof.Proof.Gen.Pre_on_chip17
public import proofs.«01_k».proof.Proof.Adam
public import proofs.«01_k».proof.Defs

/-! The optimiser's update of a shard of 2048 rows of 1024: the four arrays the kernel leaves, and the same four from the reference. -/

@[expose] public section

noncomputable section

namespace Cert.Ad17

open Idealize.ShloMosaic Idealize.ShloMosaic.TcCoe Idealize.SL.Sem

section Kernel

open Cert.Kernel17Ideal Cert.Kernel17Ideal.Gen

/-- The chip's number read off the launch memory. -/
abbrev me {F : FTy → Type} (m : (ℓ : Loc nD τ sig) → Buf (Elt F) ℓ) : BitVec 32 := m (((0 : Dev nD) : Thread nD τ).loc main_arg2) (ix1 0)

/-- The block of this chip's own part lies at its number. -/
theorem index1 {F : FTy → Type} [FloatOps F] (m : (ℓ : Loc nD τ sig) → Buf (Elt F) ℓ) (i : grid0.Coords) :
    cc0_transform_1 inb_S1_S1_0 numel1_S1 (tbl m) i = ![(me m).toNat, (i 0).val, (i 1).val] := by
  have h1 : ∀ i : grid0.Coords, (BitVec.ofNat 32 (i 0).val).toNat = (i 0).val ∧ (BitVec.ofNat 32 (i 1).val).toNat = (i 1).val := by decide +kernel
  unfold cc0_transform_1
  dsimp only
  rw [(h1 i).1, (h1 i).2]
  rw [show (tbl m).at 0 (Rect.unit (s := S1) ![0] S1.size inb_S1_S1_0) numel1_S1 = me m from congrArg (m _) (Adam.idx_one _ _)]

/-- If the chip's number is below 4 then every block the call moves lies inside its array. -/
theorem ok {F : FTy → Type} [FloatOps F] (m : (ℓ : Loc nD τ sig) → Buf (Elt F) ℓ) (h : (me m).toNat < 4) : Ok m := by
  have w : ∀ k, k < 4 → ∀ i : grid0.Coords, ∃ h : (∀ a, (![k, (i 0).val, (i 1).val] a + 1) * S1x256x1024.size a ≤ S4x2048x1024.size a), EltTy.bits .bf16 = 32 ∨ (Rect.block (s := S4x2048x1024) S1x256x1024.size ![k, (i 0).val, (i 1).val] h).WholeWords (EltTy.packing .bf16) := by
    decide +kernel
  intro i
  simp only [index1 m i]
  exact w _ h i

/-- The chip's number is below 4 if the precondition says so of the arguments. -/
theorem below (p o : FVec Ideal S4x2048x1024 .bf16) (v : IVec S1 32) (a b d : FVec Ideal S2048x1024 .f32)
    (h : (letI := Cert.Pre_on_chip17.Gen.facts; Cert.Pre_on_chip17.fn (F := Ideal) p o v a b d) = fun _ => 1#1) : (v (ix1 0)).toNat < 4 := by
  have e := congrFun h (ix1 0)
  simp only [Cert.Pre_on_chip17.fn, andi, cmpi, broadcastInDim, constantI] at e
  exact Adam.lt_of_on_chip _ e

/-- The same of the program as it is, its arrays as bits. -/
theorem below_bits (p o : FVec Bits S4x2048x1024 .bf16) (v : IVec S1 32) (a b d : FVec Bits S2048x1024 .f32)
    (h : (letI := Cert.Pre_on_chip17.Gen.facts; Cert.Pre_on_chip17.fn (F := Bits) p o v a b d) = fun _ => 1#1) : (v (ix1 0)).toNat < 4 := by
  have e := congrFun h (ix1 0)
  simp only [Cert.Pre_on_chip17.fn, andi, cmpi, broadcastInDim, constantI] at e
  exact Adam.lt_of_on_chip _ e

variable (m : (ℓ : Loc nD τ sig) → Buf (Elt Ideal) ℓ) (hO : Ok m)

/-- Where the own part's block lies. -/
theorem at1 (t : Fin (cfgM m hO).N) : ((cfgM m hO).win 1).index t = ![(me m).toNat, (grid0.coords t 0).val, 0] := by
  refine (index1 m (grid0.coords t)).trans ?_
  rw [(by decide +kernel : ∀ t : Fin grid0.N, (grid0.coords t 1).val = 0) t]

/-- Where the parts' block lies. -/
theorem at0 (t : Fin (cfgM m hO).N) : ((cfgM m hO).win 0).index t = ![0, (grid0.coords t 0).val, 0] :=
  (by decide +kernel : ∀ t : Fin grid0.N, cc0_transform_0 (grid0.coords t) = ![0, (grid0.coords t 0).val, 0]) t

/-- Where the gradient's block lies. -/
theorem at5 (t : Fin (cfgM m hO).N) : ((cfgM m hO).win 5).index t = ![(grid0.coords t 0).val, 0] :=
  (by decide +kernel : ∀ t : Fin grid0.N, cc0_transform_5 (grid0.coords t) = ![(grid0.coords t 0).val, 0]) t

/-- What a point of the grid leaves of the gradient. -/
theorem g_at (c : Dev nD) (t : Fin (cfgM m hO).N) (y : S256x1024.Idx) : (dats m hO 0 c).after 5 t y =
    (Adam.grads (R := 2048) (C := 1024) (me m) (m ((c : Thread nD τ).loc main_arg0)) (m ((c : Thread nD τ).loc main_arg1))) ((((cfgM m hO).win 5).blk t).view.emb y) := by
  rw [after0_5]
  unfold outsAt0
  dsimp only
  frame_out
  unfold k0_pay4
  pointwise
  unfold Adam.grads
  rw [show View.readAt (Elt Ideal) (View.whole main_arg2) (Rect.unit ![0] ![1] inb_S1_S1_0).toLoadRect (tbl m 0) (Shape.Idx.first _) = me m from congrArg (m _) (Adam.idx_one _ _)]
  refine Adam.grad_eq _ _ _ _ _ _ _ _ (fun j hj => ?_) ?_ ?_ ?_ ?_
  · refine (congrFun ((hs0_1 m hO t).read_unread _) _).trans ?_
    have hv : (me m).toNat = j.val := by rw [hj, BitVec.toNat_ofNat]; exact Nat.mod_eq_of_lt (by omega)
    blk_ext [iblk, V, at1 m hO t, at5 m hO t, hv]
  all_goals
    refine (congrFun ((hs0_0 m hO t).read_unread _) _).trans ?_
    blk_ext [iblk, V, at0 m hO t, at5 m hO t]

/-- After the run the first result holds the gradient. -/
theorem arr5 (c : Dev nD) : (dats m hO 0 c).arrAt 5 (cfgM m hO).N = (Adam.grads (R := 2048) (C := 1024) (me m) (m ((c : Thread nD τ).loc main_arg0)) (m ((c : Thread nD τ).loc main_arg1))) :=
  (dats m hO 0 c).arrAt_eq_of_covers 5 _ (of_decide_eq_true (by sl_kernel_rfl)) (fun t hf y => g_at m hO c t y)

/-- After the run the third result holds the new first moment. -/
theorem arr7 (c : Dev nD) : (dats m hO 0 c).arrAt 7 (cfgM m hO).N = fun i => Adam.mom1 ((Adam.grads (R := 2048) (C := 1024) (me m) (m ((c : Thread nD τ).loc main_arg0)) (m ((c : Thread nD τ).loc main_arg1))) i) (m ((c : Thread nD τ).loc main_arg4) i) := by
  refine (dats m hO 0 c).arrAt_eq_of_covers 7 _ (of_decide_eq_true (by sl_kernel_rfl)) (fun t hf y => ?_)
  have hg := g_at m hO c t y
  rw [after0_5] at hg
  unfold outsAt0 at hg
  dsimp only at hg
  frame_out at hg
  blk_simp
  rw [after0_7]
  unfold outsAt0
  dsimp only
  frame_out
  unfold k0_pay1
  pointwise
  rw [hg]
  unfold Adam.mom1
  refine congrArg₂ (· + ·) (congrArg _ ?_) rfl
  exact congrFun ((hs0_3 m hO t).read_unread _) _

/-- After the run the fourth result holds the new second moment. -/
theorem arr8 (c : Dev nD) : (dats m hO 0 c).arrAt 8 (cfgM m hO).N = fun i => Adam.mom2 ((Adam.grads (R := 2048) (C := 1024) (me m) (m ((c : Thread nD τ).loc main_arg0)) (m ((c : Thread nD τ).loc main_arg1))) i) (m ((c : Thread nD τ).loc main_arg5) i) := by
  refine (dats m hO 0 c).arrAt_eq_of_covers 8 _ (of_decide_eq_true (by sl_kernel_rfl)) (fun t hf y => ?_)
  have hg := g_at m hO c t y
  rw [after0_5] at hg
  unfold outsAt0 at hg
  dsimp only at hg
  frame_out at hg
  blk_simp
  rw [after0_8]
  unfold outsAt0
  dsimp only
  frame_out
  unfold k0_pay2
  pointwise
  rw [hg]
  unfold Adam.mom2
  refine congrArg₂ (· + ·) (congrArg _ ?_) rfl
  exact congrFun ((hs0_4 m hO t).read_unread _) _

/-- After the run the second result holds the change of the weights. -/
theorem arr6 (c : Dev nD) : (dats m hO 0 c).arrAt 6 (cfgM m hO).N = fun i => Adam.step ((Adam.grads (R := 2048) (C := 1024) (me m) (m ((c : Thread nD τ).loc main_arg0)) (m ((c : Thread nD τ).loc main_arg1))) i) (m ((c : Thread nD τ).loc main_arg3) i) (m ((c : Thread nD τ).loc main_arg4) i) (m ((c : Thread nD τ).loc main_arg5) i) := by
  refine (dats m hO 0 c).arrAt_eq_of_covers 6 _ (of_decide_eq_true (by sl_kernel_rfl)) (fun t hf y => ?_)
  have hg := g_at m hO c t y
  rw [after0_5] at hg
  unfold outsAt0 at hg
  dsimp only at hg
  frame_out at hg
  blk_simp
  rw [after0_6]
  unfold outsAt0
  dsimp only
  frame_out
  unfold k0_pay3 k0_pay2 k0_pay1
  pointwise
  rw [hg]
  clear hg
  refine (?_ : _ = Adam.step _ _ _ _)
  unfold Adam.step Adam.mom1 Adam.mom2
  refine congrArg (Ideal.ofBits .f32 0xBA83126F#32 * ·) (congrArg₂ (· + ·) (congrArg₂ Ideal.div (congrArg (Ideal.div · _) (congrArg₂ (· + ·) (congrArg _ ?_) rfl)) (congrArg (Ideal.sqrt · + _) (congrArg (Ideal.div · _) (congrArg₂ (· + ·) (congrArg _ ?_) rfl)))) (congrArg _ ?_))
  · exact congrFun ((hs0_3 m hO t).read_unread _) _
  · exact congrFun ((hs0_4 m hO t).read_unread _) _
  · exact congrFun ((hs0_2 m hO t).read_unread _) _

variable (ρ : Dev nD → PrngReg)

include hO in
/-- What the kernel leaves: the gradient, the change, the two moments, and the arguments as they were. -/
theorem run : θ_run defs (onTc (τ := τ) (main (F := Ideal))) ⟨m, fun _ => 0, ρ⟩ (fun r => ∀ c : Dev nD,
    (r.2.mem ((c : Thread nD τ).loc main_v0_0) = (Adam.grads (R := 2048) (C := 1024) (me m) (m ((c : Thread nD τ).loc main_arg0)) (m ((c : Thread nD τ).loc main_arg1)))
    ∧ (r.2.mem ((c : Thread nD τ).loc main_v0_1) = fun i => Adam.step ((Adam.grads (R := 2048) (C := 1024) (me m) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v0_2) = fun i => Adam.mom1 ((Adam.grads (R := 2048) (C := 1024) (me m) (m ((c : Thread nD τ).loc main_arg0)) (m ((c : Thread nD τ).loc main_arg1))) i) (m ((c : Thread nD τ).loc main_arg4) i))
    ∧ (r.2.mem ((c : Thread nD τ).loc main_v0_3) = fun i => Adam.mom2 ((Adam.grads (R := 2048) (C := 1024) (me m) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) :=
  (θ_run defs _ _).mono (fun r h c => ⟨((h.1 c).1 5).trans (arr5 m hO c), ((h.1 c).1 6).trans (arr6 m hO c), ((h.1 c).1 7).trans (arr7 m hO c),
    ((h.1 c).1 8).trans (arr8 m hO c), h.2 c⟩) (θ_run_and (run_main m ρ hO) (unchanged m ρ hO))

end Kernel

section Reference

open Cert.Reference17Ideal Cert.Reference17Ideal.Gen

/-- The reference's gradient: each chip's part or, for this chip, the own one, summed. -/
theorem host_g (p o : FVec Ideal S4x2048x1024 .bf16) (e : IVec S1 32) :
    Host.reduceAdd (extf .f32 (select (cmpi .eq (iotaInDim S4x2048x1024 32 0) (broadcastInDim S4x2048x1024 ![] bcast_S_S4x2048x1024 (shapeCast S_ e shapeCasts_S1_S_))) o p) bitsLt_bf16_f32) (constant S_ .f32 0x00000000#32) reducesTo_S4x2048x1024_S2048x1024_d0 h_S_ = Adam.grads (R := 2048) (C := 1024) (e (ix1 0)) p o := by
  funext i
  obtain ⟨a, b, rfl⟩ : ∃ a b, i = ix2 a b := ⟨i 0, i 1, eq_ix2 i⟩
  pointwise
  exact Adam.grad_sum _ _ _

/-- The reference's new first moment, entry by entry. -/
theorem host_m1 (g m : FVec Ideal S2048x1024 .f32) : addf (mulf (broadcastInDim S2048x1024 ![] bcast_S_S2048x1024 (constant S_ .f32 0x3F666666#32)) m) (mulf (broadcastInDim S2048x1024 ![] bcast_S_S2048x1024 (constant S_ .f32 0x3DCCCCCD#32)) g)
    = fun i => Adam.mom1 (g i) (m i) := rfl

/-- The reference's new second moment, entry by entry. -/
theorem host_m2 (g v : FVec Ideal S2048x1024 .f32) : addf (mulf (broadcastInDim S2048x1024 ![] bcast_S_S2048x1024 (constant S_ .f32 0x3F7FBE77#32)) v) (mulf (broadcastInDim S2048x1024 ![] bcast_S_S2048x1024 (constant S_ .f32 0x3A83126F#32)) (mulf g g))
    = fun i => Adam.mom2 (g i) (v i) := rfl

variable (m : (ℓ : Loc nD τ sig) → Buf (Elt Ideal) ℓ) (ρ : Dev nD → PrngReg)

/-- What the reference leaves: the same four arrays, and the arguments as they were. -/
theorem host_run : θ_run defs (onTc (τ := τ) (main (F := Ideal))) ⟨m, fun _ => 0, ρ⟩ (fun r => ∀ c : Dev nD,
    (r.2.mem ((c : Thread nD τ).loc main_v6) = (Adam.grads (R := 2048) (C := 1024) ((m ((c : Thread nD τ).loc main_arg2)) (ix1 0)) (m ((c : Thread nD τ).loc main_arg0)) (m ((c : Thread nD τ).loc main_arg1)))
    ∧ (r.2.mem ((c : Thread nD τ).loc main_v30) = fun i => Adam.step ((Adam.grads (R := 2048) (C := 1024) ((m ((c : Thread nD τ).loc main_arg2)) (ix1 0)) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v11) = fun i => Adam.mom1 ((Adam.grads (R := 2048) (C := 1024) ((m ((c : Thread nD τ).loc main_arg2)) (ix1 0)) (m ((c : Thread nD τ).loc main_arg0)) (m ((c : Thread nD τ).loc main_arg1))) i) (m ((c : Thread nD τ).loc main_arg4) i))
    ∧ (r.2.mem ((c : Thread nD τ).loc main_v17) = fun i => Adam.mom2 ((Adam.grads (R := 2048) (C := 1024) ((m ((c : Thread nD τ).loc main_arg2)) (ix1 0)) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) := by
  refine (θ_run defs _ _).mono (fun r h c => ?_) (Cert.Reference17Ideal.Value.run m ρ)
  obtain ⟨h0, h1, h2, h3, hr⟩ := h c
  rw [host_g] at h0 h1 h2 h3
  refine ⟨h0, h1.trans ?_, h2.trans (host_m1 _ _), h3.trans (host_m2 _ _), hr⟩
  rw [host_m1, host_m2]
  rfl

end Reference

/-- The kernel's arrays and the reference's are equal. -/
theorem equal : Cert.algebraic_Kernel17Ideal_Reference17Ideal (hKernel17Ideal := Cert.Kernel17Ideal.Gen.facts) (hReference17Ideal := Cert.Reference17Ideal.Gen.facts)
    (hPre_on_chip17 := Cert.Pre_on_chip17.Gen.facts) := by
  letI := Cert.Kernel17Ideal.Gen.facts
  letI := Cert.Reference17Ideal.Gen.facts
  letI := Cert.Pre_on_chip17.Gen.facts
  intro m g m' g' hp hm
  refine ⟨_, _, _, _, run m (ok m (below _ _ _ _ _ _ (hp 0))) g, (θ_run Cert.Reference17Ideal.defs _ _).mono (fun r h c => ?_) (host_run m' g')⟩
  obtain ⟨e0, e1, e2, e3, e4, e5⟩ := hm c
  obtain rfl : c = 0 := Subsingleton.elim _ _
  obtain ⟨h0, h1, h2, h3, hr⟩ := h 0
  rw [e0, e1, e2] at h0
  rw [e0, e1, e2, e3, e4, e5] at h1
  rw [e0, e1, e2, e4] at h2
  rw [e0, e1, e2, e5] at h3
  exact ⟨h0, h1, h2, h3, hr⟩

/-- The program as it is runs and leaves its arguments as they were. -/
theorem frame_bits : Cert.quiescent_Kernel17 (hKernel17 := Cert.Kernel17.Gen.facts) (hPre_on_chip17 := Cert.Pre_on_chip17.Gen.facts) :=
  letI := Cert.Kernel17.Gen.facts
  letI := Cert.Pre_on_chip17.Gen.facts
  fun m ρ h => Cert.Kernel17.Gen.frame m ρ (ok (F := Bits) m (below_bits _ _ _ _ _ _ (h 0)))

/-- So does the program over the extended reals. -/
theorem frame_ideal : Cert.quiescent_Kernel17Ideal (hKernel17Ideal := Cert.Kernel17Ideal.Gen.facts) (hPre_on_chip17 := Cert.Pre_on_chip17.Gen.facts) :=
  letI := Cert.Kernel17Ideal.Gen.facts
  letI := Cert.Pre_on_chip17.Gen.facts
  fun m ρ h => Cert.Kernel17Ideal.Gen.frame m ρ (ok m (below _ _ _ _ _ _ (h 0)))

/-- The reference runs and leaves its arguments as they were, -/
theorem frame_reference : Cert.quiescent_Reference17Ideal (hReference17Ideal := Cert.Reference17Ideal.Gen.facts) :=
  letI := Cert.Reference17Ideal.Gen.facts
  fun m ρ _ => (θ_run Cert.Reference17Ideal.defs _ _).mono (fun r h => ⟨fun c => (h c).2.2.2.2, sem_eq_zero_of_no_sems rfl _⟩) (Cert.Reference17Ideal.Value.run m ρ)

/-- also where the precondition holds. -/
theorem frame_reference_pre : Cert.quiescent_Reference17Ideal_pre_on_chip17 (hReference17Ideal := Cert.Reference17Ideal.Gen.facts)
    (hPre_on_chip17 := Cert.Pre_on_chip17.Gen.facts) :=
  fun m ρ _ => frame_reference m ρ trivial

end Cert.Ad17

end
-- ==== Proof.Ad18.lean ====
module
public import proofs.«01_k».proof.Proof.Gen.Kernel18Ideal.Frame
public import proofs.«01_k».proof.Proof.Gen.Kernel18.Frame
public import proofs.«01_k».proof.Proof.Gen.Reference18Ideal.Run
public import proofs.«01_k».proof.Proof.Gen.Pre_on_chip18
public import proofs.«01_k».proof.Proof.Adam
public import proofs.«01_k».proof.Defs

/-! The optimiser's update of a shard of 128 rows of 256: the four arrays the kernel leaves, and the same four from the reference. -/

@[expose] public section

noncomputable section

namespace Cert.Ad18

open Idealize.ShloMosaic Idealize.ShloMosaic.TcCoe Idealize.SL.Sem

section Kernel

open Cert.Kernel18Ideal Cert.Kernel18Ideal.Gen

/-- The chip's number read off the launch memory. -/
abbrev me {F : FTy → Type} (m : (ℓ : Loc nD τ sig) → Buf (Elt F) ℓ) : BitVec 32 := m (((0 : Dev nD) : Thread nD τ).loc main_arg2) (ix1 0)

/-- The block of this chip's own part lies at its number. -/
theorem index1 {F : FTy → Type} [FloatOps F] (m : (ℓ : Loc nD τ sig) → Buf (Elt F) ℓ) (i : grid0.Coords) :
    cc0_transform_1 inb_S1_S1_0 numel1_S1 (tbl m) i = ![(me m).toNat, (i 0).val, (i 1).val] := by
  have h1 : ∀ i : grid0.Coords, (BitVec.ofNat 32 (i 0).val).toNat = (i 0).val ∧ (BitVec.ofNat 32 (i 1).val).toNat = (i 1).val := by decide +kernel
  unfold cc0_transform_1
  dsimp only
  rw [(h1 i).1, (h1 i).2]
  rw [show (tbl m).at 0 (Rect.unit (s := S1) ![0] S1.size inb_S1_S1_0) numel1_S1 = me m from congrArg (m _) (Adam.idx_one _ _)]

/-- If the chip's number is below 4 then every block the call moves lies inside its array. -/
theorem ok {F : FTy → Type} [FloatOps F] (m : (ℓ : Loc nD τ sig) → Buf (Elt F) ℓ) (h : (me m).toNat < 4) : Ok m := by
  have w : ∀ k, k < 4 → ∀ i : grid0.Coords, ∃ h : (∀ a, (![k, (i 0).val, (i 1).val] a + 1) * S1x128x256.size a ≤ S4x128x256.size a), EltTy.bits .bf16 = 32 ∨ (Rect.block (s := S4x128x256) S1x128x256.size ![k, (i 0).val, (i 1).val] h).WholeWords (EltTy.packing .bf16) := by
    decide +kernel
  intro i
  simp only [index1 m i]
  exact w _ h i

/-- The chip's number is below 4 if the precondition says so of the arguments. -/
theorem below (p o : FVec Ideal S4x128x256 .bf16) (v : IVec S1 32) (a b d : FVec Ideal S128x256 .f32)
    (h : (letI := Cert.Pre_on_chip18.Gen.facts; Cert.Pre_on_chip18.fn (F := Ideal) p o v a b d) = fun _ => 1#1) : (v (ix1 0)).toNat < 4 := by
  have e := congrFun h (ix1 0)
  simp only [Cert.Pre_on_chip18.fn, andi, cmpi, broadcastInDim, constantI] at e
  exact Adam.lt_of_on_chip _ e

/-- The same of the program as it is, its arrays as bits. -/
theorem below_bits (p o : FVec Bits S4x128x256 .bf16) (v : IVec S1 32) (a b d : FVec Bits S128x256 .f32)
    (h : (letI := Cert.Pre_on_chip18.Gen.facts; Cert.Pre_on_chip18.fn (F := Bits) p o v a b d) = fun _ => 1#1) : (v (ix1 0)).toNat < 4 := by
  have e := congrFun h (ix1 0)
  simp only [Cert.Pre_on_chip18.fn, andi, cmpi, broadcastInDim, constantI] at e
  exact Adam.lt_of_on_chip _ e

variable (m : (ℓ : Loc nD τ sig) → Buf (Elt Ideal) ℓ) (hO : Ok m)

/-- Where the own part's block lies. -/
theorem at1 (t : Fin (cfgM m hO).N) : ((cfgM m hO).win 1).index t = ![(me m).toNat, 0, 0] := by
  refine (index1 m (grid0.coords t)).trans ?_
  rw [(by decide +kernel : ∀ t : Fin grid0.N, (grid0.coords t 0).val = 0) t]
  rw [(by decide +kernel : ∀ t : Fin grid0.N, (grid0.coords t 1).val = 0) t]

/-- Where the parts' block lies. -/
theorem at0 (t : Fin (cfgM m hO).N) : ((cfgM m hO).win 0).index t = ![0, 0, 0] :=
  (by decide +kernel : ∀ t : Fin grid0.N, cc0_transform_0 (grid0.coords t) = ![0, 0, 0]) t

/-- Where the gradient's block lies. -/
theorem at5 (t : Fin (cfgM m hO).N) : ((cfgM m hO).win 5).index t = ![0, 0] :=
  (by decide +kernel : ∀ t : Fin grid0.N, cc0_transform_5 (grid0.coords t) = ![0, 0]) t

/-- What a point of the grid leaves of the gradient. -/
theorem g_at (c : Dev nD) (t : Fin (cfgM m hO).N) (y : S128x256.Idx) : (dats m hO 0 c).after 5 t y =
    (Adam.grads (R := 128) (C := 256) (me m) (m ((c : Thread nD τ).loc main_arg0)) (m ((c : Thread nD τ).loc main_arg1))) ((((cfgM m hO).win 5).blk t).view.emb y) := by
  rw [after0_5]
  unfold outsAt0
  dsimp only
  frame_out
  unfold k0_pay4
  pointwise
  unfold Adam.grads
  rw [show View.readAt (Elt Ideal) (View.whole main_arg2) (Rect.unit ![0] ![1] inb_S1_S1_0).toLoadRect (tbl m 0) (Shape.Idx.first _) = me m from congrArg (m _) (Adam.idx_one _ _)]
  refine Adam.grad_eq _ _ _ _ _ _ _ _ (fun j hj => ?_) ?_ ?_ ?_ ?_
  · refine (congrFun ((hs0_1 m hO t).read_unread _) _).trans ?_
    have hv : (me m).toNat = j.val := by rw [hj, BitVec.toNat_ofNat]; exact Nat.mod_eq_of_lt (by omega)
    blk_ext [iblk, V, at1 m hO t, at5 m hO t, hv]
  all_goals
    refine (congrFun ((hs0_0 m hO t).read_unread _) _).trans ?_
    blk_ext [iblk, V, at0 m hO t, at5 m hO t]

/-- After the run the first result holds the gradient. -/
theorem arr5 (c : Dev nD) : (dats m hO 0 c).arrAt 5 (cfgM m hO).N = (Adam.grads (R := 128) (C := 256) (me m) (m ((c : Thread nD τ).loc main_arg0)) (m ((c : Thread nD τ).loc main_arg1))) :=
  (dats m hO 0 c).arrAt_eq_of_covers 5 _ (of_decide_eq_true (by sl_kernel_rfl)) (fun t hf y => g_at m hO c t y)

/-- After the run the third result holds the new first moment. -/
theorem arr7 (c : Dev nD) : (dats m hO 0 c).arrAt 7 (cfgM m hO).N = fun i => Adam.mom1 ((Adam.grads (R := 128) (C := 256) (me m) (m ((c : Thread nD τ).loc main_arg0)) (m ((c : Thread nD τ).loc main_arg1))) i) (m ((c : Thread nD τ).loc main_arg4) i) := by
  refine (dats m hO 0 c).arrAt_eq_of_covers 7 _ (of_decide_eq_true (by sl_kernel_rfl)) (fun t hf y => ?_)
  have hg := g_at m hO c t y
  rw [after0_5] at hg
  unfold outsAt0 at hg
  dsimp only at hg
  frame_out at hg
  blk_simp
  rw [after0_7]
  unfold outsAt0
  dsimp only
  frame_out
  unfold k0_pay1
  pointwise
  rw [hg]
  unfold Adam.mom1
  refine congrArg₂ (· + ·) (congrArg _ ?_) rfl
  exact congrFun ((hs0_3 m hO t).read_unread _) _

/-- After the run the fourth result holds the new second moment. -/
theorem arr8 (c : Dev nD) : (dats m hO 0 c).arrAt 8 (cfgM m hO).N = fun i => Adam.mom2 ((Adam.grads (R := 128) (C := 256) (me m) (m ((c : Thread nD τ).loc main_arg0)) (m ((c : Thread nD τ).loc main_arg1))) i) (m ((c : Thread nD τ).loc main_arg5) i) := by
  refine (dats m hO 0 c).arrAt_eq_of_covers 8 _ (of_decide_eq_true (by sl_kernel_rfl)) (fun t hf y => ?_)
  have hg := g_at m hO c t y
  rw [after0_5] at hg
  unfold outsAt0 at hg
  dsimp only at hg
  frame_out at hg
  blk_simp
  rw [after0_8]
  unfold outsAt0
  dsimp only
  frame_out
  unfold k0_pay2
  pointwise
  rw [hg]
  unfold Adam.mom2
  refine congrArg₂ (· + ·) (congrArg _ ?_) rfl
  exact congrFun ((hs0_4 m hO t).read_unread _) _

/-- After the run the second result holds the change of the weights. -/
theorem arr6 (c : Dev nD) : (dats m hO 0 c).arrAt 6 (cfgM m hO).N = fun i => Adam.step ((Adam.grads (R := 128) (C := 256) (me m) (m ((c : Thread nD τ).loc main_arg0)) (m ((c : Thread nD τ).loc main_arg1))) i) (m ((c : Thread nD τ).loc main_arg3) i) (m ((c : Thread nD τ).loc main_arg4) i) (m ((c : Thread nD τ).loc main_arg5) i) := by
  refine (dats m hO 0 c).arrAt_eq_of_covers 6 _ (of_decide_eq_true (by sl_kernel_rfl)) (fun t hf y => ?_)
  have hg := g_at m hO c t y
  rw [after0_5] at hg
  unfold outsAt0 at hg
  dsimp only at hg
  frame_out at hg
  blk_simp
  rw [after0_6]
  unfold outsAt0
  dsimp only
  frame_out
  unfold k0_pay3 k0_pay2 k0_pay1
  pointwise
  rw [hg]
  clear hg
  refine (?_ : _ = Adam.step _ _ _ _)
  unfold Adam.step Adam.mom1 Adam.mom2
  refine congrArg (Ideal.ofBits .f32 0xBA83126F#32 * ·) (congrArg₂ (· + ·) (congrArg₂ Ideal.div (congrArg (Ideal.div · _) (congrArg₂ (· + ·) (congrArg _ ?_) rfl)) (congrArg (Ideal.sqrt · + _) (congrArg (Ideal.div · _) (congrArg₂ (· + ·) (congrArg _ ?_) rfl)))) (congrArg _ ?_))
  · exact congrFun ((hs0_3 m hO t).read_unread _) _
  · exact congrFun ((hs0_4 m hO t).read_unread _) _
  · exact congrFun ((hs0_2 m hO t).read_unread _) _

variable (ρ : Dev nD → PrngReg)

include hO in
/-- What the kernel leaves: the gradient, the change, the two moments, and the arguments as they were. -/
theorem run : θ_run defs (onTc (τ := τ) (main (F := Ideal))) ⟨m, fun _ => 0, ρ⟩ (fun r => ∀ c : Dev nD,
    (r.2.mem ((c : Thread nD τ).loc main_v0_0) = (Adam.grads (R := 128) (C := 256) (me m) (m ((c : Thread nD τ).loc main_arg0)) (m ((c : Thread nD τ).loc main_arg1)))
    ∧ (r.2.mem ((c : Thread nD τ).loc main_v0_1) = fun i => Adam.step ((Adam.grads (R := 128) (C := 256) (me m) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v0_2) = fun i => Adam.mom1 ((Adam.grads (R := 128) (C := 256) (me m) (m ((c : Thread nD τ).loc main_arg0)) (m ((c : Thread nD τ).loc main_arg1))) i) (m ((c : Thread nD τ).loc main_arg4) i))
    ∧ (r.2.mem ((c : Thread nD τ).loc main_v0_3) = fun i => Adam.mom2 ((Adam.grads (R := 128) (C := 256) (me m) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) :=
  (θ_run defs _ _).mono (fun r h c => ⟨((h.1 c).1 5).trans (arr5 m hO c), ((h.1 c).1 6).trans (arr6 m hO c), ((h.1 c).1 7).trans (arr7 m hO c),
    ((h.1 c).1 8).trans (arr8 m hO c), h.2 c⟩) (θ_run_and (run_main m ρ hO) (unchanged m ρ hO))

end Kernel

section Reference

open Cert.Reference18Ideal Cert.Reference18Ideal.Gen

/-- The reference's gradient: each chip's part or, for this chip, the own one, summed. -/
theorem host_g (p o : FVec Ideal S4x128x256 .bf16) (e : IVec S1 32) :
    Host.reduceAdd (extf .f32 (select (cmpi .eq (iotaInDim S4x128x256 32 0) (broadcastInDim S4x128x256 ![] bcast_S_S4x128x256 (shapeCast S_ e shapeCasts_S1_S_))) o p) bitsLt_bf16_f32) (constant S_ .f32 0x00000000#32) reducesTo_S4x128x256_S128x256_d0 h_S_ = Adam.grads (R := 128) (C := 256) (e (ix1 0)) p o := by
  funext i
  obtain ⟨a, b, rfl⟩ : ∃ a b, i = ix2 a b := ⟨i 0, i 1, eq_ix2 i⟩
  pointwise
  exact Adam.grad_sum _ _ _

/-- The reference's new first moment, entry by entry. -/
theorem host_m1 (g m : FVec Ideal S128x256 .f32) : addf (mulf (broadcastInDim S128x256 ![] bcast_S_S128x256 (constant S_ .f32 0x3F666666#32)) m) (mulf (broadcastInDim S128x256 ![] bcast_S_S128x256 (constant S_ .f32 0x3DCCCCCD#32)) g)
    = fun i => Adam.mom1 (g i) (m i) := rfl

/-- The reference's new second moment, entry by entry. -/
theorem host_m2 (g v : FVec Ideal S128x256 .f32) : addf (mulf (broadcastInDim S128x256 ![] bcast_S_S128x256 (constant S_ .f32 0x3F7FBE77#32)) v) (mulf (broadcastInDim S128x256 ![] bcast_S_S128x256 (constant S_ .f32 0x3A83126F#32)) (mulf g g))
    = fun i => Adam.mom2 (g i) (v i) := rfl

variable (m : (ℓ : Loc nD τ sig) → Buf (Elt Ideal) ℓ) (ρ : Dev nD → PrngReg)

/-- What the reference leaves: the same four arrays, and the arguments as they were. -/
theorem host_run : θ_run defs (onTc (τ := τ) (main (F := Ideal))) ⟨m, fun _ => 0, ρ⟩ (fun r => ∀ c : Dev nD,
    (r.2.mem ((c : Thread nD τ).loc main_v6) = (Adam.grads (R := 128) (C := 256) ((m ((c : Thread nD τ).loc main_arg2)) (ix1 0)) (m ((c : Thread nD τ).loc main_arg0)) (m ((c : Thread nD τ).loc main_arg1)))
    ∧ (r.2.mem ((c : Thread nD τ).loc main_v30) = fun i => Adam.step ((Adam.grads (R := 128) (C := 256) ((m ((c : Thread nD τ).loc main_arg2)) (ix1 0)) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v11) = fun i => Adam.mom1 ((Adam.grads (R := 128) (C := 256) ((m ((c : Thread nD τ).loc main_arg2)) (ix1 0)) (m ((c : Thread nD τ).loc main_arg0)) (m ((c : Thread nD τ).loc main_arg1))) i) (m ((c : Thread nD τ).loc main_arg4) i))
    ∧ (r.2.mem ((c : Thread nD τ).loc main_v17) = fun i => Adam.mom2 ((Adam.grads (R := 128) (C := 256) ((m ((c : Thread nD τ).loc main_arg2)) (ix1 0)) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) := by
  refine (θ_run defs _ _).mono (fun r h c => ?_) (Cert.Reference18Ideal.Value.run m ρ)
  obtain ⟨h0, h1, h2, h3, hr⟩ := h c
  rw [host_g] at h0 h1 h2 h3
  refine ⟨h0, h1.trans ?_, h2.trans (host_m1 _ _), h3.trans (host_m2 _ _), hr⟩
  rw [host_m1, host_m2]
  rfl

end Reference

/-- The kernel's arrays and the reference's are equal. -/
theorem equal : Cert.algebraic_Kernel18Ideal_Reference18Ideal (hKernel18Ideal := Cert.Kernel18Ideal.Gen.facts) (hReference18Ideal := Cert.Reference18Ideal.Gen.facts)
    (hPre_on_chip18 := Cert.Pre_on_chip18.Gen.facts) := by
  letI := Cert.Kernel18Ideal.Gen.facts
  letI := Cert.Reference18Ideal.Gen.facts
  letI := Cert.Pre_on_chip18.Gen.facts
  intro m g m' g' hp hm
  refine ⟨_, _, _, _, run m (ok m (below _ _ _ _ _ _ (hp 0))) g, (θ_run Cert.Reference18Ideal.defs _ _).mono (fun r h c => ?_) (host_run m' g')⟩
  obtain ⟨e0, e1, e2, e3, e4, e5⟩ := hm c
  obtain rfl : c = 0 := Subsingleton.elim _ _
  obtain ⟨h0, h1, h2, h3, hr⟩ := h 0
  rw [e0, e1, e2] at h0
  rw [e0, e1, e2, e3, e4, e5] at h1
  rw [e0, e1, e2, e4] at h2
  rw [e0, e1, e2, e5] at h3
  exact ⟨h0, h1, h2, h3, hr⟩

/-- The program as it is runs and leaves its arguments as they were. -/
theorem frame_bits : Cert.quiescent_Kernel18 (hKernel18 := Cert.Kernel18.Gen.facts) (hPre_on_chip18 := Cert.Pre_on_chip18.Gen.facts) :=
  letI := Cert.Kernel18.Gen.facts
  letI := Cert.Pre_on_chip18.Gen.facts
  fun m ρ h => Cert.Kernel18.Gen.frame m ρ (ok (F := Bits) m (below_bits _ _ _ _ _ _ (h 0)))

/-- So does the program over the extended reals. -/
theorem frame_ideal : Cert.quiescent_Kernel18Ideal (hKernel18Ideal := Cert.Kernel18Ideal.Gen.facts) (hPre_on_chip18 := Cert.Pre_on_chip18.Gen.facts) :=
  letI := Cert.Kernel18Ideal.Gen.facts
  letI := Cert.Pre_on_chip18.Gen.facts
  fun m ρ h => Cert.Kernel18Ideal.Gen.frame m ρ (ok m (below _ _ _ _ _ _ (h 0)))

/-- The reference runs and leaves its arguments as they were, -/
theorem frame_reference : Cert.quiescent_Reference18Ideal (hReference18Ideal := Cert.Reference18Ideal.Gen.facts) :=
  letI := Cert.Reference18Ideal.Gen.facts
  fun m ρ _ => (θ_run Cert.Reference18Ideal.defs _ _).mono (fun r h => ⟨fun c => (h c).2.2.2.2, sem_eq_zero_of_no_sems rfl _⟩) (Cert.Reference18Ideal.Value.run m ρ)

/-- also where the precondition holds. -/
theorem frame_reference_pre : Cert.quiescent_Reference18Ideal_pre_on_chip18 (hReference18Ideal := Cert.Reference18Ideal.Gen.facts)
    (hPre_on_chip18 := Cert.Pre_on_chip18.Gen.facts) :=
  fun m ρ _ => frame_reference m ρ trivial

end Cert.Ad18

end
-- ==== Proof.Ad19.lean ====
module
public import proofs.«01_k».proof.Proof.Gen.Kernel19Ideal.Frame
public import proofs.«01_k».proof.Proof.Gen.Kernel19.Frame
public import proofs.«01_k».proof.Proof.Gen.Reference19Ideal.Run
public import proofs.«01_k».proof.Proof.Gen.Pre_on_chip19
public import proofs.«01_k».proof.Proof.Adam
public import proofs.«01_k».proof.Defs

/-! The optimiser's update of a shard of 642 rows of 2048 that has an axis of extent one between the two: the four arrays the kernel leaves, and the same four from the reference. -/

@[expose] public section

noncomputable section

namespace Cert.Ad19

open Idealize.ShloMosaic Idealize.ShloMosaic.TcCoe Idealize.SL.Sem

section Kernel

open Cert.Kernel19Ideal Cert.Kernel19Ideal.Gen

/-- The chip's number read off the launch memory. -/
abbrev me {F : FTy → Type} (m : (ℓ : Loc nD τ sig) → Buf (Elt F) ℓ) : BitVec 32 := m (((0 : Dev nD) : Thread nD τ).loc main_arg2) (ix1 0)

/-- The block of this chip's own part lies at its number. -/
theorem index1 {F : FTy → Type} [FloatOps F] (m : (ℓ : Loc nD τ sig) → Buf (Elt F) ℓ) (i : grid0.Coords) :
    cc0_transform_1 inb_S1_S1_0 numel1_S1 (tbl m) i = ![(me m).toNat, (i 0).val, (i 1).val] := by
  have h1 : ∀ i : grid0.Coords, (BitVec.ofNat 32 (i 0).val).toNat = (i 0).val ∧ (BitVec.ofNat 32 (i 1).val).toNat = (i 1).val := by decide +kernel
  unfold cc0_transform_1
  dsimp only
  rw [(h1 i).1, (h1 i).2]
  rw [show (tbl m).at 0 (Rect.unit (s := S1) ![0] S1.size inb_S1_S1_0) numel1_S1 = me m from congrArg (m _) (Adam.idx_one _ _)]

/-- If the chip's number is below 4 then every block the call moves lies inside its array. -/
theorem ok {F : FTy → Type} [FloatOps F] (m : (ℓ : Loc nD τ sig) → Buf (Elt F) ℓ) (h : (me m).toNat < 4) : Ok m := by
  have w : ∀ k, k < 4 → ∀ i : grid0.Coords, ∃ h : (∀ a, (![k, (i 0).val, (i 1).val] a + 1) * S1x642x256.size a ≤ S4x642x2048.size a), EltTy.bits .bf16 = 32 ∨ (Rect.block (s := S4x642x2048) S1x642x256.size ![k, (i 0).val, (i 1).val] h).WholeWords (EltTy.packing .bf16) := by
    decide +kernel
  intro i
  simp only [index1 m i]
  exact w _ h i

/-- The chip's number is below 4 if the precondition says so of the arguments. -/
theorem below (p o : FVec Ideal S4x642x2048 .bf16) (v : IVec S1 32) (a b d : FVec Ideal S642x1x2048 .f32)
    (h : (letI := Cert.Pre_on_chip19.Gen.facts; Cert.Pre_on_chip19.fn (F := Ideal) p o v a b d) = fun _ => 1#1) : (v (ix1 0)).toNat < 4 := by
  have e := congrFun h (ix1 0)
  simp only [Cert.Pre_on_chip19.fn, andi, cmpi, broadcastInDim, constantI] at e
  exact Adam.lt_of_on_chip _ e

/-- The same of the program as it is, its arrays as bits. -/
theorem below_bits (p o : FVec Bits S4x642x2048 .bf16) (v : IVec S1 32) (a b d : FVec Bits S642x1x2048 .f32)
    (h : (letI := Cert.Pre_on_chip19.Gen.facts; Cert.Pre_on_chip19.fn (F := Bits) p o v a b d) = fun _ => 1#1) : (v (ix1 0)).toNat < 4 := by
  have e := congrFun h (ix1 0)
  simp only [Cert.Pre_on_chip19.fn, andi, cmpi, broadcastInDim, constantI] at e
  exact Adam.lt_of_on_chip _ e

variable (m : (ℓ : Loc nD τ sig) → Buf (Elt Ideal) ℓ) (hO : Ok m)

/-- Where the own part's block lies. -/
theorem at1 (t : Fin (cfgM m hO).N) : ((cfgM m hO).win 1).index t = ![(me m).toNat, 0, (grid0.coords t 1).val] := by
  refine (index1 m (grid0.coords t)).trans ?_
  rw [(by decide +kernel : ∀ t : Fin grid0.N, (grid0.coords t 0).val = 0) t]

/-- Where the parts' block lies. -/
theorem at0 (t : Fin (cfgM m hO).N) : ((cfgM m hO).win 0).index t = ![0, 0, (grid0.coords t 1).val] :=
  (by decide +kernel : ∀ t : Fin grid0.N, cc0_transform_0 (grid0.coords t) = ![0, 0, (grid0.coords t 1).val]) t

/-- Where the gradient's block lies. -/
theorem at5 (t : Fin (cfgM m hO).N) : ((cfgM m hO).win 5).index t = ![0, 0, (grid0.coords t 1).val] :=
  (by decide +kernel : ∀ t : Fin grid0.N, cc0_transform_5 (grid0.coords t) = ![0, 0, (grid0.coords t 1).val]) t

/-- What a point of the grid leaves of the gradient. -/
theorem g_at (c : Dev nD) (t : Fin (cfgM m hO).N) (y : S642x1x256.Idx) : (dats m hO 0 c).after 5 t y =
    (Adam.grads1 (R := 642) (C := 2048) (me m) (m ((c : Thread nD τ).loc main_arg0)) (m ((c : Thread nD τ).loc main_arg1))) ((((cfgM m hO).win 5).blk t).view.emb y) := by
  rw [after0_5]
  unfold outsAt0
  dsimp only
  frame_out
  unfold k0_pay7 k0_pay3
  obtain ⟨a, u, b, rfl⟩ : ∃ (a : Fin 642) (u : Fin 1) (b : Fin 256), y = ix3 a u b := ⟨y (0 : Fin 3), y (1 : Fin 3), y (2 : Fin 3), eq_ix3 (n0 := 642) (n1 := 1) (n2 := 256) y⟩
  obtain rfl : u = 0 := Subsingleton.elim (α := Fin 1) _ _
  pointwise
  unfold Adam.grads1 Adam.grads
  rw [show View.readAt (Elt Ideal) (View.whole main_arg2) (Rect.unit ![0] ![1] inb_S1_S1_0).toLoadRect (tbl m 0) (Shape.Idx.first _) = me m from congrArg (m _) (Adam.idx_one _ _)]
  refine Adam.grad_eq _ _ _ _ _ _ _ _ (fun j hj => ?_) ?_ ?_ ?_ ?_
  · refine (congrFun ((hs0_1 m hO t).read_unread _) _).trans ?_
    have hv : (me m).toNat = j.val := by rw [hj, BitVec.toNat_ofNat]; exact Nat.mod_eq_of_lt (by omega)
    blk_ext [iblk, V, at1 m hO t, at5 m hO t, hv]
  all_goals
    refine (congrFun ((hs0_0 m hO t).read_unread _) _).trans ?_
    blk_ext [iblk, V, at0 m hO t, at5 m hO t]

/-- After the run the first result holds the gradient. -/
theorem arr5 (c : Dev nD) : (dats m hO 0 c).arrAt 5 (cfgM m hO).N = (Adam.grads1 (R := 642) (C := 2048) (me m) (m ((c : Thread nD τ).loc main_arg0)) (m ((c : Thread nD τ).loc main_arg1))) :=
  (dats m hO 0 c).arrAt_eq_of_covers 5 _ (of_decide_eq_true (by sl_kernel_rfl)) (fun t hf y => g_at m hO c t y)

/-- After the run the third result holds the new first moment. -/
theorem arr7 (c : Dev nD) : (dats m hO 0 c).arrAt 7 (cfgM m hO).N = fun i => Adam.mom1 ((Adam.grads1 (R := 642) (C := 2048) (me m) (m ((c : Thread nD τ).loc main_arg0)) (m ((c : Thread nD τ).loc main_arg1))) i) (m ((c : Thread nD τ).loc main_arg4) i) := by
  refine (dats m hO 0 c).arrAt_eq_of_covers 7 _ (of_decide_eq_true (by sl_kernel_rfl)) (fun t hf y => ?_)
  have hg := g_at m hO c t y
  rw [after0_5] at hg
  unfold outsAt0 at hg
  dsimp only at hg
  frame_out at hg
  blk_simp
  rw [after0_7]
  unfold outsAt0
  dsimp only
  frame_out
  obtain ⟨a, u, b, rfl⟩ : ∃ (a : Fin 642) (u : Fin 1) (b : Fin 256), y = ix3 a u b := ⟨y (0 : Fin 3), y (1 : Fin 3), y (2 : Fin 3), eq_ix3 (n0 := 642) (n1 := 1) (n2 := 256) y⟩
  obtain rfl : u = 0 := Subsingleton.elim (α := Fin 1) _ _
  unfold k0_pay1 k0_pay5
  unfold k0_pay7 at hg
  pointwise at hg
  pointwise
  rw [hg]
  unfold Adam.mom1
  refine congrArg₂ (· + ·) (congrArg _ ?_) rfl
  exact congrFun ((hs0_3 m hO t).read_unread _) _

/-- After the run the fourth result holds the new second moment. -/
theorem arr8 (c : Dev nD) : (dats m hO 0 c).arrAt 8 (cfgM m hO).N = fun i => Adam.mom2 ((Adam.grads1 (R := 642) (C := 2048) (me m) (m ((c : Thread nD τ).loc main_arg0)) (m ((c : Thread nD τ).loc main_arg1))) i) (m ((c : Thread nD τ).loc main_arg5) i) := by
  refine (dats m hO 0 c).arrAt_eq_of_covers 8 _ (of_decide_eq_true (by sl_kernel_rfl)) (fun t hf y => ?_)
  have hg := g_at m hO c t y
  rw [after0_5] at hg
  unfold outsAt0 at hg
  dsimp only at hg
  frame_out at hg
  blk_simp
  rw [after0_8]
  unfold outsAt0
  dsimp only
  frame_out
  obtain ⟨a, u, b, rfl⟩ : ∃ (a : Fin 642) (u : Fin 1) (b : Fin 256), y = ix3 a u b := ⟨y (0 : Fin 3), y (1 : Fin 3), y (2 : Fin 3), eq_ix3 (n0 := 642) (n1 := 1) (n2 := 256) y⟩
  obtain rfl : u = 0 := Subsingleton.elim (α := Fin 1) _ _
  unfold k0_pay2 k0_pay6
  unfold k0_pay7 at hg
  pointwise at hg
  pointwise
  rw [hg]
  unfold Adam.mom2
  refine congrArg₂ (· + ·) (congrArg _ ?_) rfl
  exact congrFun ((hs0_4 m hO t).read_unread _) _

/-- After the run the second result holds the change of the weights. -/
theorem arr6 (c : Dev nD) : (dats m hO 0 c).arrAt 6 (cfgM m hO).N = fun i => Adam.step ((Adam.grads1 (R := 642) (C := 2048) (me m) (m ((c : Thread nD τ).loc main_arg0)) (m ((c : Thread nD τ).loc main_arg1))) i) (m ((c : Thread nD τ).loc main_arg3) i) (m ((c : Thread nD τ).loc main_arg4) i) (m ((c : Thread nD τ).loc main_arg5) i) := by
  refine (dats m hO 0 c).arrAt_eq_of_covers 6 _ (of_decide_eq_true (by sl_kernel_rfl)) (fun t hf y => ?_)
  have hg := g_at m hO c t y
  rw [after0_5] at hg
  unfold outsAt0 at hg
  dsimp only at hg
  frame_out at hg
  blk_simp
  rw [after0_6]
  unfold outsAt0
  dsimp only
  frame_out
  obtain ⟨a, u, b, rfl⟩ : ∃ (a : Fin 642) (u : Fin 1) (b : Fin 256), y = ix3 a u b := ⟨y (0 : Fin 3), y (1 : Fin 3), y (2 : Fin 3), eq_ix3 (n0 := 642) (n1 := 1) (n2 := 256) y⟩
  obtain rfl : u = 0 := Subsingleton.elim (α := Fin 1) _ _
  unfold k0_pay8 k0_pay6 k0_pay5 k0_pay4
  unfold k0_pay7 at hg
  pointwise at hg
  pointwise
  rw [hg]
  clear hg
  refine (?_ : _ = Adam.step _ _ _ _)
  unfold Adam.step Adam.mom1 Adam.mom2
  refine congrArg (Ideal.ofBits .f32 0xBA83126F#32 * ·) (congrArg₂ (· + ·) (congrArg₂ Ideal.div (congrArg (Ideal.div · _) (congrArg₂ (· + ·) (congrArg _ ?_) rfl)) (congrArg (Ideal.sqrt · + _) (congrArg (Ideal.div · _) (congrArg₂ (· + ·) (congrArg _ ?_) rfl)))) (congrArg _ ?_))
  · exact congrFun ((hs0_3 m hO t).read_unread _) _
  · exact congrFun ((hs0_4 m hO t).read_unread _) _
  · exact congrFun ((hs0_2 m hO t).read_unread _) _

variable (ρ : Dev nD → PrngReg)

include hO in
/-- What the kernel leaves: the gradient, the change, the two moments, and the arguments as they were. -/
theorem run : θ_run defs (onTc (τ := τ) (main (F := Ideal))) ⟨m, fun _ => 0, ρ⟩ (fun r => ∀ c : Dev nD,
    (r.2.mem ((c : Thread nD τ).loc main_v0_0) = (Adam.grads1 (R := 642) (C := 2048) (me m) (m ((c : Thread nD τ).loc main_arg0)) (m ((c : Thread nD τ).loc main_arg1)))
    ∧ (r.2.mem ((c : Thread nD τ).loc main_v0_1) = fun i => Adam.step ((Adam.grads1 (R := 642) (C := 2048) (me m) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v0_2) = fun i => Adam.mom1 ((Adam.grads1 (R := 642) (C := 2048) (me m) (m ((c : Thread nD τ).loc main_arg0)) (m ((c : Thread nD τ).loc main_arg1))) i) (m ((c : Thread nD τ).loc main_arg4) i))
    ∧ (r.2.mem ((c : Thread nD τ).loc main_v0_3) = fun i => Adam.mom2 ((Adam.grads1 (R := 642) (C := 2048) (me m) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) :=
  (θ_run defs _ _).mono (fun r h c => ⟨((h.1 c).1 5).trans (arr5 m hO c), ((h.1 c).1 6).trans (arr6 m hO c), ((h.1 c).1 7).trans (arr7 m hO c),
    ((h.1 c).1 8).trans (arr8 m hO c), h.2 c⟩) (θ_run_and (run_main m ρ hO) (unchanged m ρ hO))

end Kernel

section Reference

open Cert.Reference19Ideal Cert.Reference19Ideal.Gen

/-- The reference's gradient: each chip's part or, for this chip, the own one, summed. -/
theorem host_g (p o : FVec Ideal S4x642x2048 .bf16) (e : IVec S1 32) :
    Host.reduceAdd (extf .f32 (select (cmpi .eq (iotaInDim S4x642x2048 32 0) (broadcastInDim S4x642x2048 ![] bcast_S_S4x642x2048 (shapeCast S_ e shapeCasts_S1_S_))) o p) bitsLt_bf16_f32) (constant S_ .f32 0x00000000#32) reducesTo_S4x642x2048_S642x2048_d0 h_S_ = Adam.grads (R := 642) (C := 2048) (e (ix1 0)) p o := by
  funext i
  obtain ⟨a, b, rfl⟩ : ∃ a b, i = ix2 a b := ⟨i 0, i 1, eq_ix2 i⟩
  pointwise
  exact Adam.grad_sum _ _ _

/-- The reference's gradient with its axis of extent one. -/
theorem host_u (g : FVec Ideal S642x2048 .f32) : broadcastInDim S642x1x2048 ![0, 2] bcast_S642x2048_S642x1x2048_0_2 (g) = fun i => g (ix2 (i 0) (i 2)) := by
  funext i
  obtain ⟨a, u, b, rfl⟩ : ∃ (a : Fin 642) (u : Fin 1) (b : Fin 2048), i = ix3 a u b := ⟨i 0, i 1, i 2, eq_ix3 i⟩
  obtain rfl : u = 0 := Subsingleton.elim (α := Fin 1) _ _
  pointwise

/-- The reference's new first moment, entry by entry. -/
theorem host_m1 (g : FVec Ideal S642x2048 .f32) (m : FVec Ideal S642x1x2048 .f32) : broadcastInDim S642x1x2048 ![0, 2] bcast_S642x2048_S642x1x2048_0_2 (addf (mulf (broadcastInDim S642x2048 ![] bcast_S_S642x2048 (constant S_ .f32 0x3F666666#32)) (shapeCast S642x2048 m shapeCasts_S642x1x2048_S642x2048)) (mulf (broadcastInDim S642x2048 ![] bcast_S_S642x2048 (constant S_ .f32 0x3DCCCCCD#32)) g)) = fun i => Adam.mom1 (g (ix2 (i 0) (i 2))) (m i) := by
  funext i
  obtain ⟨a, u, b, rfl⟩ : ∃ (a : Fin 642) (u : Fin 1) (b : Fin 2048), i = ix3 a u b := ⟨i 0, i 1, i 2, eq_ix3 i⟩
  obtain rfl : u = 0 := Subsingleton.elim (α := Fin 1) _ _
  pointwise
  rfl

/-- The reference's new second moment, entry by entry. -/
theorem host_m2 (g : FVec Ideal S642x2048 .f32) (v : FVec Ideal S642x1x2048 .f32) : broadcastInDim S642x1x2048 ![0, 2] bcast_S642x2048_S642x1x2048_0_2 (addf (mulf (broadcastInDim S642x2048 ![] bcast_S_S642x2048 (constant S_ .f32 0x3F7FBE77#32)) (shapeCast S642x2048 v shapeCasts_S642x1x2048_S642x2048)) (mulf (broadcastInDim S642x2048 ![] bcast_S_S642x2048 (constant S_ .f32 0x3A83126F#32)) (mulf g g))) = fun i => Adam.mom2 (g (ix2 (i 0) (i 2))) (v i) := by
  funext i
  obtain ⟨a, u, b, rfl⟩ : ∃ (a : Fin 642) (u : Fin 1) (b : Fin 2048), i = ix3 a u b := ⟨i 0, i 1, i 2, eq_ix3 i⟩
  obtain rfl : u = 0 := Subsingleton.elim (α := Fin 1) _ _
  pointwise
  rfl

/-- The reference's change of the weights, entry by entry. -/
theorem host_d (g : FVec Ideal S642x2048 .f32) (w m v : FVec Ideal S642x1x2048 .f32) : broadcastInDim S642x1x2048 ![0, 2] bcast_S642x2048_S642x1x2048_0_2 (mulf (broadcastInDim S642x2048 ![] bcast_S_S642x2048 (constant S_ .f32 0xBA83126F#32)) (addf (Host.divf (Host.divf (addf (mulf (broadcastInDim S642x2048 ![] bcast_S_S642x2048 (constant S_ .f32 0x3F666666#32)) (shapeCast S642x2048 m shapeCasts_S642x1x2048_S642x2048)) (mulf (broadcastInDim S642x2048 ![] bcast_S_S642x2048 (constant S_ .f32 0x3DCCCCCD#32)) g)) (broadcastInDim S642x2048 ![] bcast_S_S642x2048 (constant S_ .f32 0x3F26BD02#32))) (addf (Host.sqrt (Host.divf (addf (mulf (broadcastInDim S642x2048 ![] bcast_S_S642x2048 (constant S_ .f32 0x3F7FBE77#32)) (shapeCast S642x2048 v shapeCasts_S642x1x2048_S642x2048)) (mulf (broadcastInDim S642x2048 ![] bcast_S_S642x2048 (constant S_ .f32 0x3A83126F#32)) (mulf g g))) (broadcastInDim S642x2048 ![] bcast_S_S642x2048 (constant S_ .f32 0x3C231ACC#32)))) (broadcastInDim S642x2048 ![] bcast_S_S642x2048 (constant S_ .f32 0x322BCC77#32)))) (mulf (broadcastInDim S642x2048 ![] bcast_S_S642x2048 (constant S_ .f32 0x3C23D70A#32)) (shapeCast S642x2048 w shapeCasts_S642x1x2048_S642x2048)))) = fun i => Adam.step (g (ix2 (i 0) (i 2))) (w i) (m i) (v i) := by
  funext i
  obtain ⟨a, u, b, rfl⟩ : ∃ (a : Fin 642) (u : Fin 1) (b : Fin 2048), i = ix3 a u b := ⟨i 0, i 1, i 2, eq_ix3 i⟩
  obtain rfl : u = 0 := Subsingleton.elim (α := Fin 1) _ _
  pointwise
  rfl

variable (m : (ℓ : Loc nD τ sig) → Buf (Elt Ideal) ℓ) (ρ : Dev nD → PrngReg)

/-- What the reference leaves: the same four arrays, and the arguments as they were. -/
theorem host_run : θ_run defs (onTc (τ := τ) (main (F := Ideal))) ⟨m, fun _ => 0, ρ⟩ (fun r => ∀ c : Dev nD,
    (r.2.mem ((c : Thread nD τ).loc main_v34) = (Adam.grads1 (R := 642) (C := 2048) ((m ((c : Thread nD τ).loc main_arg2)) (ix1 0)) (m ((c : Thread nD τ).loc main_arg0)) (m ((c : Thread nD τ).loc main_arg1)))
    ∧ (r.2.mem ((c : Thread nD τ).loc main_v35) = fun i => Adam.step ((Adam.grads1 (R := 642) (C := 2048) ((m ((c : Thread nD τ).loc main_arg2)) (ix1 0)) (m ((c : Thread nD τ).loc main_arg0)) (m ((c : Thread nD τ).loc main_arg1))) i) (m ((c : Thread nD τ).loc main_arg3) i) (m ((c : Thread nD τ).loc main_arg4) i) (m ((c : Thread nD τ).loc main_arg5) i))
    ∧ (r.2.mem ((c : Thread nD τ).loc main_v36) = fun i => Adam.mom1 ((Adam.grads1 (R := 642) (C := 2048) ((m ((c : Thread nD τ).loc main_arg2)) (ix1 0)) (m ((c : Thread nD τ).loc main_arg0)) (m ((c : Thread nD τ).loc main_arg1))) i) (m ((c : Thread nD τ).loc main_arg4) i))
    ∧ (r.2.mem ((c : Thread nD τ).loc main_v37) = fun i => Adam.mom2 ((Adam.grads1 (R := 642) (C := 2048) ((m ((c : Thread nD τ).loc main_arg2)) (ix1 0)) (m ((c : Thread nD τ).loc main_arg0)) (m ((c : Thread nD τ).loc main_arg1))) i) (m ((c : Thread nD τ).loc main_arg5) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5))) := by
  refine (θ_run defs _ _).mono (fun r h c => ?_) (Cert.Reference19Ideal.Value.run m ρ)
  obtain ⟨h0, h1, h2, h3, hr⟩ := h c
  rw [host_g] at h0 h1 h2 h3
  exact ⟨h0.trans (host_u _), h1.trans (host_d _ _ _ _), h2.trans (host_m1 _ _), h3.trans (host_m2 _ _), hr⟩

end Reference

/-- The kernel's arrays and the reference's are equal. -/
theorem equal : Cert.algebraic_Kernel19Ideal_Reference19Ideal (hKernel19Ideal := Cert.Kernel19Ideal.Gen.facts) (hReference19Ideal := Cert.Reference19Ideal.Gen.facts)
    (hPre_on_chip19 := Cert.Pre_on_chip19.Gen.facts) := by
  letI := Cert.Kernel19Ideal.Gen.facts
  letI := Cert.Reference19Ideal.Gen.facts
  letI := Cert.Pre_on_chip19.Gen.facts
  intro m g m' g' hp hm
  refine ⟨_, _, _, _, run m (ok m (below _ _ _ _ _ _ (hp 0))) g, (θ_run Cert.Reference19Ideal.defs _ _).mono (fun r h c => ?_) (host_run m' g')⟩
  obtain ⟨e0, e1, e2, e3, e4, e5⟩ := hm c
  obtain rfl : c = 0 := Subsingleton.elim _ _
  obtain ⟨h0, h1, h2, h3, hr⟩ := h 0
  rw [e0, e1, e2] at h0
  rw [e0, e1, e2, e3, e4, e5] at h1
  rw [e0, e1, e2, e4] at h2
  rw [e0, e1, e2, e5] at h3
  exact ⟨h0, h1, h2, h3, hr⟩

/-- The program as it is runs and leaves its arguments as they were. -/
theorem frame_bits : Cert.quiescent_Kernel19 (hKernel19 := Cert.Kernel19.Gen.facts) (hPre_on_chip19 := Cert.Pre_on_chip19.Gen.facts) :=
  letI := Cert.Kernel19.Gen.facts
  letI := Cert.Pre_on_chip19.Gen.facts
  fun m ρ h => Cert.Kernel19.Gen.frame m ρ (ok (F := Bits) m (below_bits _ _ _ _ _ _ (h 0)))

/-- So does the program over the extended reals. -/
theorem frame_ideal : Cert.quiescent_Kernel19Ideal (hKernel19Ideal := Cert.Kernel19Ideal.Gen.facts) (hPre_on_chip19 := Cert.Pre_on_chip19.Gen.facts) :=
  letI := Cert.Kernel19Ideal.Gen.facts
  letI := Cert.Pre_on_chip19.Gen.facts
  fun m ρ h => Cert.Kernel19Ideal.Gen.frame m ρ (ok m (below _ _ _ _ _ _ (h 0)))

/-- The reference runs and leaves its arguments as they were, -/
theorem frame_reference : Cert.quiescent_Reference19Ideal (hReference19Ideal := Cert.Reference19Ideal.Gen.facts) :=
  letI := Cert.Reference19Ideal.Gen.facts
  fun m ρ _ => (θ_run Cert.Reference19Ideal.defs _ _).mono (fun r h => ⟨fun c => (h c).2.2.2.2, sem_eq_zero_of_no_sems rfl _⟩) (Cert.Reference19Ideal.Value.run m ρ)

/-- also where the precondition holds. -/
theorem frame_reference_pre : Cert.quiescent_Reference19Ideal_pre_on_chip19 (hReference19Ideal := Cert.Reference19Ideal.Gen.facts)
    (hPre_on_chip19 := Cert.Pre_on_chip19.Gen.facts) :=
  fun m ρ _ => frame_reference m ρ trivial

end Cert.Ad19

end
-- ==== Proof.Ad20.lean ====
module
public import proofs.«01_k».proof.Proof.Gen.Kernel20Ideal.Frame
public import proofs.«01_k».proof.Proof.Gen.Kernel20.Frame
public import proofs.«01_k».proof.Proof.Gen.Reference20Ideal.Run
public import proofs.«01_k».proof.Proof.Adam
public import proofs.«01_k».proof.Defs

/-! The optimiser's update of the convolution's weights, whose gradient is already summed over the chips: the four arrays the kernel leaves, and the same four from the reference. -/

@[expose] public section

noncomputable section

namespace Cert.Ad20

open Idealize.ShloMosaic Idealize.ShloMosaic.TcCoe Idealize.SL.Sem

/-- The gradient's array: the argument without its axis of extent one. -/
def grads (a : (⟨3, ![1, 4, 384]⟩ : Shape).Idx → EReal) (i : (⟨2, ![4, 384]⟩ : Shape).Idx) : EReal := a (ix3 0 (i 0) (i 1))

section Kernel

open Cert.Kernel20Ideal Cert.Kernel20Ideal.Gen

/-- The table of the call holds the number zero. -/
theorem word {F : FTy → Type} [FloatOps F] (m : (ℓ : Loc nD τ sig) → Buf (Elt F) ℓ) : (tbl m).at 0 (Rect.unit (s := S1) ![0] S1.size inb_S1_S1_0) numel1_S1 = (0#32 : BitVec 32) := by
  have h : tbl m 0 = (fun _ => (0#32 : BitVec 32)) := by
    unfold tbl V
    after_results_simp
    try rfl
  exact congrFun h _

/-- The choice by that number is the own part. -/
theorem chosen {α : Type} (x y : α) : Scalar.select (Scalar.cmpi .eq (0#32 : BitVec 32) 0#32) x y = x := rfl

/-- So the own part's block is the array's only one, -/
theorem index1 {F : FTy → Type} [FloatOps F] (m : (ℓ : Loc nD τ sig) → Buf (Elt F) ℓ) (i : grid0.Coords) :
    cc0_transform_1 inb_S1_S1_0 numel1_S1 (tbl m) i = ![0, 0, 0] := by
  have h1 : ∀ i : grid0.Coords, (i 0).val = 0 ∧ (i 1).val = 0 := by decide +kernel
  unfold cc0_transform_1
  dsimp only
  rw [(h1 i).1, (h1 i).2, word]
  rfl

/-- and every block the call moves lies inside its array. -/
theorem ok {F : FTy → Type} [FloatOps F] (m : (ℓ : Loc nD τ sig) → Buf (Elt F) ℓ) : Ok m := by
  have w : ∃ h : (∀ a, (![0, 0, 0] a + 1) * S1x4x384.size a ≤ S1x4x384.size a), EltTy.bits .f32 = 32 ∨ (Rect.block (s := S1x4x384) S1x4x384.size ![0, 0, 0] h).WholeWords (EltTy.packing .f32) := by
    decide +kernel
  intro i
  simp only [index1 m i]
  exact w

variable (m : (ℓ : Loc nD τ sig) → Buf (Elt Ideal) ℓ) (hO : Ok m)

/-- Where the own part's block lies. -/
theorem at1 (t : Fin (cfgM m hO).N) : ((cfgM m hO).win 1).index t = ![0, 0, 0] := index1 m (grid0.coords t)

/-- Where the parts' block lies. -/
theorem at0 (t : Fin (cfgM m hO).N) : ((cfgM m hO).win 0).index t = ![0, 0, 0] :=
  (by decide +kernel : ∀ t : Fin grid0.N, cc0_transform_0 (grid0.coords t) = ![0, 0, 0]) t

/-- Where the gradient's block lies. -/
theorem at5 (t : Fin (cfgM m hO).N) : ((cfgM m hO).win 5).index t = ![0, 0] :=
  (by decide +kernel : ∀ t : Fin grid0.N, cc0_transform_5 (grid0.coords t) = ![0, 0]) t

/-- What a point of the grid leaves of the gradient. -/
theorem g_at (c : Dev nD) (t : Fin (cfgM m hO).N) (y : S4x384.Idx) : (dats m hO 0 c).after 5 t y = (grads (m ((c : Thread nD τ).loc main_arg0))) ((((cfgM m hO).win 5).blk t).view.emb y) := by
  rw [after0_5]
  unfold outsAt0
  dsimp only
  frame_out
  unfold k0_pay1
  obtain ⟨a, b, rfl⟩ : ∃ a b, y = ix2 a b := ⟨y 0, y 1, eq_ix2 y⟩
  rw [show View.readAt (Elt Ideal) (View.whole main_v0) (Rect.unit ![0] ![1] inb_S1_S1_0).toLoadRect (tbl m 0) (Shape.Idx.first _) = (0#32 : BitVec 32) from word m]
  rw [chosen]
  pointwise
  unfold grads
  refine (congrFun ((hs0_1 m hO t).read_unread _) _).trans ?_
  blk_ext [iblk, V, at1 m hO t, at5 m hO t]

/-- After the run the first result holds the gradient. -/
theorem arr5 (c : Dev nD) : (dats m hO 0 c).arrAt 5 (cfgM m hO).N = (grads (m ((c : Thread nD τ).loc main_arg0))) :=
  (dats m hO 0 c).arrAt_eq_of_covers 5 _ (of_decide_eq_true (by sl_kernel_rfl)) (fun t hf y => g_at m hO c t y)

/-- After the run the third result holds the new first moment. -/
theorem arr7 (c : Dev nD) : (dats m hO 0 c).arrAt 7 (cfgM m hO).N = fun i => Adam.mom1 ((grads (m ((c : Thread nD τ).loc main_arg0))) i) (m ((c : Thread nD τ).loc main_arg2) i) := by
  refine (dats m hO 0 c).arrAt_eq_of_covers 7 _ (of_decide_eq_true (by sl_kernel_rfl)) (fun t hf y => ?_)
  have hg := g_at m hO c t y
  rw [after0_5] at hg
  unfold outsAt0 at hg
  dsimp only at hg
  frame_out at hg
  blk_simp
  rw [after0_7]
  unfold outsAt0
  dsimp only
  frame_out
  obtain ⟨a, b, rfl⟩ : ∃ (a : Fin 4) (b : Fin 384), y = ix2 a b := ⟨y (0 : Fin 2), y (1 : Fin 2), eq_ix2 (n0 := 4) (n1 := 384) y⟩
  unfold k0_pay2
  pointwise
  rw [hg]
  unfold Adam.mom1
  refine congrArg₂ (· + ·) (congrArg _ ?_) rfl
  exact congrFun ((hs0_3 m hO t).read_unread _) _

/-- After the run the fourth result holds the new second moment. -/
theorem arr8 (c : Dev nD) : (dats m hO 0 c).arrAt 8 (cfgM m hO).N = fun i => Adam.mom2 ((grads (m ((c : Thread nD τ).loc main_arg0))) i) (m ((c : Thread nD τ).loc main_arg3) i) := by
  refine (dats m hO 0 c).arrAt_eq_of_covers 8 _ (of_decide_eq_true (by sl_kernel_rfl)) (fun t hf y => ?_)
  have hg := g_at m hO c t y
  rw [after0_5] at hg
  unfold outsAt0 at hg
  dsimp only at hg
  frame_out at hg
  blk_simp
  rw [after0_8]
  unfold outsAt0
  dsimp only
  frame_out
  obtain ⟨a, b, rfl⟩ : ∃ (a : Fin 4) (b : Fin 384), y = ix2 a b := ⟨y (0 : Fin 2), y (1 : Fin 2), eq_ix2 (n0 := 4) (n1 := 384) y⟩
  unfold k0_pay3
  pointwise
  rw [hg]
  unfold Adam.mom2
  refine congrArg₂ (· + ·) (congrArg _ ?_) rfl
  exact congrFun ((hs0_4 m hO t).read_unread _) _

/-- After the run the second result holds the change of the weights. -/
theorem arr6 (c : Dev nD) : (dats m hO 0 c).arrAt 6 (cfgM m hO).N = fun i => Adam.step ((grads (m ((c : Thread nD τ).loc main_arg0))) i) (m ((c : Thread nD τ).loc main_arg1) i) (m ((c : Thread nD τ).loc main_arg2) i) (m ((c : Thread nD τ).loc main_arg3) i) := by
  refine (dats m hO 0 c).arrAt_eq_of_covers 6 _ (of_decide_eq_true (by sl_kernel_rfl)) (fun t hf y => ?_)
  have hg := g_at m hO c t y
  rw [after0_5] at hg
  unfold outsAt0 at hg
  dsimp only at hg
  frame_out at hg
  blk_simp
  rw [after0_6]
  unfold outsAt0
  dsimp only
  frame_out
  obtain ⟨a, b, rfl⟩ : ∃ (a : Fin 4) (b : Fin 384), y = ix2 a b := ⟨y (0 : Fin 2), y (1 : Fin 2), eq_ix2 (n0 := 4) (n1 := 384) y⟩
  unfold k0_pay4 k0_pay3 k0_pay2
  pointwise
  rw [hg]
  clear hg
  refine (?_ : _ = Adam.step _ _ _ _)
  unfold Adam.step Adam.mom1 Adam.mom2
  refine congrArg (Ideal.ofBits .f32 0xBA83126F#32 * ·) (congrArg₂ (· + ·) (congrArg₂ Ideal.div (congrArg (Ideal.div · _) (congrArg₂ (· + ·) (congrArg _ ?_) rfl)) (congrArg (Ideal.sqrt · + _) (congrArg (Ideal.div · _) (congrArg₂ (· + ·) (congrArg _ ?_) rfl)))) (congrArg _ ?_))
  · exact congrFun ((hs0_3 m hO t).read_unread _) _
  · exact congrFun ((hs0_4 m hO t).read_unread _) _
  · exact congrFun ((hs0_2 m hO t).read_unread _) _

variable (ρ : Dev nD → PrngReg)

/-- What the kernel leaves: the gradient, the change, the two moments, and the arguments as they were. -/
theorem run : θ_run defs (onTc (τ := τ) (main (F := Ideal))) ⟨m, fun _ => 0, ρ⟩ (fun r => ∀ c : Dev nD,
    r.2.mem ((c : Thread nD τ).loc main_v1_0) = (grads (m ((c : Thread nD τ).loc main_arg0)))
    ∧ (r.2.mem ((c : Thread nD τ).loc main_v1_1) = fun i => Adam.step ((grads (m ((c : Thread nD τ).loc main_arg0))) i) (m ((c : Thread nD τ).loc main_arg1) i) (m ((c : Thread nD τ).loc main_arg2) i) (m ((c : Thread nD τ).loc main_arg3) i))
    ∧ (r.2.mem ((c : Thread nD τ).loc main_v1_2) = fun i => Adam.mom1 ((grads (m ((c : Thread nD τ).loc main_arg0))) i) (m ((c : Thread nD τ).loc main_arg2) i))
    ∧ (r.2.mem ((c : Thread nD τ).loc main_v1_3) = fun i => Adam.mom2 ((grads (m ((c : Thread nD τ).loc main_arg0))) i) (m ((c : Thread nD τ).loc main_arg3) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3)) :=
  (θ_run defs _ _).mono (fun r h c => ⟨((h.1 c).1 5).trans (arr5 m (ok m) c), ((h.1 c).1 6).trans (arr6 m (ok m) c), ((h.1 c).1 7).trans (arr7 m (ok m) c),
    ((h.1 c).1 8).trans (arr8 m (ok m) c), h.2 c⟩) (θ_run_and (run_main m ρ (ok m)) (unchanged m ρ (ok m)))

end Kernel

section Reference

open Cert.Reference20Ideal Cert.Reference20Ideal.Gen

/-- The reference's gradient. -/
theorem host_g (a : FVec Ideal S1x4x384 .f32) : shapeCast S4x384 a shapeCasts_S1x4x384_S4x384 = grads a := by
  funext i
  obtain ⟨p, q, rfl⟩ : ∃ p q, i = ix2 p q := ⟨i 0, i 1, eq_ix2 i⟩
  pointwise
  try rfl

variable (m : (ℓ : Loc nD τ sig) → Buf (Elt Ideal) ℓ) (ρ : Dev nD → PrngReg)

/-- What the reference leaves: the same four arrays, and the arguments as they were. -/
theorem host_run : θ_run defs (onTc (τ := τ) (main (F := Ideal))) ⟨m, fun _ => 0, ρ⟩ (fun r => ∀ c : Dev nD,
    r.2.mem ((c : Thread nD τ).loc main_v0) = (grads (m ((c : Thread nD τ).loc main_arg0)))
    ∧ (r.2.mem ((c : Thread nD τ).loc main_v24) = fun i => Adam.step ((grads (m ((c : Thread nD τ).loc main_arg0))) i) (m ((c : Thread nD τ).loc main_arg1) i) (m ((c : Thread nD τ).loc main_arg2) i) (m ((c : Thread nD τ).loc main_arg3) i))
    ∧ (r.2.mem ((c : Thread nD τ).loc main_v5) = fun i => Adam.mom1 ((grads (m ((c : Thread nD τ).loc main_arg0))) i) (m ((c : Thread nD τ).loc main_arg2) i))
    ∧ (r.2.mem ((c : Thread nD τ).loc main_v11) = fun i => Adam.mom2 ((grads (m ((c : Thread nD τ).loc main_arg0))) i) (m ((c : Thread nD τ).loc main_arg3) i))
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3)) := by
  refine (θ_run defs _ _).mono (fun r h c => ?_) (Cert.Reference20Ideal.Value.run m ρ)
  obtain ⟨h0, h1, h2, h3, hr⟩ := h c
  rw [host_g] at h0 h1 h2 h3
  refine ⟨h0, h1.trans ?_, h2.trans ?_, h3.trans ?_, hr⟩
  all_goals
    funext i
    obtain ⟨p, q, rfl⟩ : ∃ p q, i = ix2 p q := ⟨i 0, i 1, eq_ix2 i⟩
    pointwise
    rfl

end Reference

/-- The kernel's arrays and the reference's are equal. -/
theorem equal : Cert.algebraic_Kernel20Ideal_Reference20Ideal (hKernel20Ideal := Cert.Kernel20Ideal.Gen.facts) (hReference20Ideal := Cert.Reference20Ideal.Gen.facts) := by
  letI := Cert.Kernel20Ideal.Gen.facts
  letI := Cert.Reference20Ideal.Gen.facts
  intro m g m' g' _ hm
  refine ⟨_, _, _, _, run m g, (θ_run Cert.Reference20Ideal.defs _ _).mono (fun r h c => ?_) (host_run m' g')⟩
  obtain ⟨e0, e1, e2, e3⟩ := hm c
  obtain ⟨h0, h1, h2, h3, hr⟩ := h c
  rw [e0] at h0
  rw [e0, e1, e2, e3] at h1
  rw [e0, e2] at h2
  rw [e0, e3] at h3
  exact ⟨h0, h1, h2, h3, hr⟩

/-- The program as it is runs and leaves its arguments as they were. -/
theorem frame_bits : Cert.quiescent_Kernel20 (hKernel20 := Cert.Kernel20.Gen.facts) :=
  letI := Cert.Kernel20.Gen.facts
  fun m ρ _ => Cert.Kernel20.Gen.frame m ρ (ok (F := Bits) m)

/-- So does the program over the extended reals, -/
theorem frame_ideal : Cert.quiescent_Kernel20Ideal (hKernel20Ideal := Cert.Kernel20Ideal.Gen.facts) :=
  letI := Cert.Kernel20Ideal.Gen.facts
  fun m ρ _ => Cert.Kernel20Ideal.Gen.frame m ρ (ok m)

/-- and the reference. -/
theorem frame_reference : Cert.quiescent_Reference20Ideal (hReference20Ideal := Cert.Reference20Ideal.Gen.facts) :=
  letI := Cert.Reference20Ideal.Gen.facts
  fun m ρ _ => (θ_run Cert.Reference20Ideal.defs _ _).mono (fun r h => ⟨fun c => (h c).2.2.2.2, sem_eq_zero_of_no_sems rfl _⟩) (Cert.Reference20Ideal.Value.run m ρ)

end Cert.Ad20

end
-- ==== Proof.lean ====
/- The proof of the claim: the kernel's run and the reference's run, and the equality of their results. -/
module

public import proofs.«01_k».proof.Defs
public import proofs.«01_k».proof.Proof.Equal
public import proofs.«01_k».proof.Proof.Transfer
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Gen.Kernel
public import proofs.«01_k».proof.Proof.Gen.KernelIdeal
public import proofs.«01_k».proof.Proof.Gen.ReferenceIdeal
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Ad15
public import proofs.«01_k».proof.Proof.Ad16
public import proofs.«01_k».proof.Proof.Ad17
public import proofs.«01_k».proof.Proof.Ad18
public import proofs.«01_k».proof.Proof.Ad19
public import proofs.«01_k».proof.Proof.Ad20

@[expose] public section

noncomputable section

namespace Cert.Proof

open Idealize.ShloMosaic Idealize.SL.Sem

set_option maxHeartbeats 8000000 in
/-- The kernel as written runs, leaves its arguments alone and returns every counter to zero: its text is the idealized
    program's, whose run holds over any values. -/
theorem frame_kernel : Cert.quiescent_Kernel (hKernel := Cert.Kernel.Gen.facts) := by
  letI := Cert.Kernel.Gen.facts
  letI := Cert.KernelIdeal.Gen.facts
  intro m ρ _
  have h := Cert.Scan.frame (F := Bits) m ρ
  rw [← Cert.Scan.defs_text] at h
  exact h

/-- The same of the idealized kernel, -/
theorem frame_kernel_ideal : Cert.quiescent_KernelIdeal (hKernelIdeal := Cert.KernelIdeal.Gen.facts) := fun m ρ _ => Cert.Scan.frame m ρ

/-- and of the reference. -/
theorem frame_reference_ideal : Cert.quiescent_ReferenceIdeal (hReferenceIdeal := Cert.ReferenceIdeal.Gen.facts) := fun m ρ _ => Cert.ScanRef.frame m ρ

/-- From the same arguments the kernel and the reference end with the same six gradients. -/
theorem equal_results : Cert.algebraic_KernelIdeal_ReferenceIdeal (hKernelIdeal := Cert.KernelIdeal.Gen.facts)
    (hReferenceIdeal := Cert.ReferenceIdeal.Gen.facts) := by
  intro m g m' g' _ hm
  refine ⟨fun c => Cert.Scan.W2 m c (Proc.devRef .tc Cert.KernelIdeal.main_v1_0), fun c => Cert.Scan.W2 m c (Proc.devRef .tc Cert.KernelIdeal.main_v1_1),
    fun c => Cert.Scan.W2 m c (Proc.devRef .tc Cert.KernelIdeal.main_v1_2), fun c => Cert.Scan.W2 m c (Proc.devRef .tc Cert.KernelIdeal.main_v1_3),
    fun c => Cert.Scan.W2 m c (Proc.devRef .tc Cert.KernelIdeal.main_v1_4), fun c => Cert.Scan.W2 m c (Proc.devRef .tc Cert.KernelIdeal.main_v1_5), ?_, ?_⟩
  · refine (θ_run Cert.KernelIdeal.defs _ _).mono (fun r h c => ?_) (Cert.Scan.run m g)
    have e := fun (b : Ref Cert.KernelIdeal.sig .tc) (hb : ¬ (Proc.devRef .tc b : DevRef Cert.KernelIdeal.τ Cert.KernelIdeal.sig).isScoped) => h.1 c _ (Cert.Scan.mem_uc b hb)
    exact ⟨e _ (by decide), e _ (by decide), e _ (by decide), e _ (by decide), e _ (by decide), e _ (by decide),
      Cert.Scan.mem_arg m h.1 c _ (by decide) (by decide), Cert.Scan.mem_arg m h.1 c _ (by decide) (by decide), Cert.Scan.mem_arg m h.1 c _ (by decide) (by decide),
      Cert.Scan.mem_arg m h.1 c _ (by decide) (by decide), Cert.Scan.mem_arg m h.1 c _ (by decide) (by decide), Cert.Scan.mem_arg m h.1 c _ (by decide) (by decide),
      Cert.Scan.mem_arg m h.1 c _ (by decide) (by decide)⟩
  · refine (θ_run Cert.ReferenceIdeal.defs _ _).mono (fun r h c => ?_) (θ_run_and (Cert.ScanRef.run m' g') (Cert.ScanRef.frame m' g'))
    obtain ⟨h0, h1, h2, h3, h4, h5, h6⟩ := hm c
    have e := fun (b : Ref Cert.ReferenceIdeal.sig .tc) => Cert.ScanRef.mem_final h.1.1 c b
    exact ⟨(e _ (by decide)).trans (Cert.Scan.same_du m c m' h0 h1 h2 h3 h4 h5 h6).symm, (e _ (by decide)).trans (Cert.Scan.same_dw m c m' h0 h1 h2 h3 h4 h5 h6).symm,
      (e _ (by decide)).trans (Cert.Scan.same_dq m c m' h0 h1 h2 h3 h4 h5 h6).symm, (e _ (by decide)).trans (Cert.Scan.same_dk m c m' h0 h1 h2 h3 h4 h5 h6).symm,
      (e _ (by decide)).trans (Cert.Scan.same_dat m c m' h0 h1 h2 h3 h4 h5 h6).symm, (e _ (by decide)).trans (Cert.Scan.same_del m c m' h0 h1 h2 h3 h4 h5 h6).symm, h.2.1 c⟩

/-- Program 2, the gradient of the hidden layer before its activation: from the same arguments the kernel and the reference end with the same result. -/
theorem equal2 : Cert.algebraic_Kernel2Ideal_Reference2Ideal (hKernel2Ideal := Cert.Kernel2Ideal.Gen.facts)
    (hReference2Ideal := Cert.Reference2Ideal.Gen.facts) := by
  letI := Cert.Kernel2Ideal.Gen.facts
  letI := Cert.Reference2Ideal.Gen.facts
  pair_intro
  · run_from Cert.Kernel2Ideal.Value.run_blocks m g
  · run_from Cert.Reference2Ideal.Value.run m' g'
    exact (Cert.Mm2.host _ _ _).trans (Cert.Mm2.arr m _).symm

/-- Program 3, the gradient of w_down: from the same arguments the kernel and the reference end with the same result. -/
theorem equal3 : Cert.algebraic_Kernel3Ideal_Reference3Ideal (hKernel3Ideal := Cert.Kernel3Ideal.Gen.facts)
    (hReference3Ideal := Cert.Reference3Ideal.Gen.facts) := by
  letI := Cert.Kernel3Ideal.Gen.facts
  letI := Cert.Reference3Ideal.Gen.facts
  pair_intro
  · run_from Cert.Kernel3Ideal.Value.run_blocks m g
  · run_from Cert.Reference3Ideal.Value.run m' g'
    exact (Cert.Mm3.host _ _).trans (Cert.Mm3.arr m _).symm

/-- Program 4, the gradient of w_up: from the same arguments the kernel and the reference end with the same result. -/
theorem equal4 : Cert.algebraic_Kernel4Ideal_Reference4Ideal (hKernel4Ideal := Cert.Kernel4Ideal.Gen.facts)
    (hReference4Ideal := Cert.Reference4Ideal.Gen.facts) := by
  letI := Cert.Kernel4Ideal.Gen.facts
  letI := Cert.Reference4Ideal.Gen.facts
  pair_intro
  · run_from Cert.Kernel4Ideal.Value.run_blocks m g
  · run_from Cert.Reference4Ideal.Value.run m' g'
    exact (Cert.Mm4.host _ _).trans (Cert.Mm4.arr m _).symm

/-- Program 5, the gradient of the MLP's input: from the same arguments the kernel and the reference end with the same result. -/
theorem equal5 : Cert.algebraic_Kernel5Ideal_Reference5Ideal (hKernel5Ideal := Cert.Kernel5Ideal.Gen.facts)
    (hReference5Ideal := Cert.Reference5Ideal.Gen.facts) := by
  letI := Cert.Kernel5Ideal.Gen.facts
  letI := Cert.Reference5Ideal.Gen.facts
  intro m g m' g' _ hagree
  refine ⟨fun c => (Cert.Kernel5Ideal.Gen.dats m 0 c).arrAt 2 Cert.Kernel5Ideal.cfg0.N, Cert.Kernel5Ideal.Value.run_blocks m g,
    (θ_run Cert.Reference5Ideal.defs _ _).mono (fun r h c => ⟨(h c).1.trans ?_, (h c).2⟩) (Cert.Reference5Ideal.Value.run m' g')⟩
  obtain ⟨h0, h1, h2⟩ := hagree c
  rw [h1, h2]
  exact (Cert.Mm5.host _ _).trans (Cert.Mm5.arr m _).symm

/-- Program 6, the hidden layer: from the same arguments the kernel and the reference end with the same result. -/
theorem equal6 : Cert.algebraic_Kernel6Ideal_Reference6Ideal (hKernel6Ideal := Cert.Kernel6Ideal.Gen.facts)
    (hReference6Ideal := Cert.Reference6Ideal.Gen.facts) := by
  letI := Cert.Kernel6Ideal.Gen.facts
  letI := Cert.Reference6Ideal.Gen.facts
  pair_intro
  · run_from Cert.Kernel6Ideal.Value.run_blocks m g
  · run_from Cert.Reference6Ideal.Value.run m' g'
    · exact (Cert.Mm6.host1 _ _).trans (Cert.Mm6.arr1 m _).symm
    · exact (Cert.Mm6.host2 _ _).trans (Cert.Mm6.arr2 m _).symm

/-- Program 7, the MLP's output: from the same arguments the kernel and the reference end with the same result. -/
theorem equal7 : Cert.algebraic_Kernel7Ideal_Reference7Ideal (hKernel7Ideal := Cert.Kernel7Ideal.Gen.facts)
    (hReference7Ideal := Cert.Reference7Ideal.Gen.facts) := by
  letI := Cert.Kernel7Ideal.Gen.facts
  letI := Cert.Reference7Ideal.Gen.facts
  intro m g m' g' _ hagree
  refine ⟨fun c => (Cert.Kernel7Ideal.Gen.dats m 0 c).arrAt 2 Cert.Kernel7Ideal.cfg0.N, Cert.Kernel7Ideal.Value.run_blocks m g,
    (θ_run Cert.Reference7Ideal.defs _ _).mono (fun r h c => ⟨(h c).1.trans ?_, (h c).2⟩) (Cert.Reference7Ideal.Value.run m' g')⟩
  obtain ⟨h0, h1⟩ := hagree c
  rw [h0, h1]
  exact (Cert.Mm7.host _ _).trans (Cert.Mm7.arr m _).symm

/-- Program 8, the gradient of the input: from the same arguments the kernel and the reference end with the same result. -/
theorem equal8 : Cert.algebraic_Kernel8Ideal_Reference8Ideal (hKernel8Ideal := Cert.Kernel8Ideal.Gen.facts)
    (hReference8Ideal := Cert.Reference8Ideal.Gen.facts) := by
  letI := Cert.Kernel8Ideal.Gen.facts
  letI := Cert.Reference8Ideal.Gen.facts
  pair_intro
  · run_from Cert.Kernel8Ideal.Value.run_blocks m g
  · run_from Cert.Reference8Ideal.Value.run m' g'
    exact (Cert.Mm8.host _ _ _).trans (Cert.Mm8.arr m _).symm

/-- Program 9, the gradient of w_in: from the same arguments the kernel and the reference end with the same result. -/
theorem equal9 : Cert.algebraic_Kernel9Ideal_Reference9Ideal (hKernel9Ideal := Cert.Kernel9Ideal.Gen.facts)
    (hReference9Ideal := Cert.Reference9Ideal.Gen.facts) := by
  letI := Cert.Kernel9Ideal.Gen.facts
  letI := Cert.Reference9Ideal.Gen.facts
  pair_intro
  · run_from Cert.Kernel9Ideal.Value.run_blocks m g
  · run_from Cert.Reference9Ideal.Value.run m' g'
    exact (Cert.Mm9.host _ _).trans (Cert.Mm9.arr m _).symm

/-- Program 10, the input projection: from the same arguments the kernel and the reference end with the same result. -/
theorem equal10 : Cert.algebraic_Kernel10Ideal_Reference10Ideal (hKernel10Ideal := Cert.Kernel10Ideal.Gen.facts)
    (hReference10Ideal := Cert.Reference10Ideal.Gen.facts) := by
  letI := Cert.Kernel10Ideal.Gen.facts
  letI := Cert.Reference10Ideal.Gen.facts
  pair_intro
  · run_from Cert.Kernel10Ideal.Value.run_blocks m g
  · run_from Cert.Reference10Ideal.Value.run m' g'
    exact (Cert.Mm10.host _ _).trans (Cert.Mm10.arr m _).symm

/-- Program 11, the gradient of w_out: from the same arguments the kernel and the reference end with the same result. -/
theorem equal11 : Cert.algebraic_Kernel11Ideal_Reference11Ideal (hKernel11Ideal := Cert.Kernel11Ideal.Gen.facts)
    (hReference11Ideal := Cert.Reference11Ideal.Gen.facts) := by
  letI := Cert.Kernel11Ideal.Gen.facts
  letI := Cert.Reference11Ideal.Gen.facts
  pair_intro
  · run_from Cert.Kernel11Ideal.Value.run_blocks m g
  · run_from Cert.Reference11Ideal.Value.run m' g'
    exact (Cert.Mm11.host _ _).trans (Cert.Mm11.arr m _).symm

/-- Program 12, the gradient of the output projection's input: from the same arguments the kernel and the reference end with the same result. -/
theorem equal12 : Cert.algebraic_Kernel12Ideal_Reference12Ideal (hKernel12Ideal := Cert.Kernel12Ideal.Gen.facts)
    (hReference12Ideal := Cert.Reference12Ideal.Gen.facts) := by
  letI := Cert.Kernel12Ideal.Gen.facts
  letI := Cert.Reference12Ideal.Gen.facts
  pair_intro
  · run_from Cert.Kernel12Ideal.Value.run_blocks m g
  · run_from Cert.Reference12Ideal.Value.run m' g'
    exact (Cert.Mm12.host _ _).trans (Cert.Mm12.arr m _).symm

/-- Program 13, the queries: from the same arguments the kernel and the reference end with the same result. -/
theorem equal13 : Cert.algebraic_Kernel13Ideal_Reference13Ideal (hKernel13Ideal := Cert.Kernel13Ideal.Gen.facts)
    (hReference13Ideal := Cert.Reference13Ideal.Gen.facts) := by
  letI := Cert.Kernel13Ideal.Gen.facts
  letI := Cert.Reference13Ideal.Gen.facts
  pair_intro
  · run_from Cert.Kernel13Ideal.Value.run_blocks m g
  · run_from Cert.Reference13Ideal.Value.run m' g'
    exact (Cert.Mm13.host _ _).trans (Cert.Mm13.arr m _).symm

/-- Program 14, the gradient of the attention's output: from the same arguments the kernel and the reference end with the same result. -/
theorem equal14 : Cert.algebraic_Kernel14Ideal_Reference14Ideal (hKernel14Ideal := Cert.Kernel14Ideal.Gen.facts)
    (hReference14Ideal := Cert.Reference14Ideal.Gen.facts) := by
  letI := Cert.Kernel14Ideal.Gen.facts
  letI := Cert.Reference14Ideal.Gen.facts
  pair_intro
  · run_from Cert.Kernel14Ideal.Value.run_blocks m g
  · run_from Cert.Reference14Ideal.Value.run m' g'
    exact (Cert.Mm14.host _ _).trans (Cert.Mm14.arr m _).symm

/-- All the claims together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Pre_on_chip15.Gen.facts, Cert.Pre_on_chip16.Gen.facts, Cert.Pre_on_chip17.Gen.facts, Cert.Pre_on_chip18.Gen.facts, Cert.Pre_on_chip19.Gen.facts,
  frame_kernel, frame_kernel_ideal, frame_reference_ideal,
  fun m ρ _ => Cert.Kernel2.Gen.frame m ρ, fun m ρ _ => Cert.Kernel2Ideal.Gen.frame m ρ, fun m ρ _ => (θ_run Cert.Reference2Ideal.defs _ _).mono (fun r h => ⟨fun c => (h c).2, sem_eq_zero_of_no_sems rfl _⟩) (Cert.Reference2Ideal.Value.run m ρ),
  fun m ρ _ => Cert.Kernel3.Gen.frame m ρ, fun m ρ _ => Cert.Kernel3Ideal.Gen.frame m ρ, fun m ρ _ => (θ_run Cert.Reference3Ideal.defs _ _).mono (fun r h => ⟨fun c => (h c).2, sem_eq_zero_of_no_sems rfl _⟩) (Cert.Reference3Ideal.Value.run m ρ),
  fun m ρ _ => Cert.Kernel4.Gen.frame m ρ, fun m ρ _ => Cert.Kernel4Ideal.Gen.frame m ρ, fun m ρ _ => (θ_run Cert.Reference4Ideal.defs _ _).mono (fun r h => ⟨fun c => (h c).2, sem_eq_zero_of_no_sems rfl _⟩) (Cert.Reference4Ideal.Value.run m ρ),
  fun m ρ _ => Cert.Kernel5.Gen.frame m ρ, fun m ρ _ => Cert.Kernel5Ideal.Gen.frame m ρ, fun m ρ _ => (θ_run Cert.Reference5Ideal.defs _ _).mono (fun r h => ⟨fun c => (h c).2, sem_eq_zero_of_no_sems rfl _⟩) (Cert.Reference5Ideal.Value.run m ρ),
  fun m ρ _ => Cert.Kernel6.Gen.frame m ρ, fun m ρ _ => Cert.Kernel6Ideal.Gen.frame m ρ, fun m ρ _ => (θ_run Cert.Reference6Ideal.defs _ _).mono (fun r h => ⟨fun c => (h c).2.2, sem_eq_zero_of_no_sems rfl _⟩) (Cert.Reference6Ideal.Value.run m ρ),
  fun m ρ _ => Cert.Kernel7.Gen.frame m ρ, fun m ρ _ => Cert.Kernel7Ideal.Gen.frame m ρ, fun m ρ _ => (θ_run Cert.Reference7Ideal.defs _ _).mono (fun r h => ⟨fun c => (h c).2, sem_eq_zero_of_no_sems rfl _⟩) (Cert.Reference7Ideal.Value.run m ρ),
  fun m ρ _ => Cert.Kernel8.Gen.frame m ρ, fun m ρ _ => Cert.Kernel8Ideal.Gen.frame m ρ, fun m ρ _ => (θ_run Cert.Reference8Ideal.defs _ _).mono (fun r h => ⟨fun c => (h c).2, sem_eq_zero_of_no_sems rfl _⟩) (Cert.Reference8Ideal.Value.run m ρ),
  fun m ρ _ => Cert.Kernel9.Gen.frame m ρ, fun m ρ _ => Cert.Kernel9Ideal.Gen.frame m ρ, fun m ρ _ => (θ_run Cert.Reference9Ideal.defs _ _).mono (fun r h => ⟨fun c => (h c).2, sem_eq_zero_of_no_sems rfl _⟩) (Cert.Reference9Ideal.Value.run m ρ),
  fun m ρ _ => Cert.Kernel10.Gen.frame m ρ, fun m ρ _ => Cert.Kernel10Ideal.Gen.frame m ρ, fun m ρ _ => (θ_run Cert.Reference10Ideal.defs _ _).mono (fun r h => ⟨fun c => (h c).2, sem_eq_zero_of_no_sems rfl _⟩) (Cert.Reference10Ideal.Value.run m ρ),
  fun m ρ _ => Cert.Kernel11.Gen.frame m ρ, fun m ρ _ => Cert.Kernel11Ideal.Gen.frame m ρ, fun m ρ _ => (θ_run Cert.Reference11Ideal.defs _ _).mono (fun r h => ⟨fun c => (h c).2, sem_eq_zero_of_no_sems rfl _⟩) (Cert.Reference11Ideal.Value.run m ρ),
  fun m ρ _ => Cert.Kernel12.Gen.frame m ρ, fun m ρ _ => Cert.Kernel12Ideal.Gen.frame m ρ, fun m ρ _ => (θ_run Cert.Reference12Ideal.defs _ _).mono (fun r h => ⟨fun c => (h c).2, sem_eq_zero_of_no_sems rfl _⟩) (Cert.Reference12Ideal.Value.run m ρ),
  fun m ρ _ => Cert.Kernel13.Gen.frame m ρ, fun m ρ _ => Cert.Kernel13Ideal.Gen.frame m ρ, fun m ρ _ => (θ_run Cert.Reference13Ideal.defs _ _).mono (fun r h => ⟨fun c => (h c).2, sem_eq_zero_of_no_sems rfl _⟩) (Cert.Reference13Ideal.Value.run m ρ),
  fun m ρ _ => Cert.Kernel14.Gen.frame m ρ, fun m ρ _ => Cert.Kernel14Ideal.Gen.frame m ρ, fun m ρ _ => (θ_run Cert.Reference14Ideal.defs _ _).mono (fun r h => ⟨fun c => (h c).2, sem_eq_zero_of_no_sems rfl _⟩) (Cert.Reference14Ideal.Value.run m ρ),
  Ad15.frame_bits, Ad15.frame_ideal, Ad15.frame_reference, Ad15.frame_reference_pre,
  Ad16.frame_bits, Ad16.frame_ideal, Ad16.frame_reference, Ad16.frame_reference_pre,
  Ad17.frame_bits, Ad17.frame_ideal, Ad17.frame_reference, Ad17.frame_reference_pre,
  Ad18.frame_bits, Ad18.frame_ideal, Ad18.frame_reference, Ad18.frame_reference_pre,
  Ad19.frame_bits, Ad19.frame_ideal, Ad19.frame_reference, Ad19.frame_reference_pre,
  Ad20.frame_bits, Ad20.frame_ideal, Ad20.frame_reference,
  trivial, equal_results, trivial, equal2, trivial, equal3,
  trivial, equal4, trivial, equal5, trivial, equal6,
  trivial, equal7, trivial, equal8, trivial, equal9,
  trivial, equal10, trivial, equal11, trivial, equal12,
  trivial, equal13, trivial, equal14,
  trivial, Ad15.equal, trivial, Ad16.equal, trivial, Ad17.equal, trivial, Ad18.equal, trivial, Ad19.equal, trivial, Ad20.equal⟩

end Cert.Proof

end
